-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))).1 = (fun _ => 1#1)
    ∧ (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))).2 = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_finite_latent [hPre_finite_latent : Cert.Pre_finite_latent.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_finite_latent.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))).1 = (fun _ => 1#1)
    ∧ (Cert.Pre_finite_latent.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))).2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_scores [hPre_finite_scores : Cert.Pre_finite_scores.Facts] (m : (ℓ : Loc Cert.TailIdeal.nD Cert.TailIdeal.τ Cert.TailIdeal.sig) → Buf (Elt Ideal) ℓ) : Prop :=
  ∀ c : Dev Cert.TailIdeal.nD,
    (Cert.Pre_finite_scores.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).1 = (fun _ => 1#1)
    ∧ (Cert.Pre_finite_scores.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.1 = (fun _ => 1#1)
    ∧ (Cert.Pre_finite_scores.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_scores [hPre_finite_scores : Cert.Pre_finite_scores.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_scores.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).1 = (fun _ => 1#1)
    ∧ (Cert.Pre_finite_scores.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.1 = (fun _ => 1#1)
    ∧ (Cert.Pre_finite_scores.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.2 = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Dest (m : (ℓ : Loc Cert.Dest.nD Cert.Dest.τ Cert.Dest.sig) → Buf (Elt Bits) ℓ) : Prop :=
  True

def Pre_DestIdeal (m : (ℓ : Loc Cert.DestIdeal.nD Cert.DestIdeal.τ Cert.DestIdeal.sig) → Buf (Elt Ideal) ℓ) : Prop :=
  True

def Pre_DestIdeal_routed [hPre_routed : Cert.Pre_routed.Facts] (m : (ℓ : Loc Cert.DestIdeal.nD Cert.DestIdeal.τ Cert.DestIdeal.sig) → Buf (Elt Ideal) ℓ) : Prop :=
  ∀ c : Dev Cert.DestIdeal.nD,
    (Cert.Pre_routed.fn (F := Ideal) (m ((c.tc : Thread Cert.DestIdeal.nD Cert.DestIdeal.τ).loc Cert.DestIdeal.main_arg0)) (m ((c.tc : Thread Cert.DestIdeal.nD Cert.DestIdeal.τ).loc Cert.DestIdeal.main_arg1))).1 = (fun _ => 1#1)
    ∧ (Cert.Pre_routed.fn (F := Ideal) (m ((c.tc : Thread Cert.DestIdeal.nD Cert.DestIdeal.τ).loc Cert.DestIdeal.main_arg0)) (m ((c.tc : Thread Cert.DestIdeal.nD Cert.DestIdeal.τ).loc Cert.DestIdeal.main_arg1))).2.1 = (fun _ => 1#1)
    ∧ (Cert.Pre_routed.fn (F := Ideal) (m ((c.tc : Thread Cert.DestIdeal.nD Cert.DestIdeal.τ).loc Cert.DestIdeal.main_arg0)) (m ((c.tc : Thread Cert.DestIdeal.nD Cert.DestIdeal.τ).loc Cert.DestIdeal.main_arg1))).2.2.1 = (fun _ => 1#1)
    ∧ (Cert.Pre_routed.fn (F := Ideal) (m ((c.tc : Thread Cert.DestIdeal.nD Cert.DestIdeal.τ).loc Cert.DestIdeal.main_arg0)) (m ((c.tc : Thread Cert.DestIdeal.nD Cert.DestIdeal.τ).loc Cert.DestIdeal.main_arg1))).2.2.2 = (fun _ => 1#1)

def Pre_DestRefIdeal (m : (ℓ : Loc Cert.DestRefIdeal.nD Cert.DestRefIdeal.τ Cert.DestRefIdeal.sig) → Buf (Elt Ideal) ℓ) : Prop :=
  True

def Pre_DestRefIdeal_routed [hPre_routed : Cert.Pre_routed.Facts] (m : (ℓ : Loc Cert.DestRefIdeal.nD Cert.DestRefIdeal.τ Cert.DestRefIdeal.sig) → Buf (Elt Ideal) ℓ) : Prop :=
  ∀ c : Dev Cert.DestRefIdeal.nD,
    (Cert.Pre_routed.fn (F := Ideal) (m ((c.tc : Thread Cert.DestRefIdeal.nD Cert.DestRefIdeal.τ).loc Cert.DestRefIdeal.main_arg0)) (m ((c.tc : Thread Cert.DestRefIdeal.nD Cert.DestRefIdeal.τ).loc Cert.DestRefIdeal.main_arg1))).1 = (fun _ => 1#1)
    ∧ (Cert.Pre_routed.fn (F := Ideal) (m ((c.tc : Thread Cert.DestRefIdeal.nD Cert.DestRefIdeal.τ).loc Cert.DestRefIdeal.main_arg0)) (m ((c.tc : Thread Cert.DestRefIdeal.nD Cert.DestRefIdeal.τ).loc Cert.DestRefIdeal.main_arg1))).2.1 = (fun _ => 1#1)
    ∧ (Cert.Pre_routed.fn (F := Ideal) (m ((c.tc : Thread Cert.DestRefIdeal.nD Cert.DestRefIdeal.τ).loc Cert.DestRefIdeal.main_arg0)) (m ((c.tc : Thread Cert.DestRefIdeal.nD Cert.DestRefIdeal.τ).loc Cert.DestRefIdeal.main_arg1))).2.2.1 = (fun _ => 1#1)
    ∧ (Cert.Pre_routed.fn (F := Ideal) (m ((c.tc : Thread Cert.DestRefIdeal.nD Cert.DestRefIdeal.τ).loc Cert.DestRefIdeal.main_arg0)) (m ((c.tc : Thread Cert.DestRefIdeal.nD Cert.DestRefIdeal.τ).loc Cert.DestRefIdeal.main_arg1))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_LatentRefIdeal_pre_finite_latent [hLatentRefIdeal : Cert.LatentRefIdeal.Facts] [hPre_finite_latent : Cert.Pre_finite_latent.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_finite_latent m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailIdeal_pre_finite_scores [hTailIdeal : Cert.TailIdeal.Facts] [hPre_finite_scores : Cert.Pre_finite_scores.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_scores m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_TailRefIdeal_pre_finite_scores [hTailRefIdeal : Cert.TailRefIdeal.Facts] [hPre_finite_scores : Cert.Pre_finite_scores.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_scores m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12))
      ∧ r.2.sem = fun _ => 0)

def quiescent_Dest [hDest : Cert.Dest.Facts] : Prop :=
  ∀ (m : (ℓ : Loc Cert.Dest.nD Cert.Dest.τ Cert.Dest.sig) → Buf (Elt Bits) ℓ) (g : Dev Cert.Dest.nD → PrngReg), Pre_Dest m →
    θ_run (Cert.Dest.defs (F := Bits)) (onTc (τ := Cert.Dest.τ) (Cert.Dest.main (F := Bits))) ⟨m, fun _ => 0, g⟩ (fun r => (∀ c : Dev Cert.Dest.nD,
      r.2.mem ((c.tc : Thread Cert.Dest.nD Cert.Dest.τ).loc Cert.Dest.main_arg0) = m ((c.tc : Thread Cert.Dest.nD Cert.Dest.τ).loc Cert.Dest.main_arg0)
      ∧ r.2.mem ((c.tc : Thread Cert.Dest.nD Cert.Dest.τ).loc Cert.Dest.main_arg1) = m ((c.tc : Thread Cert.Dest.nD Cert.Dest.τ).loc Cert.Dest.main_arg1))
      ∧ r.2.sem = fun _ => 0)

def quiescent_DestIdeal [hDestIdeal : Cert.DestIdeal.Facts] : Prop :=
  ∀ (m : (ℓ : Loc Cert.DestIdeal.nD Cert.DestIdeal.τ Cert.DestIdeal.sig) → Buf (Elt Ideal) ℓ) (g : Dev Cert.DestIdeal.nD → PrngReg), Pre_DestIdeal m →
    θ_run (Cert.DestIdeal.defs (F := Ideal)) (onTc (τ := Cert.DestIdeal.τ) (Cert.DestIdeal.main (F := Ideal))) ⟨m, fun _ => 0, g⟩ (fun r => (∀ c : Dev Cert.DestIdeal.nD,
      r.2.mem ((c.tc : Thread Cert.DestIdeal.nD Cert.DestIdeal.τ).loc Cert.DestIdeal.main_arg0) = m ((c.tc : Thread Cert.DestIdeal.nD Cert.DestIdeal.τ).loc Cert.DestIdeal.main_arg0)
      ∧ r.2.mem ((c.tc : Thread Cert.DestIdeal.nD Cert.DestIdeal.τ).loc Cert.DestIdeal.main_arg1) = m ((c.tc : Thread Cert.DestIdeal.nD Cert.DestIdeal.τ).loc Cert.DestIdeal.main_arg1))
      ∧ r.2.sem = fun _ => 0)

def quiescent_DestIdeal_pre_routed [hDestIdeal : Cert.DestIdeal.Facts] [hPre_routed : Cert.Pre_routed.Facts] : Prop :=
  ∀ (m : (ℓ : Loc Cert.DestIdeal.nD Cert.DestIdeal.τ Cert.DestIdeal.sig) → Buf (Elt Ideal) ℓ) (g : Dev Cert.DestIdeal.nD → PrngReg), Pre_DestIdeal_routed m →
    θ_run (Cert.DestIdeal.defs (F := Ideal)) (onTc (τ := Cert.DestIdeal.τ) (Cert.DestIdeal.main (F := Ideal))) ⟨m, fun _ => 0, g⟩ (fun r => (∀ c : Dev Cert.DestIdeal.nD,
      r.2.mem ((c.tc : Thread Cert.DestIdeal.nD Cert.DestIdeal.τ).loc Cert.DestIdeal.main_arg0) = m ((c.tc : Thread Cert.DestIdeal.nD Cert.DestIdeal.τ).loc Cert.DestIdeal.main_arg0)
      ∧ r.2.mem ((c.tc : Thread Cert.DestIdeal.nD Cert.DestIdeal.τ).loc Cert.DestIdeal.main_arg1) = m ((c.tc : Thread Cert.DestIdeal.nD Cert.DestIdeal.τ).loc Cert.DestIdeal.main_arg1))
      ∧ r.2.sem = fun _ => 0)

def quiescent_DestRefIdeal [hDestRefIdeal : Cert.DestRefIdeal.Facts] : Prop :=
  ∀ (m : (ℓ : Loc Cert.DestRefIdeal.nD Cert.DestRefIdeal.τ Cert.DestRefIdeal.sig) → Buf (Elt Ideal) ℓ) (g : Dev Cert.DestRefIdeal.nD → PrngReg), Pre_DestRefIdeal m →
    θ_run (Cert.DestRefIdeal.defs (F := Ideal)) (onTc (τ := Cert.DestRefIdeal.τ) (Cert.DestRefIdeal.main (F := Ideal))) ⟨m, fun _ => 0, g⟩ (fun r => (∀ c : Dev Cert.DestRefIdeal.nD,
      r.2.mem ((c.tc : Thread Cert.DestRefIdeal.nD Cert.DestRefIdeal.τ).loc Cert.DestRefIdeal.main_arg0) = m ((c.tc : Thread Cert.DestRefIdeal.nD Cert.DestRefIdeal.τ).loc Cert.DestRefIdeal.main_arg0)
      ∧ r.2.mem ((c.tc : Thread Cert.DestRefIdeal.nD Cert.DestRefIdeal.τ).loc Cert.DestRefIdeal.main_arg1) = m ((c.tc : Thread Cert.DestRefIdeal.nD Cert.DestRefIdeal.τ).loc Cert.DestRefIdeal.main_arg1))
      ∧ r.2.sem = fun _ => 0)

def quiescent_DestRefIdeal_pre_routed [hDestRefIdeal : Cert.DestRefIdeal.Facts] [hPre_routed : Cert.Pre_routed.Facts] : Prop :=
  ∀ (m : (ℓ : Loc Cert.DestRefIdeal.nD Cert.DestRefIdeal.τ Cert.DestRefIdeal.sig) → Buf (Elt Ideal) ℓ) (g : Dev Cert.DestRefIdeal.nD → PrngReg), Pre_DestRefIdeal_routed m →
    θ_run (Cert.DestRefIdeal.defs (F := Ideal)) (onTc (τ := Cert.DestRefIdeal.τ) (Cert.DestRefIdeal.main (F := Ideal))) ⟨m, fun _ => 0, g⟩ (fun r => (∀ c : Dev Cert.DestRefIdeal.nD,
      r.2.mem ((c.tc : Thread Cert.DestRefIdeal.nD Cert.DestRefIdeal.τ).loc Cert.DestRefIdeal.main_arg0) = m ((c.tc : Thread Cert.DestRefIdeal.nD Cert.DestRefIdeal.τ).loc Cert.DestRefIdeal.main_arg0)
      ∧ r.2.mem ((c.tc : Thread Cert.DestRefIdeal.nD Cert.DestRefIdeal.τ).loc Cert.DestRefIdeal.main_arg1) = m ((c.tc : Thread Cert.DestRefIdeal.nD Cert.DestRefIdeal.τ).loc Cert.DestRefIdeal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Latent_LatentIdeal : Prop :=
  True

def algebraic_LatentIdeal_LatentRefIdeal_pre_finite_latent [hLatentIdeal : Cert.LatentIdeal.Facts] [hLatentRefIdeal : Cert.LatentRefIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_finite_latent m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v19)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v19) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v19) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def preserves_Tail_TailIdeal : Prop :=
  IdealRules.named_const.Statement Cert.TailIdeal.κ "scale" .f32 0x3DB8AA3B#32 ((16⁻¹ * (Real.log 2)⁻¹ : ℝ) : EReal)

def algebraic_TailIdeal_TailRefIdeal_pre_finite_scores [hTailIdeal : Cert.TailIdeal.Facts] [hTailRefIdeal : Cert.TailRefIdeal.Facts] [hPre_finite_scores : Cert.Pre_finite_scores.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_scores m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v8) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v64) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v6_0)) (v1 : (c : Dev Cert.MemoryIdeal.nD) → Buf (Elt Ideal) ((c.tc : Thread Cert.MemoryIdeal.nD Cert.MemoryIdeal.τ).loc Cert.MemoryIdeal.main_v6_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v6_0) = v0 c
          ∧ r.2.mem ((c.tc : Thread Cert.MemoryIdeal.nD Cert.MemoryIdeal.τ).loc Cert.MemoryIdeal.main_v6_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v16) = v0 c
          ∧ r.2.mem ((c.tc : Thread Cert.MemoryRefIdeal.nD Cert.MemoryRefIdeal.τ).loc Cert.MemoryRefIdeal.main_v18) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Proj_ProjIdeal : Prop :=
  IdealRules.named_const.Statement Cert.ProjIdeal.κ "scale_m" .f32 0x3E16C740#32 (((Real.sqrt 96)⁻¹ * (Real.log 2)⁻¹ : ℝ) : EReal)
  ∧ IdealRules.named_const.Statement Cert.ProjIdeal.κ "scale_g" .f32 0x3E0293EE#32 (((Real.sqrt 128)⁻¹ * (Real.log 2)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
      ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)) →
    ∃ (v0 : (c : Dev Cert.ProjIdeal.nD) → Buf (Elt Ideal) ((c.tc : Thread Cert.ProjIdeal.nD Cert.ProjIdeal.τ).loc Cert.ProjIdeal.main_v52_0)) (v1 : (c : Dev Cert.ProjIdeal.nD) → Buf (Elt Ideal) ((c.tc : Thread Cert.ProjIdeal.nD Cert.ProjIdeal.τ).loc Cert.ProjIdeal.main_v52_1)) (v2 : (c : Dev Cert.ProjIdeal.nD) → Buf (Elt Ideal) ((c.tc : Thread Cert.ProjIdeal.nD Cert.ProjIdeal.τ).loc Cert.ProjIdeal.main_v52_2)) (v3 : (c : Dev Cert.ProjIdeal.nD) → Buf (Elt Ideal) ((c.tc : Thread Cert.ProjIdeal.nD Cert.ProjIdeal.τ).loc Cert.ProjIdeal.main_v52_3)) (v4 : (c : Dev Cert.ProjIdeal.nD) → Buf (Elt Ideal) ((c.tc : Thread Cert.ProjIdeal.nD Cert.ProjIdeal.τ).loc Cert.ProjIdeal.main_v52_4)) (v5 : (c : Dev Cert.ProjIdeal.nD) → Buf (Elt Ideal) ((c.tc : Thread Cert.ProjIdeal.nD Cert.ProjIdeal.τ).loc Cert.ProjIdeal.main_v52_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v52_0) = v0 c
          ∧ r.2.mem ((c.tc : Thread Cert.ProjIdeal.nD Cert.ProjIdeal.τ).loc Cert.ProjIdeal.main_v52_1) = v1 c
          ∧ r.2.mem ((c.tc : Thread Cert.ProjIdeal.nD Cert.ProjIdeal.τ).loc Cert.ProjIdeal.main_v52_2) = v2 c
          ∧ r.2.mem ((c.tc : Thread Cert.ProjIdeal.nD Cert.ProjIdeal.τ).loc Cert.ProjIdeal.main_v52_3) = v3 c
          ∧ r.2.mem ((c.tc : Thread Cert.ProjIdeal.nD Cert.ProjIdeal.τ).loc Cert.ProjIdeal.main_v52_4) = v4 c
          ∧ r.2.mem ((c.tc : Thread Cert.ProjIdeal.nD Cert.ProjIdeal.τ).loc Cert.ProjIdeal.main_v52_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v157) = v0 c
          ∧ r.2.mem ((c.tc : Thread Cert.ProjRefIdeal.nD Cert.ProjRefIdeal.τ).loc Cert.ProjRefIdeal.main_v159) = v1 c
          ∧ r.2.mem ((c.tc : Thread Cert.ProjRefIdeal.nD Cert.ProjRefIdeal.τ).loc Cert.ProjRefIdeal.main_v165) = v2 c
          ∧ r.2.mem ((c.tc : Thread Cert.ProjRefIdeal.nD Cert.ProjRefIdeal.τ).loc Cert.ProjRefIdeal.main_v171) = v3 c
          ∧ r.2.mem ((c.tc : Thread Cert.ProjRefIdeal.nD Cert.ProjRefIdeal.τ).loc Cert.ProjRefIdeal.main_v174) = v4 c
          ∧ r.2.mem ((c.tc : Thread Cert.ProjRefIdeal.nD Cert.ProjRefIdeal.τ).loc Cert.ProjRefIdeal.main_v181) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12))

def preserves_Dest_DestIdeal : Prop :=
  True

def algebraic_DestIdeal_DestRefIdeal_pre_routed [hDestIdeal : Cert.DestIdeal.Facts] [hDestRefIdeal : Cert.DestRefIdeal.Facts] [hPre_routed : Cert.Pre_routed.Facts] : Prop :=
  ∀ (m : (ℓ : Loc Cert.DestIdeal.nD Cert.DestIdeal.τ Cert.DestIdeal.sig) → Buf (Elt Ideal) ℓ) (g : Dev Cert.DestIdeal.nD → PrngReg)
    (m' : (ℓ : Loc Cert.DestRefIdeal.nD Cert.DestRefIdeal.τ Cert.DestRefIdeal.sig) → Buf (Elt Ideal) ℓ) (g' : Dev Cert.DestRefIdeal.nD → PrngReg), Pre_DestIdeal_routed m →
    (∀ c : Dev Cert.DestIdeal.nD,
      m' ((c.tc : Thread Cert.DestRefIdeal.nD Cert.DestRefIdeal.τ).loc Cert.DestRefIdeal.main_arg0) = m ((c.tc : Thread Cert.DestIdeal.nD Cert.DestIdeal.τ).loc Cert.DestIdeal.main_arg0)
      ∧ m' ((c.tc : Thread Cert.DestRefIdeal.nD Cert.DestRefIdeal.τ).loc Cert.DestRefIdeal.main_arg1) = m ((c.tc : Thread Cert.DestIdeal.nD Cert.DestIdeal.τ).loc Cert.DestIdeal.main_arg1)) →
    ∃ (v0 : (c : Dev Cert.DestIdeal.nD) → Buf (Elt Ideal) ((c.tc : Thread Cert.DestIdeal.nD Cert.DestIdeal.τ).loc Cert.DestIdeal.main_v3_0)) (v1 : (c : Dev Cert.DestIdeal.nD) → Buf (Elt Ideal) ((c.tc : Thread Cert.DestIdeal.nD Cert.DestIdeal.τ).loc Cert.DestIdeal.main_v3_1)) (v2 : (c : Dev Cert.DestIdeal.nD) → Buf (Elt Ideal) ((c.tc : Thread Cert.DestIdeal.nD Cert.DestIdeal.τ).loc Cert.DestIdeal.main_v3_2)) (v3 : (c : Dev Cert.DestIdeal.nD) → Buf (Elt Ideal) ((c.tc : Thread Cert.DestIdeal.nD Cert.DestIdeal.τ).loc Cert.DestIdeal.main_v3_3)),
      θ_run (Cert.DestIdeal.defs (F := Ideal)) (onTc (τ := Cert.DestIdeal.τ) (Cert.DestIdeal.main (F := Ideal))) ⟨m, fun _ => 0, g⟩ (fun r => ∀ c : Dev Cert.DestIdeal.nD,
          r.2.mem ((c.tc : Thread Cert.DestIdeal.nD Cert.DestIdeal.τ).loc Cert.DestIdeal.main_v3_0) = v0 c
          ∧ r.2.mem ((c.tc : Thread Cert.DestIdeal.nD Cert.DestIdeal.τ).loc Cert.DestIdeal.main_v3_1) = v1 c
          ∧ r.2.mem ((c.tc : Thread Cert.DestIdeal.nD Cert.DestIdeal.τ).loc Cert.DestIdeal.main_v3_2) = v2 c
          ∧ r.2.mem ((c.tc : Thread Cert.DestIdeal.nD Cert.DestIdeal.τ).loc Cert.DestIdeal.main_v3_3) = v3 c
          ∧ r.2.mem ((c.tc : Thread Cert.DestIdeal.nD Cert.DestIdeal.τ).loc Cert.DestIdeal.main_arg0) = m ((c.tc : Thread Cert.DestIdeal.nD Cert.DestIdeal.τ).loc Cert.DestIdeal.main_arg0)
          ∧ r.2.mem ((c.tc : Thread Cert.DestIdeal.nD Cert.DestIdeal.τ).loc Cert.DestIdeal.main_arg1) = m ((c.tc : Thread Cert.DestIdeal.nD Cert.DestIdeal.τ).loc Cert.DestIdeal.main_arg1))
      ∧ θ_run (Cert.DestRefIdeal.defs (F := Ideal)) (onTc (τ := Cert.DestRefIdeal.τ) (Cert.DestRefIdeal.main (F := Ideal))) ⟨m', fun _ => 0, g'⟩ (fun r => ∀ c : Dev Cert.DestRefIdeal.nD,
          r.2.mem ((c.tc : Thread Cert.DestRefIdeal.nD Cert.DestRefIdeal.τ).loc Cert.DestRefIdeal.main_v48) = v0 c
          ∧ r.2.mem ((c.tc : Thread Cert.DestRefIdeal.nD Cert.DestRefIdeal.τ).loc Cert.DestRefIdeal.main_v49) = v1 c
          ∧ r.2.mem ((c.tc : Thread Cert.DestRefIdeal.nD Cert.DestRefIdeal.τ).loc Cert.DestRefIdeal.main_v50) = v2 c
          ∧ r.2.mem ((c.tc : Thread Cert.DestRefIdeal.nD Cert.DestRefIdeal.τ).loc Cert.DestRefIdeal.main_v46) = v3 c
          ∧ r.2.mem ((c.tc : Thread Cert.DestRefIdeal.nD Cert.DestRefIdeal.τ).loc Cert.DestRefIdeal.main_arg0) = m' ((c.tc : Thread Cert.DestRefIdeal.nD Cert.DestRefIdeal.τ).loc Cert.DestRefIdeal.main_arg0)
          ∧ r.2.mem ((c.tc : Thread Cert.DestRefIdeal.nD Cert.DestRefIdeal.τ).loc Cert.DestRefIdeal.main_arg1) = m' ((c.tc : Thread Cert.DestRefIdeal.nD Cert.DestRefIdeal.τ).loc Cert.DestRefIdeal.main_arg1))

def Claim : Prop :=
  ∃ (hKernel : Cert.Kernel.Facts) (hKernelIdeal : Cert.KernelIdeal.Facts) (hReferenceIdeal : Cert.ReferenceIdeal.Facts) (hLatent : Cert.Latent.Facts) (hLatentIdeal : Cert.LatentIdeal.Facts) (hLatentRefIdeal : Cert.LatentRefIdeal.Facts) (hTail : Cert.Tail.Facts) (hTailIdeal : Cert.TailIdeal.Facts) (hTailRefIdeal : Cert.TailRefIdeal.Facts) (hMemory : Cert.Memory.Facts) (hMemoryIdeal : Cert.MemoryIdeal.Facts) (hMemoryRefIdeal : Cert.MemoryRefIdeal.Facts) (hProj : Cert.Proj.Facts) (hProjIdeal : Cert.ProjIdeal.Facts) (hProjRefIdeal : Cert.ProjRefIdeal.Facts) (hDest : Cert.Dest.Facts) (hDestIdeal : Cert.DestIdeal.Facts) (hDestRefIdeal : Cert.DestRefIdeal.Facts) (hPre_finite_qk : Cert.Pre_finite_qk.Facts) (hPre_finite_latent : Cert.Pre_finite_latent.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentRefIdeal (hLatentRefIdeal := hLatentRefIdeal)
    ∧ quiescent_LatentRefIdeal_pre_finite_latent (hLatentRefIdeal := hLatentRefIdeal) (hPre_finite_latent := hPre_finite_latent)
    ∧ quiescent_Tail (hTail := hTail)
    ∧ quiescent_TailIdeal (hTailIdeal := hTailIdeal)
    ∧ quiescent_TailIdeal_pre_finite_scores (hTailIdeal := hTailIdeal) (hPre_finite_scores := hPre_finite_scores)
    ∧ quiescent_TailRefIdeal (hTailRefIdeal := hTailRefIdeal)
    ∧ quiescent_TailRefIdeal_pre_finite_scores (hTailRefIdeal := hTailRefIdeal) (hPre_finite_scores := hPre_finite_scores)
    ∧ quiescent_Memory (hMemory := hMemory)
    ∧ quiescent_MemoryIdeal (hMemoryIdeal := hMemoryIdeal)
    ∧ quiescent_MemoryRefIdeal (hMemoryRefIdeal := hMemoryRefIdeal)
    ∧ quiescent_Proj (hProj := hProj)
    ∧ quiescent_ProjIdeal (hProjIdeal := hProjIdeal)
    ∧ quiescent_ProjRefIdeal (hProjRefIdeal := hProjRefIdeal)
    ∧ quiescent_Dest (hDest := hDest)
    ∧ quiescent_DestIdeal (hDestIdeal := hDestIdeal)
    ∧ quiescent_DestIdeal_pre_routed (hDestIdeal := hDestIdeal) (hPre_routed := hPre_routed)
    ∧ quiescent_DestRefIdeal (hDestRefIdeal := hDestRefIdeal)
    ∧ quiescent_DestRefIdeal_pre_routed (hDestRefIdeal := hDestRefIdeal) (hPre_routed := hPre_routed)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Latent_LatentIdeal
    ∧ algebraic_LatentIdeal_LatentRefIdeal_pre_finite_latent (hLatentIdeal := hLatentIdeal) (hLatentRefIdeal := hLatentRefIdeal) (hPre_finite_latent := hPre_finite_latent)
    ∧ preserves_Tail_TailIdeal
    ∧ algebraic_TailIdeal_TailRefIdeal_pre_finite_scores (hTailIdeal := hTailIdeal) (hTailRefIdeal := hTailRefIdeal) (hPre_finite_scores := hPre_finite_scores)
    ∧ preserves_Memory_MemoryIdeal
    ∧ algebraic_MemoryIdeal_MemoryRefIdeal (hMemoryIdeal := hMemoryIdeal) (hMemoryRefIdeal := hMemoryRefIdeal)
    ∧ preserves_Proj_ProjIdeal
    ∧ algebraic_ProjIdeal_ProjRefIdeal (hProjIdeal := hProjIdeal) (hProjRefIdeal := hProjRefIdeal)
    ∧ preserves_Dest_DestIdeal
    ∧ algebraic_DestIdeal_DestRefIdeal_pre_routed (hDestIdeal := hDestIdeal) (hDestRefIdeal := hDestRefIdeal) (hPre_routed := hPre_routed)
-- ==== Pre_finite_latent.lean ====
abbrev S4x8192x8x96 : Shape := ⟨4, ![4, 8192, 8, 96]⟩
abbrev S4x8192x8x128 : Shape := ⟨4, ![4, 8192, 8, 128]⟩
abbrev S_ : Shape := ⟨0, ![]⟩

class Facts : Prop where
  bcast_S_S4x8192x8x96 : S_.BroadcastsInDim S4x8192x8x96 (![] : Fin 0 → Fin S4x8192x8x96.rank)

variable [Facts]

def fn {F : FTy → Type} [FloatOps F] (main_arg0 : FVec F S4x8192x8x96 .f32) (main_arg1 : FVec F S4x8192x8x96 .f32) (main_arg2 : FVec F S4x8192x8x128 .f32) : IVec S4x8192x8x96 1 × IVec S4x8192x8x96 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_v3 : FVec F S4x8192x8x96 .f32 := Host.absf main_arg1
  let main_cst_0 : FVec F S_ .f32 := constant S_ .f32 0x7F800000#32
  let main_v4 : FVec F S4x8192x8x96 .f32 := broadcastInDim S4x8192x8x96 ![] bcast_S_S4x8192x8x96 main_cst_0
  let main_v5 : IVec S4x8192x8x96 1 := cmpf .olt main_v3 main_v4
  (main_v2, main_v5)
-- ==== Pre_finite_qk.lean ====
abbrev S4x8192x8x128 : Shape := ⟨4, ![4, 8192, 8, 128]⟩
abbrev S4x8192x2x128 : Shape := ⟨4, ![4, 8192, 2, 128]⟩
abbrev S_ : Shape := ⟨0, ![]⟩

class Facts : Prop where
  bcast_S_S4x8192x8x128 : S_.BroadcastsInDim S4x8192x8x128 (![] : Fin 0 → Fin S4x8192x8x128.rank)
  bcast_S_S4x8192x2x128 : S_.BroadcastsInDim S4x8192x2x128 (![] : Fin 0 → Fin S4x8192x2x128.rank)

variable [Facts]

def fn {F : FTy → Type} [FloatOps F] (main_arg0 : FVec F S4x8192x8x128 .f32) (main_arg1 : FVec F S4x8192x2x128 .f32) (main_arg2 : FVec F S4x8192x2x128 .f32) : IVec S4x8192x8x128 1 × IVec S4x8192x2x128 1 :=
  let main_v0 : FVec F S4x8192x8x128 .f32 := Host.absf main_arg0
  let main_cst : FVec F S_ .f32 := constant S_ .f32 0x7F800000#32
  let main_v1 : FVec F S4x8192x8x128 .f32 := broadcastInDim S4x8192x8x128 ![] bcast_S_S4x8192x8x128 main_cst
  let main_v2 : IVec S4x8192x8x128 1 := cmpf .olt main_v0 main_v1
  let main_v3 : FVec F S4x8192x2x128 .f32 := Host.absf main_arg1
  let main_cst_0 : FVec F S_ .f32 := constant S_ .f32 0x7F800000#32
  let main_v4 : FVec F S4x8192x2x128 .f32 := broadcastInDim S4x8192x2x128 ![] bcast_S_S4x8192x2x128 main_cst_0
  let main_v5 : IVec S4x8192x2x128 1 := cmpf .olt main_v3 main_v4
  (main_v2, main_v5)
-- ==== Pre_finite_scores.lean ====
abbrev S4x8192x1024 : Shape := ⟨3, ![4, 8192, 1024]⟩
abbrev S1024 : Shape := ⟨1, ![1024]⟩
abbrev S4x8x16x128x512 : Shape := ⟨5, ![4, 8, 16, 128, 512]⟩
abbrev S4x256x1024 : Shape := ⟨3, ![4, 256, 1024]⟩
abbrev S4x1024x256 : Shape := ⟨3, ![4, 1024, 256]⟩
abbrev S1024x6304 : Shape := ⟨2, ![1024, 6304]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bitsLt_bf16_f32 : FTy.bits .bf16 < FTy.bits .f32
  bcast_S_S4x256x1024 : S_.BroadcastsInDim S4x256x1024 (![] : Fin 0 → Fin S4x256x1024.rank)
  slices_S1024x6304_S1024x1024_0_2208 : S1024x6304.Slices ![0, 2208] S1024x1024
  bcast_S_S1024x1024 : S_.BroadcastsInDim S1024x1024 (![] : Fin 0 → Fin S1024x1024.rank)

variable [Facts]

def fn {F : FTy → Type} [FloatOps F] (main_arg0 : FVec F S4x8192x1024 .f32) (main_arg1 : FVec F S1024 .f32) (main_arg2 : FVec F S4x8x16x128x512 .bf16) (main_arg3 : FVec F S4x8x16x128x512 .bf16) (main_arg4 : FVec F S4x256x1024 .bf16) (main_arg5 : FVec F S4x1024x256 .bf16) (main_arg6 : FVec F S1024x6304 .f32) (main_arg7 : FVec F S1024x1024 .f32) : IVec S1024 1 × IVec S4x256x1024 1 × IVec S1024x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S4x256x1024 .f32 := (extf .f32 · bitsLt_bf16_f32) main_arg4
  let main_v4 : FVec F S4x256x1024 .f32 := Host.absf main_v3
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_v7 : FVec F S1024x1024 .f32 := (extractStridedSlice S1024x1024 ![0, 2208] · slices_S1024x6304_S1024x1024_0_2208) main_arg6
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v2, main_v6, main_v10)
-- ==== Pre_routed.lean ====
abbrev S64 : Shape := ⟨1, ![64]⟩
abbrev S8x32768 : Shape := ⟨2, ![8, 32768]⟩
abbrev S_ : Shape := ⟨0, ![]⟩
abbrev S2x32768 : Shape := ⟨2, ![2, 32768]⟩

class Facts : Prop where
  bcast_S_S64 : S_.BroadcastsInDim S64 (![] : Fin 0 → Fin S64.rank)
  slices_S8x32768_S2x32768_0_0 : S8x32768.Slices ![0, 0] S2x32768
  bcast_S_S2x32768 : S_.BroadcastsInDim S2x32768 (![] : Fin 0 → Fin S2x32768.rank)

variable [Facts]

def fn {F : FTy → Type} [FloatOps F] (main_arg0 : IVec S64 32) (main_arg1 : IVec S8x32768 32) : IVec S64 1 × IVec S64 1 × IVec S2x32768 1 × IVec S2x32768 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 65536#32
  let main_v2 : IVec S64 32 := broadcastInDim S64 ![] bcast_S_S64 main_c_0
  let main_v3 : IVec S64 1 := cmpi .sle main_arg0 main_v2
  let main_v4 : IVec S2x32768 32 := (extractStridedSlice S2x32768 ![0, 0] · slices_S8x32768_S2x32768_0_0) main_arg1
  let main_c_1 : IVec S_ 32 := constantI S_ 32 0#32
  let main_v5 : IVec S2x32768 32 := broadcastInDim S2x32768 ![] bcast_S_S2x32768 main_c_1
  let main_v6 : IVec S2x32768 1 := cmpi .sge main_v4 main_v5
  let main_v7 : IVec S2x32768 32 := (extractStridedSlice S2x32768 ![0, 0] · slices_S8x32768_S2x32768_0_0) main_arg1
  let main_c_2 : IVec S_ 32 := constantI S_ 32 64#32
  let main_v8 : IVec S2x32768 32 := broadcastInDim S2x32768 ![] bcast_S_S2x32768 main_c_2
  let main_v9 : IVec S2x32768 1 := cmpi .slt main_v7 main_v8
  (main_v1, main_v3, main_v6, main_v9)
-- ==== Kernel.lean ====
abbrev S4x8192x8x128 : Shape := ⟨4, ![4, 8192, 8, 128]⟩
abbrev S4x8192x2x128 : Shape := ⟨4, ![4, 8192, 2, 128]⟩
abbrev S_ : Shape := ⟨0, ![]⟩
abbrev S4x16x512x8x128 : Shape := ⟨5, ![4, 16, 512, 8, 128]⟩
abbrev S4x8x16x128x512 : Shape := ⟨5, ![4, 8, 16, 128, 512]⟩
abbrev S4x2x8192x128 : Shape := ⟨4, ![4, 2, 8192, 128]⟩
abbrev S4x16x512x2x128 : Shape := ⟨5, ![4, 16, 512, 2, 128]⟩
abbrev S4x2x16x128x512 : Shape := ⟨5, ![4, 2, 16, 128, 512]⟩
abbrev S4x2x16x1x512 : Shape := ⟨5, ![4, 2, 16, 1, 512]⟩
abbrev S4x2x16x15x512 : Shape := ⟨5, ![4, 2, 16, 15, 512]⟩
abbrev S4x2x16x144x512 : Shape := ⟨5, ![4, 2, 16, 144, 512]⟩
abbrev S1x4x2x128x512 : Shape := ⟨5, ![1, 4, 2, 128, 512]⟩
abbrev S1x1x8192x128 : Shape := ⟨4, ![1, 1, 8192, 128]⟩
abbrev S1x1x16x144x512 : Shape := ⟨5, ![1, 1, 16, 144, 512]⟩
abbrev S8x1x512 : Shape := ⟨3, ![8, 1, 512]⟩
abbrev S8x144x512 : Shape := ⟨3, ![8, 144, 512]⟩
abbrev S2x8x512x512 : Shape := ⟨4, ![2, 8, 512, 512]⟩
abbrev S2x8x1x512 : Shape := ⟨4, ![2, 8, 1, 512]⟩
abbrev S1x1x512x128 : Shape := ⟨4, ![1, 1, 512, 128]⟩
abbrev S512x128 : Shape := ⟨2, ![512, 128]⟩
abbrev S1x1x1x128x512 : Shape := ⟨5, ![1, 1, 1, 128, 512]⟩
abbrev S128x512 : Shape := ⟨2, ![128, 512]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩
abbrev S1x144x512 : Shape := ⟨3, ![1, 144, 512]⟩
abbrev S144x512 : Shape := ⟨2, ![144, 512]⟩
abbrev S1x1x1x144x512 : Shape := ⟨5, ![1, 1, 1, 144, 512]⟩
abbrev S1x128x512 : Shape := ⟨3, ![1, 128, 512]⟩

abbrev nBuf : Space → Nat
  | .hbm => 24
  | .vmem => 12
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x2x128, .f32⟩
  | .hbm, ⟨2, _⟩ => ⟨S4x8192x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8192x8x128, .f32⟩
  | .hbm, ⟨9, _⟩ => ⟨S4x8192x8x128, .f32⟩
  | .hbm, ⟨10, _⟩ => ⟨S4x8192x8x128, .bf16⟩
  | .hbm, ⟨11, _⟩ => ⟨S4x16x512x8x128, .bf16⟩
  | .hbm, ⟨12, _⟩ => ⟨S4x8x16x128x512, .bf16⟩
  | .hbm, ⟨13, _⟩ => ⟨S4x8192x2x128, .bf16⟩
  | .hbm, ⟨14, _⟩ => ⟨S4x2x8192x128, .bf16⟩
  | .hbm, ⟨15, _⟩ => ⟨S4x8192x2x128, .bf16⟩
  | .hbm, ⟨16, _⟩ => ⟨S4x16x512x2x128, .bf16⟩
  | .hbm, ⟨17, _⟩ => ⟨S4x2x16x128x512, .bf16⟩
  | .hbm, ⟨18, _⟩ => ⟨S_, .bf16⟩
  | .hbm, ⟨19, _⟩ => ⟨S4x2x16x1x512, .bf16⟩
  | .hbm, ⟨20, _⟩ => ⟨S_, .bf16⟩
  | .hbm, ⟨21, _⟩ => ⟨S4x2x16x15x512, .bf16⟩
  | .hbm, ⟨22, _⟩ => ⟨S4x2x16x144x512, .bf16⟩
  | .hbm, ⟨23, _⟩ => ⟨S4x8x16x128x512, .bf16⟩
  | .local _ .vmem, ⟨0, _⟩ => ⟨S1x4x2x128x512, .bf16⟩
  | .local _ .vmem, ⟨1, _⟩ => ⟨S1x4x2x128x512, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x16x144x512, .bf16⟩
  | .local _ .vmem, ⟨5, _⟩ => ⟨S1x1x16x144x512, .bf16⟩
  | .local _ .vmem, ⟨6, _⟩ => ⟨S1x4x2x128x512, .bf16⟩
  | .local _ .vmem, ⟨7, _⟩ => ⟨S1x4x2x128x512, .bf16⟩
  | .local _ .vmem, ⟨8, _⟩ => ⟨S8x1x512, .f32⟩
  | .local _ .vmem, ⟨9, _⟩ => ⟨S8x144x512, .f32⟩
  | .local _ .vmem, ⟨10, _⟩ => ⟨S2x8x512x512, .f32⟩
  | .local _ .vmem, ⟨11, _⟩ => ⟨S2x8x1x512, .f32⟩
  | _, _ => ⟨S4x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_mult1 : BitVec 32 :=
  let c0_i32 : BitVec 32 := 0#32
  c0_i32
def k0_mult2 : BitVec 32 :=
  let c0_i32_24 : BitVec 32 := 0#32
  c0_i32_24
def k0_mult3 : BitVec 32 :=
  let c0_i32_42 : BitVec 32 := 0#32
  c0_i32_42
def k0_mult4 : BitVec 32 :=
  let c0_i32_60 : BitVec 32 := 0#32
  c0_i32_60
def k0_mult5 : BitVec 32 :=
  let c0_i32_78 : BitVec 32 := 0#32
  c0_i32_78
def k0_mult6 : BitVec 32 :=
  let c0_i32_96 : BitVec 32 := 0#32
  c0_i32_96
def k0_mult7 : BitVec 32 :=
  let c0_i32_114 : BitVec 32 := 0#32
  c0_i32_114
def k0_mult8 : BitVec 32 :=
  let c0_i32_132 : BitVec 32 := 0#32
  c0_i32_132
@[reducible] def k0_t1_loop : Scf.Loop 32 :=
  let c0_i32_150 : BitVec 32 := 0#32
  let c7_i32 : BitVec 32 := 7#32
  let v128 : BitVec 32 := Scalar.addi c0_i32_150 c7_i32
  let c1_i32 : BitVec 32 := 1#32
  ⟨c0_i32_150, v128, c1_i32⟩
def k0_mult9 (k0_t1 : Fin k0_t1_loop.trips) : BitVec 32 :=
  let c2_i32 : BitVec 32 := 2#32
  let c0_i32_150 : BitVec 32 := 0#32
  let c1_i32 : BitVec 32 := 1#32
  let arg11 : BitVec 32 := Scf.iv c0_i32_150 c1_i32 k0_t1
  let v761 : BitVec 32 := Scalar.muli c2_i32 arg11
  let c0_i32_804 : BitVec 32 := 0#32
  let v762 : BitVec 32 := Scalar.addi v761 c0_i32_804
  let c1_i32_805 : BitVec 32 := 1#32
  let v763 : BitVec 32 := Scalar.addi v762 c1_i32_805
  let c512_i32 : BitVec 32 := 512#32
  let v764 : BitVec 32 := Scalar.muli v763 c512_i32
  v764
def k0_off1 (k0_t1 : Fin k0_t1_loop.trips) (c0_i32_804 : BitVec 32) : Fin 4 → Nat :=
  let c0_806 : Index := 0#32
  let c0_807 : Index := 0#32
  let c2_i32 : BitVec 32 := 2#32
  let c0_i32_150 : BitVec 32 := 0#32
  let c1_i32 : BitVec 32 := 1#32
  let arg11 : BitVec 32 := Scf.iv c0_i32_150 c1_i32 k0_t1
  let v761 : BitVec 32 := Scalar.muli c2_i32 arg11
  let v762 : BitVec 32 := Scalar.addi v761 c0_i32_804
  let c1_i32_805 : BitVec 32 := 1#32
  let v763 : BitVec 32 := Scalar.addi v762 c1_i32_805
  let c512_i32 : BitVec 32 := 512#32
  let v764 : BitVec 32 := Scalar.muli v763 c512_i32
  let v765 : BitVec 32 := v764
  let v766 : Index := Scalar.indexCast v765
  let c0_808 : Index := 0#32
  ![0, 0, v766.toNat, 0]
def k0_off2 (k0_t1 : Fin k0_t1_loop.trips) (c0_i32_825 : BitVec 32) : Fin 5 → Nat :=
  let c0_840 : Index := 0#32
  let c0_841 : Index := 0#32
  let c2_i32_824 : BitVec 32 := 2#32
  let c0_i32_150 : BitVec 32 := 0#32
  let c1_i32 : BitVec 32 := 1#32
  let arg11 : BitVec 32 := Scf.iv c0_i32_150 c1_i32 k0_t1
  let v780 : BitVec 32 := Scalar.muli c2_i32_824 arg11
  let v781 : BitVec 32 := Scalar.addi v780 c0_i32_825
  let v798 : Index := Scalar.indexCast v781
  let c0_842 : Index := 0#32
  let c0_843 : Index := 0#32
  ![0, 0, v798.toNat, 0, 0]
def k0_mult10 (k0_t1 : Fin k0_t1_loop.trips) : BitVec 32 :=
  let c2_i32_851 : BitVec 32 := 2#32
  let c0_i32_150 : BitVec 32 := 0#32
  let c1_i32 : BitVec 32 := 1#32
  let arg11 : BitVec 32 := Scf.iv c0_i32_150 c1_i32 k0_t1
  let v810 : BitVec 32 := Scalar.muli c2_i32_851 arg11
  let c0_i32_852 : BitVec 32 := 0#32
  let v811 : BitVec 32 := Scalar.addi v810 c0_i32_852
  let c1_i32_853 : BitVec 32 := 1#32
  let v812 : BitVec 32 := Scalar.addi v811 c1_i32_853
  let c512_i32_854 : BitVec 32 := 512#32
  let v813 : BitVec 32 := Scalar.muli v812 c512_i32_854
  v813
def k0_mult11 (k0_t1 : Fin k0_t1_loop.trips) : BitVec 32 :=
  let c2_i32_900 : BitVec 32 := 2#32
  let c0_i32_150 : BitVec 32 := 0#32
  let c1_i32 : BitVec 32 := 1#32
  let arg11 : BitVec 32 := Scf.iv c0_i32_150 c1_i32 k0_t1
  let v859 : BitVec 32 := Scalar.muli c2_i32_900 arg11
  let c0_i32_901 : BitVec 32 := 0#32
  let v860 : BitVec 32 := Scalar.addi v859 c0_i32_901
  let c1_i32_902 : BitVec 32 := 1#32
  let v861 : BitVec 32 := Scalar.addi v860 c1_i32_902
  let c512_i32_903 : BitVec 32 := 512#32
  let v862 : BitVec 32 := Scalar.muli v861 c512_i32_903
  v862
def k0_mult12 (k0_t1 : Fin k0_t1_loop.trips) : BitVec 32 :=
  let c2_i32_949 : BitVec 32 := 2#32
  let c0_i32_150 : BitVec 32 := 0#32
  let c1_i32 : BitVec 32 := 1#32
  let arg11 : BitVec 32 := Scf.iv c0_i32_150 c1_i32 k0_t1
  let v908 : BitVec 32 := Scalar.muli c2_i32_949 arg11
  let c0_i32_950 : BitVec 32 := 0#32
  let v909 : BitVec 32 := Scalar.addi v908 c0_i32_950
  let c1_i32_951 : BitVec 32 := 1#32
  let v910 : BitVec 32 := Scalar.addi v909 c1_i32_951
  let c512_i32_952 : BitVec 32 := 512#32
  let v911 : BitVec 32 := Scalar.muli v910 c512_i32_952
  v911
def k0_mult13 (k0_t1 : Fin k0_t1_loop.trips) : BitVec 32 :=
  let c2_i32_998 : BitVec 32 := 2#32
  let c0_i32_150 : BitVec 32 := 0#32
  let c1_i32 : BitVec 32 := 1#32
  let arg11 : BitVec 32 := Scf.iv c0_i32_150 c1_i32 k0_t1
  let v957 : BitVec 32 := Scalar.muli c2_i32_998 arg11
  let c0_i32_999 : BitVec 32 := 0#32
  let v958 : BitVec 32 := Scalar.addi v957 c0_i32_999
  let c1_i32_1000 : BitVec 32 := 1#32
  let v959 : BitVec 32 := Scalar.addi v958 c1_i32_1000
  let c512_i32_1001 : BitVec 32 := 512#32
  let v960 : BitVec 32 := Scalar.muli v959 c512_i32_1001
  v960
def k0_mult14 (k0_t1 : Fin k0_t1_loop.trips) : BitVec 32 :=
  let c2_i32_1047 : BitVec 32 := 2#32
  let c0_i32_150 : BitVec 32 := 0#32
  let c1_i32 : BitVec 32 := 1#32
  let arg11 : BitVec 32 := Scf.iv c0_i32_150 c1_i32 k0_t1
  let v1006 : BitVec 32 := Scalar.muli c2_i32_1047 arg11
  let c0_i32_1048 : BitVec 32 := 0#32
  let v1007 : BitVec 32 := Scalar.addi v1006 c0_i32_1048
  let c1_i32_1049 : BitVec 32 := 1#32
  let v1008 : BitVec 32 := Scalar.addi v1007 c1_i32_1049
  let c512_i32_1050 : BitVec 32 := 512#32
  let v1009 : BitVec 32 := Scalar.muli v1008 c512_i32_1050
  v1009
def k0_mult15 (k0_t1 : Fin k0_t1_loop.trips) : BitVec 32 :=
  let c2_i32_1096 : BitVec 32 := 2#32
  let c0_i32_150 : BitVec 32 := 0#32
  let c1_i32 : BitVec 32 := 1#32
  let arg11 : BitVec 32 := Scf.iv c0_i32_150 c1_i32 k0_t1
  let v1055 : BitVec 32 := Scalar.muli c2_i32_1096 arg11
  let c0_i32_1097 : BitVec 32 := 0#32
  let v1056 : BitVec 32 := Scalar.addi v1055 c0_i32_1097
  let c1_i32_1098 : BitVec 32 := 1#32
  let v1057 : BitVec 32 := Scalar.addi v1056 c1_i32_1098
  let c512_i32_1099 : BitVec 32 := 512#32
  let v1058 : BitVec 32 := Scalar.muli v1057 c512_i32_1099
  v1058
def k0_mult16 (k0_t1 : Fin k0_t1_loop.trips) : BitVec 32 :=
  let c2_i32_1145 : BitVec 32 := 2#32
  let c0_i32_150 : BitVec 32 := 0#32
  let c1_i32 : BitVec 32 := 1#32
  let arg11 : BitVec 32 := Scf.iv c0_i32_150 c1_i32 k0_t1
  let v1104 : BitVec 32 := Scalar.muli c2_i32_1145 arg11
  let c0_i32_1146 : BitVec 32 := 0#32
  let v1105 : BitVec 32 := Scalar.addi v1104 c0_i32_1146
  let c1_i32_1147 : BitVec 32 := 1#32
  let v1106 : BitVec 32 := Scalar.addi v1105 c1_i32_1147
  let c512_i32_1148 : BitVec 32 := 512#32
  let v1107 : BitVec 32 := Scalar.muli v1106 c512_i32_1148
  v1107
def k0_mult17 (k0_t1 : Fin k0_t1_loop.trips) : BitVec 32 :=
  let c2_i32_1194 : BitVec 32 := 2#32
  let c0_i32_150 : BitVec 32 := 0#32
  let c1_i32 : BitVec 32 := 1#32
  let arg11 : BitVec 32 := Scf.iv c0_i32_150 c1_i32 k0_t1
  let v1153 : BitVec 32 := Scalar.muli c2_i32_1194 arg11
  let c1_i32_1195 : BitVec 32 := 1#32
  let v1154 : BitVec 32 := Scalar.addi v1153 c1_i32_1195
  let c1_i32_1196 : BitVec 32 := 1#32
  let v1155 : BitVec 32 := Scalar.addi v1154 c1_i32_1196
  let c512_i32_1197 : BitVec 32 := 512#32
  let v1156 : BitVec 32 := Scalar.muli v1155 c512_i32_1197
  v1156
def k0_mult18 (k0_t1 : Fin k0_t1_loop.trips) : BitVec 32 :=
  let c2_i32_1243 : BitVec 32 := 2#32
  let c0_i32_150 : BitVec 32 := 0#32
  let c1_i32 : BitVec 32 := 1#32
  let arg11 : BitVec 32 := Scf.iv c0_i32_150 c1_i32 k0_t1
  let v1202 : BitVec 32 := Scalar.muli c2_i32_1243 arg11
  let c1_i32_1244 : BitVec 32 := 1#32
  let v1203 : BitVec 32 := Scalar.addi v1202 c1_i32_1244
  let c1_i32_1245 : BitVec 32 := 1#32
  let v1204 : BitVec 32 := Scalar.addi v1203 c1_i32_1245
  let c512_i32_1246 : BitVec 32 := 512#32
  let v1205 : BitVec 32 := Scalar.muli v1204 c512_i32_1246
  v1205
def k0_mult19 (k0_t1 : Fin k0_t1_loop.trips) : BitVec 32 :=
  let c2_i32_1292 : BitVec 32 := 2#32
  let c0_i32_150 : BitVec 32 := 0#32
  let c1_i32 : BitVec 32 := 1#32
  let arg11 : BitVec 32 := Scf.iv c0_i32_150 c1_i32 k0_t1
  let v1251 : BitVec 32 := Scalar.muli c2_i32_1292 arg11
  let c1_i32_1293 : BitVec 32 := 1#32
  let v1252 : BitVec 32 := Scalar.addi v1251 c1_i32_1293
  let c1_i32_1294 : BitVec 32 := 1#32
  let v1253 : BitVec 32 := Scalar.addi v1252 c1_i32_1294
  let c512_i32_1295 : BitVec 32 := 512#32
  let v1254 : BitVec 32 := Scalar.muli v1253 c512_i32_1295
  v1254
def k0_mult20 (k0_t1 : Fin k0_t1_loop.trips) : BitVec 32 :=
  let c2_i32_1341 : BitVec 32 := 2#32
  let c0_i32_150 : BitVec 32 := 0#32
  let c1_i32 : BitVec 32 := 1#32
  let arg11 : BitVec 32 := Scf.iv c0_i32_150 c1_i32 k0_t1
  let v1300 : BitVec 32 := Scalar.muli c2_i32_1341 arg11
  let c1_i32_1342 : BitVec 32 := 1#32
  let v1301 : BitVec 32 := Scalar.addi v1300 c1_i32_1342
  let c1_i32_1343 : BitVec 32 := 1#32
  let v1302 : BitVec 32 := Scalar.addi v1301 c1_i32_1343
  let c512_i32_1344 : BitVec 32 := 512#32
  let v1303 : BitVec 32 := Scalar.muli v1302 c512_i32_1344
  v1303
def k0_mult21 (k0_t1 : Fin k0_t1_loop.trips) : BitVec 32 :=
  let c2_i32_1390 : BitVec 32 := 2#32
  let c0_i32_150 : BitVec 32 := 0#32
  let c1_i32 : BitVec 32 := 1#32
  let arg11 : BitVec 32 := Scf.iv c0_i32_150 c1_i32 k0_t1
  let v1349 : BitVec 32 := Scalar.muli c2_i32_1390 arg11
  let c1_i32_1391 : BitVec 32 := 1#32
  let v1350 : BitVec 32 := Scalar.addi v1349 c1_i32_1391
  let c1_i32_1392 : BitVec 32 := 1#32
  let v1351 : BitVec 32 := Scalar.addi v1350 c1_i32_1392
  let c512_i32_1393 : BitVec 32 := 512#32
  let v1352 : BitVec 32 := Scalar.muli v1351 c512_i32_1393
  v1352
def k0_mult22 (k0_t1 : Fin k0_t1_loop.trips) : BitVec 32 :=
  let c2_i32_1439 : BitVec 32 := 2#32
  let c0_i32_150 : BitVec 32 := 0#32
  let c1_i32 : BitVec 32 := 1#32
  let arg11 : BitVec 32 := Scf.iv c0_i32_150 c1_i32 k0_t1
  let v1398 : BitVec 32 := Scalar.muli c2_i32_1439 arg11
  let c1_i32_1440 : BitVec 32 := 1#32
  let v1399 : BitVec 32 := Scalar.addi v1398 c1_i32_1440
  let c1_i32_1441 : BitVec 32 := 1#32
  let v1400 : BitVec 32 := Scalar.addi v1399 c1_i32_1441
  let c512_i32_1442 : BitVec 32 := 512#32
  let v1401 : BitVec 32 := Scalar.muli v1400 c512_i32_1442
  v1401
def k0_mult23 (k0_t1 : Fin k0_t1_loop.trips) : BitVec 32 :=
  let c2_i32_1488 : BitVec 32 := 2#32
  let c0_i32_150 : BitVec 32 := 0#32
  let c1_i32 : BitVec 32 := 1#32
  let arg11 : BitVec 32 := Scf.iv c0_i32_150 c1_i32 k0_t1
  let v1447 : BitVec 32 := Scalar.muli c2_i32_1488 arg11
  let c1_i32_1489 : BitVec 32 := 1#32
  let v1448 : BitVec 32 := Scalar.addi v1447 c1_i32_1489
  let c1_i32_1490 : BitVec 32 := 1#32
  let v1449 : BitVec 32 := Scalar.addi v1448 c1_i32_1490
  let c512_i32_1491 : BitVec 32 := 512#32
  let v1450 : BitVec 32 := Scalar.muli v1449 c512_i32_1491
  v1450
def k0_mult24 (k0_t1 : Fin k0_t1_loop.trips) : BitVec 32 :=
  let c2_i32_1537 : BitVec 32 := 2#32
  let c0_i32_150 : BitVec 32 := 0#32
  let c1_i32 : BitVec 32 := 1#32
  let arg11 : BitVec 32 := Scf.iv c0_i32_150 c1_i32 k0_t1
  let v1496 : BitVec 32 := Scalar.muli c2_i32_1537 arg11
  let c1_i32_1538 : BitVec 32 := 1#32
  let v1497 : BitVec 32 := Scalar.addi v1496 c1_i32_1538
  let c1_i32_1539 : BitVec 32 := 1#32
  let v1498 : BitVec 32 := Scalar.addi v1497 c1_i32_1539
  let c512_i32_1540 : BitVec 32 := 512#32
  let v1499 : BitVec 32 := Scalar.muli v1498 c512_i32_1540
  v1499
def k0_mult25 : BitVec 32 :=
  let c7680_i32 : BitVec 32 := 7680#32
  c7680_i32
def k0_mult26 : BitVec 32 :=
  let c7680_i32_195 : BitVec 32 := 7680#32
  c7680_i32_195
def k0_mult27 : BitVec 32 :=
  let c7680_i32_240 : BitVec 32 := 7680#32
  c7680_i32_240
def k0_mult28 : BitVec 32 :=
  let c7680_i32_285 : BitVec 32 := 7680#32
  c7680_i32_285
def k0_mult29 : BitVec 32 :=
  let c7680_i32_330 : BitVec 32 := 7680#32
  c7680_i32_330
def k0_mult30 : BitVec 32 :=
  let c7680_i32_375 : BitVec 32 := 7680#32
  c7680_i32_375
def k0_mult31 : BitVec 32 :=
  let c7680_i32_420 : BitVec 32 := 7680#32
  c7680_i32_420
def k0_mult32 : BitVec 32 :=
  let c7680_i32_465 : BitVec 32 := 7680#32
  c7680_i32_465
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x4x2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x2x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x8x128 : Shape := ⟨4, ![4, 8192, 8, 128]⟩
abbrev S4x8192x2x128 : Shape := ⟨4, ![4, 8192, 2, 128]⟩
abbrev S4x8192x2x4x128 : Shape := ⟨5, ![4, 8192, 2, 4, 128]⟩
abbrev S4x2x8192x8192x4 : Shape := ⟨5, ![4, 2, 8192, 8192, 4]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x128x4x8192 : Shape := ⟨5, ![4, 2, 128, 4, 8192]⟩
abbrev S4x16x512x8x128 : Shape := ⟨5, ![4, 16, 512, 8, 128]⟩
abbrev S4x8x16x128x512 : Shape := ⟨5, ![4, 8, 16, 128, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x2x128, .f32⟩
  | .hbm, ⟨2, _⟩ => ⟨S4x8192x2x128, .f32⟩
  | .hbm, ⟨3, _⟩ => ⟨S4x8192x2x4x128, .f32⟩
  | .hbm, ⟨4, _⟩ => ⟨S4x2x8192x8192x4, .f32⟩
  | .hbm, ⟨5, _⟩ => ⟨S4x2x4x8192x8192, .f32⟩
  | .hbm, ⟨6, _⟩ => ⟨S_, .f32⟩
  | .hbm, ⟨7, _⟩ => ⟨S_, .f32⟩
  | .hbm, ⟨8, _⟩ => ⟨S4x2x4x8192x8192, .f32⟩
  | .hbm, ⟨9, _⟩ => ⟨S4x2x4x8192x8192, .f32⟩
  | .hbm, ⟨10, _⟩ => ⟨S_, .f32⟩
  | .hbm, ⟨11, _⟩ => ⟨S4x2x4x8192, .f32⟩
  | .hbm, ⟨12, _⟩ => ⟨S_, .f32⟩
  | .hbm, ⟨13, _⟩ => ⟨S4x2x4x8192, .f32⟩
  | .hbm, ⟨14, _⟩ => ⟨S4x2x4x8192, .f32⟩
  | .hbm, ⟨15, _⟩ => ⟨S4x2x4x8192x1, .f32⟩
  | .hbm, ⟨16, _⟩ => ⟨S4x2x4x8192x8192, .f32⟩
  | .hbm, ⟨17, _⟩ => ⟨S4x2x4x8192x8192, .f32⟩
  | .hbm, ⟨18, _⟩ => ⟨S4x2x4x8192x8192, .f32⟩
  | .hbm, ⟨19, _⟩ => ⟨S_, .f32⟩
  | .hbm, ⟨20, _⟩ => ⟨S4x2x4x8192, .f32⟩
  | .hbm, ⟨21, _⟩ => ⟨S4x2x4x8192x1, .f32⟩
  | .hbm, ⟨22, _⟩ => ⟨S4x2x4x8192x8192, .f32⟩
  | .hbm, ⟨23, _⟩ => ⟨S4x2x4x8192x8192, .f32⟩
  | .hbm, ⟨24, _⟩ => ⟨S4x2x128x4x8192, .f32⟩
  | .hbm, ⟨25, _⟩ => ⟨S4x8192x2x4x128, .f32⟩
  | .hbm, ⟨26, _⟩ => ⟨S4x16x512x8x128, .f32⟩
  | .hbm, ⟨27, _⟩ => ⟨S4x8x16x128x512, .f32⟩
  | .hbm, ⟨28, _⟩ => ⟨S4x8x16x128x512, .bf16⟩
  | _, _ => ⟨S4x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Latent.lean ====
abbrev S4x8192x8x96 : Shape := ⟨4, ![4, 8192, 8, 96]⟩
abbrev S4x8192x8x128 : Shape := ⟨4, ![4, 8192, 8, 128]⟩
abbrev S_ : Shape := ⟨0, ![]⟩
abbrev S4x8192x8x32 : Shape := ⟨4, ![4, 8192, 8, 32]⟩
abbrev S4x16x512x8x128 : Shape := ⟨5, ![4, 16, 512, 8, 128]⟩
abbrev S4x8x16x128x512 : Shape := ⟨5, ![4, 8, 16, 128, 512]⟩
abbrev S4x8x8192x128 : Shape := ⟨4, ![4, 8, 8192, 128]⟩
abbrev S4x8x16x1x512 : Shape := ⟨5, ![4, 8, 16, 1, 512]⟩
abbrev S4x8x16x15x512 : Shape := ⟨5, ![4, 8, 16, 15, 512]⟩
abbrev S4x8x16x144x512 : Shape := ⟨5, ![4, 8, 16, 144, 512]⟩
abbrev S1x1x8x128x512 : Shape := ⟨5, ![1, 1, 8, 128, 512]⟩
abbrev S1x1x8192x128 : Shape := ⟨4, ![1, 1, 8192, 128]⟩
abbrev S1x1x16x144x512 : Shape := ⟨5, ![1, 1, 16, 144, 512]⟩
abbrev S8x1x512 : Shape := ⟨3, ![8, 1, 512]⟩
abbrev S8x144x512 : Shape := ⟨3, ![8, 144, 512]⟩
abbrev S2x8x512x512 : Shape := ⟨4, ![2, 8, 512, 512]⟩
abbrev S2x8x1x512 : Shape := ⟨4, ![2, 8, 1, 512]⟩
abbrev S1x1x512x128 : Shape := ⟨4, ![1, 1, 512, 128]⟩
abbrev S512x128 : Shape := ⟨2, ![512, 128]⟩
abbrev S1x1x1x128x512 : Shape := ⟨5, ![1, 1, 1, 128, 512]⟩
abbrev S128x512 : Shape := ⟨2, ![128, 512]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩
abbrev S1x144x512 : Shape := ⟨3, ![1, 144, 512]⟩
abbrev S144x512 : Shape := ⟨2, ![144, 512]⟩
abbrev S1x1x1x144x512 : Shape := ⟨5, ![1, 1, 1, 144, 512]⟩
abbrev S1x128x512 : Shape := ⟨3, ![1, 128, 512]⟩

abbrev nBuf : Space → Nat
  | .hbm => 28
  | .vmem => 12
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x8x32, .f32⟩
  | .hbm, ⟨10, _⟩ => ⟨S4x8192x8x96, .f32⟩
  | .hbm, ⟨11, _⟩ => ⟨S4x8192x8x96, .f32⟩
  | .hbm, ⟨12, _⟩ => ⟨S4x8192x8x128, .f32⟩
  | .hbm, ⟨13, _⟩ => ⟨S4x8192x8x128, .f32⟩
  | .hbm, ⟨14, _⟩ => ⟨S4x8192x8x128, .bf16⟩
  | .hbm, ⟨15, _⟩ => ⟨S4x16x512x8x128, .bf16⟩
  | .hbm, ⟨16, _⟩ => ⟨S4x8x16x128x512, .bf16⟩
  | .hbm, ⟨17, _⟩ => ⟨S4x8192x8x128, .bf16⟩
  | .hbm, ⟨18, _⟩ => ⟨S4x8x8192x128, .bf16⟩
  | .hbm, ⟨19, _⟩ => ⟨S4x8192x8x128, .bf16⟩
  | .hbm, ⟨20, _⟩ => ⟨S4x16x512x8x128, .bf16⟩
  | .hbm, ⟨21, _⟩ => ⟨S4x8x16x128x512, .bf16⟩
  | .hbm, ⟨22, _⟩ => ⟨S_, .bf16⟩
  | .hbm, ⟨23, _⟩ => ⟨S4x8x16x1x512, .bf16⟩
  | .hbm, ⟨24, _⟩ => ⟨S_, .bf16⟩
  | .hbm, ⟨25, _⟩ => ⟨S4x8x16x15x512, .bf16⟩
  | .hbm, ⟨26, _⟩ => ⟨S4x8x16x144x512, .bf16⟩
  | .hbm, ⟨27, _⟩ => ⟨S4x8x16x128x512, .bf16⟩
  | .local _ .vmem, ⟨0, _⟩ => ⟨S1x1x8x128x512, .bf16⟩
  | .local _ .vmem, ⟨1, _⟩ => ⟨S1x1x8x128x512, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x16x144x512, .bf16⟩
  | .local _ .vmem, ⟨5, _⟩ => ⟨S1x1x16x144x512, .bf16⟩
  | .local _ .vmem, ⟨6, _⟩ => ⟨S1x1x8x128x512, .bf16⟩
  | .local _ .vmem, ⟨7, _⟩ => ⟨S1x1x8x128x512, .bf16⟩
  | .local _ .vmem, ⟨8, _⟩ => ⟨S8x1x512, .f32⟩
  | .local _ .vmem, ⟨9, _⟩ => ⟨S8x144x512, .f32⟩
  | .local _ .vmem, ⟨10, _⟩ => ⟨S2x8x512x512, .f32⟩
  | .local _ .vmem, ⟨11, _⟩ => ⟨S2x8x1x512, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_mult1 : BitVec 32 :=
  let c0_i32 : BitVec 32 := 0#32
  c0_i32
def k0_mult2 : BitVec 32 :=
  let c0_i32_24 : BitVec 32 := 0#32
  c0_i32_24
def k0_mult3 : BitVec 32 :=
  let c0_i32_42 : BitVec 32 := 0#32
  c0_i32_42
def k0_mult4 : BitVec 32 :=
  let c0_i32_60 : BitVec 32 := 0#32
  c0_i32_60
def k0_mult5 : BitVec 32 :=
  let c0_i32_78 : BitVec 32 := 0#32
  c0_i32_78
def k0_mult6 : BitVec 32 :=
  let c0_i32_96 : BitVec 32 := 0#32
  c0_i32_96
def k0_mult7 : BitVec 32 :=
  let c0_i32_114 : BitVec 32 := 0#32
  c0_i32_114
def k0_mult8 : BitVec 32 :=
  let c0_i32_132 : BitVec 32 := 0#32
  c0_i32_132
@[reducible] def k0_t1_loop : Scf.Loop 32 :=
  let c0_i32_150 : BitVec 32 := 0#32
  let c7_i32 : BitVec 32 := 7#32
  let v128 : BitVec 32 := Scalar.addi c0_i32_150 c7_i32
  let c1_i32 : BitVec 32 := 1#32
  ⟨c0_i32_150, v128, c1_i32⟩
def k0_mult9 (k0_t1 : Fin k0_t1_loop.trips) : BitVec 32 :=
  let c2_i32 : BitVec 32 := 2#32
  let c0_i32_150 : BitVec 32 := 0#32
  let c1_i32 : BitVec 32 := 1#32
  let arg11 : BitVec 32 := Scf.iv c0_i32_150 c1_i32 k0_t1
  let v761 : BitVec 32 := Scalar.muli c2_i32 arg11
  let c0_i32_804 : BitVec 32 := 0#32
  let v762 : BitVec 32 := Scalar.addi v761 c0_i32_804
  let c1_i32_805 : BitVec 32 := 1#32
  let v763 : BitVec 32 := Scalar.addi v762 c1_i32_805
  let c512_i32 : BitVec 32 := 512#32
  let v764 : BitVec 32 := Scalar.muli v763 c512_i32
  v764
def k0_off1 (k0_t1 : Fin k0_t1_loop.trips) (c0_i32_804 : BitVec 32) : Fin 4 → Nat :=
  let c0_806 : Index := 0#32
  let c0_807 : Index := 0#32
  let c2_i32 : BitVec 32 := 2#32
  let c0_i32_150 : BitVec 32 := 0#32
  let c1_i32 : BitVec 32 := 1#32
  let arg11 : BitVec 32 := Scf.iv c0_i32_150 c1_i32 k0_t1
  let v761 : BitVec 32 := Scalar.muli c2_i32 arg11
  let v762 : BitVec 32 := Scalar.addi v761 c0_i32_804
  let c1_i32_805 : BitVec 32 := 1#32
  let v763 : BitVec 32 := Scalar.addi v762 c1_i32_805
  let c512_i32 : BitVec 32 := 512#32
  let v764 : BitVec 32 := Scalar.muli v763 c512_i32
  let v765 : BitVec 32 := v764
  let v766 : Index := Scalar.indexCast v765
  let c0_808 : Index := 0#32
  ![0, 0, v766.toNat, 0]
def k0_off2 (k0_t1 : Fin k0_t1_loop.trips) (c0_i32_825 : BitVec 32) : Fin 5 → Nat :=
  let c0_840 : Index := 0#32
  let c0_841 : Index := 0#32
  let c2_i32_824 : BitVec 32 := 2#32
  let c0_i32_150 : BitVec 32 := 0#32
  let c1_i32 : BitVec 32 := 1#32
  let arg11 : BitVec 32 := Scf.iv c0_i32_150 c1_i32 k0_t1
  let v780 : BitVec 32 := Scalar.muli c2_i32_824 arg11
  let v781 : BitVec 32 := Scalar.addi v780 c0_i32_825
  let v798 : Index := Scalar.indexCast v781
  let c0_842 : Index := 0#32
  let c0_843 : Index := 0#32
  ![0, 0, v798.toNat, 0, 0]
def k0_mult10 (k0_t1 : Fin k0_t1_loop.trips) : BitVec 32 :=
  let c2_i32_851 : BitVec 32 := 2#32
  let c0_i32_150 : BitVec 32 := 0#32
  let c1_i32 : BitVec 32 := 1#32
  let arg11 : BitVec 32 := Scf.iv c0_i32_150 c1_i32 k0_t1
  let v810 : BitVec 32 := Scalar.muli c2_i32_851 arg11
  let c0_i32_852 : BitVec 32 := 0#32
  let v811 : BitVec 32 := Scalar.addi v810 c0_i32_852
  let c1_i32_853 : BitVec 32 := 1#32
  let v812 : BitVec 32 := Scalar.addi v811 c1_i32_853
  let c512_i32_854 : BitVec 32 := 512#32
  let v813 : BitVec 32 := Scalar.muli v812 c512_i32_854
  v813
def k0_mult11 (k0_t1 : Fin k0_t1_loop.trips) : BitVec 32 :=
  let c2_i32_900 : BitVec 32 := 2#32
  let c0_i32_150 : BitVec 32 := 0#32
  let c1_i32 : BitVec 32 := 1#32
  let arg11 : BitVec 32 := Scf.iv c0_i32_150 c1_i32 k0_t1
  let v859 : BitVec 32 := Scalar.muli c2_i32_900 arg11
  let c0_i32_901 : BitVec 32 := 0#32
  let v860 : BitVec 32 := Scalar.addi v859 c0_i32_901
  let c1_i32_902 : BitVec 32 := 1#32
  let v861 : BitVec 32 := Scalar.addi v860 c1_i32_902
  let c512_i32_903 : BitVec 32 := 512#32
  let v862 : BitVec 32 := Scalar.muli v861 c512_i32_903
  v862
def k0_mult12 (k0_t1 : Fin k0_t1_loop.trips) : BitVec 32 :=
  let c2_i32_949 : BitVec 32 := 2#32
  let c0_i32_150 : BitVec 32 := 0#32
  let c1_i32 : BitVec 32 := 1#32
  let arg11 : BitVec 32 := Scf.iv c0_i32_150 c1_i32 k0_t1
  let v908 : BitVec 32 := Scalar.muli c2_i32_949 arg11
  let c0_i32_950 : BitVec 32 := 0#32
  let v909 : BitVec 32 := Scalar.addi v908 c0_i32_950
  let c1_i32_951 : BitVec 32 := 1#32
  let v910 : BitVec 32 := Scalar.addi v909 c1_i32_951
  let c512_i32_952 : BitVec 32 := 512#32
  let v911 : BitVec 32 := Scalar.muli v910 c512_i32_952
  v911
def k0_mult13 (k0_t1 : Fin k0_t1_loop.trips) : BitVec 32 :=
  let c2_i32_998 : BitVec 32 := 2#32
  let c0_i32_150 : BitVec 32 := 0#32
  let c1_i32 : BitVec 32 := 1#32
  let arg11 : BitVec 32 := Scf.iv c0_i32_150 c1_i32 k0_t1
  let v957 : BitVec 32 := Scalar.muli c2_i32_998 arg11
  let c0_i32_999 : BitVec 32 := 0#32
  let v958 : BitVec 32 := Scalar.addi v957 c0_i32_999
  let c1_i32_1000 : BitVec 32 := 1#32
  let v959 : BitVec 32 := Scalar.addi v958 c1_i32_1000
  let c512_i32_1001 : BitVec 32 := 512#32
  let v960 : BitVec 32 := Scalar.muli v959 c512_i32_1001
  v960
def k0_mult14 (k0_t1 : Fin k0_t1_loop.trips) : BitVec 32 :=
  let c2_i32_1047 : BitVec 32 := 2#32
  let c0_i32_150 : BitVec 32 := 0#32
  let c1_i32 : BitVec 32 := 1#32
  let arg11 : BitVec 32 := Scf.iv c0_i32_150 c1_i32 k0_t1
  let v1006 : BitVec 32 := Scalar.muli c2_i32_1047 arg11
  let c0_i32_1048 : BitVec 32 := 0#32
  let v1007 : BitVec 32 := Scalar.addi v1006 c0_i32_1048
  let c1_i32_1049 : BitVec 32 := 1#32
  let v1008 : BitVec 32 := Scalar.addi v1007 c1_i32_1049
  let c512_i32_1050 : BitVec 32 := 512#32
  let v1009 : BitVec 32 := Scalar.muli v1008 c512_i32_1050
  v1009
def k0_mult15 (k0_t1 : Fin k0_t1_loop.trips) : BitVec 32 :=
  let c2_i32_1096 : BitVec 32 := 2#32
  let c0_i32_150 : BitVec 32 := 0#32
  let c1_i32 : BitVec 32 := 1#32
  let arg11 : BitVec 32 := Scf.iv c0_i32_150 c1_i32 k0_t1
  let v1055 : BitVec 32 := Scalar.muli c2_i32_1096 arg11
  let c0_i32_1097 : BitVec 32 := 0#32
  let v1056 : BitVec 32 := Scalar.addi v1055 c0_i32_1097
  let c1_i32_1098 : BitVec 32 := 1#32
  let v1057 : BitVec 32 := Scalar.addi v1056 c1_i32_1098
  let c512_i32_1099 : BitVec 32 := 512#32
  let v1058 : BitVec 32 := Scalar.muli v1057 c512_i32_1099
  v1058
def k0_mult16 (k0_t1 : Fin k0_t1_loop.trips) : BitVec 32 :=
  let c2_i32_1145 : BitVec 32 := 2#32
  let c0_i32_150 : BitVec 32 := 0#32
  let c1_i32 : BitVec 32 := 1#32
  let arg11 : BitVec 32 := Scf.iv c0_i32_150 c1_i32 k0_t1
  let v1104 : BitVec 32 := Scalar.muli c2_i32_1145 arg11
  let c0_i32_1146 : BitVec 32 := 0#32
  let v1105 : BitVec 32 := Scalar.addi v1104 c0_i32_1146
  let c1_i32_1147 : BitVec 32 := 1#32
  let v1106 : BitVec 32 := Scalar.addi v1105 c1_i32_1147
  let c512_i32_1148 : BitVec 32 := 512#32
  let v1107 : BitVec 32 := Scalar.muli v1106 c512_i32_1148
  v1107
def k0_mult17 (k0_t1 : Fin k0_t1_loop.trips) : BitVec 32 :=
  let c2_i32_1194 : BitVec 32 := 2#32
  let c0_i32_150 : BitVec 32 := 0#32
  let c1_i32 : BitVec 32 := 1#32
  let arg11 : BitVec 32 := Scf.iv c0_i32_150 c1_i32 k0_t1
  let v1153 : BitVec 32 := Scalar.muli c2_i32_1194 arg11
  let c1_i32_1195 : BitVec 32 := 1#32
  let v1154 : BitVec 32 := Scalar.addi v1153 c1_i32_1195
  let c1_i32_1196 : BitVec 32 := 1#32
  let v1155 : BitVec 32 := Scalar.addi v1154 c1_i32_1196
  let c512_i32_1197 : BitVec 32 := 512#32
  let v1156 : BitVec 32 := Scalar.muli v1155 c512_i32_1197
  v1156
def k0_mult18 (k0_t1 : Fin k0_t1_loop.trips) : BitVec 32 :=
  let c2_i32_1243 : BitVec 32 := 2#32
  let c0_i32_150 : BitVec 32 := 0#32
  let c1_i32 : BitVec 32 := 1#32
  let arg11 : BitVec 32 := Scf.iv c0_i32_150 c1_i32 k0_t1
  let v1202 : BitVec 32 := Scalar.muli c2_i32_1243 arg11
  let c1_i32_1244 : BitVec 32 := 1#32
  let v1203 : BitVec 32 := Scalar.addi v1202 c1_i32_1244
  let c1_i32_1245 : BitVec 32 := 1#32
  let v1204 : BitVec 32 := Scalar.addi v1203 c1_i32_1245
  let c512_i32_1246 : BitVec 32 := 512#32
  let v1205 : BitVec 32 := Scalar.muli v1204 c512_i32_1246
  v1205
def k0_mult19 (k0_t1 : Fin k0_t1_loop.trips) : BitVec 32 :=
  let c2_i32_1292 : BitVec 32 := 2#32
  let c0_i32_150 : BitVec 32 := 0#32
  let c1_i32 : BitVec 32 := 1#32
  let arg11 : BitVec 32 := Scf.iv c0_i32_150 c1_i32 k0_t1
  let v1251 : BitVec 32 := Scalar.muli c2_i32_1292 arg11
  let c1_i32_1293 : BitVec 32 := 1#32
  let v1252 : BitVec 32 := Scalar.addi v1251 c1_i32_1293
  let c1_i32_1294 : BitVec 32 := 1#32
  let v1253 : BitVec 32 := Scalar.addi v1252 c1_i32_1294
  let c512_i32_1295 : BitVec 32 := 512#32
  let v1254 : BitVec 32 := Scalar.muli v1253 c512_i32_1295
  v1254
def k0_mult20 (k0_t1 : Fin k0_t1_loop.trips) : BitVec 32 :=
  let c2_i32_1341 : BitVec 32 := 2#32
  let c0_i32_150 : BitVec 32 := 0#32
  let c1_i32 : BitVec 32 := 1#32
  let arg11 : BitVec 32 := Scf.iv c0_i32_150 c1_i32 k0_t1
  let v1300 : BitVec 32 := Scalar.muli c2_i32_1341 arg11
  let c1_i32_1342 : BitVec 32 := 1#32
  let v1301 : BitVec 32 := Scalar.addi v1300 c1_i32_1342
  let c1_i32_1343 : BitVec 32 := 1#32
  let v1302 : BitVec 32 := Scalar.addi v1301 c1_i32_1343
  let c512_i32_1344 : BitVec 32 := 512#32
  let v1303 : BitVec 32 := Scalar.muli v1302 c512_i32_1344
  v1303
def k0_mult21 (k0_t1 : Fin k0_t1_loop.trips) : BitVec 32 :=
  let c2_i32_1390 : BitVec 32 := 2#32
  let c0_i32_150 : BitVec 32 := 0#32
  let c1_i32 : BitVec 32 := 1#32
  let arg11 : BitVec 32 := Scf.iv c0_i32_150 c1_i32 k0_t1
  let v1349 : BitVec 32 := Scalar.muli c2_i32_1390 arg11
  let c1_i32_1391 : BitVec 32 := 1#32
  let v1350 : BitVec 32 := Scalar.addi v1349 c1_i32_1391
  let c1_i32_1392 : BitVec 32 := 1#32
  let v1351 : BitVec 32 := Scalar.addi v1350 c1_i32_1392
  let c512_i32_1393 : BitVec 32 := 512#32
  let v1352 : BitVec 32 := Scalar.muli v1351 c512_i32_1393
  v1352
def k0_mult22 (k0_t1 : Fin k0_t1_loop.trips) : BitVec 32 :=
  let c2_i32_1439 : BitVec 32 := 2#32
  let c0_i32_150 : BitVec 32 := 0#32
  let c1_i32 : BitVec 32 := 1#32
  let arg11 : BitVec 32 := Scf.iv c0_i32_150 c1_i32 k0_t1
  let v1398 : BitVec 32 := Scalar.muli c2_i32_1439 arg11
  let c1_i32_1440 : BitVec 32 := 1#32
  let v1399 : BitVec 32 := Scalar.addi v1398 c1_i32_1440
  let c1_i32_1441 : BitVec 32 := 1#32
  let v1400 : BitVec 32 := Scalar.addi v1399 c1_i32_1441
  let c512_i32_1442 : BitVec 32 := 512#32
  let v1401 : BitVec 32 := Scalar.muli v1400 c512_i32_1442
  v1401
def k0_mult23 (k0_t1 : Fin k0_t1_loop.trips) : BitVec 32 :=
  let c2_i32_1488 : BitVec 32 := 2#32
  let c0_i32_150 : BitVec 32 := 0#32
  let c1_i32 : BitVec 32 := 1#32
  let arg11 : BitVec 32 := Scf.iv c0_i32_150 c1_i32 k0_t1
  let v1447 : BitVec 32 := Scalar.muli c2_i32_1488 arg11
  let c1_i32_1489 : BitVec 32 := 1#32
  let v1448 : BitVec 32 := Scalar.addi v1447 c1_i32_1489
  let c1_i32_1490 : BitVec 32 := 1#32
  let v1449 : BitVec 32 := Scalar.addi v1448 c1_i32_1490
  let c512_i32_1491 : BitVec 32 := 512#32
  let v1450 : BitVec 32 := Scalar.muli v1449 c512_i32_1491
  v1450
def k0_mult24 (k0_t1 : Fin k0_t1_loop.trips) : BitVec 32 :=
  let c2_i32_1537 : BitVec 32 := 2#32
  let c0_i32_150 : BitVec 32 := 0#32
  let c1_i32 : BitVec 32 := 1#32
  let arg11 : BitVec 32 := Scf.iv c0_i32_150 c1_i32 k0_t1
  let v1496 : BitVec 32 := Scalar.muli c2_i32_1537 arg11
  let c1_i32_1538 : BitVec 32 := 1#32
  let v1497 : BitVec 32 := Scalar.addi v1496 c1_i32_1538
  let c1_i32_1539 : BitVec 32 := 1#32
  let v1498 : BitVec 32 := Scalar.addi v1497 c1_i32_1539
  let c512_i32_1540 : BitVec 32 := 512#32
  let v1499 : BitVec 32 := Scalar.muli v1498 c512_i32_1540
  v1499
def k0_mult25 : BitVec 32 :=
  let c7680_i32 : BitVec 32 := 7680#32
  c7680_i32
def k0_mult26 : BitVec 32 :=
  let c7680_i32_195 : BitVec 32 := 7680#32
  c7680_i32_195
def k0_mult27 : BitVec 32 :=
  let c7680_i32_240 : BitVec 32 := 7680#32
  c7680_i32_240
def k0_mult28 : BitVec 32 :=
  let c7680_i32_285 : BitVec 32 := 7680#32
  c7680_i32_285
def k0_mult29 : BitVec 32 :=
  let c7680_i32_330 : BitVec 32 := 7680#32
  c7680_i32_330
def k0_mult30 : BitVec 32 :=
  let c7680_i32_375 : BitVec 32 := 7680#32
  c7680_i32_375
def k0_mult31 : BitVec 32 :=
  let c7680_i32_420 : BitVec 32 := 7680#32
  c7680_i32_420
def k0_mult32 : BitVec 32 :=
  let c7680_i32_465 : BitVec 32 := 7680#32
  c7680_i32_465
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== LatentRefIdeal.lean ====
abbrev S4x8192x8x96 : Shape := ⟨4, ![4, 8192, 8, 96]⟩
abbrev S4x8192x8x128 : Shape := ⟨4, ![4, 8192, 8, 128]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x16x512x8x128 : Shape := ⟨5, ![4, 16, 512, 8, 128]⟩
abbrev S4x8x16x128x512 : Shape := ⟨5, ![4, 8, 16, 128, 512]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x128, .f32⟩
  | .hbm, ⟨3, _⟩ => ⟨S4x8x8192x8192, .f32⟩
  | .hbm, ⟨4, _⟩ => ⟨S_, .f32⟩
  | .hbm, ⟨5, _⟩ => ⟨S_, .f32⟩
  | .hbm, ⟨6, _⟩ => ⟨S4x8x8192x8192, .f32⟩
  | .hbm, ⟨7, _⟩ => ⟨S4x8x8192x8192, .f32⟩
  | .hbm, ⟨8, _⟩ => ⟨S_, .f32⟩
  | .hbm, ⟨9, _⟩ => ⟨S4x8x8192, .f32⟩
  | .hbm, ⟨10, _⟩ => ⟨S_, .f32⟩
  | .hbm, ⟨11, _⟩ => ⟨S4x8x8192, .f32⟩
  | .hbm, ⟨12, _⟩ => ⟨S4x8x8192, .f32⟩
  | .hbm, ⟨13, _⟩ => ⟨S4x8x8192x1, .f32⟩
  | .hbm, ⟨14, _⟩ => ⟨S4x8x8192x8192, .f32⟩
  | .hbm, ⟨15, _⟩ => ⟨S4x8x8192x8192, .f32⟩
  | .hbm, ⟨16, _⟩ => ⟨S4x8x8192x8192, .f32⟩
  | .hbm, ⟨17, _⟩ => ⟨S_, .f32⟩
  | .hbm, ⟨18, _⟩ => ⟨S4x8x8192, .f32⟩
  | .hbm, ⟨19, _⟩ => ⟨S4x8x8192x1, .f32⟩
  | .hbm, ⟨20, _⟩ => ⟨S4x8x8192x8192, .f32⟩
  | .hbm, ⟨21, _⟩ => ⟨S4x8x8192x8192, .f32⟩
  | .hbm, ⟨22, _⟩ => ⟨S4x8x128x8192, .f32⟩
  | .hbm, ⟨23, _⟩ => ⟨S4x8192x8x128, .f32⟩
  | .hbm, ⟨24, _⟩ => ⟨S4x16x512x8x128, .f32⟩
  | .hbm, ⟨25, _⟩ => ⟨S4x8x16x128x512, .f32⟩
  | .hbm, ⟨26, _⟩ => ⟨S4x8x16x128x512, .bf16⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Tail.lean ====
abbrev S4x8192x1024 : Shape := ⟨3, ![4, 8192, 1024]⟩
abbrev S1024 : Shape := ⟨1, ![1024]⟩
abbrev S4x8x16x128x512 : Shape := ⟨5, ![4, 8, 16, 128, 512]⟩
abbrev S4x256x1024 : Shape := ⟨3, ![4, 256, 1024]⟩
abbrev S4x1024x256 : Shape := ⟨3, ![4, 1024, 256]⟩
abbrev S1024x6304 : Shape := ⟨2, ![1024, 6304]⟩
abbrev S1024x1024 : Shape := ⟨2, ![1024, 1024]⟩
abbrev S1024x3072 : Shape := ⟨2, ![1024, 3072]⟩
abbrev S3072x1024 : Shape := ⟨2, ![3072, 1024]⟩
abbrev S1x1024 : Shape := ⟨2, ![1, 1024]⟩
abbrev S1x512x1024 : Shape := ⟨3, ![1, 512, 1024]⟩
abbrev S1x8x1x128x512 : Shape := ⟨5, ![1, 8, 1, 128, 512]⟩
abbrev S1x256x1024 : Shape := ⟨3, ![1, 256, 1024]⟩
abbrev S1x1024x256 : Shape := ⟨3, ![1, 1024, 256]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S256x512 : Shape := ⟨2, ![256, 512]⟩
abbrev S1x256x256 : Shape := ⟨3, ![1, 256, 256]⟩
abbrev S256x256 : Shape := ⟨2, ![256, 256]⟩
abbrev S512x512 : Shape := ⟨2, ![512, 512]⟩
abbrev S1x512 : Shape := ⟨2, ![1, 512]⟩
abbrev S8x1x128x512 : Shape := ⟨4, ![8, 1, 128, 512]⟩
abbrev S1024x512 : Shape := ⟨2, ![1024, 512]⟩

abbrev nBuf : Space → Nat
  | .hbm => 17
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8x16x128x512, .bf16⟩
  | .hbm, ⟨3, _⟩ => ⟨S4x8x16x128x512, .bf16⟩
  | .hbm, ⟨4, _⟩ => ⟨S4x256x1024, .bf16⟩
  | .hbm, ⟨5, _⟩ => ⟨S4x1024x256, .bf16⟩
  | .hbm, ⟨6, _⟩ => ⟨S1024x6304, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x3072, .f32⟩
  | .hbm, ⟨12, _⟩ => ⟨S3072x1024, .f32⟩
  | .hbm, ⟨13, _⟩ => ⟨S3072x1024, .bf16⟩
  | .hbm, ⟨14, _⟩ => ⟨S1x1024, .f32⟩
  | .hbm, ⟨15, _⟩ => ⟨S1024x1024, .bf16⟩
  | .hbm, ⟨16, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x8x1x128x512, .bf16⟩
  | .local _ .vmem, ⟨4, _⟩ => ⟨S1x8x1x128x512, .bf16⟩
  | .local _ .vmem, ⟨5, _⟩ => ⟨S1x8x1x128x512, .bf16⟩
  | .local _ .vmem, ⟨6, _⟩ => ⟨S1x8x1x128x512, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x1024, .bf16⟩
  | .local _ .vmem, ⟨12, _⟩ => ⟨S3072x1024, .bf16⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== TailIdeal.lean ====
variable {F : FTy → Type} [FloatOps F] [Named F]
def κ : String → Option EReal := fun
  | "scale" => some ((16⁻¹ * (Real.log 2)⁻¹ : ℝ) : EReal)
  | _ => none
-- ==== TailRefIdeal.lean ====
abbrev S4x8192x1024 : Shape := ⟨3, ![4, 8192, 1024]⟩
abbrev S1024 : Shape := ⟨1, ![1024]⟩
abbrev S4x8x16x128x512 : Shape := ⟨5, ![4, 8, 16, 128, 512]⟩
abbrev S4x256x1024 : Shape := ⟨3, ![4, 256, 1024]⟩
abbrev S4x1024x256 : Shape := ⟨3, ![4, 1024, 256]⟩
abbrev S1024x6304 : Shape := ⟨2, ![1024, 6304]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6304 : Shape := ⟨3, ![4, 8192, 6304]⟩
abbrev S4x8192x4x256 : Shape := ⟨4, ![4, 8192, 4, 256]⟩
abbrev S4x8192x3072 : Shape := ⟨3, ![4, 8192, 3072]⟩
abbrev S4x8192x3x1024 : Shape := ⟨4, ![4, 8192, 3, 1024]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S4x16x512x8x128 : Shape := ⟨5, ![4, 16, 512, 8, 128]⟩
abbrev S4x8192x1x1024 : Shape := ⟨4, ![4, 8192, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8x16x128x512, .bf16⟩
  | .hbm, ⟨3, _⟩ => ⟨S4x8x16x128x512, .bf16⟩
  | .hbm, ⟨4, _⟩ => ⟨S4x256x1024, .bf16⟩
  | .hbm, ⟨5, _⟩ => ⟨S4x1024x256, .bf16⟩
  | .hbm, ⟨6, _⟩ => ⟨S1024x6304, .f32⟩
  | .hbm, ⟨7, _⟩ => ⟨S1024x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x6304, .f32⟩
  | .hbm, ⟨25, _⟩ => ⟨S4x8192x1024, .f32⟩
  | .hbm, ⟨26, _⟩ => ⟨S4x8192x4x256, .f32⟩
  | .hbm, ⟨27, _⟩ => ⟨S4x8192x3072, .f32⟩
  | .hbm, ⟨28, _⟩ => ⟨S4x8192x3x1024, .f32⟩
  | .hbm, ⟨29, _⟩ => ⟨S4x256x1024, .f32⟩
  | .hbm, ⟨30, _⟩ => ⟨S4x256x4x256, .f32⟩
  | .hbm, ⟨31, _⟩ => ⟨S4x1024x256, .f32⟩
  | .hbm, ⟨32, _⟩ => ⟨S4x256x1024, .f32⟩
  | .hbm, ⟨33, _⟩ => ⟨S4x256x4x256, .f32⟩
  | .hbm, ⟨34, _⟩ => ⟨S4x4x8192x256, .f32⟩
  | .hbm, ⟨35, _⟩ => ⟨S_, .f32⟩
  | .hbm, ⟨36, _⟩ => ⟨S4x4x8192x256, .f32⟩
  | .hbm, ⟨37, _⟩ => ⟨S4x4x8192x256, .f32⟩
  | .hbm, ⟨38, _⟩ => ⟨S_, .f32⟩
  | .hbm, ⟨39, _⟩ => ⟨S4x4x8192, .f32⟩
  | .hbm, ⟨40, _⟩ => ⟨S_, .f32⟩
  | .hbm, ⟨41, _⟩ => ⟨S4x4x8192, .f32⟩
  | .hbm, ⟨42, _⟩ => ⟨S4x4x8192, .f32⟩
  | .hbm, ⟨43, _⟩ => ⟨S4x4x8192x1, .f32⟩
  | .hbm, ⟨44, _⟩ => ⟨S4x4x8192x256, .f32⟩
  | .hbm, ⟨45, _⟩ => ⟨S4x4x8192x256, .f32⟩
  | .hbm, ⟨46, _⟩ => ⟨S4x4x8192x256, .f32⟩
  | .hbm, ⟨47, _⟩ => ⟨S_, .f32⟩
  | .hbm, ⟨48, _⟩ => ⟨S4x4x8192, .f32⟩
  | .hbm, ⟨49, _⟩ => ⟨S4x4x8192x1, .f32⟩
  | .hbm, ⟨50, _⟩ => ⟨S4x4x8192x256, .f32⟩
  | .hbm, ⟨51, _⟩ => ⟨S4x4x8192x256, .f32⟩
  | .hbm, ⟨52, _⟩ => ⟨S4x4x256x8192, .f32⟩
  | .hbm, ⟨53, _⟩ => ⟨S4x8192x4x256, .f32⟩
  | .hbm, ⟨54, _⟩ => ⟨S4x8192x1024, .f32⟩
  | .hbm, ⟨55, _⟩ => ⟨S4x8x16x128x512, .f32⟩
  | .hbm, ⟨56, _⟩ => ⟨S4x16x512x8x128, .f32⟩
  | .hbm, ⟨57, _⟩ => ⟨S4x8192x1024, .f32⟩
  | .hbm, ⟨58, _⟩ => ⟨S4x8x16x128x512, .f32⟩
  | .hbm, ⟨59, _⟩ => ⟨S4x16x512x8x128, .f32⟩
  | .hbm, ⟨60, _⟩ => ⟨S4x8192x1024, .f32⟩
  | .hbm, ⟨61, _⟩ => ⟨S4x8192x3x1024, .f32⟩
  | .hbm, ⟨62, _⟩ => ⟨S4x8192x3x1024, .f32⟩
  | .hbm, ⟨63, _⟩ => ⟨S_, .f32⟩
  | .hbm, ⟨64, _⟩ => ⟨S4x8192x3x1024, .f32⟩
  | .hbm, ⟨65, _⟩ => ⟨S4x8192x3x1024, .f32⟩
  | .hbm, ⟨66, _⟩ => ⟨S_, .f32⟩
  | .hbm, ⟨67, _⟩ => ⟨S4x8192x3x1024, .f32⟩
  | .hbm, ⟨68, _⟩ => ⟨S4x8192x3x1024, .f32⟩
  | .hbm, ⟨69, _⟩ => ⟨S4x8192x1x1024, .f32⟩
  | .hbm, ⟨70, _⟩ => ⟨S4x8192x1024, .f32⟩
  | .hbm, ⟨71, _⟩ => ⟨S4x8192x1024, .f32⟩
  | .hbm, ⟨72, _⟩ => ⟨S4x8192x1x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Memory.lean ====
abbrev S4x256x1024 : Shape := ⟨3, ![4, 256, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S4x1024x256 : Shape := ⟨3, ![4, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S4x256x1024, .bf16⟩
  | .hbm, ⟨10, _⟩ => ⟨S4x1024x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x1024x256, .bf16⟩
  | .local _ .vmem, ⟨8, _⟩ => ⟨S1x1024x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemoryRefIdeal.lean ====
abbrev S4x256x1024 : Shape := ⟨3, ![4, 256, 1024]⟩
abbrev S1024 : Shape := ⟨1, ![1024]⟩
abbrev S1024x2048 : Shape := ⟨2, ![1024, 2048]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2048 : Shape := ⟨3, ![4, 256, 2048]⟩
abbrev S4x1024x256 : Shape := ⟨3, ![4, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x2048, .f32⟩
  | .hbm, ⟨20, _⟩ => ⟨S4x256x1024, .f32⟩
  | .hbm, ⟨21, _⟩ => ⟨S4x256x1024, .f32⟩
  | .hbm, ⟨22, _⟩ => ⟨S4x256x1024, .bf16⟩
  | .hbm, ⟨23, _⟩ => ⟨S4x1024x256, .f32⟩
  | .hbm, ⟨24, _⟩ => ⟨S4x1024x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proj.lean ====
abbrev S4x8192x1024 : Shape := ⟨3, ![4, 8192, 1024]⟩
abbrev S1024 : Shape := ⟨1, ![1024]⟩
abbrev S1024x6304 : Shape := ⟨2, ![1024, 6304]⟩
abbrev S128 : Shape := ⟨1, ![128]⟩
abbrev S384 : Shape := ⟨1, ![384]⟩
abbrev S256 : Shape := ⟨1, ![256]⟩
abbrev S384x768 : Shape := ⟨2, ![384, 768]⟩
abbrev S256x1536 : Shape := ⟨2, ![256, 1536]⟩
abbrev S8192x64 : Shape := ⟨2, ![8192, 64]⟩
abbrev S8192x16 : Shape := ⟨2, ![8192, 16]⟩
abbrev S1024x1024 : Shape := ⟨2, ![1024, 1024]⟩
abbrev S1024x256 : Shape := ⟨2, ![1024, 256]⟩
abbrev S1024x384 : Shape := ⟨2, ![1024, 384]⟩
abbrev S1024x32 : Shape := ⟨2, ![1024, 32]⟩
abbrev S_ : Shape := ⟨0, ![]⟩
abbrev S1024x64 : Shape := ⟨2, ![1024, 64]⟩
abbrev S1024x16 : Shape := ⟨2, ![1024, 16]⟩
abbrev S384x8x96 : Shape := ⟨3, ![384, 8, 96]⟩
abbrev S384x8x128 : Shape := ⟨3, ![384, 8, 128]⟩
abbrev S256x8x192 : Shape := ⟨3, ![256, 8, 192]⟩
abbrev S256x8x64 : Shape := ⟨3, ![256, 8, 64]⟩
abbrev S256x8x128 : Shape := ⟨3, ![256, 8, 128]⟩
abbrev S8192x32 : Shape := ⟨2, ![8192, 32]⟩
abbrev S256x1024 : Shape := ⟨2, ![256, 1024]⟩
abbrev S128x1 : Shape := ⟨2, ![128, 1]⟩
abbrev S1x128 : Shape := ⟨2, ![1, 128]⟩
abbrev S64x8192 : Shape := ⟨2, ![64, 8192]⟩
abbrev S8192x128 : Shape := ⟨2, ![8192, 128]⟩
abbrev S384x1024 : Shape := ⟨2, ![384, 1024]⟩
abbrev S384x1 : Shape := ⟨2, ![384, 1]⟩
abbrev S1x256 : Shape := ⟨2, ![1, 256]⟩
abbrev S16x8192 : Shape := ⟨2, ![16, 8192]⟩
abbrev S1x1024 : Shape := ⟨2, ![1, 1024]⟩
abbrev S4x8x16x128x512 : Shape := ⟨5, ![4, 8, 16, 128, 512]⟩
abbrev S4x2x8192x128 : Shape := ⟨4, ![4, 2, 8192, 128]⟩
abbrev S4x2x16x144x512 : Shape := ⟨5, ![4, 2, 16, 144, 512]⟩
abbrev S4x8x8192x128 : Shape := ⟨4, ![4, 8, 8192, 128]⟩
abbrev S4x8x16x144x512 : Shape := ⟨5, ![4, 8, 16, 144, 512]⟩
abbrev S1x512x1024 : Shape := ⟨3, ![1, 512, 1024]⟩
abbrev S64x512 : Shape := ⟨2, ![64, 512]⟩
abbrev S512x128 : Shape := ⟨2, ![512, 128]⟩
abbrev S16x512 : Shape := ⟨2, ![16, 512]⟩
abbrev S1x8x1x128x512 : Shape := ⟨5, ![1, 8, 1, 128, 512]⟩
abbrev S1x2x512x128 : Shape := ⟨4, ![1, 2, 512, 128]⟩
abbrev S1x2x1x144x512 : Shape := ⟨5, ![1, 2, 1, 144, 512]⟩
abbrev S1x8x512x128 : Shape := ⟨4, ![1, 8, 512, 128]⟩
abbrev S1x8x1x144x512 : Shape := ⟨5, ![1, 8, 1, 144, 512]⟩
abbrev S512x1024 : Shape := ⟨2, ![512, 1024]⟩
abbrev S512 : Shape := ⟨1, ![512]⟩
abbrev S512x1 : Shape := ⟨2, ![512, 1]⟩
abbrev S384x512 : Shape := ⟨2, ![384, 512]⟩
abbrev S512x256 : Shape := ⟨2, ![512, 256]⟩
abbrev S1x512 : Shape := ⟨2, ![1, 512]⟩
abbrev S1024x512 : Shape := ⟨2, ![1024, 512]⟩
abbrev S128x512 : Shape := ⟨2, ![128, 512]⟩
abbrev S32x512 : Shape := ⟨2, ![32, 512]⟩
abbrev S1x1x1x128x512 : Shape := ⟨5, ![1, 1, 1, 128, 512]⟩
abbrev S1x1x512x128 : Shape := ⟨4, ![1, 1, 512, 128]⟩
abbrev S1x1x1x144x512 : Shape := ⟨5, ![1, 1, 1, 144, 512]⟩
abbrev S144x512 : Shape := ⟨2, ![144, 512]⟩
abbrev S1x1x1x16x512 : Shape := ⟨5, ![1, 1, 1, 16, 512]⟩
abbrev S512x512 : Shape := ⟨2, ![512, 512]⟩
abbrev S256x512 : Shape := ⟨2, ![256, 512]⟩

abbrev nBuf : Space → Nat
  | .hbm => 79
  | .vmem => 44
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6304, .f32⟩
  | .hbm, ⟨3, _⟩ => ⟨S128, .f32⟩
  | .hbm, ⟨4, _⟩ => ⟨S128, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1536, .f32⟩
  | .hbm, ⟨9, _⟩ => ⟨S8192x64, .f32⟩
  | .hbm, ⟨10, _⟩ => ⟨S8192x64, .f32⟩
  | .hbm, ⟨11, _⟩ => ⟨S8192x16, .f32⟩
  | .hbm, ⟨12, _⟩ => ⟨S8192x16, .f32⟩
  | .hbm, ⟨13, _⟩ => ⟨S1024x1024, .f32⟩
  | .hbm, ⟨14, _⟩ => ⟨S1024x256, .f32⟩
  | .hbm, ⟨15, _⟩ => ⟨S1024x256, .f32⟩
  | .hbm, ⟨16, _⟩ => ⟨S1024x384, .f32⟩
  | .hbm, ⟨17, _⟩ => ⟨S1024x256, .f32⟩
  | .hbm, ⟨18, _⟩ => ⟨S1024x32, .f32⟩
  | .hbm, ⟨19, _⟩ => ⟨S_, .f32⟩
  | .hbm, ⟨20, _⟩ => ⟨S1024x64, .f32⟩
  | .hbm, ⟨21, _⟩ => ⟨S_, .f32⟩
  | .hbm, ⟨22, _⟩ => ⟨S1024x32, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S1024x256, .f32⟩
  | .hbm, ⟨27, _⟩ => ⟨S384x8x96, .f32⟩
  | .hbm, ⟨28, _⟩ => ⟨S_, .i32⟩
  | .hbm, ⟨29, _⟩ => ⟨S_, .f32⟩
  | .hbm, ⟨30, _⟩ => ⟨S384x8x128, .f32⟩
  | .hbm, ⟨31, _⟩ => ⟨S256x8x192, .f32⟩
  | .hbm, ⟨32, _⟩ => ⟨S256x8x64, .f32⟩
  | .hbm, ⟨33, _⟩ => ⟨S_, .i32⟩
  | .hbm, ⟨34, _⟩ => ⟨S_, .f32⟩
  | .hbm, ⟨35, _⟩ => ⟨S256x8x128, .f32⟩
  | .hbm, ⟨36, _⟩ => ⟨S256x8x128, .f32⟩
  | .hbm, ⟨37, _⟩ => ⟨S_, .f32⟩
  | .hbm, ⟨38, _⟩ => ⟨S8192x64, .f32⟩
  | .hbm, ⟨39, _⟩ => ⟨S_, .f32⟩
  | .hbm, ⟨40, _⟩ => ⟨S8192x32, .f32⟩
  | .hbm, ⟨41, _⟩ => ⟨S1024x1024, .f32⟩
  | .hbm, ⟨42, _⟩ => ⟨S1024x1024, .bf16⟩
  | .hbm, ⟨43, _⟩ => ⟨S1024x256, .bf16⟩
  | .hbm, ⟨44, _⟩ => ⟨S256x1024, .f32⟩
  | .hbm, ⟨45, _⟩ => ⟨S256x1024, .bf16⟩
  | .hbm, ⟨46, _⟩ => ⟨S128x1, .f32⟩
  | .hbm, ⟨47, _⟩ => ⟨S1x128, .f32⟩
  | .hbm, ⟨48, _⟩ => ⟨S64x8192, .f32⟩
  | .hbm, ⟨49, _⟩ => ⟨S64x8192, .f32⟩
  | .hbm, ⟨50, _⟩ => ⟨S8192x128, .f32⟩
  | .hbm, ⟨51, _⟩ => ⟨S8192x64, .f32⟩
  | .hbm, ⟨52, _⟩ => ⟨S8192x128, .f32⟩
  | .hbm, ⟨53, _⟩ => ⟨S384x1024, .f32⟩
  | .hbm, ⟨54, _⟩ => ⟨S384x1024, .bf16⟩
  | .hbm, ⟨55, _⟩ => ⟨S384x1, .f32⟩
  | .hbm, ⟨56, _⟩ => ⟨S384x1024, .f32⟩
  | .hbm, ⟨57, _⟩ => ⟨S1024x384, .f32⟩
  | .hbm, ⟨58, _⟩ => ⟨S1024x384, .bf16⟩
  | .hbm, ⟨59, _⟩ => ⟨S1024x256, .bf16⟩
  | .hbm, ⟨60, _⟩ => ⟨S1x256, .f32⟩
  | .hbm, ⟨61, _⟩ => ⟨S256x1024, .f32⟩
  | .hbm, ⟨62, _⟩ => ⟨S256x1024, .bf16⟩
  | .hbm, ⟨63, _⟩ => ⟨S1024x256, .bf16⟩
  | .hbm, ⟨64, _⟩ => ⟨S256x1024, .f32⟩
  | .hbm, ⟨65, _⟩ => ⟨S1024x256, .f32⟩
  | .hbm, ⟨66, _⟩ => ⟨S1024x256, .bf16⟩
  | .hbm, ⟨67, _⟩ => ⟨S16x8192, .f32⟩
  | .hbm, ⟨68, _⟩ => ⟨S16x8192, .f32⟩
  | .hbm, ⟨69, _⟩ => ⟨S8192x128, .f32⟩
  | .hbm, ⟨70, _⟩ => ⟨S8192x16, .f32⟩
  | .hbm, ⟨71, _⟩ => ⟨S8192x128, .f32⟩
  | .hbm, ⟨72, _⟩ => ⟨S1x1024, .f32⟩
  | .hbm, ⟨73, _⟩ => ⟨S4x8x16x128x512, .bf16⟩
  | .hbm, ⟨74, _⟩ => ⟨S4x2x8192x128, .bf16⟩
  | .hbm, ⟨75, _⟩ => ⟨S4x2x16x144x512, .bf16⟩
  | .hbm, ⟨76, _⟩ => ⟨S4x8x16x128x512, .bf16⟩
  | .hbm, ⟨77, _⟩ => ⟨S4x8x8192x128, .bf16⟩
  | .hbm, ⟨78, _⟩ => ⟨S4x8x16x144x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x256, .bf16⟩
  | .local _ .vmem, ⟨5, _⟩ => ⟨S256x1024, .bf16⟩
  | .local _ .vmem, ⟨6, _⟩ => ⟨S128x1, .f32⟩
  | .local _ .vmem, ⟨7, _⟩ => ⟨S1x128, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S384x1024, .bf16⟩
  | .local _ .vmem, ⟨17, _⟩ => ⟨S384x1, .f32⟩
  | .local _ .vmem, ⟨18, _⟩ => ⟨S1024x384, .bf16⟩
  | .local _ .vmem, ⟨19, _⟩ => ⟨S1024x256, .bf16⟩
  | .local _ .vmem, ⟨20, _⟩ => ⟨S1x256, .f32⟩
  | .local _ .vmem, ⟨21, _⟩ => ⟨S256x1024, .bf16⟩
  | .local _ .vmem, ⟨22, _⟩ => ⟨S1024x256, .bf16⟩
  | .local _ .vmem, ⟨23, _⟩ => ⟨S1024x256, .bf16⟩
  | .local _ .vmem, ⟨24, _⟩ => ⟨S16x512, .f32⟩
  | .local _ .vmem, ⟨25, _⟩ => ⟨S16x512, .f32⟩
  | .local _ .vmem, ⟨26, _⟩ => ⟨S16x512, .f32⟩
  | .local _ .vmem, ⟨27, _⟩ => ⟨S16x512, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S1x8x1x128x512, .bf16⟩
  | .local _ .vmem, ⟨33, _⟩ => ⟨S1x8x1x128x512, .bf16⟩
  | .local _ .vmem, ⟨34, _⟩ => ⟨S1x2x512x128, .bf16⟩
  | .local _ .vmem, ⟨35, _⟩ => ⟨S1x2x512x128, .bf16⟩
  | .local _ .vmem, ⟨36, _⟩ => ⟨S1x2x1x144x512, .bf16⟩
  | .local _ .vmem, ⟨37, _⟩ => ⟨S1x2x1x144x512, .bf16⟩
  | .local _ .vmem, ⟨38, _⟩ => ⟨S1x8x1x128x512, .bf16⟩
  | .local _ .vmem, ⟨39, _⟩ => ⟨S1x8x1x128x512, .bf16⟩
  | .local _ .vmem, ⟨40, _⟩ => ⟨S1x8x512x128, .bf16⟩
  | .local _ .vmem, ⟨41, _⟩ => ⟨S1x8x512x128, .bf16⟩
  | .local _ .vmem, ⟨42, _⟩ => ⟨S1x8x1x144x512, .bf16⟩
  | .local _ .vmem, ⟨43, _⟩ => ⟨S1x8x1x144x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_v52_2 : Ref sig .tc := ⟨.hbm, 75, rfl⟩
abbrev main_v52_3 : Ref sig .tc := ⟨.hbm, 76, rfl⟩
abbrev main_v52_4 : Ref sig .tc := ⟨.hbm, 77, rfl⟩
abbrev main_v52_5 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_23 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_25 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_26 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_28 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S16x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S1x8x1x128x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x2x512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x2x1x144x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x8x1x128x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x8x512x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x8x1x144x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== ProjIdeal.lean ====
variable {F : FTy → Type} [FloatOps F] [Named F]
def κ : String → Option EReal := fun
  | "scale_g" => some (((Real.sqrt 128)⁻¹ * (Real.log 2)⁻¹ : ℝ) : EReal)
  | "scale_m" => some (((Real.sqrt 96)⁻¹ * (Real.log 2)⁻¹ : ℝ) : EReal)
  | _ => none
-- ==== ProjRefIdeal.lean ====
abbrev S4x8192x1024 : Shape := ⟨3, ![4, 8192, 1024]⟩
abbrev S1024 : Shape := ⟨1, ![1024]⟩
abbrev S1024x6304 : Shape := ⟨2, ![1024, 6304]⟩
abbrev S128 : Shape := ⟨1, ![128]⟩
abbrev S384 : Shape := ⟨1, ![384]⟩
abbrev S256 : Shape := ⟨1, ![256]⟩
abbrev S384x768 : Shape := ⟨2, ![384, 768]⟩
abbrev S256x1536 : Shape := ⟨2, ![256, 1536]⟩
abbrev S8192x64 : Shape := ⟨2, ![8192, 64]⟩
abbrev S8192x16 : Shape := ⟨2, ![8192, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6304 : Shape := ⟨3, ![4, 8192, 6304]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x8x64 : Shape := ⟨4, ![4, 8192, 8, 64]⟩
abbrev S1x8192x1x64 : Shape := ⟨4, ![1, 8192, 1, 64]⟩
abbrev S4x8192x256 : Shape := ⟨3, ![4, 8192, 256]⟩
abbrev S4x8192x2x128 : Shape := ⟨4, ![4, 8192, 2, 128]⟩
abbrev S4x8192x2 : Shape := ⟨3, ![4, 8192, 2]⟩
abbrev S4x8192x2x1 : Shape := ⟨4, ![4, 8192, 2, 1]⟩
abbrev S4x8192x2x64 : Shape := ⟨4, ![4, 8192, 2, 64]⟩
abbrev S4x8192x384 : Shape := ⟨3, ![4, 8192, 384]⟩
abbrev S1x1x384 : Shape := ⟨3, ![1, 1, 384]⟩
abbrev S4x8192x768 : Shape := ⟨3, ![4, 8192, 768]⟩
abbrev S4x8192x8x96 : Shape := ⟨4, ![4, 8192, 8, 96]⟩
abbrev S4x8192x8x32 : Shape := ⟨4, ![4, 8192, 8, 32]⟩
abbrev S4x8192x8x16 : Shape := ⟨4, ![4, 8192, 8, 16]⟩
abbrev S1x8192x1x16 : Shape := ⟨4, ![1, 8192, 1, 16]⟩
abbrev S1x1x256 : Shape := ⟨3, ![1, 1, 256]⟩
abbrev S4x8192x1536 : Shape := ⟨3, ![4, 8192, 1536]⟩
abbrev S4x8192x8x192 : Shape := ⟨4, ![4, 8192, 8, 192]⟩
abbrev S4x8192x32 : Shape := ⟨3, ![4, 8192, 32]⟩
abbrev S4x8192x1x32 : Shape := ⟨4, ![4, 8192, 1, 32]⟩
abbrev S4x8192x1x16 : Shape := ⟨4, ![4, 8192, 1, 16]⟩
abbrev S4x16x512x8x128 : Shape := ⟨5, ![4, 16, 512, 8, 128]⟩
abbrev S4x8x16x128x512 : Shape := ⟨5, ![4, 8, 16, 128, 512]⟩
abbrev S4x2x8192x128 : Shape := ⟨4, ![4, 2, 8192, 128]⟩
abbrev S4x16x512x2x128 : Shape := ⟨5, ![4, 16, 512, 2, 128]⟩
abbrev S4x2x16x128x512 : Shape := ⟨5, ![4, 2, 16, 128, 512]⟩
abbrev S4x2x16x1x512 : Shape := ⟨5, ![4, 2, 16, 1, 512]⟩
abbrev S4x2x16x15x512 : Shape := ⟨5, ![4, 2, 16, 15, 512]⟩
abbrev S4x2x16x144x512 : Shape := ⟨5, ![4, 2, 16, 144, 512]⟩
abbrev S4x8x8192x128 : Shape := ⟨4, ![4, 8, 8192, 128]⟩
abbrev S4x8x16x1x512 : Shape := ⟨5, ![4, 8, 16, 1, 512]⟩
abbrev S4x8x16x15x512 : Shape := ⟨5, ![4, 8, 16, 15, 512]⟩
abbrev S4x8x16x144x512 : Shape := ⟨5, ![4, 8, 16, 144, 512]⟩

abbrev nBuf : Space → Nat
  | .hbm => 219
  | .vmem => 0
  | .smem => 0
  | _ => 0

abbrev hbmTy0_0 (i : Nat) : BufTy := match i % 128 with
  | 0 => ⟨S4x8192x1024, .f32⟩
  | 1 => ⟨S1024, .f32⟩
  | 2 => ⟨S1024x6304, .f32⟩
  | 3 => ⟨S128, .f32⟩
  | 4 => ⟨S128, .f32⟩
  | 5 => ⟨S384, .f32⟩
  | 6 => ⟨S256, .f32⟩
  | 7 => ⟨S384x768, .f32⟩
  | 8 => ⟨S256x1536, .f32⟩
  | 9 => ⟨S8192x64, .f32⟩
  | 10 => ⟨S8192x64, .f32⟩
  | 11 => ⟨S8192x16, .f32⟩
  | 12 => ⟨S8192x16, .f32⟩
  | 13 => ⟨S4x8192x1024, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S_, .f32⟩
  | 21 => ⟨S4x8192x1, .f32⟩
  | 22 => ⟨S4x8192x1, .f32⟩
  | 23 => ⟨S4x8192x1, .f32⟩
  | 24 => ⟨S4x8192x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S4x8192x6304, .f32⟩
  | 30 => ⟨S4x8192x1024, .f32⟩
  | 31 => ⟨S4x8192x8x128, .f32⟩
  | 32 => ⟨S4x8192x8x128, .f32⟩
  | 33 => ⟨S_, .f32⟩
  | 34 => ⟨S4x8192x8, .f32⟩
  | 35 => ⟨S4x8192x8x1, .f32⟩
  | 36 => ⟨S_, .f32⟩
  | 37 => ⟨S4x8192x8x1, .f32⟩
  | 38 => ⟨S4x8192x8x1, .f32⟩
  | 39 => ⟨S_, .f32⟩
  | 40 => ⟨S4x8192x8x1, .f32⟩
  | 41 => ⟨S4x8192x8x1, .f32⟩
  | 42 => ⟨S4x8192x8x1, .f32⟩
  | 43 => ⟨S4x8192x8x128, .f32⟩
  | 44 => ⟨S4x8192x8x128, .f32⟩
  | 45 => ⟨S1x1x1x128, .f32⟩
  | 46 => ⟨S4x8192x8x128, .f32⟩
  | 47 => ⟨S4x8192x8x128, .f32⟩
  | 48 => ⟨S4x8192x8x64, .f32⟩
  | 49 => ⟨S4x8192x8x64, .f32⟩
  | 50 => ⟨S1x8192x1x64, .f32⟩
  | 51 => ⟨S1x8192x1x64, .f32⟩
  | 52 => ⟨S4x8192x8x64, .f32⟩
  | 53 => ⟨S4x8192x8x64, .f32⟩
  | 54 => ⟨S4x8192x8x64, .f32⟩
  | 55 => ⟨S4x8192x8x64, .f32⟩
  | 56 => ⟨S4x8192x8x64, .f32⟩
  | 57 => ⟨S4x8192x8x64, .f32⟩
  | 58 => ⟨S4x8192x8x64, .f32⟩
  | 59 => ⟨S4x8192x8x64, .f32⟩
  | 60 => ⟨S4x8192x8x64, .f32⟩
  | 61 => ⟨S4x8192x8x64, .f32⟩
  | 62 => ⟨S4x8192x8x128, .f32⟩
  | 63 => ⟨S4x8192x256, .f32⟩
  | 64 => ⟨S4x8192x2x128, .f32⟩
  | 65 => ⟨S4x8192x2x128, .f32⟩
  | 66 => ⟨S_, .f32⟩
  | 67 => ⟨S4x8192x2, .f32⟩
  | 68 => ⟨S4x8192x2x1, .f32⟩
  | 69 => ⟨S_, .f32⟩
  | 70 => ⟨S4x8192x2x1, .f32⟩
  | 71 => ⟨S4x8192x2x1, .f32⟩
  | 72 => ⟨S_, .f32⟩
  | 73 => ⟨S4x8192x2x1, .f32⟩
  | 74 => ⟨S4x8192x2x1, .f32⟩
  | 75 => ⟨S4x8192x2x1, .f32⟩
  | 76 => ⟨S4x8192x2x128, .f32⟩
  | 77 => ⟨S4x8192x2x128, .f32⟩
  | 78 => ⟨S1x1x1x128, .f32⟩
  | 79 => ⟨S4x8192x2x128, .f32⟩
  | 80 => ⟨S4x8192x2x128, .f32⟩
  | 81 => ⟨S4x8192x2x64, .f32⟩
  | 82 => ⟨S4x8192x2x64, .f32⟩
  | 83 => ⟨S1x8192x1x64, .f32⟩
  | 84 => ⟨S1x8192x1x64, .f32⟩
  | 85 => ⟨S4x8192x2x64, .f32⟩
  | 86 => ⟨S4x8192x2x64, .f32⟩
  | 87 => ⟨S4x8192x2x64, .f32⟩
  | 88 => ⟨S4x8192x2x64, .f32⟩
  | 89 => ⟨S4x8192x2x64, .f32⟩
  | 90 => ⟨S4x8192x2x64, .f32⟩
  | 91 => ⟨S4x8192x2x64, .f32⟩
  | 92 => ⟨S4x8192x2x64, .f32⟩
  | 93 => ⟨S4x8192x2x64, .f32⟩
  | 94 => ⟨S4x8192x2x64, .f32⟩
  | 95 => ⟨S4x8192x2x128, .f32⟩
  | 96 => ⟨S4x8192x256, .f32⟩
  | 97 => ⟨S4x8192x2x128, .f32⟩
  | 98 => ⟨S4x8192x384, .f32⟩
  | 99 => ⟨S4x8192x384, .f32⟩
  | 100 => ⟨S_, .f32⟩
  | 101 => ⟨S4x8192, .f32⟩
  | 102 => ⟨S4x8192x1, .f32⟩
  | 103 => ⟨S_, .f32⟩
  | 104 => ⟨S4x8192x1, .f32⟩
  | 105 => ⟨S4x8192x1, .f32⟩
  | 106 => ⟨S_, .f32⟩
  | 107 => ⟨S4x8192x1, .f32⟩
  | 108 => ⟨S4x8192x1, .f32⟩
  | 109 => ⟨S4x8192x1, .f32⟩
  | 110 => ⟨S4x8192x384, .f32⟩
  | 111 => ⟨S4x8192x384, .f32⟩
  | 112 => ⟨S1x1x384, .f32⟩
  | 113 => ⟨S4x8192x384, .f32⟩
  | 114 => ⟨S4x8192x384, .f32⟩
  | 115 => ⟨S4x8192x768, .f32⟩
  | 116 => ⟨S4x8192x8x96, .f32⟩
  | 117 => ⟨S4x8192x8x64, .f32⟩
  | 118 => ⟨S4x8192x8x32, .f32⟩
  | 119 => ⟨S4x8192x8x16, .f32⟩
  | 120 => ⟨S4x8192x8x16, .f32⟩
  | 121 => ⟨S1x8192x1x16, .f32⟩
  | 122 => ⟨S1x8192x1x16, .f32⟩
  | 123 => ⟨S4x8192x8x16, .f32⟩
  | 124 => ⟨S4x8192x8x16, .f32⟩
  | 125 => ⟨S4x8192x8x16, .f32⟩
  | 126 => ⟨S4x8192x8x16, .f32⟩
  | 127 => ⟨S4x8192x8x16, .f32⟩
  | _ => ⟨S4x8192x1024, .f32⟩

abbrev hbmTy0_1 (i : Nat) : BufTy := match i % 128 with
  | 0 => ⟨S4x8192x8x16, .f32⟩
  | 1 => ⟨S4x8192x8x16, .f32⟩
  | 2 => ⟨S4x8192x8x16, .f32⟩
  | 3 => ⟨S4x8192x8x16, .f32⟩
  | 4 => ⟨S4x8192x8x16, .f32⟩
  | 5 => ⟨S4x8192x8x32, .f32⟩
  | 6 => ⟨S4x8192x8x96, .f32⟩
  | 7 => ⟨S4x8192x256, .f32⟩
  | 8 => ⟨S4x8192x256, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S4x8192x256, .f32⟩
  | 20 => ⟨S4x8192x256, .f32⟩
  | 21 => ⟨S1x1x256, .f32⟩
  | 22 => ⟨S4x8192x256, .f32⟩
  | 23 => ⟨S4x8192x256, .f32⟩
  | 24 => ⟨S4x8192x1536, .f32⟩
  | 25 => ⟨S4x8192x8x192, .f32⟩
  | 26 => ⟨S4x8192x32, .f32⟩
  | 27 => ⟨S4x8192x1x32, .f32⟩
  | 28 => ⟨S4x8192x1x16, .f32⟩
  | 29 => ⟨S4x8192x1x16, .f32⟩
  | 30 => ⟨S1x8192x1x16, .f32⟩
  | 31 => ⟨S1x8192x1x16, .f32⟩
  | 32 => ⟨S4x8192x1x16, .f32⟩
  | 33 => ⟨S4x8192x1x16, .f32⟩
  | 34 => ⟨S4x8192x1x16, .f32⟩
  | 35 => ⟨S4x8192x1x16, .f32⟩
  | 36 => ⟨S4x8192x1x16, .f32⟩
  | 37 => ⟨S4x8192x1x16, .f32⟩
  | 38 => ⟨S4x8192x1x16, .f32⟩
  | 39 => ⟨S4x8192x1x16, .f32⟩
  | 40 => ⟨S4x8192x1x16, .f32⟩
  | 41 => ⟨S4x8192x1x16, .f32⟩
  | 42 => ⟨S4x8192x1x32, .f32⟩
  | 43 => ⟨S4x8192x8x64, .f32⟩
  | 44 => ⟨S4x8192x8x32, .f32⟩
  | 45 => ⟨S4x8192x8x96, .f32⟩
  | 46 => ⟨S_, .f32⟩
  | 47 => ⟨S4x8192x8x32, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S4x8192x8x128, .f32⟩
  | 59 => ⟨S4x8192x8x128, .f32⟩
  | 60 => ⟨S4x8192x8x128, .bf16⟩
  | 61 => ⟨S4x16x512x8x128, .bf16⟩
  | 62 => ⟨S4x8x16x128x512, .bf16⟩
  | 63 => ⟨S4x8192x2x128, .bf16⟩
  | 64 => ⟨S4x2x8192x128, .bf16⟩
  | 65 => ⟨S4x8192x2x128, .bf16⟩
  | 66 => ⟨S4x16x512x2x128, .bf16⟩
  | 67 => ⟨S4x2x16x128x512, .bf16⟩
  | 68 => ⟨S_, .bf16⟩
  | 69 => ⟨S4x2x16x1x512, .bf16⟩
  | 70 => ⟨S_, .bf16⟩
  | 71 => ⟨S4x2x16x15x512, .bf16⟩
  | 72 => ⟨S4x2x16x144x512, .bf16⟩
  | 73 => ⟨S4x8192x8x96, .f32⟩
  | 74 => ⟨S4x8192x8x96, .f32⟩
  | 75 => ⟨S4x8192x8x128, .f32⟩
  | 76 => ⟨S4x8192x8x128, .bf16⟩
  | 77 => ⟨S4x16x512x8x128, .bf16⟩
  | 78 => ⟨S4x8x16x128x512, .bf16⟩
  | 79 => ⟨S4x8192x8x128, .f32⟩
  | 80 => ⟨S4x8192x8x128, .bf16⟩
  | 81 => ⟨S4x8x8192x128, .bf16⟩
  | 82 => ⟨S4x8192x8x128, .f32⟩
  | 83 => ⟨S4x8192x8x128, .bf16⟩
  | 84 => ⟨S4x16x512x8x128, .bf16⟩
  | 85 => ⟨S4x8x16x128x512, .bf16⟩
  | 86 => ⟨S_, .bf16⟩
  | 87 => ⟨S4x8x16x1x512, .bf16⟩
  | 88 => ⟨S_, .bf16⟩
  | 89 => ⟨S4x8x16x15x512, .bf16⟩
  | 90 => ⟨S4x8x16x144x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_8 : Ref sig .tc := ⟨.hbm, 100, rfl⟩
abbrev main_v78 : Ref sig .tc := ⟨.hbm, 101, rfl⟩
abbrev main_v79 : Ref sig .tc := ⟨.hbm, 102, rfl⟩
abbrev main_cst_9 : Ref sig .tc := ⟨.hbm, 103, rfl⟩
abbrev main_v80 : Ref sig .tc := ⟨.hbm, 104, rfl⟩
abbrev main_v81 : Ref sig .tc := ⟨.hbm, 105, rfl⟩
abbrev main_cst_10 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_11 : Ref sig .tc := ⟨.hbm, 137, rfl⟩
abbrev main_v112 : Ref sig .tc := ⟨.hbm, 138, rfl⟩
abbrev main_v113 : Ref sig .tc := ⟨.hbm, 139, rfl⟩
abbrev main_cst_12 : Ref sig .tc := ⟨.hbm, 140, rfl⟩
abbrev main_v114 : Ref sig .tc := ⟨.hbm, 141, rfl⟩
abbrev main_v115 : Ref sig .tc := ⟨.hbm, 142, rfl⟩
abbrev main_cst_13 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_14 : Ref sig .tc := ⟨.hbm, 174, rfl⟩
abbrev main_v146 : Ref sig .tc := ⟨.hbm, 175, rfl⟩
abbrev main_cst_15 : Ref sig .tc := ⟨.hbm, 176, rfl⟩
abbrev main_v147 : Ref sig .tc := ⟨.hbm, 177, rfl⟩
abbrev main_cst_16 : Ref sig .tc := ⟨.hbm, 178, rfl⟩
abbrev main_v148 : Ref sig .tc := ⟨.hbm, 179, rfl⟩
abbrev main_v149 : Ref sig .tc := ⟨.hbm, 180, rfl⟩
abbrev main_cst_17 : Ref sig .tc := ⟨.hbm, 181, rfl⟩
abbrev main_v150 : Ref sig .tc := ⟨.hbm, 182, rfl⟩
abbrev main_cst_18 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_19 : Ref sig .tc := ⟨.hbm, 196, rfl⟩
abbrev main_v163 : Ref sig .tc := ⟨.hbm, 197, rfl⟩
abbrev main_cst_20 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_cst_21 : Ref sig .tc := ⟨.hbm, 214, rfl⟩
abbrev main_v179 : Ref sig .tc := ⟨.hbm, 215, rfl⟩
abbrev main_cst_22 : Ref sig .tc := ⟨.hbm, 216, rfl⟩
abbrev main_v180 : Ref sig .tc := ⟨.hbm, 217, rfl⟩
abbrev main_v181 : Ref sig .tc := ⟨.hbm, 218, rfl⟩

abbrev nD : Nat := 1
abbrev τ : Topo := Topo.v7x

variable {F : FTy → Type} [FloatOps F]
-- ==== Dest.lean ====
abbrev S64 : Shape := ⟨1, ![64]⟩
abbrev S8x32768 : Shape := ⟨2, ![8, 32768]⟩
abbrev S64x1 : Shape := ⟨2, ![64, 1]⟩
abbrev S64x128 : Shape := ⟨2, ![64, 128]⟩
abbrev S8x384 : Shape := ⟨2, ![8, 384]⟩
abbrev S8x128 : Shape := ⟨2, ![8, 128]⟩
abbrev S8x512 : Shape := ⟨2, ![8, 512]⟩
abbrev S64x64 : Shape := ⟨2, ![64, 64]⟩
abbrev S64x512 : Shape := ⟨2, ![64, 512]⟩
abbrev S1x512 : Shape := ⟨2, ![1, 512]⟩
abbrev S512 : Shape := ⟨1, ![512]⟩
abbrev S64x384 : Shape := ⟨2, ![64, 384]⟩
abbrev S384 : Shape := ⟨1, ![384]⟩
abbrev S1x384 : Shape := ⟨2, ![1, 384]⟩
abbrev S1x128 : Shape := ⟨2, ![1, 128]⟩
abbrev S128 : Shape := ⟨1, ![128]⟩

abbrev nBuf : Space → Nat
  | .hbm => 9
  | .vmem => 8
  | .smem => 0
  | _ => 0

abbrev bufTy : (tb : Table) → Fin (tcTables nBuf tb) → BufTy
  | .hbm, ⟨0, _⟩ => ⟨S64, .i32⟩
  | .hbm, ⟨1, _⟩ => ⟨S8x32768, .i32⟩
  | .hbm, ⟨2, _⟩ => ⟨S64, .f32⟩
  | .hbm, ⟨3, _⟩ => ⟨S64x1, .f32⟩
  | .hbm, ⟨4, _⟩ => ⟨S64x128, .f32⟩
  | .hbm, ⟨5, _⟩ => ⟨S8x32768, .i32⟩
  | .hbm, ⟨6, _⟩ => ⟨S8x384, .i32⟩
  | .hbm, ⟨7, _⟩ => ⟨S8x128, .i32⟩
  | .hbm, ⟨8, _⟩ => ⟨S8x128, .i32⟩
  | .local _ .vmem, ⟨0, _⟩ => ⟨S64x128, .f32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S8x512, .i32⟩
  | .local _ .vmem, ⟨5, _⟩ => ⟨S8x384, .i32⟩
  | .local _ .vmem, ⟨6, _⟩ => ⟨S8x128, .i32⟩
  | .local _ .vmem, ⟨7, _⟩ => ⟨S8x128, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DestRefIdeal.lean ====
abbrev S64 : Shape := ⟨1, ![64]⟩
abbrev S8x32768 : Shape := ⟨2, ![8, 32768]⟩
abbrev S_ : Shape := ⟨0, ![]⟩
abbrev S2x32768 : Shape := ⟨2, ![2, 32768]⟩
abbrev S2x32768x1 : Shape := ⟨3, ![2, 32768, 1]⟩
abbrev S384 : Shape := ⟨1, ![384]⟩
abbrev S64x1 : Shape := ⟨2, ![64, 1]⟩
abbrev S1x384 : Shape := ⟨2, ![1, 384]⟩
abbrev S64x384 : Shape := ⟨2, ![64, 384]⟩
abbrev S1 : Shape := ⟨1, ![1]⟩
abbrev S128 : Shape := ⟨1, ![128]⟩
abbrev S1x128 : Shape := ⟨2, ![1, 128]⟩
abbrev S5x128 : Shape := ⟨2, ![5, 128]⟩
abbrev S8x128 : Shape := ⟨2, ![8, 128]⟩
abbrev S6x32768 : Shape := ⟨2, ![6, 32768]⟩
abbrev S8x384 : Shape := ⟨2, ![8, 384]⟩

abbrev nBuf : Space → Nat
  | .hbm => 69
  | .vmem => 0
  | .smem => 0
  | _ => 0

abbrev bufTy : (tb : Table) → Fin (tcTables nBuf tb) → BufTy
  | .hbm, ⟨0, _⟩ => ⟨S64, .i32⟩
  | .hbm, ⟨1, _⟩ => ⟨S8x32768, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S2x32768, .i32⟩
  | .hbm, ⟨16, _⟩ => ⟨S_, .i32⟩
  | .hbm, ⟨17, _⟩ => ⟨S2x32768, .i32⟩
  | .hbm, ⟨18, _⟩ => ⟨S2x32768, .i1⟩
  | .hbm, ⟨19, _⟩ => ⟨S_, .i32⟩
  | .hbm, ⟨20, _⟩ => ⟨S2x32768, .i32⟩
  | .hbm, ⟨21, _⟩ => ⟨S2x32768, .i32⟩
  | .hbm, ⟨22, _⟩ => ⟨S2x32768, .i32⟩
  | .hbm, ⟨23, _⟩ => ⟨S2x32768x1, .i32⟩
  | .hbm, ⟨24, _⟩ => ⟨S2x32768, .i32⟩
  | .hbm, ⟨25, _⟩ => ⟨S2x32768, .i32⟩
  | .hbm, ⟨26, _⟩ => ⟨S2x32768, .i32⟩
  | .hbm, ⟨27, _⟩ => ⟨S_, .i32⟩
  | .hbm, ⟨28, _⟩ => ⟨S2x32768, .i32⟩
  | .hbm, ⟨29, _⟩ => ⟨S2x32768, .i32⟩
  | .hbm, ⟨30, _⟩ => ⟨S384, .i32⟩
  | .hbm, ⟨31, _⟩ => ⟨S_, .i32⟩
  | .hbm, ⟨32, _⟩ => ⟨S384, .i32⟩
  | .hbm, ⟨33, _⟩ => ⟨S384, .i32⟩
  | .hbm, ⟨34, _⟩ => ⟨S64x1, .i32⟩
  | .hbm, ⟨35, _⟩ => ⟨S1x384, .i32⟩
  | .hbm, ⟨36, _⟩ => ⟨S64x384, .i32⟩
  | .hbm, ⟨37, _⟩ => ⟨S64x384, .i32⟩
  | .hbm, ⟨38, _⟩ => ⟨S64x384, .i1⟩
  | .hbm, ⟨39, _⟩ => ⟨S64x384, .i32⟩
  | .hbm, ⟨40, _⟩ => ⟨S_, .i32⟩
  | .hbm, ⟨41, _⟩ => ⟨S384, .i32⟩
  | .hbm, ⟨42, _⟩ => ⟨S_, .i32⟩
  | .hbm, ⟨43, _⟩ => ⟨S384, .i32⟩
  | .hbm, ⟨44, _⟩ => ⟨S384, .i32⟩
  | .hbm, ⟨45, _⟩ => ⟨S1, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S128, .i32⟩
  | .hbm, ⟨56, _⟩ => ⟨S64, .i32⟩
  | .hbm, ⟨57, _⟩ => ⟨S128, .i32⟩
  | .hbm, ⟨58, _⟩ => ⟨S1x128, .i32⟩
  | .hbm, ⟨59, _⟩ => ⟨S1x128, .i32⟩
  | .hbm, ⟨60, _⟩ => ⟨S1x128, .i32⟩
  | .hbm, ⟨61, _⟩ => ⟨S_, .i32⟩
  | .hbm, ⟨62, _⟩ => ⟨S5x128, .i32⟩
  | .hbm, ⟨63, _⟩ => ⟨S8x128, .i32⟩
  | .hbm, ⟨64, _⟩ => ⟨S_, .i32⟩
  | .hbm, ⟨65, _⟩ => ⟨S6x32768, .i32⟩
  | .hbm, ⟨66, _⟩ => ⟨S8x32768, .i32⟩
  | .hbm, ⟨67, _⟩ => ⟨S8x384, .i32⟩
  | .hbm, ⟨68, _⟩ => ⟨S8x128, .i32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_call0_call0_c : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_11 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Ops.lean ====
/- The attention kernel cut into four kinds of step: preparing the running maximum and the accumulator, one
   block of scores, one online-softmax update, and one block of the result. The kernel's own text is shown to
   be a list of these. -/
module

public import proofs.«01_k».proof.Proof.Gen.KernelIdeal.Skeleton
public import Idealize.ShloMosaic.Lib.Pipeline.Regions

@[expose] public section

set_option maxRecDepth 8192

noncomputable section

namespace Cert.KernelIdeal.Body

open Idealize.ShloMosaic Idealize.ShloMosaic.TcCoe Idealize.SL.Sem
open Cert.KernelIdeal Cert.KernelIdeal.Gen

variable {F : FTy → Type} [FloatOps F]

/-- Where the query sub-block `u` starts in the query block. -/
abbrev qOff (u : Fin 8) : Fin 5 → Nat := ![0, u.val / 2, u.val % 2, 0, 0]
/-- Where the scores of the sub-block `u` start in the slot `s`. -/
abbrev sOff (s : Fin 2) (u : Fin 8) : Fin 4 → Nat := ![s.val, u.val, 0, 0]
/-- Where the state of the sub-block `u` starts. -/
abbrev uOff (u : Fin 8) : Fin 3 → Nat := ![u.val, 0, 0]
/-- Where the denominator's row of the sub-block `u` starts. -/
abbrev lOff (u : Fin 8) : Fin 3 → Nat := ![u.val, 128, 0]
/-- Where the key chunk `j` starts. -/
abbrev kOff (j : Fin 16) : Fin 4 → Nat := ![0, 0, j.val * 512, 0]
/-- Where the value chunk `j` starts. -/
abbrev vOff (j : Fin 16) : Fin 5 → Nat := ![0, 0, j.val, 0, 0]

theorem q_inb (u : Fin 8) : ∀ a, qOff u a + S1x1x1x128x512.size a ≤ S1x4x2x128x512.size a := by
  revert u; decide
theorem s_inb (s : Fin 2) (u : Fin 8) : ∀ a, sOff s u a + S1x1x512x512.size a ≤ S2x8x512x512.size a := by
  revert s u; decide
theorem c_inb (s : Fin 2) (u : Fin 8) : ∀ a, sOff s u a + S1x1x1x512.size a ≤ S2x8x1x512.size a := by
  revert s u; decide
theorem m_inb (u : Fin 8) : ∀ a, uOff u a + S1x1x512.size a ≤ S8x1x512.size a := by
  revert u; decide
theorem a_inb (u : Fin 8) : ∀ a, uOff u a + S1x144x512.size a ≤ S8x144x512.size a := by
  revert u; decide
theorem n_inb (u : Fin 8) : ∀ a, uOff u a + S1x128x512.size a ≤ S8x144x512.size a := by
  revert u; decide
theorem l_inb (u : Fin 8) : ∀ a, lOff u a + S1x1x512.size a ≤ S8x144x512.size a := by
  revert u; decide
theorem k_inb (j : Fin 16) : ∀ a, kOff j a + S1x1x512x128.size a ≤ S1x1x8192x128.size a := by
  revert j; decide
theorem v_inb (j : Fin 16) : ∀ a, vOff j a + S1x1x1x144x512.size a ≤ S1x1x16x144x512.size a := by
  revert j; decide

/-- The rows a result block's store covers are whole packed rows. -/
theorem q_packed : ∀ u : Fin 8,
    (Rect.unit (s := S1x4x2x128x512) (qOff u) S1x1x1x128x512.size (q_inb u)).PackedRows (EltTy.packing .bf16)
  | 0 => packedbf16_S1x4x2x128x512_S1x1x1x128x512_0_0_0_0_0
  | 1 => packedbf16_S1x4x2x128x512_S1x1x1x128x512_0_0_1_0_0
  | 2 => packedbf16_S1x4x2x128x512_S1x1x1x128x512_0_1_0_0_0
  | 3 => packedbf16_S1x4x2x128x512_S1x1x1x128x512_0_1_1_0_0
  | 4 => packedbf16_S1x4x2x128x512_S1x1x1x128x512_0_2_0_0_0
  | 5 => packedbf16_S1x4x2x128x512_S1x1x1x128x512_0_2_1_0_0
  | 6 => packedbf16_S1x4x2x128x512_S1x1x1x128x512_0_3_0_0_0
  | 7 => packedbf16_S1x4x2x128x512_S1x1x1x128x512_0_3_1_0_0

/-! ## The vector computations -/

/-- A block of scores: a key chunk times a query sub-block. -/
def scoreV (k : Vec F S1x1x512x128 .bf16) (q : Vec F S1x1x1x128x512 .bf16) : FVec F S512x512 .f32 :=
  matmul dot_S512x128_S128x512_S512x512_1_0_0_1_n_n none (shapeCast S512x128 k shapeCasts_S1x1x512x128_S512x128 : FVec F S512x128 .bf16) (shapeCast S128x512 q shapeCasts_S1x1x1x128x512_S128x512 : FVec F S128x512 .bf16) (constant S512x512 .f32 0x00000000#32)

/-- The largest score of every query of a block. -/
def cmaxV (s : FVec F S512x512 .f32) : FVec F S1x512 .f32 :=
  shapeCast S1x512 (multiReduction .maximumf [0] S512 s 0xFF800000#32 reduces_S512x512_S512 (.inl rfl) rfl) shapeCasts_S512_S1x512

/-- The new running maximum. -/
def mNew (m : Vec F S1x1x512 .f32) (c : Vec F S1x1x1x512 .f32) : FVec F S1x512 .f32 :=
  maximumf (shapeCast S1x512 m shapeCasts_S1x1x512_S1x512) (shapeCast S1x512 c shapeCasts_S1x1x1x512_S1x512)

/-- The new accumulator: the old one rescaled, plus the values weighted by the exponentials. -/
def aNew (m : Vec F S1x1x512 .f32) (c : Vec F S1x1x1x512 .f32) (s : Vec F S1x1x512x512 .f32) (a : Vec F S1x144x512 .f32)
    (v : Vec F S1x1x1x144x512 .bf16) : FVec F S144x512 .f32 :=
  addf (mulf (broadcastTo S144x512 (exp2 (subf (shapeCast S1x512 m shapeCasts_S1x1x512_S1x512) (mNew m c))) broadcasts_S1x512_S144x512) (shapeCast S144x512 a shapeCasts_S1x144x512_S144x512))
    (matmul dot_S144x512_S512x512_S144x512_1_0_0_1_n_n none (shapeCast S144x512 v shapeCasts_S1x1x1x144x512_S144x512 : FVec F S144x512 .bf16)
      (truncf .bf16 (exp2 (subf (shapeCast S512x512 s shapeCasts_S1x1x512x512_S512x512 : FVec F S512x512 .f32) (broadcastTo S512x512 (mNew m c) broadcasts_S1x512_S512x512))) bitsLt_bf16_f32)
      (constant S144x512 .f32 0x00000000#32))

/-- A block of the result: the accumulator's value rows over its row of ones. -/
def outV (n : Vec F S1x128x512 .f32) (l : Vec F S1x1x512 .f32) : FVec F S128x512 .bf16 :=
  truncf .bf16 (divf (shapeCast S128x512 n shapeCasts_S1x128x512_S128x512 : FVec F S128x512 .f32)
    (broadcastTo S128x512 (shapeCast S1x512 l shapeCasts_S1x1x512_S1x512 : FVec F S1x512 .f32) broadcasts_S1x512_S128x512)) bitsLt_bf16_f32

/-! ## The steps -/

/-- A step of the kernel. -/
abbrev Step (F : FTy → Type) := Prog (TpuEff nD τ sig (Elt F) Λ₀ .tc) PUnit

section
variable (arg3 : Memref sig .tc .vmem S1x4x2x128x512 .bf16) (arg4 : Memref sig .tc .vmem S1x1x8192x128 .bf16)
  (arg5 : Memref sig .tc .vmem S1x1x16x144x512 .bf16) (arg6 : Memref sig .tc .vmem S1x4x2x128x512 .bf16) (harg6 : arg6.IsWhole)
  (arg7 : Memref sig .tc .vmem S8x1x512 .f32) (arg8 : Memref sig .tc .vmem S8x144x512 .f32)
  (arg9 : Memref sig .tc .vmem S2x8x512x512 .f32) (arg10 : Memref sig .tc .vmem S2x8x1x512 .f32)

/-- The running maximum starts at minus infinity and the accumulator at zero. -/
def initOp : Step F := do
  let _ ← Prog.lift (.load arg7 (Rect.unit (s := S8x1x512) ![0, 0, 0] S8x1x512.size inb_S8x1x512_S8x1x512_0_0_0).toLoadRect (View.loadsAt_vmem h_S8x1x512))
  Prog.lift (.store arg7 (Rect.unit (s := S8x1x512) ![0, 0, 0] S8x1x512.size inb_S8x1x512_S8x1x512_0_0_0) (shapeCast S8x1x512 (broadcast S8x1x512 (Scalar.ofBits .f32 0xFF800000#32)) shapeCasts_S8x1x512_S8x1x512 : FVec F S8x1x512 .f32) Finset.univ (View.stores_vmem_bits_univ h_S8x1x512 rfl) (.inl rfl))
  let _ ← Prog.lift (.load arg8 (Rect.unit (s := S8x144x512) ![0, 0, 0] S8x144x512.size inb_S8x144x512_S8x144x512_0_0_0).toLoadRect (View.loadsAt_vmem h_S8x144x512))
  Prog.lift (.store arg8 (Rect.unit (s := S8x144x512) ![0, 0, 0] S8x144x512.size inb_S8x144x512_S8x144x512_0_0_0) (shapeCast S8x144x512 (broadcast S8x144x512 (Scalar.ofBits .f32 0x00000000#32)) shapeCasts_S8x144x512_S8x144x512 : FVec F S8x144x512 .f32) Finset.univ (View.stores_vmem_bits_univ h_S8x144x512 rfl) (.inl rfl))

/-- The scores of the sub-block `u` against the keys at `off`, and their maximum, into the slot `s`. -/
def scoresOp (s : Fin 2) (u : Fin 8) (off : Fin 4 → Nat) (hoff : ∀ a, off a + S1x1x512x128.size a ≤ S1x1x8192x128.size a) : Step F := do
  let k : Vec F S1x1x512x128 .bf16 ← Prog.lift (.load arg4 (Rect.unit (s := S1x1x8192x128) off S1x1x512x128.size hoff).toLoadRect (View.loadsAt_vmem h_S1x1x512x128))
  let q : Vec F S1x1x1x128x512 .bf16 ← Prog.lift (.load arg3 (Rect.unit (s := S1x4x2x128x512) (qOff u) S1x1x1x128x512.size (q_inb u)).toLoadRect (View.loadsAt_vmem h_S1x1x1x128x512))
  let _ ← Prog.lift (.load arg9 (Rect.unit (s := S2x8x512x512) (sOff s u) S1x1x512x512.size (s_inb s u)).toLoadRect (View.loadsAt_vmem h_S1x1x512x512))
  Prog.lift (.store arg9 (Rect.unit (s := S2x8x512x512) (sOff s u) S1x1x512x512.size (s_inb s u)) (shapeCast S1x1x512x512 (scoreV k q) shapeCasts_S512x512_S1x1x512x512) Finset.univ (View.stores_vmem_bits_univ h_S1x1x512x512 rfl) (.inl rfl))
  let _ ← Prog.lift (.load arg10 (Rect.unit (s := S2x8x1x512) (sOff s u) S1x1x1x512.size (c_inb s u)).toLoadRect (View.loadsAt_vmem h_S1x1x1x512))
  Prog.lift (.store arg10 (Rect.unit (s := S2x8x1x512) (sOff s u) S1x1x1x512.size (c_inb s u)) (shapeCast S1x1x1x512 (cmaxV (scoreV k q)) shapeCasts_S1x512_S1x1x1x512) Finset.univ (View.stores_vmem_bits_univ h_S1x1x1x512 rfl) (.inl rfl))

/-- The online-softmax update of the sub-block `u` by the scores of the slot `s` and the values at `off`. -/
def softOp (s : Fin 2) (u : Fin 8) (off : Fin 5 → Nat) (hoff : ∀ a, off a + S1x1x1x144x512.size a ≤ S1x1x16x144x512.size a) : Step F := do
  let m : Vec F S1x1x512 .f32 ← Prog.lift (.load arg7 (Rect.unit (s := S8x1x512) (uOff u) S1x1x512.size (m_inb u)).toLoadRect (View.loadsAt_vmem h_S1x1x512))
  let c : Vec F S1x1x1x512 .f32 ← Prog.lift (.load arg10 (Rect.unit (s := S2x8x1x512) (sOff s u) S1x1x1x512.size (c_inb s u)).toLoadRect (View.loadsAt_vmem h_S1x1x1x512))
  let x : Vec F S1x1x512x512 .f32 ← Prog.lift (.load arg9 (Rect.unit (s := S2x8x512x512) (sOff s u) S1x1x512x512.size (s_inb s u)).toLoadRect (View.loadsAt_vmem h_S1x1x512x512))
  let a : Vec F S1x144x512 .f32 ← Prog.lift (.load arg8 (Rect.unit (s := S8x144x512) (uOff u) S1x144x512.size (a_inb u)).toLoadRect (View.loadsAt_vmem h_S1x144x512))
  let v : Vec F S1x1x1x144x512 .bf16 ← Prog.lift (.load arg5 (Rect.unit (s := S1x1x16x144x512) off S1x1x1x144x512.size hoff).toLoadRect (View.loadsAt_vmem h_S1x1x1x144x512))
  let _ ← Prog.lift (.load arg8 (Rect.unit (s := S8x144x512) (uOff u) S1x144x512.size (a_inb u)).toLoadRect (View.loadsAt_vmem h_S1x144x512))
  Prog.lift (.store arg8 (Rect.unit (s := S8x144x512) (uOff u) S1x144x512.size (a_inb u)) (shapeCast S1x144x512 (aNew m c x a v) shapeCasts_S144x512_S1x144x512) Finset.univ (View.stores_vmem_bits_univ h_S1x144x512 rfl) (.inl rfl))
  let _ ← Prog.lift (.load arg7 (Rect.unit (s := S8x1x512) (uOff u) S1x1x512.size (m_inb u)).toLoadRect (View.loadsAt_vmem h_S1x1x512))
  Prog.lift (.store arg7 (Rect.unit (s := S8x1x512) (uOff u) S1x1x512.size (m_inb u)) (shapeCast S1x1x512 (mNew m c) shapeCasts_S1x512_S1x1x512) Finset.univ (View.stores_vmem_bits_univ h_S1x1x512 rfl) (.inl rfl))

/-- The result of the sub-block `u`. -/
def outOp (u : Fin 8) : Step F := do
  let n : Vec F S1x128x512 .f32 ← Prog.lift (.load arg8 (Rect.unit (s := S8x144x512) (uOff u) S1x128x512.size (n_inb u)).toLoadRect (View.loadsAt_vmem h_S1x128x512))
  let l : Vec F S1x1x512 .f32 ← Prog.lift (.load arg8 (Rect.unit (s := S8x144x512) (lOff u) S1x1x512.size (l_inb u)).toLoadRect (View.loadsAt_vmem h_S1x1x512))
  let _ ← Prog.lift (.load arg6 (Rect.unit (s := S1x4x2x128x512) (qOff u) S1x1x1x128x512.size (q_inb u)).toLoadRect (View.loadsAt_vmem h_S1x1x1x128x512))
  Prog.lift (.store arg6 (Rect.unit (s := S1x4x2x128x512) (qOff u) S1x1x1x128x512.size (q_inb u)) (shapeCast S1x1x1x128x512 (outV n l) shapeCasts_S128x512_S1x1x1x128x512) Finset.univ (View.stores_vmem h_S1x1x1x128x512 (harg6.storeExact_slice rfl _ (q_packed u)) (fun _ => rfl)) (.inl rfl))

/-- Steps one after the other. -/
def seq : List (Step F) → Step F
  | [] => pure ⟨⟩
  | a :: l => do a; seq l

/-- The eight sub-blocks. -/
abbrev us : List (Fin 8) := [0, 1, 2, 3, 4, 5, 6, 7]

/-- One half of a trip: for every sub-block the scores of the next chunk, then the update by the present one. -/
def stageOps (s s' : Fin 2) (ko : Fin 4 → Nat) (hko : ∀ a, ko a + S1x1x512x128.size a ≤ S1x1x8192x128.size a)
    (vo : Fin 5 → Nat) (hvo : ∀ a, vo a + S1x1x1x144x512.size a ≤ S1x1x16x144x512.size a) (us : List (Fin 8)) :
    List (Step F) :=
  us.flatMap fun u => [scoresOp arg3 arg4 arg9 arg10 s' u ko hko, softOp arg5 arg7 arg8 arg9 arg10 s u vo hvo]

/-- A trip of the loop: two chunks. -/
def tripOps (t : Fin k0_t1_loop.trips) : List (Step F) :=
  stageOps arg3 arg4 arg5 arg7 arg8 arg9 arg10 0 1 (k0_off1 t 0#32) (k0_off1_inb t 0) (k0_off2 t 0#32) (k0_off2_inb t 0) us
    ++ stageOps arg3 arg4 arg5 arg7 arg8 arg9 arg10 1 0 (k0_off1 t 1#32) (k0_off1_inb t 1) (k0_off2 t 1#32) (k0_off2_inb t 1) us

/-- Before the loop. -/
def preOps : List (Step F) :=
  initOp arg7 arg8 :: us.map fun u => scoresOp arg3 arg4 arg9 arg10 0 u (kOff 0) (k_inb 0)

/-- After the loop. -/
def postOps : List (Step F) :=
  stageOps arg3 arg4 arg5 arg7 arg8 arg9 arg10 0 1 (kOff 15) (k_inb 15) (vOff 14) (v_inb 14) us
    ++ (us.map (fun u => softOp arg5 arg7 arg8 arg9 arg10 1 u (vOff 15) (v_inb 15))
      ++ us.map (fun u => outOp arg6 harg6 arg8 u))

end

/-- A trip's text is its list of steps. -/
theorem trip_eq (i : grid0.Coords) (arg3 : Memref sig .tc .vmem S1x4x2x128x512 .bf16) (harg3 : arg3.IsWhole) (arg4 : Memref sig .tc .vmem S1x1x8192x128 .bf16) (harg4 : arg4.IsWhole) (arg5 : Memref sig .tc .vmem S1x1x16x144x512 .bf16) (harg5 : arg5.IsWhole) (arg6 : Memref sig .tc .vmem S1x4x2x128x512 .bf16) (harg6 : arg6.IsWhole) (arg7 : Memref sig .tc .vmem S8x1x512 .f32) (harg7 : arg7.IsWhole) (arg8 : Memref sig .tc .vmem S8x144x512 .f32) (harg8 : arg8.IsWhole) (arg9 : Memref sig .tc .vmem S2x8x512x512 .f32) (harg9 : arg9.IsWhole) (arg10 : Memref sig .tc .vmem S2x8x1x512 .f32) (harg10 : arg10.IsWhole) (v123 : FVec F S512 .f32)
    (t : Fin k0_t1_loop.trips) :
    k0_t1_body i arg3 harg3 arg4 harg4 arg5 harg5 arg6 harg6 arg7 harg7 arg8 harg8 arg9 harg9 arg10 harg10 v123 t () = seq (tripOps arg3 arg4 arg5 arg7 arg8 arg9 arg10 t) := by
  chain_rfl

/-- The kernel's text is its lists of steps, with the loop between. -/
theorem kernel_eq (i : grid0.Coords) (arg3 : Memref sig .tc .vmem S1x4x2x128x512 .bf16) (harg3 : arg3.IsWhole) (arg4 : Memref sig .tc .vmem S1x1x8192x128 .bf16) (harg4 : arg4.IsWhole) (arg5 : Memref sig .tc .vmem S1x1x16x144x512 .bf16) (harg5 : arg5.IsWhole) (arg6 : Memref sig .tc .vmem S1x4x2x128x512 .bf16) (harg6 : arg6.IsWhole) (arg7 : Memref sig .tc .vmem S8x1x512 .f32) (harg7 : arg7.IsWhole) (arg8 : Memref sig .tc .vmem S8x144x512 .f32) (harg8 : arg8.IsWhole) (arg9 : Memref sig .tc .vmem S2x8x512x512 .f32) (harg9 : arg9.IsWhole) (arg10 : Memref sig .tc .vmem S2x8x1x512 .f32) (harg10 : arg10.IsWhole) :
    cc0_attention (F := F) i arg3 harg3 arg4 harg4 arg5 harg5 arg6 harg6 arg7 harg7 arg8 harg8 arg9 harg9 arg10 harg10 = (do
      seq (preOps arg3 arg4 arg7 arg8 arg9 arg10)
      Scf.Loop.for k0_t1_loop k0_t1_ok () fun t _ => seq (tripOps arg3 arg4 arg5 arg7 arg8 arg9 arg10 t)
      seq (postOps arg3 arg4 arg5 arg6 harg6 arg7 arg8 arg9 arg10)) := by
  unfold cc0_attention k0_part55 k0_part33
  simp -zeta only [Scf.Loop.for, Scf.for_eq]
  chain_rfl

end Cert.KernelIdeal.Body

end
-- ==== Proof.Steps.lean ====
/- What every step of the attention kernel does to the running maxima, the accumulators, the scores and the
   result, sub-block by sub-block. -/
module

public import proofs.«01_k».proof.Proof.Ops
public import Idealize.ShloMosaic.Lib.Tactic
public import Idealize.ShloMosaic.Lib.WritesUnit
public import Idealize.ShloMosaic.Lib.Pipeline.FrameBody

@[expose] public section

set_option maxRecDepth 8192

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

section Boxes
variable {sig' : RefSig} {κ : Kind} {sp : Space} {s : Shape} {e : EltTy} {Val : EltTy → Type}

/-- A box just written reads what was written. -/
theorem box_same (v : View sig' κ sp s e) (f : v.ty.Contents Val) {off size : Fin s.rank → ℕ} (inb : ∀ a, off a + size a ≤ s.size a)
    (w : (Rect.unit off size inb).shape.Idx → Val e) :
    v.readAt Val (Rect.unit off size inb).toLoadRect (v.writes Val f [⟨Rect.unit off size inb, w⟩]) = w :=
  funext fun x => View.read_writes_cons_emb v f (Rect.unit off size inb) w [] x

/-- A box apart from the one just written reads what it did. -/
theorem box_other (v : View sig' κ sp s e) (f : v.ty.Contents Val) {off off' size size' : Fin s.rank → ℕ} (inb : ∀ a, off a + size a ≤ s.size a)
    (inb' : ∀ a, off' a + size' a ≤ s.size a) (w : (Rect.unit off' size' inb').shape.Idx → Val e)
    (h : ∃ a, off a + size a ≤ off' a ∨ off' a + size' a ≤ off a) :
    v.readAt Val (Rect.unit off size inb).toLoadRect (v.writes Val f [⟨Rect.unit off' size' inb', w⟩])
      = v.readAt Val (Rect.unit off size inb).toLoadRect f := by
  obtain ⟨a, h⟩ := h
  funext x
  refine View.read_writes_cons_unit_of_not_mem v f inb' w [] ((Rect.unit off size inb).emb x) rfl a ?_
  have h1 : (((Rect.unit off size inb).emb x) a).val = off a + 1 * (x a).val := rfl
  have h2 : (x a).val < size a := (x a).isLt
  omega

/-- A box of a buffer just written whole with one value reads that value. -/
theorem box_fill (v : View sig' κ sp s e) (f : v.ty.Contents Val) {off off' size : Fin s.rank → ℕ} (inb : ∀ a, off a + s.size a ≤ s.size a)
    (inb' : ∀ a, off' a + size a ≤ s.size a) (w : (Rect.unit off s.size inb).shape.Idx → Val e) (w' : (Rect.unit off' size inb').shape.Idx → Val e)
    (h : ∀ x y, w x = w' y) :
    v.readAt Val (Rect.unit off' size inb').toLoadRect (v.writes Val f [⟨Rect.unit off s.size inb, w⟩]) = w' := by
  funext x
  have hoff : ∀ a, off a = 0 := fun a => by have := inb a; omega
  exact (View.read_writes_cons_unit_of_mem v f inb w [] ((Rect.unit off' size inb').emb x) (fun a => ⟨((Rect.unit off' size inb').emb x a).val, ((Rect.unit off' size inb').emb x a).isLt⟩) rfl
    (fun a => by rw [hoff a, Nat.zero_add])).trans (h _ _)

end Boxes

section Apart
/-- Boxes of different sub-blocks lie apart. -/
theorem sOff_apart {t s : Fin 2} {u' u : Fin 8} (h : ¬(t = s ∧ u' = u)) :
    ∃ a, sOff t u' a + S1x1x512x512.size a ≤ sOff s u a ∨ sOff s u a + S1x1x512x512.size a ≤ sOff t u' a := by
  revert t s u' u; decide
theorem cOff_apart {t s : Fin 2} {u' u : Fin 8} (h : ¬(t = s ∧ u' = u)) :
    ∃ a, sOff t u' a + S1x1x1x512.size a ≤ sOff s u a ∨ sOff s u a + S1x1x1x512.size a ≤ sOff t u' a := by
  revert t s u' u; decide
theorem mOff_apart {u' u : Fin 8} (h : ¬u' = u) :
    ∃ a, uOff u' a + S1x1x512.size a ≤ uOff u a ∨ uOff u a + S1x1x512.size a ≤ uOff u' a := by
  revert u' u; decide
theorem aOff_apart {u' u : Fin 8} (h : ¬u' = u) :
    ∃ a, uOff u' a + S1x144x512.size a ≤ uOff u a ∨ uOff u a + S1x144x512.size a ≤ uOff u' a := by
  revert u' u; decide
theorem qOff_apart {u' u : Fin 8} (h : ¬u' = u) :
    ∃ a, qOff u' a + S1x1x1x128x512.size a ≤ qOff u a ∨ qOff u a + S1x1x1x128x512.size a ≤ qOff u' a := by
  revert u' u; decide
end Apart

/-- What the buffers hold, sub-block by sub-block: running maxima, accumulators, scores and their maxima by slot,
    and the result. -/
structure St (F : FTy → Type) where
  m : Fin 8 → Vec F S1x1x512 .f32
  a : Fin 8 → Vec F S1x144x512 .f32
  s : Fin 2 → Fin 8 → Vec F S1x1x512x512 .f32
  c : Fin 2 → Fin 8 → Vec F S1x1x1x512 .f32
  o : Fin 8 → Vec F S1x1x1x128x512 .bf16

/-- The scores step on the state. -/
def scoresSt (q : Fin 8 → Vec F S1x1x1x128x512 .bf16) (s : Fin 2) (u : Fin 8) (k : Vec F S1x1x512x128 .bf16) (σ : St F) : St F :=
  { σ with
    s := fun s' u' => if s' = s ∧ u' = u then shapeCast S1x1x512x512 (scoreV k (q u)) shapeCasts_S512x512_S1x1x512x512 else σ.s s' u'
    c := fun s' u' => if s' = s ∧ u' = u then shapeCast S1x1x1x512 (cmaxV (scoreV k (q u))) shapeCasts_S1x512_S1x1x1x512 else σ.c s' u' }

/-- The update step on the state. -/
def softSt (s : Fin 2) (u : Fin 8) (v : Vec F S1x1x1x144x512 .bf16) (σ : St F) : St F :=
  { σ with
    m := fun u' => if u' = u then shapeCast S1x1x512 (mNew (σ.m u) (σ.c s u)) shapeCasts_S1x512_S1x1x512 else σ.m u'
    a := fun u' => if u' = u then shapeCast S1x144x512 (aNew (σ.m u) (σ.c s u) (σ.s s u) (σ.a u) v) shapeCasts_S144x512_S1x144x512 else σ.a u' }

/-- The accumulator's value rows. -/
def nOf (a : Vec F S1x144x512 .f32) : Vec F S1x128x512 .f32 :=
  fun j => a (fun i => ⟨(j i).val, lt_of_lt_of_le (j i).isLt (by revert i; decide)⟩)

/-- The accumulator's row of ones. -/
def lOf (a : Vec F S1x144x512 .f32) : Vec F S1x1x512 .f32 :=
  fun j => a (fun i => ⟨(![0, 128, 0] : Fin 3 → Nat) i + (j i).val,
    lt_of_lt_of_le (Nat.add_lt_add_left (j i).isLt _) (by revert i; decide)⟩)

/-- The row of ones is the box at row 128. -/
theorem lOf_read {κ : Kind} {sp : Space} (v : View sig κ sp S8x144x512 .f32) (f : v.ty.Contents (Elt F)) (u : Fin 8) :
    v.readAt (Elt F) (Rect.unit (s := S8x144x512) (lOff u) S1x1x512.size (l_inb u)).toLoadRect f
      = lOf (v.readAt (Elt F) (Rect.unit (s := S8x144x512) (uOff u) S1x144x512.size (a_inb u)).toLoadRect f) := by
  funext j
  refine congrArg (v.read (Elt F) f) (funext fun i => Fin.ext ?_)
  show lOff u i + 1 * (j i).val = uOff u i + 1 * ((![0, 128, 0] : Fin 3 → Nat) i + (j i).val)
  have h : lOff u i = uOff u i + (![0, 128, 0] : Fin 3 → Nat) i := by revert u i; decide
  omega

/-- The result step on the state. -/
def outSt (u : Fin 8) (σ : St F) : St F :=
  { σ with o := fun u' => if u' = u then shapeCast S1x1x1x128x512 (outV (nOf (σ.a u)) (lOf (σ.a u))) shapeCasts_S128x512_S1x1x1x128x512 else σ.o u' }

/-- The first step on the state. -/
def initSt (σ : St F) : St F :=
  { σ with m := fun _ => broadcast S1x1x512 (Scalar.ofBits .f32 0xFF800000#32), a := fun _ => broadcast S1x144x512 (Scalar.ofBits .f32 0x00000000#32) }

section
variable (𝒱 : Variants) (th : Dev nD) (bd : Option 𝒱.V) (E : Set ℕ)
variable (arg3 : Memref sig .tc .vmem S1x4x2x128x512 .bf16) (arg4 : Memref sig .tc .vmem S1x1x8192x128 .bf16)
  (arg5 : Memref sig .tc .vmem S1x1x16x144x512 .bf16) (arg6 : Memref sig .tc .vmem S1x4x2x128x512 .bf16) (harg6 : arg6.IsWhole)
  (arg7 : Memref sig .tc .vmem S8x1x512 .f32) (arg8 : Memref sig .tc .vmem S8x144x512 .f32)
  (arg9 : Memref sig .tc .vmem S2x8x512x512 .f32) (arg10 : Memref sig .tc .vmem S2x8x1x512 .f32)
  (f3 : BufTy.Contents (Elt F) arg3.view.ty) (f4 : BufTy.Contents (Elt F) arg4.view.ty) (f5 : BufTy.Contents (Elt F) arg5.view.ty)

/-- The buffers' contents are the state's. -/
structure Holds (σ : St F) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) : Prop where
  o : ∀ u, arg6.view.readAt (Elt F) (Rect.unit (s := S1x4x2x128x512) (qOff u) S1x1x1x128x512.size (q_inb u)).toLoadRect f6 = σ.o u
  m : ∀ u, arg7.view.readAt (Elt F) (Rect.unit (s := S8x1x512) (uOff u) S1x1x512.size (m_inb u)).toLoadRect f7 = σ.m u
  a : ∀ u, arg8.view.readAt (Elt F) (Rect.unit (s := S8x144x512) (uOff u) S1x144x512.size (a_inb u)).toLoadRect f8 = σ.a u
  s : ∀ t u, arg9.view.readAt (Elt F) (Rect.unit (s := S2x8x512x512) (sOff t u) S1x1x512x512.size (s_inb t u)).toLoadRect f9 = σ.s t u
  c : ∀ t u, arg10.view.readAt (Elt F) (Rect.unit (s := S2x8x1x512) (sOff t u) S1x1x1x512.size (c_inb t u)).toLoadRect f10 = σ.c t u

/-- The kernel's buffers, at a state of which `P` holds. -/
def At (P : St F → Prop) : sProp 𝕄G :=
  iprop((arg3.view.loc (th : Thread nD τ) ↦[arg3.view.set]{fullShare} f3) ∗ (arg4.view.loc (th : Thread nD τ) ↦[arg4.view.set]{fullShare} f4)
    ∗ (arg5.view.loc (th : Thread nD τ) ↦[arg5.view.set]{fullShare} f5)
    ∗ ∃ σ, ⌜P σ⌝ ∗ ∃ f6 f7 f8 f9 f10, ⌜Holds arg6 arg7 arg8 arg9 arg10 σ f6 f7 f8 f9 f10⌝ ∗ (arg6.view.loc (th : Thread nD τ) ↦[arg6.view.set]{fullShare} f6)
      ∗ (arg7.view.loc (th : Thread nD τ) ↦[arg7.view.set]{fullShare} f7) ∗ (arg8.view.loc (th : Thread nD τ) ↦[arg8.view.set]{fullShare} f8)
      ∗ (arg9.view.loc (th : Thread nD τ) ↦[arg9.view.set]{fullShare} f9) ∗ (arg10.view.loc (th : Thread nD τ) ↦[arg10.view.set]{fullShare} f10))

/-- The query sub-blocks of the query block. -/
def qOf (u : Fin 8) : Vec F S1x1x1x128x512 .bf16 :=
  arg3.view.readAt (Elt F) (Rect.unit (s := S1x4x2x128x512) (qOff u) S1x1x1x128x512.size (q_inb u)).toLoadRect f3

theorem at_intro (P : St F → Prop) (σ : St F) (hP : P σ) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty)
    (hσ : Holds arg6 arg7 arg8 arg9 arg10 σ f6 f7 f8 f9 f10) :
    iprop((arg3.view.loc (th : Thread nD τ) ↦[arg3.view.set]{fullShare} f3) ∗ (arg4.view.loc (th : Thread nD τ) ↦[arg4.view.set]{fullShare} f4)
      ∗ (arg5.view.loc (th : Thread nD τ) ↦[arg5.view.set]{fullShare} f5) ∗ (arg6.view.loc (th : Thread nD τ) ↦[arg6.view.set]{fullShare} f6)
      ∗ (arg7.view.loc (th : Thread nD τ) ↦[arg7.view.set]{fullShare} f7) ∗ (arg8.view.loc (th : Thread nD τ) ↦[arg8.view.set]{fullShare} f8)
      ∗ (arg9.view.loc (th : Thread nD τ) ↦[arg9.view.set]{fullShare} f9) ∗ (arg10.view.loc (th : Thread nD τ) ↦[arg10.view.set]{fullShare} f10))
    ⊢ (At th arg3 arg4 arg5 arg6 arg7 arg8 arg9 arg10 f3 f4 f5 P : sProp 𝕄G) := by
  unfold At
  iintro ⟨H3, H4, H5, H6, H7, H8, H9, H10⟩
  isplitl [H3]; · iexact H3
  isplitl [H4]; · iexact H4
  isplitl [H5]; · iexact H5
  iexists σ
  isplitr; · ipureintro; exact hP
  iexists f6; iexists f7; iexists f8; iexists f9; iexists f10
  isplitr; · ipureintro; exact hσ
  isplitl [H6]; · iexact H6
  isplitl [H7]; · iexact H7
  isplitl [H8]; · iexact H8
  isplitl [H9]; · iexact H9
  iexact H10

/-- The step `op` takes the buffers from a state where `P` holds to one where `Q` does. -/
def Runs (op : Step F) (P Q : St F → Prop) : Prop :=
  At th arg3 arg4 arg5 arg6 arg7 arg8 arg9 arg10 f3 f4 f5 P
    ⊢ wp frame (wpE (defs₀ (F := F)) 𝒱 (th : Thread nD τ) bd) E op (fun _ => At th arg3 arg4 arg5 arg6 arg7 arg8 arg9 arg10 f3 f4 f5 Q)

theorem runs_scores (s : Fin 2) (u : Fin 8) (off : Fin 4 → Nat) (hoff : ∀ a, off a + S1x1x512x128.size a ≤ S1x1x8192x128.size a)
    (P Q : St F → Prop)
    (h : ∀ σ, P σ → Q (scoresSt (qOf arg3 f3) s u (arg4.view.readAt (Elt F) (Rect.unit (s := S1x1x8192x128) off S1x1x512x128.size hoff).toLoadRect f4) σ)) :
    Runs 𝒱 th bd E arg3 arg4 arg5 arg6 arg7 arg8 arg9 arg10 f3 f4 f5 (scoresOp arg3 arg4 arg9 arg10 s u off hoff) P Q := by
  unfold Runs
  conv_lhs => unfold At
  unfold scoresOp
  iintro ⟨H3, H4, H5, %σ, %hP, %f6, %f7, %f8, %f9, %f10, %hσ, H6, H7, H8, H9, H10⟩
  sl_exec
  sl_step
  iapply (at_intro th arg3 arg4 arg5 arg6 arg7 arg8 arg9 arg10 f3 f4 f5 Q _ (h σ hP) f6 f7 f8 (arg9.view.writes (Elt F) f9 _) (arg10.view.writes (Elt F) f10 _)
    ⟨hσ.o, hσ.m, hσ.a, fun t u' => ?hs, fun t u' => ?hc⟩)
  case hs =>
    by_cases hu : t = s ∧ u' = u
    · obtain ⟨rfl, rfl⟩ := hu
      simp only [scoresSt, and_self, if_true]
      exact box_same _ _ _ _
    · simp only [scoresSt, if_neg hu]
      rw [← hσ.s t u']
      exact box_other _ _ _ _ _ (sOff_apart hu)
  case hc =>
    by_cases hu : t = s ∧ u' = u
    · obtain ⟨rfl, rfl⟩ := hu
      simp only [scoresSt, and_self, if_true]
      exact box_same _ _ _ _
    · simp only [scoresSt, if_neg hu]
      rw [← hσ.c t u']
      exact box_other _ _ _ _ _ (cOff_apart hu)
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem runs_soft (s : Fin 2) (u : Fin 8) (off : Fin 5 → Nat) (hoff : ∀ a, off a + S1x1x1x144x512.size a ≤ S1x1x16x144x512.size a)
    (P Q : St F → Prop)
    (h : ∀ σ, P σ → Q (softSt s u (arg5.view.readAt (Elt F) (Rect.unit (s := S1x1x16x144x512) off S1x1x1x144x512.size hoff).toLoadRect f5) σ)) :
    Runs 𝒱 th bd E arg3 arg4 arg5 arg6 arg7 arg8 arg9 arg10 f3 f4 f5 (softOp arg5 arg7 arg8 arg9 arg10 s u off hoff) P Q := by
  unfold Runs
  conv_lhs => unfold At
  unfold softOp
  iintro ⟨H3, H4, H5, %σ, %hP, %f6, %f7, %f8, %f9, %f10, %hσ, H6, H7, H8, H9, H10⟩
  sl_exec
  sl_step
  rw [hσ.m u, hσ.c s u, hσ.s s u, hσ.a u]
  iapply (at_intro th arg3 arg4 arg5 arg6 arg7 arg8 arg9 arg10 f3 f4 f5 Q _ (h σ hP) f6 (arg7.view.writes (Elt F) f7 _) (arg8.view.writes (Elt F) f8 _) f9 f10
    ⟨hσ.o, fun u' => ?hm, fun u' => ?ha, hσ.s, hσ.c⟩)
  case hm =>
    by_cases hu : u' = u
    · obtain rfl := hu
      simp only [softSt, if_true]
      exact box_same _ _ _ _
    · simp only [softSt, if_neg hu]
      rw [← hσ.m u']
      exact box_other _ _ _ _ _ (mOff_apart hu)
  case ha =>
    by_cases hu : u' = u
    · obtain rfl := hu
      simp only [softSt, if_true]
      exact box_same _ _ _ _
    · simp only [softSt, if_neg hu]
      rw [← hσ.a u']
      exact box_other _ _ _ _ _ (aOff_apart hu)
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem runs_out (u : Fin 8) (P Q : St F → Prop) (h : ∀ σ, P σ → Q (outSt u σ)) :
    Runs 𝒱 th bd E arg3 arg4 arg5 arg6 arg7 arg8 arg9 arg10 f3 f4 f5 (outOp arg6 harg6 arg8 u) P Q := by
  unfold Runs
  conv_lhs => unfold At
  unfold outOp
  iintro ⟨H3, H4, H5, %σ, %hP, %f6, %f7, %f8, %f9, %f10, %hσ, H6, H7, H8, H9, H10⟩
  sl_exec
  sl_step
  rw [show arg8.view.readAt (Elt F) (Rect.unit (s := S8x144x512) (uOff u) S1x128x512.size (n_inb u)).toLoadRect f8 = nOf (σ.a u) from by
      rw [← hσ.a u]
      rfl,
    show arg8.view.readAt (Elt F) (Rect.unit (s := S8x144x512) (lOff u) S1x1x512.size (l_inb u)).toLoadRect f8 = lOf (σ.a u) from by
      rw [← hσ.a u]
      exact lOf_read arg8.view f8 u]
  iapply (at_intro th arg3 arg4 arg5 arg6 arg7 arg8 arg9 arg10 f3 f4 f5 Q _ (h σ hP) (arg6.view.writes (Elt F) f6 _) f7 f8 f9 f10
    ⟨fun u' => ?ho, hσ.m, hσ.a, hσ.s, hσ.c⟩)
  case ho =>
    by_cases hu : u' = u
    · obtain rfl := hu
      simp only [outSt, if_true]
      exact box_same _ _ _ _
    · simp only [outSt, if_neg hu]
      rw [← hσ.o u']
      exact box_other _ _ _ _ _ (qOff_apart hu)
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem runs_init (P Q : St F → Prop) (h : ∀ σ, P σ → Q (initSt σ)) :
    Runs 𝒱 th bd E arg3 arg4 arg5 arg6 arg7 arg8 arg9 arg10 f3 f4 f5 (initOp arg7 arg8) P Q := by
  unfold Runs
  conv_lhs => unfold At
  unfold initOp
  iintro ⟨H3, H4, H5, %σ, %hP, %f6, %f7, %f8, %f9, %f10, %hσ, H6, H7, H8, H9, H10⟩
  sl_exec
  sl_step
  iapply (at_intro th arg3 arg4 arg5 arg6 arg7 arg8 arg9 arg10 f3 f4 f5 Q _ (h σ hP) f6
    (arg7.view.writes (Elt F) f7 [⟨Rect.unit (s := S8x1x512) ![0, 0, 0] S8x1x512.size inb_S8x1x512_S8x1x512_0_0_0, shapeCast S8x1x512 (broadcast S8x1x512 (Scalar.ofBits .f32 0xFF800000#32) : FVec F S8x1x512 .f32) shapeCasts_S8x1x512_S8x1x512⟩])
    (arg8.view.writes (Elt F) f8 [⟨Rect.unit (s := S8x144x512) ![0, 0, 0] S8x144x512.size inb_S8x144x512_S8x144x512_0_0_0, shapeCast S8x144x512 (broadcast S8x144x512 (Scalar.ofBits .f32 0x00000000#32) : FVec F S8x144x512 .f32) shapeCasts_S8x144x512_S8x144x512⟩]) f9 f10
    ⟨hσ.o, fun u' => ?hm, fun u' => ?ha, hσ.s, hσ.c⟩)
  case hm => exact box_fill arg7.view f7 _ (m_inb u') _ _ fun _ _ => rfl
  case ha => exact box_fill arg8.view f8 _ (a_inb u') _ _ fun _ _ => rfl
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- No steps. -/
theorem runs_nil (P : St F → Prop) :
    Runs 𝒱 th bd E arg3 arg4 arg5 arg6 arg7 arg8 arg9 arg10 f3 f4 f5 (seq []) P P := by
  unfold Runs seq
  rw [wp_pure]
  exact fupd_intro

/-- A step and the steps after it. -/
theorem runs_cons (op : Step F) (l : List (Step F)) (P Q R : St F → Prop)
    (h1 : Runs 𝒱 th bd E arg3 arg4 arg5 arg6 arg7 arg8 arg9 arg10 f3 f4 f5 op P Q)
    (h2 : Runs 𝒱 th bd E arg3 arg4 arg5 arg6 arg7 arg8 arg9 arg10 f3 f4 f5 (seq l) Q R) :
    Runs 𝒱 th bd E arg3 arg4 arg5 arg6 arg7 arg8 arg9 arg10 f3 f4 f5 (seq (op :: l)) P R := by
  unfold Runs at *
  rw [seq, wp_bind]
  exact BIBase.Entails.trans h1 (wp_mono _ _ _ fun _ => h2)

end

end Cert.KernelIdeal.Body

end
-- ==== Proof.Run.lean ====
/- The attention kernel run from its first step to its last: what a block of the result holds at the end, as a
   function of the blocks of queries, keys and values. -/
module

public import proofs.«01_k».proof.Proof.Steps

@[expose] public section

set_option maxRecDepth 8192

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-! ## A sub-block's state after some chunks -/

section
variable (q : Vec F S1x1x1x128x512 .bf16) (K : Fin 16 → Vec F S1x1x512x128 .bf16) (V : Fin 16 → Vec F S1x1x1x144x512 .bf16)

/-- The scores against the chunk `j`. -/
def sAt (j : Fin 16) : Vec F S1x1x512x512 .f32 := shapeCast S1x1x512x512 (scoreV (K j) q) shapeCasts_S512x512_S1x1x512x512

/-- Their maxima. -/
def cAt (j : Fin 16) : Vec F S1x1x1x512 .f32 := shapeCast S1x1x1x512 (cmaxV (scoreV (K j) q)) shapeCasts_S1x512_S1x1x1x512

/-- The running maximum after `j` chunks. -/
def mAt : ℕ → Vec F S1x1x512 .f32
  | 0 => broadcast S1x1x512 (Scalar.ofBits .f32 0xFF800000#32)
  | j + 1 => shapeCast S1x1x512 (mNew (mAt j) (cAt q K (Fin.ofNat 16 j))) shapeCasts_S1x512_S1x1x512

/-- The accumulator after `j` chunks. -/
def aAt : ℕ → Vec F S1x144x512 .f32
  | 0 => broadcast S1x144x512 (Scalar.ofBits .f32 0x00000000#32)
  | j + 1 => shapeCast S1x144x512 (aNew (mAt q K j) (cAt q K (Fin.ofNat 16 j)) (sAt q K (Fin.ofNat 16 j)) (aAt j) (V (Fin.ofNat 16 j))) shapeCasts_S144x512_S1x144x512

/-- The block of the result. -/
def oAt : Vec F S1x1x1x128x512 .bf16 :=
  shapeCast S1x1x1x128x512 (outV (nOf (aAt q K V 16)) (lOf (aAt q K V 16))) shapeCasts_S128x512_S1x1x1x128x512

end

section
variable (q : Fin 8 → Vec F S1x1x1x128x512 .bf16) (K : Fin 16 → Vec F S1x1x512x128 .bf16) (V : Fin 16 → Vec F S1x1x1x144x512 .bf16)

/-- The state of the sub-block `u` after `j` chunks. -/
structure Acc (j : ℕ) (u : Fin 8) (σ : St F) : Prop where
  m : σ.m u = mAt (q u) K j
  a : σ.a u = aAt (q u) K V j

/-- The slot `s` holds the scores of the sub-block `u` against the chunk `j`. -/
structure Sco (s : Fin 2) (j : Fin 16) (u : Fin 8) (σ : St F) : Prop where
  sc : σ.s s u = sAt (q u) K j
  cm : σ.c s u = cAt (q u) K j

theorem acc_scores {j : ℕ} {u u' : Fin 8} {s : Fin 2} {k : Vec F S1x1x512x128 .bf16} {σ : St F} (h : Acc q K V j u σ) :
    Acc q K V j u (scoresSt q s u' k σ) := ⟨h.m, h.a⟩

theorem acc_out {j : ℕ} {u u' : Fin 8} {σ : St F} (h : Acc q K V j u σ) : Acc q K V j u (outSt u' σ) := ⟨h.m, h.a⟩

theorem sco_scores (s : Fin 2) (j : Fin 16) (u : Fin 8) (σ : St F) : Sco q K s j u (scoresSt q s u (K j) σ) := by
  constructor <;> simp [scoresSt, sAt, cAt]

theorem sco_scores_of_ne {s s' : Fin 2} {j : Fin 16} {u u' : Fin 8} {k : Vec F S1x1x512x128 .bf16} {σ : St F} (h : Sco q K s j u σ)
    (hne : ¬(s = s' ∧ u = u')) : Sco q K s j u (scoresSt q s' u' k σ) := by
  constructor
  · simp only [scoresSt, if_neg hne]; exact h.sc
  · simp only [scoresSt, if_neg hne]; exact h.cm

theorem sco_soft {s s' : Fin 2} {j : Fin 16} {u u' : Fin 8} {v : Vec F S1x1x1x144x512 .bf16} {σ : St F} (h : Sco q K s j u σ) :
    Sco q K s j u (softSt s' u' v σ) := ⟨h.sc, h.cm⟩

theorem acc_soft {s : Fin 2} {j : Fin 16} {u : Fin 8} {σ : St F} (h : Acc q K V j u σ) (hs : Sco q K s j u σ) :
    Acc q K V (j + 1) u (softSt s u (V j) σ) := by
  have hj : Fin.ofNat 16 j.val = j := Fin.ofNat_val_eq_self j
  constructor
  · simp only [softSt, if_true, mAt, hj, h.m, hs.cm]
  · simp only [softSt, if_true, aAt, hj, h.m, h.a, hs.cm, hs.sc]

theorem acc_soft_of_ne {s : Fin 2} {j : ℕ} {u u' : Fin 8} {v : Vec F S1x1x1x144x512 .bf16} {σ : St F} (h : Acc q K V j u σ) (hne : u ≠ u') :
    Acc q K V j u (softSt s u' v σ) := by
  constructor
  · simp only [softSt, if_neg hne]; exact h.m
  · simp only [softSt, if_neg hne]; exact h.a

/-- Before the loop: the sub-blocks not in `l` have the first chunk's scores. -/
def Pre (l : List (Fin 8)) (σ : St F) : Prop :=
  ∀ u, Acc q K V 0 u σ ∧ (u ∉ l → Sco q K 0 0 u σ)

/-- In a stage: the sub-blocks in `l` are still at the chunk `j`, the others at `j'`. -/
def Mid (s s' : Fin 2) (j j' : Fin 16) (l : List (Fin 8)) (σ : St F) : Prop :=
  ∀ u, (u ∈ l → Acc q K V j u σ ∧ Sco q K s j u σ) ∧ (u ∉ l → Acc q K V j' u σ ∧ Sco q K s' j' u σ)

/-- Between stages. -/
def Inv (s : Fin 2) (j : Fin 16) (σ : St F) : Prop :=
  ∀ u, Acc q K V j u σ ∧ Sco q K s j u σ

/-- In the last updates: the sub-blocks not in `l` have had all chunks. -/
def Last (l : List (Fin 8)) (σ : St F) : Prop :=
  ∀ u, (u ∈ l → Acc q K V 15 u σ ∧ Sco q K 1 15 u σ) ∧ (u ∉ l → Acc q K V 16 u σ)

/-- In the result's steps: the sub-blocks not in `l` have theirs. -/
def Done (l : List (Fin 8)) (σ : St F) : Prop :=
  ∀ u, Acc q K V 16 u σ ∧ (u ∉ l → σ.o u = oAt (q u) K V)

theorem pre_init (σ : St F) : Pre q K V us (initSt σ) :=
  fun u => ⟨⟨rfl, rfl⟩, fun h => absurd (by revert u; decide) h⟩

theorem pre_step {u : Fin 8} {l : List (Fin 8)} {σ : St F} (h : Pre q K V (u :: l) σ) :
    Pre q K V l (scoresSt q 0 u (K 0) σ) := by
  intro x
  refine ⟨acc_scores q K V (h x).1, fun hx => ?_⟩
  by_cases hu : x = u
  · subst hu; exact sco_scores q K 0 0 x σ
  · exact sco_scores_of_ne q K ((h x).2 (by simp [hu, hx])) fun h => hu h.2

theorem mid_step {s s' : Fin 2} (hs : s ≠ s') {j j' : Fin 16} (hj : j'.val = j.val + 1) {u : Fin 8} {l : List (Fin 8)} (hl : u ∉ l) {σ : St F}
    (h : Mid q K V s s' j j' (u :: l) σ) :
    Mid q K V s s' j j' l (softSt s u (V j) (scoresSt q s' u (K j') σ)) := by
  intro x
  by_cases hu : x = u
  · subst hu
    obtain ⟨ha, hc⟩ := (h x).1 (by simp)
    refine ⟨fun hx => absurd hx hl, fun _ => ⟨?_, sco_soft q K (sco_scores q K s' j' x σ)⟩⟩
    have := acc_soft q K V (acc_scores q K V ha (s := s') (u' := x) (k := K j')) (sco_scores_of_ne q K hc fun h => hs h.1)
    rwa [← hj] at this
  · refine ⟨fun hx => ?_, fun hx => ?_⟩
    · obtain ⟨ha, hc⟩ := (h x).1 (by simp [hx])
      exact ⟨acc_soft_of_ne q K V (acc_scores q K V ha) hu, sco_soft q K (sco_scores_of_ne q K hc fun h => hu h.2)⟩
    · obtain ⟨ha, hc⟩ := (h x).2 (by simp [hx, hu])
      exact ⟨acc_soft_of_ne q K V (acc_scores q K V ha) hu, sco_soft q K (sco_scores_of_ne q K hc fun h => hu h.2)⟩

theorem last_step {u : Fin 8} {l : List (Fin 8)} (hl : u ∉ l) {σ : St F} (h : Last q K V (u :: l) σ) :
    Last q K V l (softSt 1 u (V 15) σ) := by
  intro x
  by_cases hu : x = u
  · subst hu
    obtain ⟨ha, hc⟩ := (h x).1 (by simp)
    exact ⟨fun hx => absurd hx hl, fun _ => acc_soft q K V (j := 15) ha hc⟩
  · refine ⟨fun hx => ?_, fun hx => ?_⟩
    · obtain ⟨ha, hc⟩ := (h x).1 (by simp [hx])
      exact ⟨acc_soft_of_ne q K V ha hu, sco_soft q K hc⟩
    · exact acc_soft_of_ne q K V ((h x).2 (by simp [hx, hu])) hu

theorem done_step {u : Fin 8} {l : List (Fin 8)} {σ : St F} (h : Done q K V (u :: l) σ) : Done q K V l (outSt u σ) := by
  intro x
  refine ⟨acc_out q K V (h x).1, fun hx => ?_⟩
  by_cases hu : x = u
  · subst hu
    simp only [outSt, if_true, (h x).1.a, oAt]
  · simp only [outSt, if_neg hu]
    exact (h x).2 (by simp [hu, hx])

end

/-! ## Lists of steps -/

section
variable (𝒱 : Variants) (th : Dev nD) (bd : Option 𝒱.V) (E : Set ℕ)
variable (arg3 : Memref sig .tc .vmem S1x4x2x128x512 .bf16) (arg4 : Memref sig .tc .vmem S1x1x8192x128 .bf16)
  (arg5 : Memref sig .tc .vmem S1x1x16x144x512 .bf16) (arg6 : Memref sig .tc .vmem S1x4x2x128x512 .bf16) (harg6 : arg6.IsWhole)
  (arg7 : Memref sig .tc .vmem S8x1x512 .f32) (arg8 : Memref sig .tc .vmem S8x144x512 .f32)
  (arg9 : Memref sig .tc .vmem S2x8x512x512 .f32) (arg10 : Memref sig .tc .vmem S2x8x1x512 .f32)
  (f3 : BufTy.Contents (Elt F) arg3.view.ty) (f4 : BufTy.Contents (Elt F) arg4.view.ty) (f5 : BufTy.Contents (Elt F) arg5.view.ty)

/-- The key chunks of the key block. -/
def kOf (j : Fin 16) : Vec F S1x1x512x128 .bf16 :=
  arg4.view.readAt (Elt F) (Rect.unit (s := S1x1x8192x128) (kOff j) S1x1x512x128.size (k_inb j)).toLoadRect f4

/-- The value chunks of the value block. -/
def vOf (j : Fin 16) : Vec F S1x1x1x144x512 .bf16 :=
  arg5.view.readAt (Elt F) (Rect.unit (s := S1x1x16x144x512) (vOff j) S1x1x1x144x512.size (v_inb j)).toLoadRect f5

theorem seq_append (l l' : List (Step F)) : seq (l ++ l') = (do seq l; seq l') := by
  induction l with
  | nil => rfl
  | cons a l ih => simp only [List.cons_append, seq, ih, bind_assoc]

theorem runs_append (l l' : List (Step F)) (P Q R : St F → Prop)
    (h1 : Runs 𝒱 th bd E arg3 arg4 arg5 arg6 arg7 arg8 arg9 arg10 f3 f4 f5 (seq l) P Q)
    (h2 : Runs 𝒱 th bd E arg3 arg4 arg5 arg6 arg7 arg8 arg9 arg10 f3 f4 f5 (seq l') Q R) :
    Runs 𝒱 th bd E arg3 arg4 arg5 arg6 arg7 arg8 arg9 arg10 f3 f4 f5 (seq (l ++ l')) P R := by
  unfold Runs at *
  rw [seq_append, wp_bind]
  exact BIBase.Entails.trans h1 (wp_mono _ _ _ fun _ => h2)

/-- A weaker state after the steps. -/
theorem runs_mono (op : Step F) (P Q R : St F → Prop) (h : ∀ σ, Q σ → R σ)
    (h1 : Runs 𝒱 th bd E arg3 arg4 arg5 arg6 arg7 arg8 arg9 arg10 f3 f4 f5 op P Q) :
    Runs 𝒱 th bd E arg3 arg4 arg5 arg6 arg7 arg8 arg9 arg10 f3 f4 f5 op P R := by
  unfold Runs at *
  refine BIBase.Entails.trans h1 (wp_mono _ _ _ fun _ => ?_)
  unfold At
  iintro ⟨H3, H4, H5, %σ, %hP, H⟩
  isplitl [H3]; · iexact H3
  isplitl [H4]; · iexact H4
  isplitl [H5]; · iexact H5
  iexists σ
  isplitr; · ipureintro; exact h σ hP
  iexact H

/-- Steps sub-block by sub-block, each taking one sub-block off the list of those still to come. -/
theorem runs_each (f : Fin 8 → Step F) (P : List (Fin 8) → St F → Prop)
    (h : ∀ u l, u ∉ l → Runs 𝒱 th bd E arg3 arg4 arg5 arg6 arg7 arg8 arg9 arg10 f3 f4 f5 (f u) (P (u :: l)) (P l)) :
    ∀ l : List (Fin 8), l.Nodup → Runs 𝒱 th bd E arg3 arg4 arg5 arg6 arg7 arg8 arg9 arg10 f3 f4 f5 (seq (l.map f)) (P l) (P [])
  | [], _ => runs_nil 𝒱 th bd E arg3 arg4 arg5 arg6 arg7 arg8 arg9 arg10 f3 f4 f5 (P [])
  | u :: l, hl => runs_cons 𝒱 th bd E arg3 arg4 arg5 arg6 arg7 arg8 arg9 arg10 f3 f4 f5 (f u) (l.map f) _ _ _
      (h u l (List.nodup_cons.1 hl).1) (runs_each f P h l (List.nodup_cons.1 hl).2)

/-- A stage takes all sub-blocks from one chunk to the next. -/
theorem runs_stage {s s' : Fin 2} (hs : s ≠ s') {j j' : Fin 16} (hj : j'.val = j.val + 1)
    (ko : Fin 4 → Nat) (hko : ∀ a, ko a + S1x1x512x128.size a ≤ S1x1x8192x128.size a) (hk : ko = kOff j')
    (vo : Fin 5 → Nat) (hvo : ∀ a, vo a + S1x1x1x144x512.size a ≤ S1x1x16x144x512.size a) (hv : vo = vOff j) :
    Runs 𝒱 th bd E arg3 arg4 arg5 arg6 arg7 arg8 arg9 arg10 f3 f4 f5
      (seq (stageOps arg3 arg4 arg5 arg7 arg8 arg9 arg10 s s' ko hko vo hvo us))
      (Inv (qOf arg3 f3) (kOf arg4 f4) (vOf arg5 f5) s j) (Inv (qOf arg3 f3) (kOf arg4 f4) (vOf arg5 f5) s' j') := by
  subst hk hv
  have key : ∀ l : List (Fin 8), l.Nodup → Runs 𝒱 th bd E arg3 arg4 arg5 arg6 arg7 arg8 arg9 arg10 f3 f4 f5
      (seq (stageOps arg3 arg4 arg5 arg7 arg8 arg9 arg10 s s' (kOff j') hko (vOff j) hvo l))
      (Mid (qOf arg3 f3) (kOf arg4 f4) (vOf arg5 f5) s s' j j' l) (Mid (qOf arg3 f3) (kOf arg4 f4) (vOf arg5 f5) s s' j j' []) := by
    intro l
    induction l with
    | nil => exact fun _ => runs_nil 𝒱 th bd E arg3 arg4 arg5 arg6 arg7 arg8 arg9 arg10 f3 f4 f5 _
    | cons u l ih =>
      intro hl
      obtain ⟨h1, h2⟩ := List.nodup_cons.1 hl
      refine runs_cons 𝒱 th bd E arg3 arg4 arg5 arg6 arg7 arg8 arg9 arg10 f3 f4 f5 _ _ _
        (fun σ => Mid (qOf arg3 f3) (kOf arg4 f4) (vOf arg5 f5) s s' j j' l (softSt s u (vOf arg5 f5 j) σ)) _
        (runs_scores 𝒱 th bd E arg3 arg4 arg5 arg6 arg7 arg8 arg9 arg10 f3 f4 f5 s' u (kOff j') hko _ _
          fun σ h => mid_step (qOf arg3 f3) (kOf arg4 f4) (vOf arg5 f5) hs hj h1 h) ?_
      exact runs_cons 𝒱 th bd E arg3 arg4 arg5 arg6 arg7 arg8 arg9 arg10 f3 f4 f5 _ _ _ _ _
        (runs_soft 𝒱 th bd E arg3 arg4 arg5 arg6 arg7 arg8 arg9 arg10 f3 f4 f5 s u (vOff j) hvo _ _ fun σ h => h) (ih h2)
  have h := runs_mono 𝒱 th bd E arg3 arg4 arg5 arg6 arg7 arg8 arg9 arg10 f3 f4 f5 _ _ _
    (Inv (qOf arg3 f3) (kOf arg4 f4) (vOf arg5 f5) s' j') (fun σ h u => (h u).2 (by simp)) (key us (by decide))
  refine BIBase.Entails.trans ?_ h
  unfold At
  iintro ⟨H3, H4, H5, %σ, %hP, H⟩
  isplitl [H3]; · iexact H3
  isplitl [H4]; · iexact H4
  isplitl [H5]; · iexact H5
  iexists σ
  isplitr; · ipureintro; exact fun u => ⟨fun _ => hP u, fun h => absurd (by revert u; decide) h⟩
  iexact H

theorem off1_0 (t : Fin k0_t1_loop.trips) (h : 2 * t.val + 1 < 16) : k0_off1 t 0#32 = kOff ⟨2 * t.val + 1, h⟩ := by
  revert t; decide
theorem off1_1 (t : Fin k0_t1_loop.trips) (h : 2 * t.val + 2 < 16) : k0_off1 t 1#32 = kOff ⟨2 * t.val + 2, h⟩ := by
  revert t; decide
theorem off2_0 (t : Fin k0_t1_loop.trips) (h : 2 * t.val < 16) : k0_off2 t 0#32 = vOff ⟨2 * t.val, h⟩ := by
  revert t; decide
theorem off2_1 (t : Fin k0_t1_loop.trips) (h : 2 * t.val + 1 < 16) : k0_off2 t 1#32 = vOff ⟨2 * t.val + 1, h⟩ := by
  revert t; decide

/-- Some values of the buffers are some state. -/
theorem at_any (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) :
    iprop((arg3.view.loc (th : Thread nD τ) ↦[arg3.view.set]{fullShare} f3) ∗ (arg4.view.loc (th : Thread nD τ) ↦[arg4.view.set]{fullShare} f4)
      ∗ (arg5.view.loc (th : Thread nD τ) ↦[arg5.view.set]{fullShare} f5) ∗ (arg6.view.loc (th : Thread nD τ) ↦[arg6.view.set]{fullShare} f6)
      ∗ (arg7.view.loc (th : Thread nD τ) ↦[arg7.view.set]{fullShare} f7) ∗ (arg8.view.loc (th : Thread nD τ) ↦[arg8.view.set]{fullShare} f8)
      ∗ (arg9.view.loc (th : Thread nD τ) ↦[arg9.view.set]{fullShare} f9) ∗ (arg10.view.loc (th : Thread nD τ) ↦[arg10.view.set]{fullShare} f10))
    ⊢ (At th arg3 arg4 arg5 arg6 arg7 arg8 arg9 arg10 f3 f4 f5 (fun _ => True) : sProp 𝕄G) :=
  at_intro th arg3 arg4 arg5 arg6 arg7 arg8 arg9 arg10 f3 f4 f5 _ ⟨_, _, _, _, _⟩ trivial f6 f7 f8 f9 f10
    ⟨fun _ => rfl, fun _ => rfl, fun _ => rfl, fun _ _ => rfl, fun _ _ => rfl⟩

theorem runs_pre : Runs 𝒱 th bd E arg3 arg4 arg5 arg6 arg7 arg8 arg9 arg10 f3 f4 f5 (seq (preOps arg3 arg4 arg7 arg8 arg9 arg10))
    (fun _ => True) (Inv (qOf arg3 f3) (kOf arg4 f4) (vOf arg5 f5) 0 0) := by
  refine runs_mono 𝒱 th bd E arg3 arg4 arg5 arg6 arg7 arg8 arg9 arg10 f3 f4 f5 _ _ (Pre (qOf arg3 f3) (kOf arg4 f4) (vOf arg5 f5) []) _
    (fun σ h u => ⟨(h u).1, (h u).2 (by simp)⟩) ?_
  refine runs_cons 𝒱 th bd E arg3 arg4 arg5 arg6 arg7 arg8 arg9 arg10 f3 f4 f5 _ _ _ (Pre (qOf arg3 f3) (kOf arg4 f4) (vOf arg5 f5) us) _
    (runs_init 𝒱 th bd E arg3 arg4 arg5 arg6 arg7 arg8 arg9 arg10 f3 f4 f5 _ _ fun σ _ => pre_init _ _ _ σ) ?_
  exact runs_each 𝒱 th bd E arg3 arg4 arg5 arg6 arg7 arg8 arg9 arg10 f3 f4 f5 _ (Pre (qOf arg3 f3) (kOf arg4 f4) (vOf arg5 f5))
    (fun u l _ => runs_scores 𝒱 th bd E arg3 arg4 arg5 arg6 arg7 arg8 arg9 arg10 f3 f4 f5 0 u (kOff 0) (k_inb 0) _ _
      fun σ h => pre_step (qOf arg3 f3) (kOf arg4 f4) (vOf arg5 f5) h) us (by decide)

theorem runs_trip (t : Fin k0_t1_loop.trips) (h0 : 2 * t.val < 16) (h2 : 2 * t.val + 2 < 16) :
    Runs 𝒱 th bd E arg3 arg4 arg5 arg6 arg7 arg8 arg9 arg10 f3 f4 f5 (seq (tripOps arg3 arg4 arg5 arg7 arg8 arg9 arg10 t))
      (Inv (qOf arg3 f3) (kOf arg4 f4) (vOf arg5 f5) 0 ⟨2 * t.val, h0⟩)
      (Inv (qOf arg3 f3) (kOf arg4 f4) (vOf arg5 f5) 0 ⟨2 * t.val + 2, h2⟩) :=
  have h1 : 2 * t.val + 1 < 16 := by omega
  runs_append 𝒱 th bd E arg3 arg4 arg5 arg6 arg7 arg8 arg9 arg10 f3 f4 f5 _ _ _
    (Inv (qOf arg3 f3) (kOf arg4 f4) (vOf arg5 f5) 1 ⟨2 * t.val + 1, h1⟩) _
    (runs_stage 𝒱 th bd E arg3 arg4 arg5 arg6 arg7 arg8 arg9 arg10 f3 f4 f5 (by decide) rfl _ _ (off1_0 t h1) _ _ (off2_0 t h0))
    (runs_stage 𝒱 th bd E arg3 arg4 arg5 arg6 arg7 arg8 arg9 arg10 f3 f4 f5 (by decide) rfl _ _ (off1_1 t h2) _ _ (off2_1 t h1))

theorem runs_post : Runs 𝒱 th bd E arg3 arg4 arg5 arg6 arg7 arg8 arg9 arg10 f3 f4 f5 (seq (postOps arg3 arg4 arg5 arg6 harg6 arg7 arg8 arg9 arg10))
    (Inv (qOf arg3 f3) (kOf arg4 f4) (vOf arg5 f5) 0 14) (Done (qOf arg3 f3) (kOf arg4 f4) (vOf arg5 f5) []) := by
  refine runs_append 𝒱 th bd E arg3 arg4 arg5 arg6 arg7 arg8 arg9 arg10 f3 f4 f5 _ _ _ (Last (qOf arg3 f3) (kOf arg4 f4) (vOf arg5 f5) us) _
    (runs_mono 𝒱 th bd E arg3 arg4 arg5 arg6 arg7 arg8 arg9 arg10 f3 f4 f5 _ _ (Inv (qOf arg3 f3) (kOf arg4 f4) (vOf arg5 f5) 1 15) _
      (fun σ h u => ⟨fun _ => h u, fun hu => absurd (by revert u; decide) hu⟩)
      (runs_stage 𝒱 th bd E arg3 arg4 arg5 arg6 arg7 arg8 arg9 arg10 f3 f4 f5 (by decide) rfl _ _ rfl _ _ rfl)) ?_
  refine runs_append 𝒱 th bd E arg3 arg4 arg5 arg6 arg7 arg8 arg9 arg10 f3 f4 f5 _ _ _ (Done (qOf arg3 f3) (kOf arg4 f4) (vOf arg5 f5) us) _
    (runs_mono 𝒱 th bd E arg3 arg4 arg5 arg6 arg7 arg8 arg9 arg10 f3 f4 f5 _ _ (Last (qOf arg3 f3) (kOf arg4 f4) (vOf arg5 f5) []) _
      (fun σ h u => ⟨(h u).2 (by simp), fun hu => absurd (by revert u; decide) hu⟩)
      (runs_each 𝒱 th bd E arg3 arg4 arg5 arg6 arg7 arg8 arg9 arg10 f3 f4 f5 _ (Last (qOf arg3 f3) (kOf arg4 f4) (vOf arg5 f5))
        (fun u l hl => runs_soft 𝒱 th bd E arg3 arg4 arg5 arg6 arg7 arg8 arg9 arg10 f3 f4 f5 1 u (vOff 15) (v_inb 15) _ _
          fun σ h => last_step (qOf arg3 f3) (kOf arg4 f4) (vOf arg5 f5) hl h) us (by decide))) ?_
  exact runs_each 𝒱 th bd E arg3 arg4 arg5 arg6 arg7 arg8 arg9 arg10 f3 f4 f5 _ (Done (qOf arg3 f3) (kOf arg4 f4) (vOf arg5 f5))
    (fun u l _ => runs_out 𝒱 th bd E arg3 arg4 arg5 arg6 harg6 arg7 arg8 arg9 arg10 f3 f4 f5 u _ _
      fun σ h => done_step (qOf arg3 f3) (kOf arg4 f4) (vOf arg5 f5) h) us (by decide)

/-- The kernel leaves every sub-block of the result at its attention. -/
theorem runs_kernel (i : grid0.Coords) (harg3 : arg3.IsWhole) (harg4 : arg4.IsWhole) (harg5 : arg5.IsWhole) (harg7 : arg7.IsWhole)
    (harg8 : arg8.IsWhole) (harg9 : arg9.IsWhole) (harg10 : arg10.IsWhole) :
    Runs 𝒱 th bd E arg3 arg4 arg5 arg6 arg7 arg8 arg9 arg10 f3 f4 f5
      (cc0_attention (F := F) i arg3 harg3 arg4 harg4 arg5 harg5 arg6 harg6 arg7 harg7 arg8 harg8 arg9 harg9 arg10 harg10)
      (fun _ => True) (Done (qOf arg3 f3) (kOf arg4 f4) (vOf arg5 f5) []) := by
  rw [kernel_eq]
  have hpre := runs_pre 𝒱 th bd E arg3 arg4 arg5 arg6 arg7 arg8 arg9 arg10 f3 f4 f5
  have htrip := runs_trip 𝒱 th bd E arg3 arg4 arg5 arg6 arg7 arg8 arg9 arg10 f3 f4 f5
  have hpost := runs_post 𝒱 th bd E arg3 arg4 arg5 arg6 harg6 arg7 arg8 arg9 arg10 f3 f4 f5
  unfold Runs at *
  rw [wp_bind]
  refine BIBase.Entails.trans hpre (wp_mono _ _ _ fun _ => ?_)
  have hfor := Scf.wp_for_bind frame (wpE (defs₀ (F := F)) 𝒱 (th : Thread nD τ) bd) E k0_t1_loop.lb k0_t1_loop.ub k0_t1_loop.st k0_t1_ok ()
    (fun t _ => seq (tripOps arg3 arg4 arg5 arg7 arg8 arg9 arg10 t))
    (fun k _ => At th arg3 arg4 arg5 arg6 arg7 arg8 arg9 arg10 f3 f4 f5
      (Inv (qOf arg3 f3) (kOf arg4 f4) (vOf arg5 f5) 0 (Fin.ofNat 16 (2 * k)))) (fun t _ => by
        have ht : t.val < 7 := lt_of_lt_of_le t.isLt (by decide)
        have h := htrip t (by omega) (by omega)
        have e1 : Fin.ofNat 16 (2 * t.val) = ⟨2 * t.val, by omega⟩ := Fin.ext (Nat.mod_eq_of_lt (by omega))
        have e2 : Fin.ofNat 16 (2 * (t.val + 1)) = ⟨2 * t.val + 2, by omega⟩ := Fin.ext (Nat.mod_eq_of_lt (by omega))
        rw [e1, e2]
        exact h)
    (kk := fun _ => seq (postOps arg3 arg4 arg5 arg6 harg6 arg7 arg8 arg9 arg10))
    (Q := fun _ => At th arg3 arg4 arg5 arg6 arg7 arg8 arg9 arg10 f3 f4 f5 (Done (qOf arg3 f3) (kOf arg4 f4) (vOf arg5 f5) []))
  iintro H
  iapply hfor $$ H
  iintro %x H
  iapply hpost
  iexact H

end

end Cert.KernelIdeal.Body

end
-- ==== Proof.KFrame.lean ====
/- The attention kernel's pipeline: what every block of the result holds, and that the program runs with its
   arguments unchanged. -/
module

public import proofs.«01_k».proof.Proof.Run
public import proofs.«01_k».proof.Proof.Gen.KernelIdeal.Frame
public import Idealize.ShloMosaic.Lib.Pipeline.ValueKit
public import Idealize.ShloMosaic.Lib.Ring

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄G" => MT nD τ sig Unit (Elt F) ℕ (UR sig nD τ) ℕ

/-! ## A block of the result -/

/-- The query sub-block `u` of a block. -/
def qBlk (x : Vec F S1x4x2x128x512 .bf16) (u : Fin 8) : Vec F S1x1x1x128x512 .bf16 :=
  fun j => x ((Rect.unit (s := S1x4x2x128x512) (qOff u) S1x1x1x128x512.size (q_inb u)).emb j)

/-- The key chunk `j` of a block. -/
def kBlk (x : Vec F S1x1x8192x128 .bf16) (j : Fin 16) : Vec F S1x1x512x128 .bf16 :=
  fun i => x ((Rect.unit (s := S1x1x8192x128) (kOff j) S1x1x512x128.size (k_inb j)).emb i)

/-- The value chunk `j` of a block. -/
def vBlk (x : Vec F S1x1x16x144x512 .bf16) (j : Fin 16) : Vec F S1x1x1x144x512 .bf16 :=
  fun i => x ((Rect.unit (s := S1x1x16x144x512) (vOff j) S1x1x1x144x512.size (v_inb j)).emb i)

/-- The sub-block in which a place of a block lies. -/
def subOf (y : S1x4x2x128x512.Idx) : Fin 8 :=
  ⟨(y 1).val * 2 + (y 2).val, by
    have h1 : (y 1).val < 4 := (y 1).isLt
    have h2 : (y 2).val < 2 := (y 2).isLt
    omega⟩

/-- The block of the result from the blocks of queries, keys and values. -/
def blkOut (x0 : Vec F S1x4x2x128x512 .bf16) (x1 : Vec F S1x1x8192x128 .bf16) (x2 : Vec F S1x1x16x144x512 .bf16) :
    Vec F S1x4x2x128x512 .bf16 :=
  fun y => oAt (qBlk x0 (subOf y)) (kBlk x1) (vBlk x2) (ix5 0 0 0 (y 3) (y 4))

/-- Sub-block by sub-block, the block of the result. -/
theorem blk_of_subs (x0 : Vec F S1x4x2x128x512 .bf16) (x1 : Vec F S1x1x8192x128 .bf16) (x2 : Vec F S1x1x16x144x512 .bf16)
    (w : Vec F S1x4x2x128x512 .bf16) (h : ∀ u, qBlk w u = oAt (qBlk x0 u) (kBlk x1) (vBlk x2)) : w = blkOut x0 x1 x2 := by
  funext y
  refine Eq.trans (congrArg w ?_) (congrFun (h (subOf y)) (ix5 0 0 0 (y 3) (y 4)))
  funext a
  have h0 : (y 0).val < 1 := (y 0).isLt
  have h1 : (y 1).val < 4 := (y 1).isLt
  have h2 : (y 2).val < 2 := (y 2).isLt
  refine Fin.ext ?_
  match a with
  | ⟨0, _⟩ => show (y 0).val = 0 + 1 * 0; omega
  | ⟨1, _⟩ => show (y 1).val = ((y 1).val * 2 + (y 2).val) / 2 + 1 * 0; omega
  | ⟨2, _⟩ => show (y 2).val = ((y 1).val * 2 + (y 2).val) % 2 + 1 * 0; omega
  | ⟨3, _⟩ => show (y 3).val = 0 + 1 * (y 3).val; omega
  | ⟨4, _⟩ => show (y 4).val = 0 + 1 * (y 4).val; omega

/-! ## The kernel on whole buffers -/

theorem sound_kernel (c : Dev nD) (E : Set ℕ) (i : grid0.Coords) (arg3 : Memref sig .tc .vmem S1x4x2x128x512 .bf16) (harg3 : arg3.IsWhole) (arg4 : Memref sig .tc .vmem S1x1x8192x128 .bf16) (harg4 : arg4.IsWhole) (arg5 : Memref sig .tc .vmem S1x1x16x144x512 .bf16) (harg5 : arg5.IsWhole) (arg6 : Memref sig .tc .vmem S1x4x2x128x512 .bf16) (harg6 : arg6.IsWhole) (arg7 : Memref sig .tc .vmem S8x1x512 .f32) (harg7 : arg7.IsWhole) (arg8 : Memref sig .tc .vmem S8x144x512 .f32) (harg8 : arg8.IsWhole) (arg9 : Memref sig .tc .vmem S2x8x512x512 .f32) (harg9 : arg9.IsWhole) (arg10 : Memref sig .tc .vmem S2x8x1x512 .f32) (harg10 : arg10.IsWhole)
    (x0 : Vec F S1x4x2x128x512 .bf16) (x1 : Vec F S1x1x8192x128 .bf16) (x2 : Vec F S1x1x16x144x512 .bf16) (K : PUnit → sProp 𝕄G) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (blkOut x0 x1 x2) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E
          (cc0_attention (F := F) i arg3 harg3 arg4 harg4 arg5 harg5 arg6 harg6 arg7 harg7 arg8 harg8 arg9 harg9 arg10 harg10) K := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, Hk⟩
  subst h3 h4 h5
  have hrun := runs_kernel (F := F) Variants.none c none E arg3 arg4 arg5 arg6 harg6 arg7 arg8 arg9 arg10 f3 f4 f5 i harg3 harg4 harg5 harg7 harg8 harg9 harg10
  unfold Runs at hrun
  iapply (wp_wand_r _ _ _)
  isplitl [H3 H4 H5 H6 H7 H8 H9 H10]
  · iapply hrun
    iapply (at_any c arg3 arg4 arg5 arg6 arg7 arg8 arg9 arg10 f3 f4 f5 f6 f7 f8 f9 f10)
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %z H
  unfold At
  icases H with ⟨H3, H4, H5, %σ, %hP, %g6, %g7, %g8, %g9, %g10, %hσ, H6, H7, H8, H9, H10⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists g6; isplitr
    · ipureintro
      exact blk_of_subs _ _ _ _ fun u => (hσ.o u).trans ((hP u).2 (by simp))
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

/-! ## The pipeline -/

variable (m : (ℓ : Loc nD τ sig) → Buf (Elt F) ℓ) (ρ : Dev nD → PrngReg)

/-- What every buffer holds after the kernel at a point of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkOut (iblk m c 0 t) (iblk m c 1 t) (iblk m c 2 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

abbrev ms0_0 (t : Fin cfg0.N) : Memref sig .tc .vmem S1x4x2x128x512 .bf16 := win0_0.stage (cfg0.slots t 0)
abbrev ms0_1 (t : Fin cfg0.N) : Memref sig .tc .vmem S1x1x8192x128 .bf16 := win0_1.stage (cfg0.slots t 1)
abbrev ms0_2 (t : Fin cfg0.N) : Memref sig .tc .vmem S1x1x16x144x512 .bf16 := win0_2.stage (cfg0.slots t 2)
abbrev ms0_3 (t : Fin cfg0.N) : Memref sig .tc .vmem S1x4x2x128x512 .bf16 := win0_3.stage (cfg0.slots t 3)
abbrev sc0 : Memref sig .tc .vmem S8x1x512 .f32 := Memref.whole cc0_scratch0
abbrev sc1 : Memref sig .tc .vmem S8x144x512 .f32 := Memref.whole cc0_scratch1
abbrev sc2 : Memref sig .tc .vmem S2x8x512x512 .f32 := Memref.whole cc0_scratch2
abbrev sc3 : Memref sig .tc .vmem S2x8x1x512 .f32 := Memref.whole cc0_scratch3

/-- Between points the kernel keeps its own four buffers and the generator's register. -/
theorem phi_eq (c : Dev nD) : (Pipeline.ΦA spec0 c : sProp 𝕄G)
    = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, phi_eq]
  iintro ⟨⟨⟨S0, S1, S2, S3⟩, Hg⟩, Ho, ⟨%d0, H0⟩, ⟨%d1, H1⟩, ⟨%d2, H2⟩, ⟨%d3, H3⟩⟩
  iapply (sound_kernel c Set.univ (grid0.coords t) _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs; at the end every array is what the pipeline's blocks make it, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its arguments as they were, with every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Host.lean ====
/- What the host hands to the attention kernel: the scaled and rearranged queries, the keys by head, and the values
   with their row of ones, read at an index over the extended reals. -/
module

public import proofs.«01_k».proof.Proof.KFrame
public import Idealize.ShloMosaic.Lib.Claim
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-- The queries, keys and values the program is given. -/
abbrev argQ : FVec Ideal S4x8192x8x128 .f32 := m ((c.tc : Thread nD τ).loc main_arg0)
abbrev argK : FVec Ideal S4x8192x2x128 .f32 := m ((c.tc : Thread nD τ).loc main_arg1)
abbrev argV : FVec Ideal S4x8192x2x128 .f32 := m ((c.tc : Thread nD τ).loc main_arg2)

/-- The arrays the kernel reads. -/
abbrev arrQ : FVec Ideal S4x8x16x128x512 .bf16 := V m c main_v7
abbrev arrK : FVec Ideal S4x2x8192x128 .bf16 := V m c main_v9
abbrev arrV : FVec Ideal S4x2x16x144x512 .bf16 := V m c main_v15

/-- The queries' scale. -/
def scaleI : EReal := Ideal.div (Ideal.rsqrt (Ideal.ofBits .f32 0x43000000#32)) (Ideal.log (Ideal.ofBits .f32 0x40000000#32))

theorem arrQ_apply (b : Fin 4) (h : Fin 8) (n : Fin 16) (d : Fin 128) (i : Fin 512) :
    arrQ m c (ix5 b h n d i) = argQ m c (ix4 b ⟨n.val * 512 + i.val, by omega⟩ h d) * scaleI := by
  unfold arrQ
  entry_read
  pointwise [scaleI]

theorem arrK_apply (b : Fin 4) (g : Fin 2) (t : Fin 8192) (d : Fin 128) :
    arrK m c (ix4 b g t d) = argK m c (ix4 b t g d) := by
  unfold arrK
  entry_read
  pointwise

/-- The three arrays the values are put together from. -/
abbrev arrV0 : FVec Ideal S4x2x16x128x512 .bf16 := V m c main_v12
abbrev arrV1 : FVec Ideal S4x2x16x1x512 .bf16 := V m c main_v13
abbrev arrV2 : FVec Ideal S4x2x16x15x512 .bf16 := V m c main_v14

theorem arrV_cat : arrV m c = concatenate S4x2x16x144x512 3 [⟨S4x2x16x128x512, arrV0 m c⟩, ⟨S4x2x16x1x512, arrV1 m c⟩, ⟨S4x2x16x15x512, arrV2 m c⟩]
    concatenates_S4x2x16x128x512_S4x2x16x1x512_S4x2x16x15x512_S4x2x16x144x512_d3 := rfl

theorem arrV0_apply (b : Fin 4) (g : Fin 2) (n : Fin 16) (e : Fin 128) (i : Fin 512) :
    arrV0 m c (ix5 b g n e i) = argV m c (ix4 b ⟨n.val * 512 + i.val, by omega⟩ g e) := by
  unfold arrV0
  entry_read
  pointwise

theorem arrV1_apply (b : Fin 4) (g : Fin 2) (n : Fin 16) (i : Fin 512) : arrV1 m c (ix5 b g n 0 i) = (1 : EReal) := by
  unfold arrV1
  entry_read
  pointwise

theorem arrV_apply (b : Fin 4) (g : Fin 2) (n : Fin 16) (e : Fin 128) (i : Fin 512) :
    arrV m c (ix5 b g n ⟨e.val, by omega⟩ i) = argV m c (ix4 b ⟨n.val * 512 + i.val, by omega⟩ g e) := by
  rw [arrV_cat, ← arrV0_apply]
  generalize arrV0 m c = x
  generalize arrV1 m c = y
  generalize arrV2 m c = z
  pointwise

theorem arrV_one (b : Fin 4) (g : Fin 2) (n : Fin 16) (i : Fin 512) : arrV m c (ix5 b g n 128 i) = (1 : EReal) := by
  rw [arrV_cat, ← arrV1_apply m c b g n i]
  generalize arrV0 m c = x
  generalize arrV1 m c = y
  generalize arrV2 m c = z
  pointwise

end Cert.KernelIdeal.Body

end
-- ==== Proof.Math.lean ====
/- Attention over the extended reals, for one query and one column of the values: the softmax-weighted sum, and
   that the online computation, chunk by chunk with a running maximum and powers of two, is that sum. -/
module

public import Idealize.ShloMosaic.PureOps.Ideal
public import Idealize.ShloMosaic.PureOps.Ideal.Laws
public import Mathlib.Data.EReal.Operations
public import Mathlib.Analysis.SpecialFunctions.Log.Basic

@[expose] public section

noncomputable section

namespace Cert.Math

open Idealize.ShloMosaic
open scoped BigOperators

/-! ## Sums of extended reals scaled by a nonnegative real -/

/-- A nonnegative real distributes over a sum of extended reals. -/
theorem mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- A sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, ← ih, EReal.coe_add]

/-- The quotient by a real that is not zero. -/
theorem div_real (x : EReal) {y : ℝ} (hy : y ≠ 0) : Ideal.div x y = x * ((y⁻¹ : ℝ) : EReal) := by
  unfold Ideal.div
  rw [if_neg (by exact_mod_cast hy), EReal.coe_inv]

/-- Rescaling and dividing real parts. -/
theorem div_real_real (x : ℝ) {y : ℝ} (hy : y ≠ 0) : Ideal.div (x : EReal) y = ((x / y : ℝ) : EReal) := by
  rw [div_real _ hy, ← EReal.coe_mul, div_eq_mul_inv]

/-! ## Maxima of reals -/

theorem max_real (r r' : ℝ) : max (r : EReal) r' = ((max r r' : ℝ) : EReal) :=
  (EReal.coe_strictMono.monotone.map_max).symm

/-- The maximum of finitely many reals and minus infinity, over at least one real, is a real. -/
theorem fold_max_real {ι : Type*} (s : Finset ι) (hs : s.Nonempty) (f : ι → EReal) (hf : ∀ i ∈ s, ∃ r : ℝ, f i = r) :
    ∃ r : ℝ, s.fold max ⊥ f = r := by
  classical
  induction hs using Finset.Nonempty.cons_induction with
  | singleton a =>
    obtain ⟨r, hr⟩ := hf a (by simp)
    exact ⟨r, by simp [hr]⟩
  | cons a s ha hs ih =>
    obtain ⟨r, hr⟩ := hf a (by simp)
    obtain ⟨r', hr'⟩ := ih fun i hi => hf i (by simp [hi])
    refine ⟨max r r', ?_⟩
    rw [Finset.fold_cons, hr, hr', max_real]

/-! ## The softmax-weighted sum -/

/-- The attention of one query with scores `x` over values `v`: each value weighted by its share of the exponentials. -/
def attn {ι : Type*} [Fintype ι] (x : ι → ℝ) (v : ι → EReal) : EReal :=
  ∑ t, ((Real.exp (x t) / ∑ u, Real.exp (x u) : ℝ) : EReal) * v t

/-- The exponentials of finitely many reals, at least one, sum to a positive real. -/
theorem sum_exp_pos {ι : Type*} [Fintype ι] [Nonempty ι] (x : ι → ℝ) : 0 < ∑ u, Real.exp (x u) :=
  Finset.sum_pos (fun u _ => Real.exp_pos _) Finset.univ_nonempty

/-- The softmax's weights do not change when every score is moved by the same amount. -/
theorem weight_shift {ι : Type*} [Fintype ι] [Nonempty ι] (x : ι → ℝ) (M : ℝ) (t : ι) :
    Real.exp (x t - M) / ∑ u, Real.exp (x u - M) = Real.exp (x t) / ∑ u, Real.exp (x u) := by
  simp only [Real.exp_sub]
  rw [← Finset.sum_div]
  have h := (sum_exp_pos x).ne'
  have h' := (Real.exp_pos M).ne'
  field_simp

/-- The softmax as the reference computes it: the largest score subtracted, the exponentials divided by their sum. -/
theorem attn_of_softmax {ι : Type*} [Fintype ι] [Nonempty ι] (x : ι → ℝ) (v : ι → EReal) (M : ℝ) :
    ∑ t, Ideal.div (Ideal.exp ((x t : EReal) - M)) (∑ u, Ideal.exp ((x u : EReal) - M)) * v t = attn x v := by
  unfold attn
  refine Finset.sum_congr rfl fun t _ => congrArg (· * v t) ?_
  have e : ∀ u, Ideal.exp ((x u : EReal) - M) = ((Real.exp (x u - M) : ℝ) : EReal) := fun u => by
    rw [← EReal.coe_sub]; rfl
  simp only [e]
  rw [← coe_sum, div_real_real _ (sum_exp_pos fun u => x u - M).ne', weight_shift]

/-! ## The online computation -/

section
variable {J I : ℕ} [NeZero J] [NeZero I] (s : Fin J → Fin I → ℝ) (c : Fin J → EReal) (v : Fin J → Fin I → EReal)

/-- The running maximum after `j` chunks. -/
def mx : ℕ → EReal
  | 0 => ⊥
  | j + 1 => max (mx j) (c (Fin.ofNat J j))

/-- The accumulator after `j` chunks. -/
def acc : ℕ → EReal
  | 0 => 0
  | j + 1 => Ideal.exp2 (mx c j - mx c (j + 1)) * acc j
      + ∑ i, v (Fin.ofNat J j) i * Ideal.exp2 ((s (Fin.ofNat J j) i : EReal) - mx c (j + 1))

/-- A power of two with a real exponent. -/
theorem exp2_real (r : ℝ) : Ideal.exp2 (r : EReal) = ((Real.exp (r * Real.log 2) : ℝ) : EReal) := by
  show ((Real.rpow 2 r : ℝ) : EReal) = _
  rw [show Real.rpow 2 r = (2 : ℝ) ^ r from rfl, Real.rpow_def_of_pos two_pos, mul_comm]

theorem exp2_sub (r r' : ℝ) : Ideal.exp2 ((r : EReal) - r') = ((Real.exp ((r - r') * Real.log 2) : ℝ) : EReal) := by
  rw [← EReal.coe_sub, exp2_real]

variable (hc : ∀ j, ∃ r : ℝ, c j = r)
include hc

/-- After the first chunk the running maximum is a real. -/
theorem mx_real (j : ℕ) : ∃ r : ℝ, mx c (j + 1) = r := by
  induction j with
  | zero =>
    obtain ⟨r, hr⟩ := hc (Fin.ofNat J 0)
    exact ⟨r, by rw [mx, mx, hr, max_eq_right bot_le]⟩
  | succ j ih =>
    obtain ⟨r, hr⟩ := hc (Fin.ofNat J (j + 1))
    obtain ⟨r', hr'⟩ := ih
    exact ⟨max r' r, by rw [mx, hr, hr', max_real]⟩

/-- The accumulator after `j` chunks is the sum of the values seen so far, weighted relative to the running maximum. -/
theorem acc_eq (j : ℕ) : acc s c v j = ∑ k ∈ Finset.range j, ∑ i, Ideal.exp2 ((s (Fin.ofNat J k) i : EReal) - mx c j) * v (Fin.ofNat J k) i := by
  induction j with
  | zero => simp [acc]
  | succ j ih =>
    obtain ⟨M', hM'⟩ := mx_real c hc j
    rw [acc, Finset.sum_range_succ]
    congr 1
    · match j, ih, hM' with
      | 0, _, _ => simp [acc]
      | j + 1, ih, hM' =>
        obtain ⟨M, hM⟩ := mx_real c hc j
        rw [ih, hM, hM', exp2_sub, mul_sum _ _ (Real.exp_pos _).le]
        refine Finset.sum_congr rfl fun k _ => ?_
        rw [mul_sum _ _ (Real.exp_pos _).le]
        refine Finset.sum_congr rfl fun i _ => ?_
        rw [exp2_sub, exp2_sub, ← mul_assoc, ← EReal.coe_mul, ← Real.exp_add]
        congr 4
        ring
    · exact Finset.sum_congr rfl fun i _ => mul_comm _ _

/-- The accumulator after all chunks. -/
theorem acc_all {M : ℝ} (hM : mx c J = M) :
    acc s c v J = ∑ p : Fin J × Fin I, ((Real.exp ((s p.1 p.2 - M) * Real.log 2) : ℝ) : EReal) * v p.1 p.2 := by
  rw [acc_eq s c v hc, Fintype.sum_prod_type, ← Fin.sum_univ_eq_sum_range (fun k => ∑ i, Ideal.exp2 ((s (Fin.ofNat J k) i : EReal) - mx c J) * v (Fin.ofNat J k) i)]
  refine Finset.sum_congr rfl fun k _ => ?_
  rw [Fin.ofNat_val_eq_self]
  refine Finset.sum_congr rfl fun i _ => ?_
  rw [hM, exp2_sub]

/-- The online computation, divided by its own sum of weights, is the attention: `x` are the scores on the natural scale. -/
theorem online (x : Fin J × Fin I → ℝ) (hs : ∀ j i, s j i = x (j, i) / Real.log 2) :
    Ideal.div (acc s c v J) (acc s c (fun _ _ => 1) J) = attn x fun p => v p.1 p.2 := by
  obtain ⟨j, rfl⟩ : ∃ j, J = j + 1 := ⟨J - 1, by have := NeZero.pos J; omega⟩
  obtain ⟨M, hM⟩ := mx_real c hc j
  have hl : Real.log 2 ≠ 0 := (Real.log_pos one_lt_two).ne'
  have e : ∀ p : Fin (j + 1) × Fin I, Real.exp ((s p.1 p.2 - M) * Real.log 2) = Real.exp (x p - M * Real.log 2) := fun p => by
    rw [hs, sub_mul, div_mul_cancel₀ _ hl]
  have h0 := sum_exp_pos fun p => x p - M * Real.log 2
  rw [acc_all s c v hc hM, acc_all s c _ hc hM]
  simp only [e, mul_one]
  rw [← coe_sum, div_real _ h0.ne', mul_comm, mul_sum _ _ (inv_nonneg.2 h0.le)]
  unfold attn
  refine Finset.sum_congr rfl fun p _ => ?_
  rw [← mul_assoc, ← EReal.coe_mul, ← weight_shift x (M * Real.log 2) p, div_eq_inv_mul]

end

/-! ## Keys by chunk and place -/

/-- The attention over keys numbered in one sequence, chunk by chunk. -/
theorem attn_chunks {J I : ℕ} (x : Fin (J * I) → ℝ) (v : Fin (J * I) → EReal) :
    attn (fun p : Fin J × Fin I => x (finProdFinEquiv p)) (fun p => v (finProdFinEquiv p)) = attn x v := by
  unfold attn
  rw [Equiv.sum_comp finProdFinEquiv fun u => Real.exp (x u)]
  exact Equiv.sum_comp finProdFinEquiv fun t => ((Real.exp (x t) / ∑ u, Real.exp (x u) : ℝ) : EReal) * v t

/-! ## Scores -/

/-- A real scaled score: the scaling of the queries before the product, and on the powers-of-two scale, is the scaling after it. -/
theorem score {D : ℕ} (k q : Fin D → ℝ) (a b : ℝ) :
    ∑ d, (k d : EReal) * ((q d : EReal) * ((a / b : ℝ) : EReal)) = (((∑ d, k d * q d) * a / b : ℝ) : EReal) := by
  simp only [← EReal.coe_mul]
  rw [← coe_sum]
  congr 1
  rw [Finset.sum_mul, Finset.sum_div]
  exact Finset.sum_congr rfl fun d _ => by ring

theorem score_ref {D : ℕ} (k q : Fin D → ℝ) (a : ℝ) :
    (∑ d, (k d : EReal) * (q d : EReal)) * (a : EReal) = (((∑ d, k d * q d) * a : ℝ) : EReal) := by
  simp only [← EReal.coe_mul]
  rw [← coe_sum, ← EReal.coe_mul]

end Cert.Math

end
-- ==== Proof.Point.lean ====
/- The closed forms of the attention kernel read over the extended reals, at one column of queries. -/
module

public import proofs.«01_k».proof.Proof.Run
public import proofs.«01_k».proof.Proof.Math
public import Idealize.ShloMosaic.Lib.Pointwise

@[expose] public section

set_option maxRecDepth 16384

noncomputable section

namespace Cert.KernelIdeal.Body

open Idealize.ShloMosaic Idealize.ShloMosaic.TcCoe
open Cert.KernelIdeal Cert.KernelIdeal.Gen
open scoped BigOperators

/-- The pattern of minus infinity. -/
theorem neg_inf : Ideal.ofBits .f32 0xFF800000#32 = ⊥ := by
  simp [Ideal.ofBits, Ideal.ieee]

section
variable (q : Vec Ideal S1x1x1x128x512 .bf16) (K : Fin 16 → Vec Ideal S1x1x512x128 .bf16) (V : Fin 16 → Vec Ideal S1x1x1x144x512 .bf16)

/-- A score is the product of a key and a query. -/
theorem sAt_apply (j : Fin 16) (i col : Fin 512) :
    sAt q K j (ix4 0 0 i col) = ∑ d : Fin 128, (K j (ix4 0 0 i d) : EReal) * q (ix5 0 0 0 d col) := by
  pointwise [sAt, scoreV]

/-- The chunk's largest score. -/
theorem cAt_apply (j : Fin 16) (col : Fin 512) :
    cAt q K j (ix4 0 0 0 col) = Finset.univ.fold max ⊥ fun i : Fin 512 => (sAt q K j (ix4 0 0 i col) : EReal) := by
  pointwise [sAt, cAt, cmaxV, neg_inf]

/-- The running maximum. -/
theorem mAt_apply (col : Fin 512) (n : ℕ) :
    mAt q K n (ix3 0 0 col) = Math.mx (fun j => cAt q K j (ix4 0 0 0 col)) n := by
  induction n with
  | zero => exact neg_inf
  | succ n ih =>
    rw [Math.mx, ← ih]
    pointwise [mAt, mNew]

/-- The accumulator. -/
theorem aAt_apply (col : Fin 512) (r : Fin 144) (s : Fin 16 → Fin 512 → ℝ) (hs : ∀ j i, sAt q K j (ix4 0 0 i col) = ((s j i : ℝ) : EReal)) (n : ℕ) :
    aAt q K V n (ix3 0 r col) = Math.acc s (fun j => cAt q K j (ix4 0 0 0 col)) (fun j i => V j (ix5 0 0 0 r i)) n := by
  induction n with
  | zero => pointwise [aAt, Math.acc]
  | succ n ih =>
    rw [Math.acc, ← ih, ← mAt_apply, ← mAt_apply]
    simp only [← hs]
    pointwise [aAt, aNew, mNew, mAt]
    rfl

/-- The block of the result. -/
theorem oAt_apply (col : Fin 512) (e : Fin 128) :
    oAt q K V (ix5 0 0 0 e col) = Ideal.div (aAt q K V 16 (ix3 0 ⟨e.val, by omega⟩ col)) (aAt q K V 16 (ix3 0 128 col)) := by
  pointwise [oAt, outV, nOf, lOf]
  refine congrArg₂ Ideal.div (congrArg _ ?_) (congrArg _ ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => exact Fin.ext (Nat.zero_add _)

/-- The place `i` of the chunk `j` among all keys. -/
def keyOf (j : Fin 16) (i : Fin 512) : Fin 8192 := ⟨j.val * 512 + i.val, by omega⟩

/-- With real scores, and ones in the accumulator's denominator row, a block of the result is the attention. -/
theorem oAt_attn (col : Fin 512) (e : Fin 128) (x : Fin 8192 → ℝ) (v : Fin 8192 → EReal)
    (hs : ∀ j i, ∑ d : Fin 128, (K j (ix4 0 0 i d) : EReal) * q (ix5 0 0 0 d col) = ((x (keyOf j i) / Real.log 2 : ℝ) : EReal))
    (hone : ∀ j i, V j (ix5 0 0 0 128 i) = (1 : EReal)) (hv : ∀ j i, V j (ix5 0 0 0 ⟨e.val, by omega⟩ i) = v (keyOf j i)) :
    oAt q K V (ix5 0 0 0 e col) = Math.attn x v := by
  have hs' : ∀ j i, sAt q K j (ix4 0 0 i col) = (((fun j i => x (keyOf j i) / Real.log 2) j i : ℝ) : EReal) := fun j i =>
    (sAt_apply q K j i col).trans (hs j i)
  have hc : ∀ j, ∃ r : ℝ, cAt q K j (ix4 0 0 0 col) = (r : EReal) := fun j => by
    rw [cAt_apply]
    exact Math.fold_max_real _ Finset.univ_nonempty _ fun i _ => ⟨_, hs' j i⟩
  have hk : ∀ p : Fin 16 × Fin 512, keyOf p.1 p.2 = (finProdFinEquiv p : Fin (16 * 512)) := fun p =>
    Fin.ext (by show p.1.val * 512 + p.2.val = p.2.val + 512 * p.1.val; omega)
  rw [oAt_apply, aAt_apply q K V col _ _ hs', aAt_apply q K V col _ _ hs']
  simp only [hone, hv]
  rw [Math.online _ _ _ hc (fun p => x (keyOf p.1 p.2)) fun _ _ => rfl]
  simp only [hk]
  exact Math.attn_chunks (J := 16) (I := 512) x v

end

end Cert.KernelIdeal.Body

end
-- ==== Proof.Value.lean ====
/- The attention kernel's result array read over the extended reals: with real queries and keys it is, at every place,
   the softmax-weighted sum of the values. -/
module

public import proofs.«01_k».proof.Proof.Host
public import proofs.«01_k».proof.Proof.Point
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-- The blocks the windows show at a point of the grid. -/
theorem idx : ∀ t : Fin cfg0.N, win0_0.index t = ![t.val / 16, t.val / 8 % 2, t.val % 8, 0, 0] ∧ win0_1.index t = ![t.val / 16, t.val / 8 % 2, 0, 0]
    ∧ win0_2.index t = ![t.val / 16, t.val / 8 % 2, 0, 0, 0] ∧ win0_3.index t = ![t.val / 16, t.val / 8 % 2, t.val % 8, 0, 0] ∧ t.val < 64 :=
  (by decide +kernel : ∀ t : Fin grid0.N, _)

theorem lt_N (t : Fin cfg0.N) : t.val < 64 := (idx t).2.2.2.2

/-- A block of queries, of keys, of values, read in the arrays they come from. -/
theorem qBlk_read (t : Fin cfg0.N) (u : Fin 8) (d : Fin 128) (i : Fin 512) :
    (qBlk (iblk m c 0 t) u (ix5 0 0 0 d i) : EReal)
      = arrQ m c (ix5 ⟨t.val / 16, by have := lt_N t; omega⟩ ⟨t.val / 8 % 2 * 4 + u.val / 2, by omega⟩ ⟨t.val % 8 * 2 + u.val % 2, by omega⟩ d i) := by
  unfold qBlk arrQ
  blk_ext [iblk, idx t, qOff]

theorem kBlk_read (t : Fin cfg0.N) (j : Fin 16) (i : Fin 512) (d : Fin 128) :
    (kBlk (iblk m c 1 t) j (ix4 0 0 i d) : EReal)
      = arrK m c (ix4 ⟨t.val / 16, by have := lt_N t; omega⟩ ⟨t.val / 8 % 2, by omega⟩ ⟨j.val * 512 + i.val, by omega⟩ d) := by
  unfold kBlk arrK
  blk_ext [iblk, idx t, kOff]

theorem vBlk_read (t : Fin cfg0.N) (j : Fin 16) (e : Fin 144) (i : Fin 512) :
    (vBlk (iblk m c 2 t) j (ix5 0 0 0 e i) : EReal)
      = arrV m c (ix5 ⟨t.val / 16, by have := lt_N t; omega⟩ ⟨t.val / 8 % 2, by omega⟩ j e i) := by
  unfold vBlk arrV
  blk_ext [iblk, idx t, vOff]

/-- The queries' scale is a real number. -/
theorem scaleI_real : scaleI = (((√128)⁻¹ / Real.log 2 : ℝ) : EReal) := by
  have e : Ideal.ofBits .f32 0x43000000#32 = ((128 : ℝ) : EReal) := by
    simp [Ideal.ofBits, Ideal.ieee]
    rw [← EReal.coe_mul]; norm_num
  have e' : Ideal.ofBits .f32 0x40000000#32 = ((2 : ℝ) : EReal) := by
    simp [Ideal.ofBits, Ideal.ieee]
    rw [← EReal.coe_mul]; norm_num
  have hl : Real.log 2 ≠ 0 := (Real.log_pos (by norm_num)).ne'
  unfold scaleI
  rw [e, e', Ideal.rsqrt_coe, if_neg (by norm_num), if_neg (by norm_num), Ideal.log_coe, if_neg (by norm_num)]
  exact Math.div_real_real _ hl

/-- The result over real queries `qr` and keys `kr` and any values. -/
def outAt (qr : S4x8192x8x128.Idx → ℝ) (kr : S4x8192x2x128.Idx → ℝ) (v : FVec Ideal S4x8192x2x128 .f32) (b : Fin 4) (h : Fin 8) (n : Fin 16)
    (e : Fin 128) (i : Fin 512) : EReal :=
  Math.attn (fun t : Fin 8192 => (∑ d : Fin 128, kr (ix4 b t ⟨h.val / 4, by omega⟩ d) * qr (ix4 b ⟨n.val * 512 + i.val, by omega⟩ h d)) * (√128)⁻¹)
    (fun t => v (ix4 b t ⟨h.val / 4, by omega⟩ e))

/-- One place of one block of the result. -/
theorem point (qr : S4x8192x8x128.Idx → ℝ) (kr : S4x8192x2x128.Idx → ℝ) (hq : ∀ i, (argQ m c i : EReal) = qr i) (hk : ∀ i, (argK m c i : EReal) = kr i)
    (t : Fin cfg0.N) (u : Fin 8) (e : Fin 128) (i : Fin 512) :
    (oAt (qBlk (iblk m c 0 t) u) (kBlk (iblk m c 1 t)) (vBlk (iblk m c 2 t)) (ix5 0 0 0 e i) : EReal)
      = outAt qr kr (argV m c) ⟨t.val / 16, by have := lt_N t; omega⟩ ⟨t.val / 8 % 2 * 4 + u.val / 2, by omega⟩ ⟨t.val % 8 * 2 + u.val % 2, by omega⟩ e i := by
  have hg : (⟨(t.val / 8 % 2 * 4 + u.val / 2) / 4, by omega⟩ : Fin 2) = ⟨t.val / 8 % 2, by omega⟩ := Fin.ext (by simp only []; omega)
  refine oAt_attn _ _ _ i e _ _ (fun j i' => ?_) (fun j i' => ?_) (fun j i' => ?_)
  · refine (Finset.sum_congr rfl fun d _ => (congrArg₂ (· * ·) ((kBlk_read m c t j i' d).trans ((arrK_apply m c _ _ _ _).trans (hk _)))
      ((qBlk_read m c t u d i).trans ((arrQ_apply m c _ _ _ _ _).trans (congrArg₂ (· * ·) (hq _) scaleI_real))))).trans ?_
    refine (Math.score _ _ _ _).trans ?_
    rw [hg]
    rfl
  · exact (vBlk_read m c t j 128 i').trans (arrV_one m c _ _ _ _)
  · refine (vBlk_read m c t j _ i').trans ((arrV_apply m c _ _ _ e _).trans ?_)
    rw [hg]
    rfl

/-- The result array after the run. -/
theorem final (qr : S4x8192x8x128.Idx → ℝ) (kr : S4x8192x2x128.Idx → ℝ) (hq : ∀ i, (argQ m c i : EReal) = qr i) (hk : ∀ i, (argK m c i : EReal) = kr i) :
    (dats m 0 c).arrAt 3 (cfgs 0).N = fun y : S4x8x16x128x512.Idx => outAt qr kr (argV m c) (y 0) (y 1) (y 2) (y 3) (y 4) := by
  refine (dats m 0 c).arrAt_eq_of_covers 3 _ (by decide +kernel) fun t _ y => ?_
  blk_simp [idx t]
  rw [after0_3]
  unfold blkOut
  refine (point m c qr kr hq hk t _ _ _).trans ?_
  have h1 : (y 1).val < 4 := (y 1).isLt
  have h2 : (y 2).val < 2 := (y 2).isLt
  have h0 : (y 0).val < 1 := (y 0).isLt
  have hs : (subOf y).val = (y 1).val * 2 + (y 2).val := rfl
  congr 1 <;> refine Fin.ext ?_ <;> blk_simp [idx t, hs] <;> (try dsimp only) <;> omega

end Cert.KernelIdeal.Body

end
-- ==== Proof.RefValue.lean ====
/- The plain attention's result read over the extended reals: with real queries and keys it is the softmax-weighted
   sum of the values. -/
module

public import proofs.«01_k».proof.Proof.Gen.ReferenceIdeal.Read
public import proofs.«01_k».proof.Proof.Math
public import Idealize.ShloMosaic.Lib.Pointwise

@[expose] public section

set_option maxRecDepth 16384

noncomputable section

namespace Cert.ReferenceIdeal.Body

open Idealize.ShloMosaic Idealize.ShloMosaic.TcCoe
open Cert.ReferenceIdeal Cert.ReferenceIdeal.Gen Cert.ReferenceIdeal.Read
open scoped BigOperators

/-- The pattern of minus infinity. -/
theorem neg_inf : Ideal.ofBits .f32 0xFF800000#32 = ⊥ := by
  simp [Ideal.ofBits, Ideal.ieee]

/-- The host's maximum along the last of five axes, from minus infinity, is real where every entry is. -/
theorem hostMax_real {n0 n1 n2 n3 n4 : Nat} {t u : Shape} (h : (⟨5, ![n0, n1, n2, n3, n4]⟩ : Shape).ReducesTo [4] t) (hu : 0 < u.numel)
    (z : FVec Ideal ⟨5, ![n0, n1, n2, n3, n4]⟩ .f32) (c : FVec Ideal u .f32) (hc : ∀ i, c i = (⊥ : EReal)) (hn : 0 < n4)
    (hz : ∀ i, ∃ r : ℝ, z i = (r : EReal)) (j : t.Idx) : ∃ r : ℝ, Host.reduce (FloatOps.maximumf (F := Ideal) (φ := .f32)) z c h hu j = (r : EReal) := by
  rw [Host.reduce_eq_fold, h.fold_fiber_r5_a4, hc]
  exact Math.fold_max_real _ ⟨⟨0, hn⟩, Finset.mem_univ _⟩ _ fun k _ => hz _

variable (X : FVec Ideal S4x8192x8x128 .f32) (K V : FVec Ideal S4x8192x2x128 .f32)

/-- The scores. -/
theorem v5_apply (b : Fin 4) (g : Fin 2) (r : Fin 4) (s t : Fin 8192) :
    (val_main_v5 (F := Ideal) X K (ix5 b g r s t) : EReal) = (∑ d : Fin 128, K (ix4 b t g d) * X (ix4 b s ⟨g.val * 4 + r.val, by omega⟩ d)) * Ideal.rsqrt (Ideal.ofBits .f32 0x43000000#32) := by
  pointwise [val_main_v5, val_main_v4, val_main_v3, val_main_cst, val_main_v2, val_main_v1, val_main_v0]

/-- Their maximum over the keys, where they are real. -/
theorem v8_real (hz : ∀ i, ∃ r : ℝ, (val_main_v5 (F := Ideal) X K i : EReal) = r) (j : S4x2x4x8192.Idx) :
    ∃ r : ℝ, (val_main_v8 (F := Ideal) X K j : EReal) = r := by
  obtain ⟨r, hr⟩ := hostMax_real reducesTo_S4x2x4x8192x8192_S4x2x4x8192_d4 h_S_ (val_main_v5 (F := Ideal) X K) (val_main_cst_0 (F := Ideal))
    (fun _ => neg_inf) (by norm_num) hz j
  refine ⟨r, ?_⟩
  rw [val_main_v8_apply, val_main_v6, hr, val_main_v7_apply, val_main_cst_1_apply]
  exact (congrArg (max · (r : EReal)) neg_inf).trans (max_eq_right bot_le)

/-- The exponentials. -/
theorem v12_apply (b : Fin 4) (g : Fin 2) (r : Fin 4) (s t : Fin 8192) :
    (val_main_v12 (F := Ideal) X K (ix5 b g r s t) : EReal) = Ideal.exp ((val_main_v5 (F := Ideal) X K (ix5 b g r s t) : EReal) - val_main_v8 (F := Ideal) X K (ix4 b g r s)) := by
  pointwise [val_main_v12, val_main_v11, val_main_v10, val_main_v9]

/-- The weights. -/
theorem v16_apply (b : Fin 4) (g : Fin 2) (r : Fin 4) (s t : Fin 8192) :
    (val_main_v16 (F := Ideal) X K (ix5 b g r s t) : EReal) = Ideal.div (val_main_v12 (F := Ideal) X K (ix5 b g r s t)) (∑ u : Fin 8192, (val_main_v12 (F := Ideal) X K (ix5 b g r s u) : EReal)) := by
  pointwise [val_main_v16, val_main_v15, val_main_v14, val_main_v13, val_main_cst_2]

/-- The result. -/
theorem v21_apply (b : Fin 4) (h : Fin 8) (n : Fin 16) (e : Fin 128) (i : Fin 512) :
    (val_main_v21 (F := Ideal) X K V (ix5 b h n e i) : EReal)
      = ∑ t : Fin 8192, V (ix4 b t ⟨h.val / 4, by omega⟩ e) * val_main_v16 (F := Ideal) X K (ix5 b ⟨h.val / 4, by omega⟩ ⟨h.val % 4, by omega⟩ ⟨n.val * 512 + i.val, by omega⟩ t) := by
  pointwise [val_main_v21, val_main_v20, val_main_v19, val_main_v18, val_main_v17]

/-- The factor on the scores. -/
theorem scale_real : Ideal.rsqrt (Ideal.ofBits .f32 0x43000000#32) = (((√128)⁻¹ : ℝ) : EReal) := by
  have e : Ideal.ofBits .f32 0x43000000#32 = ((128 : ℝ) : EReal) := by
    simp [Ideal.ofBits, Ideal.ieee]
    rw [← EReal.coe_mul]; norm_num
  rw [e, Ideal.rsqrt_coe, if_neg (by norm_num), if_neg (by norm_num)]

/-- With real queries and keys the plain attention's result is the softmax-weighted sum of the values. -/
theorem result (xr : S4x8192x8x128.Idx → ℝ) (kr : S4x8192x2x128.Idx → ℝ) (hX : ∀ i, (X i : EReal) = xr i) (hK : ∀ i, (K i : EReal) = kr i)
    (b : Fin 4) (h : Fin 8) (n : Fin 16) (e : Fin 128) (i : Fin 512) :
    (val_main_v21 (F := Ideal) X K V (ix5 b h n e i) : EReal)
      = Math.attn (fun t : Fin 8192 => (∑ d : Fin 128, kr (ix4 b t ⟨h.val / 4, by omega⟩ d) * xr (ix4 b ⟨n.val * 512 + i.val, by omega⟩ h d)) * (√128)⁻¹)
          (fun t => V (ix4 b t ⟨h.val / 4, by omega⟩ e)) := by
  have h5 : ∀ (b : Fin 4) (g : Fin 2) (r : Fin 4) (s t : Fin 8192), (val_main_v5 (F := Ideal) X K (ix5 b g r s t) : EReal)
      = (((∑ d : Fin 128, kr (ix4 b t g d) * xr (ix4 b s ⟨g.val * 4 + r.val, by omega⟩ d)) * (√128)⁻¹ : ℝ) : EReal) := by
    intro b g r s t
    rw [v5_apply, scale_real, ← Math.score_ref]
    simp only [hX, hK]
  have hz : ∀ j, ∃ r : ℝ, (val_main_v5 (F := Ideal) X K j : EReal) = r := by
    intro j
    obtain ⟨b, g, r, s, t, rfl⟩ : ∃ b g r s t, j = ix5 b g r s t := ⟨j 0, j 1, j 2, j 3, j 4, by funext a; fin_cases a <;> rfl⟩
    exact ⟨_, h5 b g r s t⟩
  obtain ⟨M, hM⟩ := v8_real X K hz (ix4 b ⟨h.val / 4, by omega⟩ ⟨h.val % 4, by omega⟩ ⟨n.val * 512 + i.val, by omega⟩)
  have hh : (⟨h.val / 4 * 4 + h.val % 4, by omega⟩ : Fin 8) = h := Fin.ext (by simp only []; omega)
  rw [v21_apply, ← Math.attn_of_softmax _ _ M]
  refine Finset.sum_congr rfl fun t _ => ?_
  rw [v16_apply]
  simp only [v12_apply, hM, h5, hh]
  exact mul_comm _ _

end Cert.ReferenceIdeal.Body

end
-- ==== Proof.Claims.lean ====
/- The precondition read at an index, and the kernel's program told from the same text over the two interpretations of
   floats. -/
module

public import proofs.«01_k».proof.Defs
public import proofs.«01_k».proof.Proof.Gen.Kernel
public import proofs.«01_k».proof.Proof.Gen.Kernel.Skeleton
public import proofs.«01_k».proof.Proof.Gen.Pre_finite_qk
public import proofs.«01_k».proof.Proof.KFrame
public import Idealize.ShloMosaic.Lib.Pipeline.Regions
public import Idealize.ShloMosaic.Lib.Pointwise

@[expose] public section

set_option maxRecDepth 8192

noncomputable section

namespace Cert.Claims

open Idealize.ShloMosaic Idealize.ShloMosaic.TcCoe Idealize.SL.Sem

/-- A number whose absolute value is below infinity is real. -/
theorem real_of_abs_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

open Cert.Pre_finite_qk in
/-- Where the precondition holds, every query and every key is real. -/
theorem reals_of_pre (q : FVec Ideal S4x8192x8x128 .f32) (k v : FVec Ideal S4x8192x2x128 .f32)
    (h1 : (Cert.Pre_finite_qk.fn (F := Ideal) q k v).1 = fun _ => 1#1) (h2 : (Cert.Pre_finite_qk.fn (F := Ideal) q k v).2 = fun _ => 1#1) :
    (∃ qr : S4x8192x8x128.Idx → ℝ, ∀ i, (q i : EReal) = qr i) ∧ (∃ kr : S4x8192x2x128.Idx → ℝ, ∀ i, (k i : EReal) = kr i) := by
  have a : ∀ i, ∃ r : ℝ, (q i : EReal) = r := fun i => real_of_abs_lt _ (congrFun h1 i)
  have b : ∀ i, ∃ r : ℝ, (k i : EReal) = r := fun i => real_of_abs_lt _ (congrFun h2 i)
  choose qr hq using a
  choose kr hk using b
  exact ⟨⟨qr, hq⟩, ⟨kr, hk⟩⟩

/-- The claim on the kernel's program at bit patterns, stated of the same text printed a second time. -/
def sameText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem kernel_text : Cert.quiescent_Kernel = sameText := by chain_rfl

/-- The kernel's program runs, leaves its arguments unchanged and ends with every counter at zero. -/
theorem kernel_runs : Cert.quiescent_Kernel :=
  kernel_text ▸ fun m g _ => Cert.KernelIdeal.Body.quiescent (F := Bits) m g

end Cert.Claims

end
-- ==== Proof.LatentOps.lean ====
/- The attention kernel cut into four kinds of step: preparing the running maximum and the accumulator, one
   block of scores, one online-softmax update, and one block of the result. The kernel's own text is shown to
   be a list of these. -/
module

public import proofs.«01_k».proof.Proof.Gen.LatentIdeal.Skeleton
public import Idealize.ShloMosaic.Lib.Pipeline.Regions

@[expose] public section

set_option maxRecDepth 8192

noncomputable section

namespace Cert.LatentIdeal.Body

open Idealize.ShloMosaic Idealize.ShloMosaic.TcCoe Idealize.SL.Sem
open Cert.LatentIdeal Cert.LatentIdeal.Gen

variable {F : FTy → Type} [FloatOps F]

/-- Where the query sub-block `u` starts in the query block. -/
abbrev qOff (u : Fin 8) : Fin 5 → Nat := ![0, 0, u.val, 0, 0]
/-- Where the scores of the sub-block `u` start in the slot `s`. -/
abbrev sOff (s : Fin 2) (u : Fin 8) : Fin 4 → Nat := ![s.val, u.val, 0, 0]
/-- Where the state of the sub-block `u` starts. -/
abbrev uOff (u : Fin 8) : Fin 3 → Nat := ![u.val, 0, 0]
/-- Where the denominator's row of the sub-block `u` starts. -/
abbrev lOff (u : Fin 8) : Fin 3 → Nat := ![u.val, 128, 0]
/-- Where the key chunk `j` starts. -/
abbrev kOff (j : Fin 16) : Fin 4 → Nat := ![0, 0, j.val * 512, 0]
/-- Where the value chunk `j` starts. -/
abbrev vOff (j : Fin 16) : Fin 5 → Nat := ![0, 0, j.val, 0, 0]

theorem q_inb (u : Fin 8) : ∀ a, qOff u a + S1x1x1x128x512.size a ≤ S1x1x8x128x512.size a := by
  revert u; decide
theorem s_inb (s : Fin 2) (u : Fin 8) : ∀ a, sOff s u a + S1x1x512x512.size a ≤ S2x8x512x512.size a := by
  revert s u; decide
theorem c_inb (s : Fin 2) (u : Fin 8) : ∀ a, sOff s u a + S1x1x1x512.size a ≤ S2x8x1x512.size a := by
  revert s u; decide
theorem m_inb (u : Fin 8) : ∀ a, uOff u a + S1x1x512.size a ≤ S8x1x512.size a := by
  revert u; decide
theorem a_inb (u : Fin 8) : ∀ a, uOff u a + S1x144x512.size a ≤ S8x144x512.size a := by
  revert u; decide
theorem n_inb (u : Fin 8) : ∀ a, uOff u a + S1x128x512.size a ≤ S8x144x512.size a := by
  revert u; decide
theorem l_inb (u : Fin 8) : ∀ a, lOff u a + S1x1x512.size a ≤ S8x144x512.size a := by
  revert u; decide
theorem k_inb (j : Fin 16) : ∀ a, kOff j a + S1x1x512x128.size a ≤ S1x1x8192x128.size a := by
  revert j; decide
theorem v_inb (j : Fin 16) : ∀ a, vOff j a + S1x1x1x144x512.size a ≤ S1x1x16x144x512.size a := by
  revert j; decide

/-- The rows a result block's store covers are whole packed rows. -/
theorem q_packed : ∀ u : Fin 8,
    (Rect.unit (s := S1x1x8x128x512) (qOff u) S1x1x1x128x512.size (q_inb u)).PackedRows (EltTy.packing .bf16)
  | 0 => packedbf16_S1x1x8x128x512_S1x1x1x128x512_0_0_0_0_0
  | 1 => packedbf16_S1x1x8x128x512_S1x1x1x128x512_0_0_1_0_0
  | 2 => packedbf16_S1x1x8x128x512_S1x1x1x128x512_0_0_2_0_0
  | 3 => packedbf16_S1x1x8x128x512_S1x1x1x128x512_0_0_3_0_0
  | 4 => packedbf16_S1x1x8x128x512_S1x1x1x128x512_0_0_4_0_0
  | 5 => packedbf16_S1x1x8x128x512_S1x1x1x128x512_0_0_5_0_0
  | 6 => packedbf16_S1x1x8x128x512_S1x1x1x128x512_0_0_6_0_0
  | 7 => packedbf16_S1x1x8x128x512_S1x1x1x128x512_0_0_7_0_0

/-! ## The vector computations -/

/-- A block of scores: a key chunk times a query sub-block. -/
def scoreV (k : Vec F S1x1x512x128 .bf16) (q : Vec F S1x1x1x128x512 .bf16) : FVec F S512x512 .f32 :=
  matmul dot_S512x128_S128x512_S512x512_1_0_0_1_n_n none (shapeCast S512x128 k shapeCasts_S1x1x512x128_S512x128 : FVec F S512x128 .bf16) (shapeCast S128x512 q shapeCasts_S1x1x1x128x512_S128x512 : FVec F S128x512 .bf16) (constant S512x512 .f32 0x00000000#32)

/-- The largest score of every query of a block. -/
def cmaxV (s : FVec F S512x512 .f32) : FVec F S1x512 .f32 :=
  shapeCast S1x512 (multiReduction .maximumf [0] S512 s 0xFF800000#32 reduces_S512x512_S512 (.inl rfl) rfl) shapeCasts_S512_S1x512

/-- The new running maximum. -/
def mNew (m : Vec F S1x1x512 .f32) (c : Vec F S1x1x1x512 .f32) : FVec F S1x512 .f32 :=
  maximumf (shapeCast S1x512 m shapeCasts_S1x1x512_S1x512) (shapeCast S1x512 c shapeCasts_S1x1x1x512_S1x512)

/-- The new accumulator: the old one rescaled, plus the values weighted by the exponentials. -/
def aNew (m : Vec F S1x1x512 .f32) (c : Vec F S1x1x1x512 .f32) (s : Vec F S1x1x512x512 .f32) (a : Vec F S1x144x512 .f32)
    (v : Vec F S1x1x1x144x512 .bf16) : FVec F S144x512 .f32 :=
  addf (mulf (broadcastTo S144x512 (exp2 (subf (shapeCast S1x512 m shapeCasts_S1x1x512_S1x512) (mNew m c))) broadcasts_S1x512_S144x512) (shapeCast S144x512 a shapeCasts_S1x144x512_S144x512))
    (matmul dot_S144x512_S512x512_S144x512_1_0_0_1_n_n none (shapeCast S144x512 v shapeCasts_S1x1x1x144x512_S144x512 : FVec F S144x512 .bf16)
      (truncf .bf16 (exp2 (subf (shapeCast S512x512 s shapeCasts_S1x1x512x512_S512x512 : FVec F S512x512 .f32) (broadcastTo S512x512 (mNew m c) broadcasts_S1x512_S512x512))) bitsLt_bf16_f32)
      (constant S144x512 .f32 0x00000000#32))

/-- A block of the result: the accumulator's value rows over its row of ones. -/
def outV (n : Vec F S1x128x512 .f32) (l : Vec F S1x1x512 .f32) : FVec F S128x512 .bf16 :=
  truncf .bf16 (divf (shapeCast S128x512 n shapeCasts_S1x128x512_S128x512 : FVec F S128x512 .f32)
    (broadcastTo S128x512 (shapeCast S1x512 l shapeCasts_S1x1x512_S1x512 : FVec F S1x512 .f32) broadcasts_S1x512_S128x512)) bitsLt_bf16_f32

/-! ## The steps -/

/-- A step of the kernel. -/
abbrev Step (F : FTy → Type) := Prog (TpuEff nD τ sig (Elt F) Λ₀ .tc) PUnit

section
variable (arg3 : Memref sig .tc .vmem S1x1x8x128x512 .bf16) (arg4 : Memref sig .tc .vmem S1x1x8192x128 .bf16)
  (arg5 : Memref sig .tc .vmem S1x1x16x144x512 .bf16) (arg6 : Memref sig .tc .vmem S1x1x8x128x512 .bf16) (harg6 : arg6.IsWhole)
  (arg7 : Memref sig .tc .vmem S8x1x512 .f32) (arg8 : Memref sig .tc .vmem S8x144x512 .f32)
  (arg9 : Memref sig .tc .vmem S2x8x512x512 .f32) (arg10 : Memref sig .tc .vmem S2x8x1x512 .f32)

/-- The running maximum starts at minus infinity and the accumulator at zero. -/
def initOp : Step F := do
  let _ ← Prog.lift (.load arg7 (Rect.unit (s := S8x1x512) ![0, 0, 0] S8x1x512.size inb_S8x1x512_S8x1x512_0_0_0).toLoadRect (View.loadsAt_vmem h_S8x1x512))
  Prog.lift (.store arg7 (Rect.unit (s := S8x1x512) ![0, 0, 0] S8x1x512.size inb_S8x1x512_S8x1x512_0_0_0) (shapeCast S8x1x512 (broadcast S8x1x512 (Scalar.ofBits .f32 0xFF800000#32)) shapeCasts_S8x1x512_S8x1x512 : FVec F S8x1x512 .f32) Finset.univ (View.stores_vmem_bits_univ h_S8x1x512 rfl) (.inl rfl))
  let _ ← Prog.lift (.load arg8 (Rect.unit (s := S8x144x512) ![0, 0, 0] S8x144x512.size inb_S8x144x512_S8x144x512_0_0_0).toLoadRect (View.loadsAt_vmem h_S8x144x512))
  Prog.lift (.store arg8 (Rect.unit (s := S8x144x512) ![0, 0, 0] S8x144x512.size inb_S8x144x512_S8x144x512_0_0_0) (shapeCast S8x144x512 (broadcast S8x144x512 (Scalar.ofBits .f32 0x00000000#32)) shapeCasts_S8x144x512_S8x144x512 : FVec F S8x144x512 .f32) Finset.univ (View.stores_vmem_bits_univ h_S8x144x512 rfl) (.inl rfl))

/-- The scores of the sub-block `u` against the keys at `off`, and their maximum, into the slot `s`. -/
def scoresOp (s : Fin 2) (u : Fin 8) (off : Fin 4 → Nat) (hoff : ∀ a, off a + S1x1x512x128.size a ≤ S1x1x8192x128.size a) : Step F := do
  let k : Vec F S1x1x512x128 .bf16 ← Prog.lift (.load arg4 (Rect.unit (s := S1x1x8192x128) off S1x1x512x128.size hoff).toLoadRect (View.loadsAt_vmem h_S1x1x512x128))
  let q : Vec F S1x1x1x128x512 .bf16 ← Prog.lift (.load arg3 (Rect.unit (s := S1x1x8x128x512) (qOff u) S1x1x1x128x512.size (q_inb u)).toLoadRect (View.loadsAt_vmem h_S1x1x1x128x512))
  let _ ← Prog.lift (.load arg9 (Rect.unit (s := S2x8x512x512) (sOff s u) S1x1x512x512.size (s_inb s u)).toLoadRect (View.loadsAt_vmem h_S1x1x512x512))
  Prog.lift (.store arg9 (Rect.unit (s := S2x8x512x512) (sOff s u) S1x1x512x512.size (s_inb s u)) (shapeCast S1x1x512x512 (scoreV k q) shapeCasts_S512x512_S1x1x512x512) Finset.univ (View.stores_vmem_bits_univ h_S1x1x512x512 rfl) (.inl rfl))
  let _ ← Prog.lift (.load arg10 (Rect.unit (s := S2x8x1x512) (sOff s u) S1x1x1x512.size (c_inb s u)).toLoadRect (View.loadsAt_vmem h_S1x1x1x512))
  Prog.lift (.store arg10 (Rect.unit (s := S2x8x1x512) (sOff s u) S1x1x1x512.size (c_inb s u)) (shapeCast S1x1x1x512 (cmaxV (scoreV k q)) shapeCasts_S1x512_S1x1x1x512) Finset.univ (View.stores_vmem_bits_univ h_S1x1x1x512 rfl) (.inl rfl))

/-- The online-softmax update of the sub-block `u` by the scores of the slot `s` and the values at `off`. -/
def softOp (s : Fin 2) (u : Fin 8) (off : Fin 5 → Nat) (hoff : ∀ a, off a + S1x1x1x144x512.size a ≤ S1x1x16x144x512.size a) : Step F := do
  let m : Vec F S1x1x512 .f32 ← Prog.lift (.load arg7 (Rect.unit (s := S8x1x512) (uOff u) S1x1x512.size (m_inb u)).toLoadRect (View.loadsAt_vmem h_S1x1x512))
  let c : Vec F S1x1x1x512 .f32 ← Prog.lift (.load arg10 (Rect.unit (s := S2x8x1x512) (sOff s u) S1x1x1x512.size (c_inb s u)).toLoadRect (View.loadsAt_vmem h_S1x1x1x512))
  let x : Vec F S1x1x512x512 .f32 ← Prog.lift (.load arg9 (Rect.unit (s := S2x8x512x512) (sOff s u) S1x1x512x512.size (s_inb s u)).toLoadRect (View.loadsAt_vmem h_S1x1x512x512))
  let a : Vec F S1x144x512 .f32 ← Prog.lift (.load arg8 (Rect.unit (s := S8x144x512) (uOff u) S1x144x512.size (a_inb u)).toLoadRect (View.loadsAt_vmem h_S1x144x512))
  let v : Vec F S1x1x1x144x512 .bf16 ← Prog.lift (.load arg5 (Rect.unit (s := S1x1x16x144x512) off S1x1x1x144x512.size hoff).toLoadRect (View.loadsAt_vmem h_S1x1x1x144x512))
  let _ ← Prog.lift (.load arg8 (Rect.unit (s := S8x144x512) (uOff u) S1x144x512.size (a_inb u)).toLoadRect (View.loadsAt_vmem h_S1x144x512))
  Prog.lift (.store arg8 (Rect.unit (s := S8x144x512) (uOff u) S1x144x512.size (a_inb u)) (shapeCast S1x144x512 (aNew m c x a v) shapeCasts_S144x512_S1x144x512) Finset.univ (View.stores_vmem_bits_univ h_S1x144x512 rfl) (.inl rfl))
  let _ ← Prog.lift (.load arg7 (Rect.unit (s := S8x1x512) (uOff u) S1x1x512.size (m_inb u)).toLoadRect (View.loadsAt_vmem h_S1x1x512))
  Prog.lift (.store arg7 (Rect.unit (s := S8x1x512) (uOff u) S1x1x512.size (m_inb u)) (shapeCast S1x1x512 (mNew m c) shapeCasts_S1x512_S1x1x512) Finset.univ (View.stores_vmem_bits_univ h_S1x1x512 rfl) (.inl rfl))

/-- The result of the sub-block `u`. -/
def outOp (u : Fin 8) : Step F := do
  let n : Vec F S1x128x512 .f32 ← Prog.lift (.load arg8 (Rect.unit (s := S8x144x512) (uOff u) S1x128x512.size (n_inb u)).toLoadRect (View.loadsAt_vmem h_S1x128x512))
  let l : Vec F S1x1x512 .f32 ← Prog.lift (.load arg8 (Rect.unit (s := S8x144x512) (lOff u) S1x1x512.size (l_inb u)).toLoadRect (View.loadsAt_vmem h_S1x1x512))
  let _ ← Prog.lift (.load arg6 (Rect.unit (s := S1x1x8x128x512) (qOff u) S1x1x1x128x512.size (q_inb u)).toLoadRect (View.loadsAt_vmem h_S1x1x1x128x512))
  Prog.lift (.store arg6 (Rect.unit (s := S1x1x8x128x512) (qOff u) S1x1x1x128x512.size (q_inb u)) (shapeCast S1x1x1x128x512 (outV n l) shapeCasts_S128x512_S1x1x1x128x512) Finset.univ (View.stores_vmem h_S1x1x1x128x512 (harg6.storeExact_slice rfl _ (q_packed u)) (fun _ => rfl)) (.inl rfl))

/-- Steps one after the other. -/
def seq : List (Step F) → Step F
  | [] => pure ⟨⟩
  | a :: l => do a; seq l

/-- The eight sub-blocks. -/
abbrev us : List (Fin 8) := [0, 1, 2, 3, 4, 5, 6, 7]

/-- One half of a trip: for every sub-block the scores of the next chunk, then the update by the present one. -/
def stageOps (s s' : Fin 2) (ko : Fin 4 → Nat) (hko : ∀ a, ko a + S1x1x512x128.size a ≤ S1x1x8192x128.size a)
    (vo : Fin 5 → Nat) (hvo : ∀ a, vo a + S1x1x1x144x512.size a ≤ S1x1x16x144x512.size a) (us : List (Fin 8)) :
    List (Step F) :=
  us.flatMap fun u => [scoresOp arg3 arg4 arg9 arg10 s' u ko hko, softOp arg5 arg7 arg8 arg9 arg10 s u vo hvo]

/-- A trip of the loop: two chunks. -/
def tripOps (t : Fin k0_t1_loop.trips) : List (Step F) :=
  stageOps arg3 arg4 arg5 arg7 arg8 arg9 arg10 0 1 (k0_off1 t 0#32) (k0_off1_inb t 0) (k0_off2 t 0#32) (k0_off2_inb t 0) us
    ++ stageOps arg3 arg4 arg5 arg7 arg8 arg9 arg10 1 0 (k0_off1 t 1#32) (k0_off1_inb t 1) (k0_off2 t 1#32) (k0_off2_inb t 1) us

/-- Before the loop. -/
def preOps : List (Step F) :=
  initOp arg7 arg8 :: us.map fun u => scoresOp arg3 arg4 arg9 arg10 0 u (kOff 0) (k_inb 0)

/-- After the loop. -/
def postOps : List (Step F) :=
  stageOps arg3 arg4 arg5 arg7 arg8 arg9 arg10 0 1 (kOff 15) (k_inb 15) (vOff 14) (v_inb 14) us
    ++ (us.map (fun u => softOp arg5 arg7 arg8 arg9 arg10 1 u (vOff 15) (v_inb 15))
      ++ us.map (fun u => outOp arg6 harg6 arg8 u))

end

/-- A trip's text is its list of steps. -/
theorem trip_eq (i : grid0.Coords) (arg3 : Memref sig .tc .vmem S1x1x8x128x512 .bf16) (harg3 : arg3.IsWhole) (arg4 : Memref sig .tc .vmem S1x1x8192x128 .bf16) (harg4 : arg4.IsWhole) (arg5 : Memref sig .tc .vmem S1x1x16x144x512 .bf16) (harg5 : arg5.IsWhole) (arg6 : Memref sig .tc .vmem S1x1x8x128x512 .bf16) (harg6 : arg6.IsWhole) (arg7 : Memref sig .tc .vmem S8x1x512 .f32) (harg7 : arg7.IsWhole) (arg8 : Memref sig .tc .vmem S8x144x512 .f32) (harg8 : arg8.IsWhole) (arg9 : Memref sig .tc .vmem S2x8x512x512 .f32) (harg9 : arg9.IsWhole) (arg10 : Memref sig .tc .vmem S2x8x1x512 .f32) (harg10 : arg10.IsWhole) (v123 : FVec F S512 .f32)
    (t : Fin k0_t1_loop.trips) :
    k0_t1_body i arg3 harg3 arg4 harg4 arg5 harg5 arg6 harg6 arg7 harg7 arg8 harg8 arg9 harg9 arg10 harg10 v123 t () = seq (tripOps arg3 arg4 arg5 arg7 arg8 arg9 arg10 t) := by
  chain_rfl

/-- The kernel's text is its lists of steps, with the loop between. -/
theorem kernel_eq (i : grid0.Coords) (arg3 : Memref sig .tc .vmem S1x1x8x128x512 .bf16) (harg3 : arg3.IsWhole) (arg4 : Memref sig .tc .vmem S1x1x8192x128 .bf16) (harg4 : arg4.IsWhole) (arg5 : Memref sig .tc .vmem S1x1x16x144x512 .bf16) (harg5 : arg5.IsWhole) (arg6 : Memref sig .tc .vmem S1x1x8x128x512 .bf16) (harg6 : arg6.IsWhole) (arg7 : Memref sig .tc .vmem S8x1x512 .f32) (harg7 : arg7.IsWhole) (arg8 : Memref sig .tc .vmem S8x144x512 .f32) (harg8 : arg8.IsWhole) (arg9 : Memref sig .tc .vmem S2x8x512x512 .f32) (harg9 : arg9.IsWhole) (arg10 : Memref sig .tc .vmem S2x8x1x512 .f32) (harg10 : arg10.IsWhole) :
    cc0_attention (F := F) i arg3 harg3 arg4 harg4 arg5 harg5 arg6 harg6 arg7 harg7 arg8 harg8 arg9 harg9 arg10 harg10 = (do
      seq (preOps arg3 arg4 arg7 arg8 arg9 arg10)
      Scf.Loop.for k0_t1_loop k0_t1_ok () fun t _ => seq (tripOps arg3 arg4 arg5 arg7 arg8 arg9 arg10 t)
      seq (postOps arg3 arg4 arg5 arg6 harg6 arg7 arg8 arg9 arg10)) := by
  unfold cc0_attention k0_part55 k0_part33
  simp -zeta only [Scf.Loop.for, Scf.for_eq]
  chain_rfl

end Cert.LatentIdeal.Body

end
-- ==== Proof.LatentSteps.lean ====
/- What every step of the attention kernel does to the running maxima, the accumulators, the scores and the
   result, sub-block by sub-block. -/
module

public import proofs.«01_k».proof.Proof.LatentOps
public import Idealize.ShloMosaic.Lib.Tactic
public import Idealize.ShloMosaic.Lib.WritesUnit
public import Idealize.ShloMosaic.Lib.Pipeline.FrameBody

@[expose] public section

set_option maxRecDepth 8192

noncomputable section

namespace Cert.LatentIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LatentIdeal Cert.LatentIdeal.Gen

variable {F : FTy → Type} [FloatOps F]

local notation "𝕄G" => MT nD τ sig Unit (Elt F) ℕ (UR sig nD τ) ℕ

section Boxes
variable {sig' : RefSig} {κ : Kind} {sp : Space} {s : Shape} {e : EltTy} {Val : EltTy → Type}

/-- A box just written reads what was written. -/
theorem box_same (v : View sig' κ sp s e) (f : v.ty.Contents Val) {off size : Fin s.rank → ℕ} (inb : ∀ a, off a + size a ≤ s.size a)
    (w : (Rect.unit off size inb).shape.Idx → Val e) :
    v.readAt Val (Rect.unit off size inb).toLoadRect (v.writes Val f [⟨Rect.unit off size inb, w⟩]) = w :=
  funext fun x => View.read_writes_cons_emb v f (Rect.unit off size inb) w [] x

/-- A box apart from the one just written reads what it did. -/
theorem box_other (v : View sig' κ sp s e) (f : v.ty.Contents Val) {off off' size size' : Fin s.rank → ℕ} (inb : ∀ a, off a + size a ≤ s.size a)
    (inb' : ∀ a, off' a + size' a ≤ s.size a) (w : (Rect.unit off' size' inb').shape.Idx → Val e)
    (h : ∃ a, off a + size a ≤ off' a ∨ off' a + size' a ≤ off a) :
    v.readAt Val (Rect.unit off size inb).toLoadRect (v.writes Val f [⟨Rect.unit off' size' inb', w⟩])
      = v.readAt Val (Rect.unit off size inb).toLoadRect f := by
  obtain ⟨a, h⟩ := h
  funext x
  refine View.read_writes_cons_unit_of_not_mem v f inb' w [] ((Rect.unit off size inb).emb x) rfl a ?_
  have h1 : (((Rect.unit off size inb).emb x) a).val = off a + 1 * (x a).val := rfl
  have h2 : (x a).val < size a := (x a).isLt
  omega

/-- A box of a buffer just written whole with one value reads that value. -/
theorem box_fill (v : View sig' κ sp s e) (f : v.ty.Contents Val) {off off' size : Fin s.rank → ℕ} (inb : ∀ a, off a + s.size a ≤ s.size a)
    (inb' : ∀ a, off' a + size a ≤ s.size a) (w : (Rect.unit off s.size inb).shape.Idx → Val e) (w' : (Rect.unit off' size inb').shape.Idx → Val e)
    (h : ∀ x y, w x = w' y) :
    v.readAt Val (Rect.unit off' size inb').toLoadRect (v.writes Val f [⟨Rect.unit off s.size inb, w⟩]) = w' := by
  funext x
  have hoff : ∀ a, off a = 0 := fun a => by have := inb a; omega
  exact (View.read_writes_cons_unit_of_mem v f inb w [] ((Rect.unit off' size inb').emb x) (fun a => ⟨((Rect.unit off' size inb').emb x a).val, ((Rect.unit off' size inb').emb x a).isLt⟩) rfl
    (fun a => by rw [hoff a, Nat.zero_add])).trans (h _ _)

end Boxes

section Apart
/-- Boxes of different sub-blocks lie apart. -/
theorem sOff_apart {t s : Fin 2} {u' u : Fin 8} (h : ¬(t = s ∧ u' = u)) :
    ∃ a, sOff t u' a + S1x1x512x512.size a ≤ sOff s u a ∨ sOff s u a + S1x1x512x512.size a ≤ sOff t u' a := by
  revert t s u' u; decide
theorem cOff_apart {t s : Fin 2} {u' u : Fin 8} (h : ¬(t = s ∧ u' = u)) :
    ∃ a, sOff t u' a + S1x1x1x512.size a ≤ sOff s u a ∨ sOff s u a + S1x1x1x512.size a ≤ sOff t u' a := by
  revert t s u' u; decide
theorem mOff_apart {u' u : Fin 8} (h : ¬u' = u) :
    ∃ a, uOff u' a + S1x1x512.size a ≤ uOff u a ∨ uOff u a + S1x1x512.size a ≤ uOff u' a := by
  revert u' u; decide
theorem aOff_apart {u' u : Fin 8} (h : ¬u' = u) :
    ∃ a, uOff u' a + S1x144x512.size a ≤ uOff u a ∨ uOff u a + S1x144x512.size a ≤ uOff u' a := by
  revert u' u; decide
theorem qOff_apart {u' u : Fin 8} (h : ¬u' = u) :
    ∃ a, qOff u' a + S1x1x1x128x512.size a ≤ qOff u a ∨ qOff u a + S1x1x1x128x512.size a ≤ qOff u' a := by
  revert u' u; decide
end Apart

/-- What the buffers hold, sub-block by sub-block: running maxima, accumulators, scores and their maxima by slot,
    and the result. -/
structure St (F : FTy → Type) where
  m : Fin 8 → Vec F S1x1x512 .f32
  a : Fin 8 → Vec F S1x144x512 .f32
  s : Fin 2 → Fin 8 → Vec F S1x1x512x512 .f32
  c : Fin 2 → Fin 8 → Vec F S1x1x1x512 .f32
  o : Fin 8 → Vec F S1x1x1x128x512 .bf16

/-- The scores step on the state. -/
def scoresSt (q : Fin 8 → Vec F S1x1x1x128x512 .bf16) (s : Fin 2) (u : Fin 8) (k : Vec F S1x1x512x128 .bf16) (σ : St F) : St F :=
  { σ with
    s := fun s' u' => if s' = s ∧ u' = u then shapeCast S1x1x512x512 (scoreV k (q u)) shapeCasts_S512x512_S1x1x512x512 else σ.s s' u'
    c := fun s' u' => if s' = s ∧ u' = u then shapeCast S1x1x1x512 (cmaxV (scoreV k (q u))) shapeCasts_S1x512_S1x1x1x512 else σ.c s' u' }

/-- The update step on the state. -/
def softSt (s : Fin 2) (u : Fin 8) (v : Vec F S1x1x1x144x512 .bf16) (σ : St F) : St F :=
  { σ with
    m := fun u' => if u' = u then shapeCast S1x1x512 (mNew (σ.m u) (σ.c s u)) shapeCasts_S1x512_S1x1x512 else σ.m u'
    a := fun u' => if u' = u then shapeCast S1x144x512 (aNew (σ.m u) (σ.c s u) (σ.s s u) (σ.a u) v) shapeCasts_S144x512_S1x144x512 else σ.a u' }

/-- The accumulator's value rows. -/
def nOf (a : Vec F S1x144x512 .f32) : Vec F S1x128x512 .f32 :=
  fun j => a (fun i => ⟨(j i).val, lt_of_lt_of_le (j i).isLt (by revert i; decide)⟩)

/-- The accumulator's row of ones. -/
def lOf (a : Vec F S1x144x512 .f32) : Vec F S1x1x512 .f32 :=
  fun j => a (fun i => ⟨(![0, 128, 0] : Fin 3 → Nat) i + (j i).val,
    lt_of_lt_of_le (Nat.add_lt_add_left (j i).isLt _) (by revert i; decide)⟩)

/-- The row of ones is the box at row 128. -/
theorem lOf_read {κ : Kind} {sp : Space} (v : View sig κ sp S8x144x512 .f32) (f : v.ty.Contents (Elt F)) (u : Fin 8) :
    v.readAt (Elt F) (Rect.unit (s := S8x144x512) (lOff u) S1x1x512.size (l_inb u)).toLoadRect f
      = lOf (v.readAt (Elt F) (Rect.unit (s := S8x144x512) (uOff u) S1x144x512.size (a_inb u)).toLoadRect f) := by
  funext j
  refine congrArg (v.read (Elt F) f) (funext fun i => Fin.ext ?_)
  show lOff u i + 1 * (j i).val = uOff u i + 1 * ((![0, 128, 0] : Fin 3 → Nat) i + (j i).val)
  have h : lOff u i = uOff u i + (![0, 128, 0] : Fin 3 → Nat) i := by revert u i; decide
  omega

/-- The result step on the state. -/
def outSt (u : Fin 8) (σ : St F) : St F :=
  { σ with o := fun u' => if u' = u then shapeCast S1x1x1x128x512 (outV (nOf (σ.a u)) (lOf (σ.a u))) shapeCasts_S128x512_S1x1x1x128x512 else σ.o u' }

/-- The first step on the state. -/
def initSt (σ : St F) : St F :=
  { σ with m := fun _ => broadcast S1x1x512 (Scalar.ofBits .f32 0xFF800000#32), a := fun _ => broadcast S1x144x512 (Scalar.ofBits .f32 0x00000000#32) }

section
variable (𝒱 : Variants) (th : Dev nD) (bd : Option 𝒱.V) (E : Set ℕ)
variable (arg3 : Memref sig .tc .vmem S1x1x8x128x512 .bf16) (arg4 : Memref sig .tc .vmem S1x1x8192x128 .bf16)
  (arg5 : Memref sig .tc .vmem S1x1x16x144x512 .bf16) (arg6 : Memref sig .tc .vmem S1x1x8x128x512 .bf16) (harg6 : arg6.IsWhole)
  (arg7 : Memref sig .tc .vmem S8x1x512 .f32) (arg8 : Memref sig .tc .vmem S8x144x512 .f32)
  (arg9 : Memref sig .tc .vmem S2x8x512x512 .f32) (arg10 : Memref sig .tc .vmem S2x8x1x512 .f32)
  (f3 : BufTy.Contents (Elt F) arg3.view.ty) (f4 : BufTy.Contents (Elt F) arg4.view.ty) (f5 : BufTy.Contents (Elt F) arg5.view.ty)

/-- The buffers' contents are the state's. -/
structure Holds (σ : St F) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) : Prop where
  o : ∀ u, arg6.view.readAt (Elt F) (Rect.unit (s := S1x1x8x128x512) (qOff u) S1x1x1x128x512.size (q_inb u)).toLoadRect f6 = σ.o u
  m : ∀ u, arg7.view.readAt (Elt F) (Rect.unit (s := S8x1x512) (uOff u) S1x1x512.size (m_inb u)).toLoadRect f7 = σ.m u
  a : ∀ u, arg8.view.readAt (Elt F) (Rect.unit (s := S8x144x512) (uOff u) S1x144x512.size (a_inb u)).toLoadRect f8 = σ.a u
  s : ∀ t u, arg9.view.readAt (Elt F) (Rect.unit (s := S2x8x512x512) (sOff t u) S1x1x512x512.size (s_inb t u)).toLoadRect f9 = σ.s t u
  c : ∀ t u, arg10.view.readAt (Elt F) (Rect.unit (s := S2x8x1x512) (sOff t u) S1x1x1x512.size (c_inb t u)).toLoadRect f10 = σ.c t u

/-- The kernel's buffers, at a state of which `P` holds. -/
def At (P : St F → Prop) : sProp 𝕄G :=
  iprop((arg3.view.loc (th : Thread nD τ) ↦[arg3.view.set]{fullShare} f3) ∗ (arg4.view.loc (th : Thread nD τ) ↦[arg4.view.set]{fullShare} f4)
    ∗ (arg5.view.loc (th : Thread nD τ) ↦[arg5.view.set]{fullShare} f5)
    ∗ ∃ σ, ⌜P σ⌝ ∗ ∃ f6 f7 f8 f9 f10, ⌜Holds arg6 arg7 arg8 arg9 arg10 σ f6 f7 f8 f9 f10⌝ ∗ (arg6.view.loc (th : Thread nD τ) ↦[arg6.view.set]{fullShare} f6)
      ∗ (arg7.view.loc (th : Thread nD τ) ↦[arg7.view.set]{fullShare} f7) ∗ (arg8.view.loc (th : Thread nD τ) ↦[arg8.view.set]{fullShare} f8)
      ∗ (arg9.view.loc (th : Thread nD τ) ↦[arg9.view.set]{fullShare} f9) ∗ (arg10.view.loc (th : Thread nD τ) ↦[arg10.view.set]{fullShare} f10))

/-- The query sub-blocks of the query block. -/
def qOf (u : Fin 8) : Vec F S1x1x1x128x512 .bf16 :=
  arg3.view.readAt (Elt F) (Rect.unit (s := S1x1x8x128x512) (qOff u) S1x1x1x128x512.size (q_inb u)).toLoadRect f3

theorem at_intro (P : St F → Prop) (σ : St F) (hP : P σ) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty)
    (hσ : Holds arg6 arg7 arg8 arg9 arg10 σ f6 f7 f8 f9 f10) :
    iprop((arg3.view.loc (th : Thread nD τ) ↦[arg3.view.set]{fullShare} f3) ∗ (arg4.view.loc (th : Thread nD τ) ↦[arg4.view.set]{fullShare} f4)
      ∗ (arg5.view.loc (th : Thread nD τ) ↦[arg5.view.set]{fullShare} f5) ∗ (arg6.view.loc (th : Thread nD τ) ↦[arg6.view.set]{fullShare} f6)
      ∗ (arg7.view.loc (th : Thread nD τ) ↦[arg7.view.set]{fullShare} f7) ∗ (arg8.view.loc (th : Thread nD τ) ↦[arg8.view.set]{fullShare} f8)
      ∗ (arg9.view.loc (th : Thread nD τ) ↦[arg9.view.set]{fullShare} f9) ∗ (arg10.view.loc (th : Thread nD τ) ↦[arg10.view.set]{fullShare} f10))
    ⊢ (At th arg3 arg4 arg5 arg6 arg7 arg8 arg9 arg10 f3 f4 f5 P : sProp 𝕄G) := by
  unfold At
  iintro ⟨H3, H4, H5, H6, H7, H8, H9, H10⟩
  isplitl [H3]; · iexact H3
  isplitl [H4]; · iexact H4
  isplitl [H5]; · iexact H5
  iexists σ
  isplitr; · ipureintro; exact hP
  iexists f6; iexists f7; iexists f8; iexists f9; iexists f10
  isplitr; · ipureintro; exact hσ
  isplitl [H6]; · iexact H6
  isplitl [H7]; · iexact H7
  isplitl [H8]; · iexact H8
  isplitl [H9]; · iexact H9
  iexact H10

/-- The step `op` takes the buffers from a state where `P` holds to one where `Q` does. -/
def Runs (op : Step F) (P Q : St F → Prop) : Prop :=
  At th arg3 arg4 arg5 arg6 arg7 arg8 arg9 arg10 f3 f4 f5 P
    ⊢ wp frame (wpE (defs₀ (F := F)) 𝒱 (th : Thread nD τ) bd) E op (fun _ => At th arg3 arg4 arg5 arg6 arg7 arg8 arg9 arg10 f3 f4 f5 Q)

theorem runs_scores (s : Fin 2) (u : Fin 8) (off : Fin 4 → Nat) (hoff : ∀ a, off a + S1x1x512x128.size a ≤ S1x1x8192x128.size a)
    (P Q : St F → Prop)
    (h : ∀ σ, P σ → Q (scoresSt (qOf arg3 f3) s u (arg4.view.readAt (Elt F) (Rect.unit (s := S1x1x8192x128) off S1x1x512x128.size hoff).toLoadRect f4) σ)) :
    Runs 𝒱 th bd E arg3 arg4 arg5 arg6 arg7 arg8 arg9 arg10 f3 f4 f5 (scoresOp arg3 arg4 arg9 arg10 s u off hoff) P Q := by
  unfold Runs
  conv_lhs => unfold At
  unfold scoresOp
  iintro ⟨H3, H4, H5, %σ, %hP, %f6, %f7, %f8, %f9, %f10, %hσ, H6, H7, H8, H9, H10⟩
  sl_exec
  sl_step
  iapply (at_intro th arg3 arg4 arg5 arg6 arg7 arg8 arg9 arg10 f3 f4 f5 Q _ (h σ hP) f6 f7 f8 (arg9.view.writes (Elt F) f9 _) (arg10.view.writes (Elt F) f10 _)
    ⟨hσ.o, hσ.m, hσ.a, fun t u' => ?hs, fun t u' => ?hc⟩)
  case hs =>
    by_cases hu : t = s ∧ u' = u
    · obtain ⟨rfl, rfl⟩ := hu
      simp only [scoresSt, and_self, if_true]
      exact box_same _ _ _ _
    · simp only [scoresSt, if_neg hu]
      rw [← hσ.s t u']
      exact box_other _ _ _ _ _ (sOff_apart hu)
  case hc =>
    by_cases hu : t = s ∧ u' = u
    · obtain ⟨rfl, rfl⟩ := hu
      simp only [scoresSt, and_self, if_true]
      exact box_same _ _ _ _
    · simp only [scoresSt, if_neg hu]
      rw [← hσ.c t u']
      exact box_other _ _ _ _ _ (cOff_apart hu)
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem runs_soft (s : Fin 2) (u : Fin 8) (off : Fin 5 → Nat) (hoff : ∀ a, off a + S1x1x1x144x512.size a ≤ S1x1x16x144x512.size a)
    (P Q : St F → Prop)
    (h : ∀ σ, P σ → Q (softSt s u (arg5.view.readAt (Elt F) (Rect.unit (s := S1x1x16x144x512) off S1x1x1x144x512.size hoff).toLoadRect f5) σ)) :
    Runs 𝒱 th bd E arg3 arg4 arg5 arg6 arg7 arg8 arg9 arg10 f3 f4 f5 (softOp arg5 arg7 arg8 arg9 arg10 s u off hoff) P Q := by
  unfold Runs
  conv_lhs => unfold At
  unfold softOp
  iintro ⟨H3, H4, H5, %σ, %hP, %f6, %f7, %f8, %f9, %f10, %hσ, H6, H7, H8, H9, H10⟩
  sl_exec
  sl_step
  rw [hσ.m u, hσ.c s u, hσ.s s u, hσ.a u]
  iapply (at_intro th arg3 arg4 arg5 arg6 arg7 arg8 arg9 arg10 f3 f4 f5 Q _ (h σ hP) f6 (arg7.view.writes (Elt F) f7 _) (arg8.view.writes (Elt F) f8 _) f9 f10
    ⟨hσ.o, fun u' => ?hm, fun u' => ?ha, hσ.s, hσ.c⟩)
  case hm =>
    by_cases hu : u' = u
    · obtain rfl := hu
      simp only [softSt, if_true]
      exact box_same _ _ _ _
    · simp only [softSt, if_neg hu]
      rw [← hσ.m u']
      exact box_other _ _ _ _ _ (mOff_apart hu)
  case ha =>
    by_cases hu : u' = u
    · obtain rfl := hu
      simp only [softSt, if_true]
      exact box_same _ _ _ _
    · simp only [softSt, if_neg hu]
      rw [← hσ.a u']
      exact box_other _ _ _ _ _ (aOff_apart hu)
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem runs_out (u : Fin 8) (P Q : St F → Prop) (h : ∀ σ, P σ → Q (outSt u σ)) :
    Runs 𝒱 th bd E arg3 arg4 arg5 arg6 arg7 arg8 arg9 arg10 f3 f4 f5 (outOp arg6 harg6 arg8 u) P Q := by
  unfold Runs
  conv_lhs => unfold At
  unfold outOp
  iintro ⟨H3, H4, H5, %σ, %hP, %f6, %f7, %f8, %f9, %f10, %hσ, H6, H7, H8, H9, H10⟩
  sl_exec
  sl_step
  rw [show arg8.view.readAt (Elt F) (Rect.unit (s := S8x144x512) (uOff u) S1x128x512.size (n_inb u)).toLoadRect f8 = nOf (σ.a u) from by
      rw [← hσ.a u]
      rfl,
    show arg8.view.readAt (Elt F) (Rect.unit (s := S8x144x512) (lOff u) S1x1x512.size (l_inb u)).toLoadRect f8 = lOf (σ.a u) from by
      rw [← hσ.a u]
      exact lOf_read arg8.view f8 u]
  iapply (at_intro th arg3 arg4 arg5 arg6 arg7 arg8 arg9 arg10 f3 f4 f5 Q _ (h σ hP) (arg6.view.writes (Elt F) f6 _) f7 f8 f9 f10
    ⟨fun u' => ?ho, hσ.m, hσ.a, hσ.s, hσ.c⟩)
  case ho =>
    by_cases hu : u' = u
    · obtain rfl := hu
      simp only [outSt, if_true]
      exact box_same _ _ _ _
    · simp only [outSt, if_neg hu]
      rw [← hσ.o u']
      exact box_other _ _ _ _ _ (qOff_apart hu)
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem runs_init (P Q : St F → Prop) (h : ∀ σ, P σ → Q (initSt σ)) :
    Runs 𝒱 th bd E arg3 arg4 arg5 arg6 arg7 arg8 arg9 arg10 f3 f4 f5 (initOp arg7 arg8) P Q := by
  unfold Runs
  conv_lhs => unfold At
  unfold initOp
  iintro ⟨H3, H4, H5, %σ, %hP, %f6, %f7, %f8, %f9, %f10, %hσ, H6, H7, H8, H9, H10⟩
  sl_exec
  sl_step
  iapply (at_intro th arg3 arg4 arg5 arg6 arg7 arg8 arg9 arg10 f3 f4 f5 Q _ (h σ hP) f6
    (arg7.view.writes (Elt F) f7 [⟨Rect.unit (s := S8x1x512) ![0, 0, 0] S8x1x512.size inb_S8x1x512_S8x1x512_0_0_0, shapeCast S8x1x512 (broadcast S8x1x512 (Scalar.ofBits .f32 0xFF800000#32) : FVec F S8x1x512 .f32) shapeCasts_S8x1x512_S8x1x512⟩])
    (arg8.view.writes (Elt F) f8 [⟨Rect.unit (s := S8x144x512) ![0, 0, 0] S8x144x512.size inb_S8x144x512_S8x144x512_0_0_0, shapeCast S8x144x512 (broadcast S8x144x512 (Scalar.ofBits .f32 0x00000000#32) : FVec F S8x144x512 .f32) shapeCasts_S8x144x512_S8x144x512⟩]) f9 f10
    ⟨hσ.o, fun u' => ?hm, fun u' => ?ha, hσ.s, hσ.c⟩)
  case hm => exact box_fill arg7.view f7 _ (m_inb u') _ _ fun _ _ => rfl
  case ha => exact box_fill arg8.view f8 _ (a_inb u') _ _ fun _ _ => rfl
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- No steps. -/
theorem runs_nil (P : St F → Prop) :
    Runs 𝒱 th bd E arg3 arg4 arg5 arg6 arg7 arg8 arg9 arg10 f3 f4 f5 (seq []) P P := by
  unfold Runs seq
  rw [wp_pure]
  exact fupd_intro

/-- A step and the steps after it. -/
theorem runs_cons (op : Step F) (l : List (Step F)) (P Q R : St F → Prop)
    (h1 : Runs 𝒱 th bd E arg3 arg4 arg5 arg6 arg7 arg8 arg9 arg10 f3 f4 f5 op P Q)
    (h2 : Runs 𝒱 th bd E arg3 arg4 arg5 arg6 arg7 arg8 arg9 arg10 f3 f4 f5 (seq l) Q R) :
    Runs 𝒱 th bd E arg3 arg4 arg5 arg6 arg7 arg8 arg9 arg10 f3 f4 f5 (seq (op :: l)) P R := by
  unfold Runs at *
  rw [seq, wp_bind]
  exact BIBase.Entails.trans h1 (wp_mono _ _ _ fun _ => h2)

end

end Cert.LatentIdeal.Body

end
-- ==== Proof.LatentRun.lean ====
/- The attention kernel run from its first step to its last: what a block of the result holds at the end, as a
   function of the blocks of queries, keys and values. -/
module

public import proofs.«01_k».proof.Proof.LatentSteps

@[expose] public section

set_option maxRecDepth 8192

noncomputable section

namespace Cert.LatentIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LatentIdeal Cert.LatentIdeal.Gen

variable {F : FTy → Type} [FloatOps F]

local notation "𝕄G" => MT nD τ sig Unit (Elt F) ℕ (UR sig nD τ) ℕ

/-! ## A sub-block's state after some chunks -/

section
variable (q : Vec F S1x1x1x128x512 .bf16) (K : Fin 16 → Vec F S1x1x512x128 .bf16) (V : Fin 16 → Vec F S1x1x1x144x512 .bf16)

/-- The scores against the chunk `j`. -/
def sAt (j : Fin 16) : Vec F S1x1x512x512 .f32 := shapeCast S1x1x512x512 (scoreV (K j) q) shapeCasts_S512x512_S1x1x512x512

/-- Their maxima. -/
def cAt (j : Fin 16) : Vec F S1x1x1x512 .f32 := shapeCast S1x1x1x512 (cmaxV (scoreV (K j) q)) shapeCasts_S1x512_S1x1x1x512

/-- The running maximum after `j` chunks. -/
def mAt : ℕ → Vec F S1x1x512 .f32
  | 0 => broadcast S1x1x512 (Scalar.ofBits .f32 0xFF800000#32)
  | j + 1 => shapeCast S1x1x512 (mNew (mAt j) (cAt q K (Fin.ofNat 16 j))) shapeCasts_S1x512_S1x1x512

/-- The accumulator after `j` chunks. -/
def aAt : ℕ → Vec F S1x144x512 .f32
  | 0 => broadcast S1x144x512 (Scalar.ofBits .f32 0x00000000#32)
  | j + 1 => shapeCast S1x144x512 (aNew (mAt q K j) (cAt q K (Fin.ofNat 16 j)) (sAt q K (Fin.ofNat 16 j)) (aAt j) (V (Fin.ofNat 16 j))) shapeCasts_S144x512_S1x144x512

/-- The block of the result. -/
def oAt : Vec F S1x1x1x128x512 .bf16 :=
  shapeCast S1x1x1x128x512 (outV (nOf (aAt q K V 16)) (lOf (aAt q K V 16))) shapeCasts_S128x512_S1x1x1x128x512

end

section
variable (q : Fin 8 → Vec F S1x1x1x128x512 .bf16) (K : Fin 16 → Vec F S1x1x512x128 .bf16) (V : Fin 16 → Vec F S1x1x1x144x512 .bf16)

/-- The state of the sub-block `u` after `j` chunks. -/
structure Acc (j : ℕ) (u : Fin 8) (σ : St F) : Prop where
  m : σ.m u = mAt (q u) K j
  a : σ.a u = aAt (q u) K V j

/-- The slot `s` holds the scores of the sub-block `u` against the chunk `j`. -/
structure Sco (s : Fin 2) (j : Fin 16) (u : Fin 8) (σ : St F) : Prop where
  sc : σ.s s u = sAt (q u) K j
  cm : σ.c s u = cAt (q u) K j

theorem acc_scores {j : ℕ} {u u' : Fin 8} {s : Fin 2} {k : Vec F S1x1x512x128 .bf16} {σ : St F} (h : Acc q K V j u σ) :
    Acc q K V j u (scoresSt q s u' k σ) := ⟨h.m, h.a⟩

theorem acc_out {j : ℕ} {u u' : Fin 8} {σ : St F} (h : Acc q K V j u σ) : Acc q K V j u (outSt u' σ) := ⟨h.m, h.a⟩

theorem sco_scores (s : Fin 2) (j : Fin 16) (u : Fin 8) (σ : St F) : Sco q K s j u (scoresSt q s u (K j) σ) := by
  constructor <;> simp [scoresSt, sAt, cAt]

theorem sco_scores_of_ne {s s' : Fin 2} {j : Fin 16} {u u' : Fin 8} {k : Vec F S1x1x512x128 .bf16} {σ : St F} (h : Sco q K s j u σ)
    (hne : ¬(s = s' ∧ u = u')) : Sco q K s j u (scoresSt q s' u' k σ) := by
  constructor
  · simp only [scoresSt, if_neg hne]; exact h.sc
  · simp only [scoresSt, if_neg hne]; exact h.cm

theorem sco_soft {s s' : Fin 2} {j : Fin 16} {u u' : Fin 8} {v : Vec F S1x1x1x144x512 .bf16} {σ : St F} (h : Sco q K s j u σ) :
    Sco q K s j u (softSt s' u' v σ) := ⟨h.sc, h.cm⟩

theorem acc_soft {s : Fin 2} {j : Fin 16} {u : Fin 8} {σ : St F} (h : Acc q K V j u σ) (hs : Sco q K s j u σ) :
    Acc q K V (j + 1) u (softSt s u (V j) σ) := by
  have hj : Fin.ofNat 16 j.val = j := Fin.ofNat_val_eq_self j
  constructor
  · simp only [softSt, if_true, mAt, hj, h.m, hs.cm]
  · simp only [softSt, if_true, aAt, hj, h.m, h.a, hs.cm, hs.sc]

theorem acc_soft_of_ne {s : Fin 2} {j : ℕ} {u u' : Fin 8} {v : Vec F S1x1x1x144x512 .bf16} {σ : St F} (h : Acc q K V j u σ) (hne : u ≠ u') :
    Acc q K V j u (softSt s u' v σ) := by
  constructor
  · simp only [softSt, if_neg hne]; exact h.m
  · simp only [softSt, if_neg hne]; exact h.a

/-- Before the loop: the sub-blocks not in `l` have the first chunk's scores. -/
def Pre (l : List (Fin 8)) (σ : St F) : Prop :=
  ∀ u, Acc q K V 0 u σ ∧ (u ∉ l → Sco q K 0 0 u σ)

/-- In a stage: the sub-blocks in `l` are still at the chunk `j`, the others at `j'`. -/
def Mid (s s' : Fin 2) (j j' : Fin 16) (l : List (Fin 8)) (σ : St F) : Prop :=
  ∀ u, (u ∈ l → Acc q K V j u σ ∧ Sco q K s j u σ) ∧ (u ∉ l → Acc q K V j' u σ ∧ Sco q K s' j' u σ)

/-- Between stages. -/
def Inv (s : Fin 2) (j : Fin 16) (σ : St F) : Prop :=
  ∀ u, Acc q K V j u σ ∧ Sco q K s j u σ

/-- In the last updates: the sub-blocks not in `l` have had all chunks. -/
def Last (l : List (Fin 8)) (σ : St F) : Prop :=
  ∀ u, (u ∈ l → Acc q K V 15 u σ ∧ Sco q K 1 15 u σ) ∧ (u ∉ l → Acc q K V 16 u σ)

/-- In the result's steps: the sub-blocks not in `l` have theirs. -/
def Done (l : List (Fin 8)) (σ : St F) : Prop :=
  ∀ u, Acc q K V 16 u σ ∧ (u ∉ l → σ.o u = oAt (q u) K V)

theorem pre_init (σ : St F) : Pre q K V us (initSt σ) :=
  fun u => ⟨⟨rfl, rfl⟩, fun h => absurd (by revert u; decide) h⟩

theorem pre_step {u : Fin 8} {l : List (Fin 8)} {σ : St F} (h : Pre q K V (u :: l) σ) :
    Pre q K V l (scoresSt q 0 u (K 0) σ) := by
  intro x
  refine ⟨acc_scores q K V (h x).1, fun hx => ?_⟩
  by_cases hu : x = u
  · subst hu; exact sco_scores q K 0 0 x σ
  · exact sco_scores_of_ne q K ((h x).2 (by simp [hu, hx])) fun h => hu h.2

theorem mid_step {s s' : Fin 2} (hs : s ≠ s') {j j' : Fin 16} (hj : j'.val = j.val + 1) {u : Fin 8} {l : List (Fin 8)} (hl : u ∉ l) {σ : St F}
    (h : Mid q K V s s' j j' (u :: l) σ) :
    Mid q K V s s' j j' l (softSt s u (V j) (scoresSt q s' u (K j') σ)) := by
  intro x
  by_cases hu : x = u
  · subst hu
    obtain ⟨ha, hc⟩ := (h x).1 (by simp)
    refine ⟨fun hx => absurd hx hl, fun _ => ⟨?_, sco_soft q K (sco_scores q K s' j' x σ)⟩⟩
    have := acc_soft q K V (acc_scores q K V ha (s := s') (u' := x) (k := K j')) (sco_scores_of_ne q K hc fun h => hs h.1)
    rwa [← hj] at this
  · refine ⟨fun hx => ?_, fun hx => ?_⟩
    · obtain ⟨ha, hc⟩ := (h x).1 (by simp [hx])
      exact ⟨acc_soft_of_ne q K V (acc_scores q K V ha) hu, sco_soft q K (sco_scores_of_ne q K hc fun h => hu h.2)⟩
    · obtain ⟨ha, hc⟩ := (h x).2 (by simp [hx, hu])
      exact ⟨acc_soft_of_ne q K V (acc_scores q K V ha) hu, sco_soft q K (sco_scores_of_ne q K hc fun h => hu h.2)⟩

theorem last_step {u : Fin 8} {l : List (Fin 8)} (hl : u ∉ l) {σ : St F} (h : Last q K V (u :: l) σ) :
    Last q K V l (softSt 1 u (V 15) σ) := by
  intro x
  by_cases hu : x = u
  · subst hu
    obtain ⟨ha, hc⟩ := (h x).1 (by simp)
    exact ⟨fun hx => absurd hx hl, fun _ => acc_soft q K V (j := 15) ha hc⟩
  · refine ⟨fun hx => ?_, fun hx => ?_⟩
    · obtain ⟨ha, hc⟩ := (h x).1 (by simp [hx])
      exact ⟨acc_soft_of_ne q K V ha hu, sco_soft q K hc⟩
    · exact acc_soft_of_ne q K V ((h x).2 (by simp [hx, hu])) hu

theorem done_step {u : Fin 8} {l : List (Fin 8)} {σ : St F} (h : Done q K V (u :: l) σ) : Done q K V l (outSt u σ) := by
  intro x
  refine ⟨acc_out q K V (h x).1, fun hx => ?_⟩
  by_cases hu : x = u
  · subst hu
    simp only [outSt, if_true, (h x).1.a, oAt]
  · simp only [outSt, if_neg hu]
    exact (h x).2 (by simp [hu, hx])

end

/-! ## Lists of steps -/

section
variable (𝒱 : Variants) (th : Dev nD) (bd : Option 𝒱.V) (E : Set ℕ)
variable (arg3 : Memref sig .tc .vmem S1x1x8x128x512 .bf16) (arg4 : Memref sig .tc .vmem S1x1x8192x128 .bf16)
  (arg5 : Memref sig .tc .vmem S1x1x16x144x512 .bf16) (arg6 : Memref sig .tc .vmem S1x1x8x128x512 .bf16) (harg6 : arg6.IsWhole)
  (arg7 : Memref sig .tc .vmem S8x1x512 .f32) (arg8 : Memref sig .tc .vmem S8x144x512 .f32)
  (arg9 : Memref sig .tc .vmem S2x8x512x512 .f32) (arg10 : Memref sig .tc .vmem S2x8x1x512 .f32)
  (f3 : BufTy.Contents (Elt F) arg3.view.ty) (f4 : BufTy.Contents (Elt F) arg4.view.ty) (f5 : BufTy.Contents (Elt F) arg5.view.ty)

/-- The key chunks of the key block. -/
def kOf (j : Fin 16) : Vec F S1x1x512x128 .bf16 :=
  arg4.view.readAt (Elt F) (Rect.unit (s := S1x1x8192x128) (kOff j) S1x1x512x128.size (k_inb j)).toLoadRect f4

/-- The value chunks of the value block. -/
def vOf (j : Fin 16) : Vec F S1x1x1x144x512 .bf16 :=
  arg5.view.readAt (Elt F) (Rect.unit (s := S1x1x16x144x512) (vOff j) S1x1x1x144x512.size (v_inb j)).toLoadRect f5

theorem seq_append (l l' : List (Step F)) : seq (l ++ l') = (do seq l; seq l') := by
  induction l with
  | nil => rfl
  | cons a l ih => simp only [List.cons_append, seq, ih, bind_assoc]

theorem runs_append (l l' : List (Step F)) (P Q R : St F → Prop)
    (h1 : Runs 𝒱 th bd E arg3 arg4 arg5 arg6 arg7 arg8 arg9 arg10 f3 f4 f5 (seq l) P Q)
    (h2 : Runs 𝒱 th bd E arg3 arg4 arg5 arg6 arg7 arg8 arg9 arg10 f3 f4 f5 (seq l') Q R) :
    Runs 𝒱 th bd E arg3 arg4 arg5 arg6 arg7 arg8 arg9 arg10 f3 f4 f5 (seq (l ++ l')) P R := by
  unfold Runs at *
  rw [seq_append, wp_bind]
  exact BIBase.Entails.trans h1 (wp_mono _ _ _ fun _ => h2)

/-- A weaker state after the steps. -/
theorem runs_mono (op : Step F) (P Q R : St F → Prop) (h : ∀ σ, Q σ → R σ)
    (h1 : Runs 𝒱 th bd E arg3 arg4 arg5 arg6 arg7 arg8 arg9 arg10 f3 f4 f5 op P Q) :
    Runs 𝒱 th bd E arg3 arg4 arg5 arg6 arg7 arg8 arg9 arg10 f3 f4 f5 op P R := by
  unfold Runs at *
  refine BIBase.Entails.trans h1 (wp_mono _ _ _ fun _ => ?_)
  unfold At
  iintro ⟨H3, H4, H5, %σ, %hP, H⟩
  isplitl [H3]; · iexact H3
  isplitl [H4]; · iexact H4
  isplitl [H5]; · iexact H5
  iexists σ
  isplitr; · ipureintro; exact h σ hP
  iexact H

/-- Steps sub-block by sub-block, each taking one sub-block off the list of those still to come. -/
theorem runs_each (f : Fin 8 → Step F) (P : List (Fin 8) → St F → Prop)
    (h : ∀ u l, u ∉ l → Runs 𝒱 th bd E arg3 arg4 arg5 arg6 arg7 arg8 arg9 arg10 f3 f4 f5 (f u) (P (u :: l)) (P l)) :
    ∀ l : List (Fin 8), l.Nodup → Runs 𝒱 th bd E arg3 arg4 arg5 arg6 arg7 arg8 arg9 arg10 f3 f4 f5 (seq (l.map f)) (P l) (P [])
  | [], _ => runs_nil 𝒱 th bd E arg3 arg4 arg5 arg6 arg7 arg8 arg9 arg10 f3 f4 f5 (P [])
  | u :: l, hl => runs_cons 𝒱 th bd E arg3 arg4 arg5 arg6 arg7 arg8 arg9 arg10 f3 f4 f5 (f u) (l.map f) _ _ _
      (h u l (List.nodup_cons.1 hl).1) (runs_each f P h l (List.nodup_cons.1 hl).2)

/-- A stage takes all sub-blocks from one chunk to the next. -/
theorem runs_stage {s s' : Fin 2} (hs : s ≠ s') {j j' : Fin 16} (hj : j'.val = j.val + 1)
    (ko : Fin 4 → Nat) (hko : ∀ a, ko a + S1x1x512x128.size a ≤ S1x1x8192x128.size a) (hk : ko = kOff j')
    (vo : Fin 5 → Nat) (hvo : ∀ a, vo a + S1x1x1x144x512.size a ≤ S1x1x16x144x512.size a) (hv : vo = vOff j) :
    Runs 𝒱 th bd E arg3 arg4 arg5 arg6 arg7 arg8 arg9 arg10 f3 f4 f5
      (seq (stageOps arg3 arg4 arg5 arg7 arg8 arg9 arg10 s s' ko hko vo hvo us))
      (Inv (qOf arg3 f3) (kOf arg4 f4) (vOf arg5 f5) s j) (Inv (qOf arg3 f3) (kOf arg4 f4) (vOf arg5 f5) s' j') := by
  subst hk hv
  have key : ∀ l : List (Fin 8), l.Nodup → Runs 𝒱 th bd E arg3 arg4 arg5 arg6 arg7 arg8 arg9 arg10 f3 f4 f5
      (seq (stageOps arg3 arg4 arg5 arg7 arg8 arg9 arg10 s s' (kOff j') hko (vOff j) hvo l))
      (Mid (qOf arg3 f3) (kOf arg4 f4) (vOf arg5 f5) s s' j j' l) (Mid (qOf arg3 f3) (kOf arg4 f4) (vOf arg5 f5) s s' j j' []) := by
    intro l
    induction l with
    | nil => exact fun _ => runs_nil 𝒱 th bd E arg3 arg4 arg5 arg6 arg7 arg8 arg9 arg10 f3 f4 f5 _
    | cons u l ih =>
      intro hl
      obtain ⟨h1, h2⟩ := List.nodup_cons.1 hl
      refine runs_cons 𝒱 th bd E arg3 arg4 arg5 arg6 arg7 arg8 arg9 arg10 f3 f4 f5 _ _ _
        (fun σ => Mid (qOf arg3 f3) (kOf arg4 f4) (vOf arg5 f5) s s' j j' l (softSt s u (vOf arg5 f5 j) σ)) _
        (runs_scores 𝒱 th bd E arg3 arg4 arg5 arg6 arg7 arg8 arg9 arg10 f3 f4 f5 s' u (kOff j') hko _ _
          fun σ h => mid_step (qOf arg3 f3) (kOf arg4 f4) (vOf arg5 f5) hs hj h1 h) ?_
      exact runs_cons 𝒱 th bd E arg3 arg4 arg5 arg6 arg7 arg8 arg9 arg10 f3 f4 f5 _ _ _ _ _
        (runs_soft 𝒱 th bd E arg3 arg4 arg5 arg6 arg7 arg8 arg9 arg10 f3 f4 f5 s u (vOff j) hvo _ _ fun σ h => h) (ih h2)
  have h := runs_mono 𝒱 th bd E arg3 arg4 arg5 arg6 arg7 arg8 arg9 arg10 f3 f4 f5 _ _ _
    (Inv (qOf arg3 f3) (kOf arg4 f4) (vOf arg5 f5) s' j') (fun σ h u => (h u).2 (by simp)) (key us (by decide))
  refine BIBase.Entails.trans ?_ h
  unfold At
  iintro ⟨H3, H4, H5, %σ, %hP, H⟩
  isplitl [H3]; · iexact H3
  isplitl [H4]; · iexact H4
  isplitl [H5]; · iexact H5
  iexists σ
  isplitr; · ipureintro; exact fun u => ⟨fun _ => hP u, fun h => absurd (by revert u; decide) h⟩
  iexact H

theorem off1_0 (t : Fin k0_t1_loop.trips) (h : 2 * t.val + 1 < 16) : k0_off1 t 0#32 = kOff ⟨2 * t.val + 1, h⟩ := by
  revert t; decide
theorem off1_1 (t : Fin k0_t1_loop.trips) (h : 2 * t.val + 2 < 16) : k0_off1 t 1#32 = kOff ⟨2 * t.val + 2, h⟩ := by
  revert t; decide
theorem off2_0 (t : Fin k0_t1_loop.trips) (h : 2 * t.val < 16) : k0_off2 t 0#32 = vOff ⟨2 * t.val, h⟩ := by
  revert t; decide
theorem off2_1 (t : Fin k0_t1_loop.trips) (h : 2 * t.val + 1 < 16) : k0_off2 t 1#32 = vOff ⟨2 * t.val + 1, h⟩ := by
  revert t; decide

/-- Some values of the buffers are some state. -/
theorem at_any (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) :
    iprop((arg3.view.loc (th : Thread nD τ) ↦[arg3.view.set]{fullShare} f3) ∗ (arg4.view.loc (th : Thread nD τ) ↦[arg4.view.set]{fullShare} f4)
      ∗ (arg5.view.loc (th : Thread nD τ) ↦[arg5.view.set]{fullShare} f5) ∗ (arg6.view.loc (th : Thread nD τ) ↦[arg6.view.set]{fullShare} f6)
      ∗ (arg7.view.loc (th : Thread nD τ) ↦[arg7.view.set]{fullShare} f7) ∗ (arg8.view.loc (th : Thread nD τ) ↦[arg8.view.set]{fullShare} f8)
      ∗ (arg9.view.loc (th : Thread nD τ) ↦[arg9.view.set]{fullShare} f9) ∗ (arg10.view.loc (th : Thread nD τ) ↦[arg10.view.set]{fullShare} f10))
    ⊢ (At th arg3 arg4 arg5 arg6 arg7 arg8 arg9 arg10 f3 f4 f5 (fun _ => True) : sProp 𝕄G) :=
  at_intro th arg3 arg4 arg5 arg6 arg7 arg8 arg9 arg10 f3 f4 f5 _ ⟨_, _, _, _, _⟩ trivial f6 f7 f8 f9 f10
    ⟨fun _ => rfl, fun _ => rfl, fun _ => rfl, fun _ _ => rfl, fun _ _ => rfl⟩

theorem runs_pre : Runs 𝒱 th bd E arg3 arg4 arg5 arg6 arg7 arg8 arg9 arg10 f3 f4 f5 (seq (preOps arg3 arg4 arg7 arg8 arg9 arg10))
    (fun _ => True) (Inv (qOf arg3 f3) (kOf arg4 f4) (vOf arg5 f5) 0 0) := by
  refine runs_mono 𝒱 th bd E arg3 arg4 arg5 arg6 arg7 arg8 arg9 arg10 f3 f4 f5 _ _ (Pre (qOf arg3 f3) (kOf arg4 f4) (vOf arg5 f5) []) _
    (fun σ h u => ⟨(h u).1, (h u).2 (by simp)⟩) ?_
  refine runs_cons 𝒱 th bd E arg3 arg4 arg5 arg6 arg7 arg8 arg9 arg10 f3 f4 f5 _ _ _ (Pre (qOf arg3 f3) (kOf arg4 f4) (vOf arg5 f5) us) _
    (runs_init 𝒱 th bd E arg3 arg4 arg5 arg6 arg7 arg8 arg9 arg10 f3 f4 f5 _ _ fun σ _ => pre_init _ _ _ σ) ?_
  exact runs_each 𝒱 th bd E arg3 arg4 arg5 arg6 arg7 arg8 arg9 arg10 f3 f4 f5 _ (Pre (qOf arg3 f3) (kOf arg4 f4) (vOf arg5 f5))
    (fun u l _ => runs_scores 𝒱 th bd E arg3 arg4 arg5 arg6 arg7 arg8 arg9 arg10 f3 f4 f5 0 u (kOff 0) (k_inb 0) _ _
      fun σ h => pre_step (qOf arg3 f3) (kOf arg4 f4) (vOf arg5 f5) h) us (by decide)

theorem runs_trip (t : Fin k0_t1_loop.trips) (h0 : 2 * t.val < 16) (h2 : 2 * t.val + 2 < 16) :
    Runs 𝒱 th bd E arg3 arg4 arg5 arg6 arg7 arg8 arg9 arg10 f3 f4 f5 (seq (tripOps arg3 arg4 arg5 arg7 arg8 arg9 arg10 t))
      (Inv (qOf arg3 f3) (kOf arg4 f4) (vOf arg5 f5) 0 ⟨2 * t.val, h0⟩)
      (Inv (qOf arg3 f3) (kOf arg4 f4) (vOf arg5 f5) 0 ⟨2 * t.val + 2, h2⟩) :=
  have h1 : 2 * t.val + 1 < 16 := by omega
  runs_append 𝒱 th bd E arg3 arg4 arg5 arg6 arg7 arg8 arg9 arg10 f3 f4 f5 _ _ _
    (Inv (qOf arg3 f3) (kOf arg4 f4) (vOf arg5 f5) 1 ⟨2 * t.val + 1, h1⟩) _
    (runs_stage 𝒱 th bd E arg3 arg4 arg5 arg6 arg7 arg8 arg9 arg10 f3 f4 f5 (by decide) rfl _ _ (off1_0 t h1) _ _ (off2_0 t h0))
    (runs_stage 𝒱 th bd E arg3 arg4 arg5 arg6 arg7 arg8 arg9 arg10 f3 f4 f5 (by decide) rfl _ _ (off1_1 t h2) _ _ (off2_1 t h1))

theorem runs_post : Runs 𝒱 th bd E arg3 arg4 arg5 arg6 arg7 arg8 arg9 arg10 f3 f4 f5 (seq (postOps arg3 arg4 arg5 arg6 harg6 arg7 arg8 arg9 arg10))
    (Inv (qOf arg3 f3) (kOf arg4 f4) (vOf arg5 f5) 0 14) (Done (qOf arg3 f3) (kOf arg4 f4) (vOf arg5 f5) []) := by
  refine runs_append 𝒱 th bd E arg3 arg4 arg5 arg6 arg7 arg8 arg9 arg10 f3 f4 f5 _ _ _ (Last (qOf arg3 f3) (kOf arg4 f4) (vOf arg5 f5) us) _
    (runs_mono 𝒱 th bd E arg3 arg4 arg5 arg6 arg7 arg8 arg9 arg10 f3 f4 f5 _ _ (Inv (qOf arg3 f3) (kOf arg4 f4) (vOf arg5 f5) 1 15) _
      (fun σ h u => ⟨fun _ => h u, fun hu => absurd (by revert u; decide) hu⟩)
      (runs_stage 𝒱 th bd E arg3 arg4 arg5 arg6 arg7 arg8 arg9 arg10 f3 f4 f5 (by decide) rfl _ _ rfl _ _ rfl)) ?_
  refine runs_append 𝒱 th bd E arg3 arg4 arg5 arg6 arg7 arg8 arg9 arg10 f3 f4 f5 _ _ _ (Done (qOf arg3 f3) (kOf arg4 f4) (vOf arg5 f5) us) _
    (runs_mono 𝒱 th bd E arg3 arg4 arg5 arg6 arg7 arg8 arg9 arg10 f3 f4 f5 _ _ (Last (qOf arg3 f3) (kOf arg4 f4) (vOf arg5 f5) []) _
      (fun σ h u => ⟨(h u).2 (by simp), fun hu => absurd (by revert u; decide) hu⟩)
      (runs_each 𝒱 th bd E arg3 arg4 arg5 arg6 arg7 arg8 arg9 arg10 f3 f4 f5 _ (Last (qOf arg3 f3) (kOf arg4 f4) (vOf arg5 f5))
        (fun u l hl => runs_soft 𝒱 th bd E arg3 arg4 arg5 arg6 arg7 arg8 arg9 arg10 f3 f4 f5 1 u (vOff 15) (v_inb 15) _ _
          fun σ h => last_step (qOf arg3 f3) (kOf arg4 f4) (vOf arg5 f5) hl h) us (by decide))) ?_
  exact runs_each 𝒱 th bd E arg3 arg4 arg5 arg6 arg7 arg8 arg9 arg10 f3 f4 f5 _ (Done (qOf arg3 f3) (kOf arg4 f4) (vOf arg5 f5))
    (fun u l _ => runs_out 𝒱 th bd E arg3 arg4 arg5 arg6 harg6 arg7 arg8 arg9 arg10 f3 f4 f5 u _ _
      fun σ h => done_step (qOf arg3 f3) (kOf arg4 f4) (vOf arg5 f5) h) us (by decide)

/-- The kernel leaves every sub-block of the result at its attention. -/
theorem runs_kernel (i : grid0.Coords) (harg3 : arg3.IsWhole) (harg4 : arg4.IsWhole) (harg5 : arg5.IsWhole) (harg7 : arg7.IsWhole)
    (harg8 : arg8.IsWhole) (harg9 : arg9.IsWhole) (harg10 : arg10.IsWhole) :
    Runs 𝒱 th bd E arg3 arg4 arg5 arg6 arg7 arg8 arg9 arg10 f3 f4 f5
      (cc0_attention (F := F) i arg3 harg3 arg4 harg4 arg5 harg5 arg6 harg6 arg7 harg7 arg8 harg8 arg9 harg9 arg10 harg10)
      (fun _ => True) (Done (qOf arg3 f3) (kOf arg4 f4) (vOf arg5 f5) []) := by
  rw [kernel_eq]
  have hpre := runs_pre 𝒱 th bd E arg3 arg4 arg5 arg6 arg7 arg8 arg9 arg10 f3 f4 f5
  have htrip := runs_trip 𝒱 th bd E arg3 arg4 arg5 arg6 arg7 arg8 arg9 arg10 f3 f4 f5
  have hpost := runs_post 𝒱 th bd E arg3 arg4 arg5 arg6 harg6 arg7 arg8 arg9 arg10 f3 f4 f5
  unfold Runs at *
  rw [wp_bind]
  refine BIBase.Entails.trans hpre (wp_mono _ _ _ fun _ => ?_)
  have hfor := Scf.wp_for_bind frame (wpE (defs₀ (F := F)) 𝒱 (th : Thread nD τ) bd) E k0_t1_loop.lb k0_t1_loop.ub k0_t1_loop.st k0_t1_ok ()
    (fun t _ => seq (tripOps arg3 arg4 arg5 arg7 arg8 arg9 arg10 t))
    (fun k _ => At th arg3 arg4 arg5 arg6 arg7 arg8 arg9 arg10 f3 f4 f5
      (Inv (qOf arg3 f3) (kOf arg4 f4) (vOf arg5 f5) 0 (Fin.ofNat 16 (2 * k)))) (fun t _ => by
        have ht : t.val < 7 := lt_of_lt_of_le t.isLt (by decide)
        have h := htrip t (by omega) (by omega)
        have e1 : Fin.ofNat 16 (2 * t.val) = ⟨2 * t.val, by omega⟩ := Fin.ext (Nat.mod_eq_of_lt (by omega))
        have e2 : Fin.ofNat 16 (2 * (t.val + 1)) = ⟨2 * t.val + 2, by omega⟩ := Fin.ext (Nat.mod_eq_of_lt (by omega))
        rw [e1, e2]
        exact h)
    (kk := fun _ => seq (postOps arg3 arg4 arg5 arg6 harg6 arg7 arg8 arg9 arg10))
    (Q := fun _ => At th arg3 arg4 arg5 arg6 arg7 arg8 arg9 arg10 f3 f4 f5 (Done (qOf arg3 f3) (kOf arg4 f4) (vOf arg5 f5) []))
  iintro H
  iapply hfor $$ H
  iintro %x H
  iapply hpost
  iexact H

end

end Cert.LatentIdeal.Body

end
-- ==== Proof.LatentKFrame.lean ====
/- The attention kernel's pipeline: what every block of the result holds, and that the program runs with its
   arguments unchanged. -/
module

public import proofs.«01_k».proof.Proof.LatentRun
public import proofs.«01_k».proof.Proof.Gen.LatentIdeal.Frame
public import Idealize.ShloMosaic.Lib.Pipeline.ValueKit
public import Idealize.ShloMosaic.Lib.Ring

@[expose] public section

set_option maxRecDepth 16384

noncomputable section

namespace Cert.LatentIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatentIdeal Cert.LatentIdeal.Gen

variable {F : FTy → Type} [FloatOps F]

local notation "𝕄G" => MT nD τ sig Unit (Elt F) ℕ (UR sig nD τ) ℕ

/-! ## A block of the result -/

/-- The query sub-block `u` of a block. -/
def qBlk (x : Vec F S1x1x8x128x512 .bf16) (u : Fin 8) : Vec F S1x1x1x128x512 .bf16 :=
  fun j => x ((Rect.unit (s := S1x1x8x128x512) (qOff u) S1x1x1x128x512.size (q_inb u)).emb j)

/-- The key chunk `j` of a block. -/
def kBlk (x : Vec F S1x1x8192x128 .bf16) (j : Fin 16) : Vec F S1x1x512x128 .bf16 :=
  fun i => x ((Rect.unit (s := S1x1x8192x128) (kOff j) S1x1x512x128.size (k_inb j)).emb i)

/-- The value chunk `j` of a block. -/
def vBlk (x : Vec F S1x1x16x144x512 .bf16) (j : Fin 16) : Vec F S1x1x1x144x512 .bf16 :=
  fun i => x ((Rect.unit (s := S1x1x16x144x512) (vOff j) S1x1x1x144x512.size (v_inb j)).emb i)

/-- The sub-block in which a place of a block lies. -/
def subOf (y : S1x1x8x128x512.Idx) : Fin 8 :=
  ⟨(y 2).val, (y 2).isLt⟩

/-- The block of the result from the blocks of queries, keys and values. -/
def blkOut (x0 : Vec F S1x1x8x128x512 .bf16) (x1 : Vec F S1x1x8192x128 .bf16) (x2 : Vec F S1x1x16x144x512 .bf16) :
    Vec F S1x1x8x128x512 .bf16 :=
  fun y => oAt (qBlk x0 (subOf y)) (kBlk x1) (vBlk x2) (ix5 0 0 0 (y 3) (y 4))

/-- Sub-block by sub-block, the block of the result. -/
theorem blk_of_subs (x0 : Vec F S1x1x8x128x512 .bf16) (x1 : Vec F S1x1x8192x128 .bf16) (x2 : Vec F S1x1x16x144x512 .bf16)
    (w : Vec F S1x1x8x128x512 .bf16) (h : ∀ u, qBlk w u = oAt (qBlk x0 u) (kBlk x1) (vBlk x2)) : w = blkOut x0 x1 x2 := by
  funext y
  refine Eq.trans (congrArg w ?_) (congrFun (h (subOf y)) (ix5 0 0 0 (y 3) (y 4)))
  funext a
  have h0 : (y 0).val < 1 := (y 0).isLt
  have h1 : (y 1).val < 1 := (y 1).isLt
  refine Fin.ext ?_
  match a with
  | ⟨0, _⟩ => show (y 0).val = 0 + 1 * 0; omega
  | ⟨1, _⟩ => show (y 1).val = 0 + 1 * 0; omega
  | ⟨2, _⟩ => show (y 2).val = (y 2).val + 1 * 0; omega
  | ⟨3, _⟩ => show (y 3).val = 0 + 1 * (y 3).val; omega
  | ⟨4, _⟩ => show (y 4).val = 0 + 1 * (y 4).val; omega

/-! ## The kernel on whole buffers -/

theorem sound_kernel (c : Dev nD) (E : Set ℕ) (i : grid0.Coords) (arg3 : Memref sig .tc .vmem S1x1x8x128x512 .bf16) (harg3 : arg3.IsWhole) (arg4 : Memref sig .tc .vmem S1x1x8192x128 .bf16) (harg4 : arg4.IsWhole) (arg5 : Memref sig .tc .vmem S1x1x16x144x512 .bf16) (harg5 : arg5.IsWhole) (arg6 : Memref sig .tc .vmem S1x1x8x128x512 .bf16) (harg6 : arg6.IsWhole) (arg7 : Memref sig .tc .vmem S8x1x512 .f32) (harg7 : arg7.IsWhole) (arg8 : Memref sig .tc .vmem S8x144x512 .f32) (harg8 : arg8.IsWhole) (arg9 : Memref sig .tc .vmem S2x8x512x512 .f32) (harg9 : arg9.IsWhole) (arg10 : Memref sig .tc .vmem S2x8x1x512 .f32) (harg10 : arg10.IsWhole)
    (x0 : Vec F S1x1x8x128x512 .bf16) (x1 : Vec F S1x1x8192x128 .bf16) (x2 : Vec F S1x1x16x144x512 .bf16) (K : PUnit → sProp 𝕄G) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (blkOut x0 x1 x2) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E
          (cc0_attention (F := F) i arg3 harg3 arg4 harg4 arg5 harg5 arg6 harg6 arg7 harg7 arg8 harg8 arg9 harg9 arg10 harg10) K := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, Hk⟩
  subst h3 h4 h5
  have hrun := runs_kernel (F := F) Variants.none c none E arg3 arg4 arg5 arg6 harg6 arg7 arg8 arg9 arg10 f3 f4 f5 i harg3 harg4 harg5 harg7 harg8 harg9 harg10
  unfold Runs at hrun
  iapply (wp_wand_r _ _ _)
  isplitl [H3 H4 H5 H6 H7 H8 H9 H10]
  · iapply hrun
    iapply (at_any c arg3 arg4 arg5 arg6 arg7 arg8 arg9 arg10 f3 f4 f5 f6 f7 f8 f9 f10)
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %z H
  unfold At
  icases H with ⟨H3, H4, H5, %σ, %hP, %g6, %g7, %g8, %g9, %g10, %hσ, H6, H7, H8, H9, H10⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists g6; isplitr
    · ipureintro
      exact blk_of_subs _ _ _ _ fun u => (hσ.o u).trans ((hP u).2 (by simp))
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

/-! ## The pipeline -/

variable (m : (ℓ : Loc nD τ sig) → Buf (Elt F) ℓ) (ρ : Dev nD → PrngReg)

/-- What every buffer holds after the kernel at a point of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkOut (iblk m c 0 t) (iblk m c 1 t) (iblk m c 2 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

abbrev ms0_0 (t : Fin cfg0.N) : Memref sig .tc .vmem S1x1x8x128x512 .bf16 := win0_0.stage (cfg0.slots t 0)
abbrev ms0_1 (t : Fin cfg0.N) : Memref sig .tc .vmem S1x1x8192x128 .bf16 := win0_1.stage (cfg0.slots t 1)
abbrev ms0_2 (t : Fin cfg0.N) : Memref sig .tc .vmem S1x1x16x144x512 .bf16 := win0_2.stage (cfg0.slots t 2)
abbrev ms0_3 (t : Fin cfg0.N) : Memref sig .tc .vmem S1x1x8x128x512 .bf16 := win0_3.stage (cfg0.slots t 3)
abbrev sc0 : Memref sig .tc .vmem S8x1x512 .f32 := Memref.whole cc0_scratch0
abbrev sc1 : Memref sig .tc .vmem S8x144x512 .f32 := Memref.whole cc0_scratch1
abbrev sc2 : Memref sig .tc .vmem S2x8x512x512 .f32 := Memref.whole cc0_scratch2
abbrev sc3 : Memref sig .tc .vmem S2x8x1x512 .f32 := Memref.whole cc0_scratch3

/-- Between points the kernel keeps its own four buffers and the generator's register. -/
theorem phi_eq (c : Dev nD) : (Pipeline.ΦA spec0 c : sProp 𝕄G)
    = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, phi_eq]
  iintro ⟨⟨⟨S0, S1, S2, S3⟩, Hg⟩, Ho, ⟨%d0, H0⟩, ⟨%d1, H1⟩, ⟨%d2, H2⟩, ⟨%d3, H3⟩⟩
  iapply (sound_kernel c Set.univ (grid0.coords t) _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs; at the end every array is what the pipeline's blocks make it, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its arguments as they were, with every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.LatentIdeal.Body

end
-- ==== Proof.LatentHost.lean ====
/- What the host hands to the attention kernel: the scaled queries and the keys, each followed by
   zeros, rearranged by head, and the values with their row of ones, read at an index over the extended reals. -/
module

public import proofs.«01_k».proof.Proof.LatentKFrame
public import Idealize.ShloMosaic.Lib.Claim
public import Idealize.ShloMosaic.Lib.Pointwise

@[expose] public section

set_option maxRecDepth 16384

noncomputable section

namespace Cert.LatentIdeal.Body

open Idealize.ShloMosaic Idealize.ShloMosaic.TcCoe Idealize.SL.Sem
open Cert.LatentIdeal Cert.LatentIdeal.Gen
open scoped BigOperators

variable (m : (ℓ : Loc nD τ sig) → Buf (Elt Ideal) ℓ) (c : Dev nD)

/-- The queries, keys and values the program is given. -/
abbrev argQ : FVec Ideal S4x8192x8x96 .f32 := m ((c.tc : Thread nD τ).loc main_arg0)
abbrev argK : FVec Ideal S4x8192x8x96 .f32 := m ((c.tc : Thread nD τ).loc main_arg1)
abbrev argV : FVec Ideal S4x8192x8x128 .f32 := m ((c.tc : Thread nD τ).loc main_arg2)

/-- The arrays the kernel reads. -/
abbrev arrQ : FVec Ideal S4x8x16x128x512 .bf16 := V m c main_v10
abbrev arrK : FVec Ideal S4x8x8192x128 .bf16 := V m c main_v12
abbrev arrV : FVec Ideal S4x8x16x144x512 .bf16 := V m c main_v18

/-- The queries and the keys of 128 coordinates, the last 32 of them zeros. -/
abbrev padQ : FVec Ideal S4x8192x8x128 .f32 := V m c main_v6
abbrev padK : FVec Ideal S4x8192x8x128 .f32 := V m c main_v7
/-- The scaled queries, and the zeros. -/
abbrev sclQ : FVec Ideal S4x8192x8x96 .f32 := V m c main_v5
abbrev zrs : FVec Ideal S4x8192x8x32 .f32 := V m c main_v3

/-- The queries' scale. -/
def scaleI : EReal := Ideal.div (Ideal.rsqrt (Ideal.ofBits .f32 0x42C00000#32)) (Ideal.log (Ideal.ofBits .f32 0x40000000#32))

theorem padQ_cat : padQ m c = concatenate S4x8192x8x128 3 [⟨S4x8192x8x96, sclQ m c⟩, ⟨S4x8192x8x32, zrs m c⟩]
    concatenates_S4x8192x8x96_S4x8192x8x32_S4x8192x8x128_d3 := rfl

theorem padK_cat : padK m c = concatenate S4x8192x8x128 3 [⟨S4x8192x8x96, argK m c⟩, ⟨S4x8192x8x32, zrs m c⟩]
    concatenates_S4x8192x8x96_S4x8192x8x32_S4x8192x8x128_d3 := rfl

theorem sclQ_apply (b : Fin 4) (s : Fin 8192) (h : Fin 8) (d : Fin 96) : sclQ m c (ix4 b s h d) = argQ m c (ix4 b s h d) * scaleI := by
  unfold sclQ
  entry_read
  pointwise [scaleI]

theorem zrs_apply (b : Fin 4) (s : Fin 8192) (h : Fin 8) (d : Fin 32) : zrs m c (ix4 b s h d) = (0 : EReal) := by
  unfold zrs
  entry_read
  pointwise

/-- The padded queries: scaled below 96, zero from there on. -/
theorem padQ_low (b : Fin 4) (s : Fin 8192) (h : Fin 8) (d : Fin 96) :
    padQ m c (ix4 b s h ⟨d.val, by omega⟩) = argQ m c (ix4 b s h d) * scaleI := by
  rw [padQ_cat, ← sclQ_apply]
  generalize sclQ m c = x
  generalize zrs m c = y
  pointwise

theorem padQ_high (b : Fin 4) (s : Fin 8192) (h : Fin 8) (d : Fin 32) :
    padQ m c (ix4 b s h ⟨96 + d.val, by omega⟩) = (0 : EReal) := by
  rw [padQ_cat, ← zrs_apply m c b s h d]
  generalize sclQ m c = x
  generalize zrs m c = y
  pointwise

/-- The padded keys: the keys below 96, zero from there on. -/
theorem padK_low (b : Fin 4) (s : Fin 8192) (h : Fin 8) (d : Fin 96) :
    padK m c (ix4 b s h ⟨d.val, by omega⟩) = argK m c (ix4 b s h d) := by
  rw [padK_cat]
  generalize argK m c = x
  generalize zrs m c = y
  pointwise

theorem padK_high (b : Fin 4) (s : Fin 8192) (h : Fin 8) (d : Fin 32) :
    padK m c (ix4 b s h ⟨96 + d.val, by omega⟩) = (0 : EReal) := by
  rw [padK_cat, ← zrs_apply m c b s h d]
  generalize argK m c = x
  generalize zrs m c = y
  pointwise

/-- The padded queries and keys on their way to the kernel. -/
abbrev padQ8 : FVec Ideal S4x8192x8x128 .bf16 := V m c main_v8
abbrev padQ9 : FVec Ideal S4x16x512x8x128 .bf16 := V m c main_v9
abbrev padK11 : FVec Ideal S4x8192x8x128 .bf16 := V m c main_v11

theorem padQ8_eq : padQ8 m c = truncf .bf16 (padQ m c) bitsLt_bf16_f32 := rfl
theorem padQ9_eq : padQ9 m c = shapeCast S4x16x512x8x128 (padQ8 m c) shapeCasts_S4x8192x8x128_S4x16x512x8x128 := rfl
theorem arrQ_eq : arrQ m c = transpose S4x8x16x128x512 [0, 3, 1, 4, 2] (padQ9 m c) transposes_S4x16x512x8x128_S4x8x16x128x512_0_3_1_4_2 := rfl
theorem padK11_eq : padK11 m c = truncf .bf16 (padK m c) bitsLt_bf16_f32 := rfl
theorem arrK_eq : arrK m c = transpose S4x8x8192x128 [0, 2, 1, 3] (padK11 m c) transposes_S4x8192x8x128_S4x8x8192x128_0_2_1_3 := rfl

theorem arrQ_apply (b : Fin 4) (h : Fin 8) (n : Fin 16) (d : Fin 128) (i : Fin 512) :
    arrQ m c (ix5 b h n d i) = padQ m c (ix4 b ⟨n.val * 512 + i.val, by omega⟩ h d) := by
  rw [arrQ_eq, padQ9_eq, padQ8_eq]
  generalize padQ m c = x
  pointwise

theorem arrK_apply (b : Fin 4) (h : Fin 8) (t : Fin 8192) (d : Fin 128) :
    arrK m c (ix4 b h t d) = padK m c (ix4 b t h d) := by
  rw [arrK_eq, padK11_eq]
  generalize padK m c = x
  pointwise

/-- The three arrays the values are put together from. -/
abbrev arrV0 : FVec Ideal S4x8x16x128x512 .bf16 := V m c main_v15
abbrev arrV1 : FVec Ideal S4x8x16x1x512 .bf16 := V m c main_v16
abbrev arrV2 : FVec Ideal S4x8x16x15x512 .bf16 := V m c main_v17

theorem arrV_cat : arrV m c = concatenate S4x8x16x144x512 3 [⟨S4x8x16x128x512, arrV0 m c⟩, ⟨S4x8x16x1x512, arrV1 m c⟩, ⟨S4x8x16x15x512, arrV2 m c⟩]
    concatenates_S4x8x16x128x512_S4x8x16x1x512_S4x8x16x15x512_S4x8x16x144x512_d3 := rfl

theorem arrV0_apply (b : Fin 4) (g : Fin 8) (n : Fin 16) (e : Fin 128) (i : Fin 512) :
    arrV0 m c (ix5 b g n e i) = argV m c (ix4 b ⟨n.val * 512 + i.val, by omega⟩ g e) := by
  unfold arrV0
  entry_read
  pointwise

theorem arrV1_apply (b : Fin 4) (g : Fin 8) (n : Fin 16) (i : Fin 512) : arrV1 m c (ix5 b g n 0 i) = (1 : EReal) := by
  unfold arrV1
  entry_read
  pointwise

theorem arrV_apply (b : Fin 4) (g : Fin 8) (n : Fin 16) (e : Fin 128) (i : Fin 512) :
    arrV m c (ix5 b g n ⟨e.val, by omega⟩ i) = argV m c (ix4 b ⟨n.val * 512 + i.val, by omega⟩ g e) := by
  rw [arrV_cat, ← arrV0_apply]
  generalize arrV0 m c = x
  generalize arrV1 m c = y
  generalize arrV2 m c = z
  pointwise

theorem arrV_one (b : Fin 4) (g : Fin 8) (n : Fin 16) (i : Fin 512) : arrV m c (ix5 b g n 128 i) = (1 : EReal) := by
  rw [arrV_cat, ← arrV1_apply m c b g n i]
  generalize arrV0 m c = x
  generalize arrV1 m c = y
  generalize arrV2 m c = z
  pointwise

end Cert.LatentIdeal.Body

end
-- ==== Proof.LatentPoint.lean ====
/- The closed forms of the attention kernel read over the extended reals, at one column of queries. -/
module

public import proofs.«01_k».proof.Proof.LatentRun
public import proofs.«01_k».proof.Proof.Math
public import Idealize.ShloMosaic.Lib.Pointwise

@[expose] public section

set_option maxRecDepth 16384

noncomputable section

namespace Cert.LatentIdeal.Body

open Idealize.ShloMosaic Idealize.ShloMosaic.TcCoe
open Cert.LatentIdeal Cert.LatentIdeal.Gen
open scoped BigOperators

/-- The pattern of minus infinity. -/
theorem neg_inf : Ideal.ofBits .f32 0xFF800000#32 = ⊥ := by
  simp [Ideal.ofBits, Ideal.ieee]

section
variable (q : Vec Ideal S1x1x1x128x512 .bf16) (K : Fin 16 → Vec Ideal S1x1x512x128 .bf16) (V : Fin 16 → Vec Ideal S1x1x1x144x512 .bf16)

/-- A score is the product of a key and a query. -/
theorem sAt_apply (j : Fin 16) (i col : Fin 512) :
    sAt q K j (ix4 0 0 i col) = ∑ d : Fin 128, (K j (ix4 0 0 i d) : EReal) * q (ix5 0 0 0 d col) := by
  pointwise [sAt, scoreV]

/-- The chunk's largest score. -/
theorem cAt_apply (j : Fin 16) (col : Fin 512) :
    cAt q K j (ix4 0 0 0 col) = Finset.univ.fold max ⊥ fun i : Fin 512 => (sAt q K j (ix4 0 0 i col) : EReal) := by
  pointwise [sAt, cAt, cmaxV, neg_inf]

/-- The running maximum. -/
theorem mAt_apply (col : Fin 512) (n : ℕ) :
    mAt q K n (ix3 0 0 col) = Math.mx (fun j => cAt q K j (ix4 0 0 0 col)) n := by
  induction n with
  | zero => exact neg_inf
  | succ n ih =>
    rw [Math.mx, ← ih]
    pointwise [mAt, mNew]

/-- The accumulator. -/
theorem aAt_apply (col : Fin 512) (r : Fin 144) (s : Fin 16 → Fin 512 → ℝ) (hs : ∀ j i, sAt q K j (ix4 0 0 i col) = ((s j i : ℝ) : EReal)) (n : ℕ) :
    aAt q K V n (ix3 0 r col) = Math.acc s (fun j => cAt q K j (ix4 0 0 0 col)) (fun j i => V j (ix5 0 0 0 r i)) n := by
  induction n with
  | zero => pointwise [aAt, Math.acc]
  | succ n ih =>
    rw [Math.acc, ← ih, ← mAt_apply, ← mAt_apply]
    simp only [← hs]
    pointwise [aAt, aNew, mNew, mAt]
    rfl

/-- The block of the result. -/
theorem oAt_apply (col : Fin 512) (e : Fin 128) :
    oAt q K V (ix5 0 0 0 e col) = Ideal.div (aAt q K V 16 (ix3 0 ⟨e.val, by omega⟩ col)) (aAt q K V 16 (ix3 0 128 col)) := by
  pointwise [oAt, outV, nOf, lOf]
  refine congrArg₂ Ideal.div (congrArg _ ?_) (congrArg _ ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => exact Fin.ext (Nat.zero_add _)

/-- The place `i` of the chunk `j` among all keys. -/
def keyOf (j : Fin 16) (i : Fin 512) : Fin 8192 := ⟨j.val * 512 + i.val, by omega⟩

/-- With real scores, and ones in the accumulator's denominator row, a block of the result is the attention. -/
theorem oAt_attn (col : Fin 512) (e : Fin 128) (x : Fin 8192 → ℝ) (v : Fin 8192 → EReal)
    (hs : ∀ j i, ∑ d : Fin 128, (K j (ix4 0 0 i d) : EReal) * q (ix5 0 0 0 d col) = ((x (keyOf j i) / Real.log 2 : ℝ) : EReal))
    (hone : ∀ j i, V j (ix5 0 0 0 128 i) = (1 : EReal)) (hv : ∀ j i, V j (ix5 0 0 0 ⟨e.val, by omega⟩ i) = v (keyOf j i)) :
    oAt q K V (ix5 0 0 0 e col) = Math.attn x v := by
  have hs' : ∀ j i, sAt q K j (ix4 0 0 i col) = (((fun j i => x (keyOf j i) / Real.log 2) j i : ℝ) : EReal) := fun j i =>
    (sAt_apply q K j i col).trans (hs j i)
  have hc : ∀ j, ∃ r : ℝ, cAt q K j (ix4 0 0 0 col) = (r : EReal) := fun j => by
    rw [cAt_apply]
    exact Math.fold_max_real _ Finset.univ_nonempty _ fun i _ => ⟨_, hs' j i⟩
  have hk : ∀ p : Fin 16 × Fin 512, keyOf p.1 p.2 = (finProdFinEquiv p : Fin (16 * 512)) := fun p =>
    Fin.ext (by show p.1.val * 512 + p.2.val = p.2.val + 512 * p.1.val; omega)
  rw [oAt_apply, aAt_apply q K V col _ _ hs', aAt_apply q K V col _ _ hs']
  simp only [hone, hv]
  rw [Math.online _ _ _ hc (fun p => x (keyOf p.1 p.2)) fun _ _ => rfl]
  simp only [hk]
  exact Math.attn_chunks (J := 16) (I := 512) x v

end

end Cert.LatentIdeal.Body

end
-- ==== Proof.LatentValue.lean ====
/- The attention kernel's result array read over the extended reals: with real queries and keys it is, at every place,
   the softmax-weighted sum of the values. -/
module

public import proofs.«01_k».proof.Proof.LatentHost
public import proofs.«01_k».proof.Proof.LatentPoint
public import Idealize.ShloMosaic.Lib.Pipeline.ValueKit

@[expose] public section

set_option maxRecDepth 16384

noncomputable section

namespace Cert.LatentIdeal.Body

open Idealize.ShloMosaic Idealize.ShloMosaic.TcCoe Idealize.SL.Sem
open Cert.LatentIdeal Cert.LatentIdeal.Gen
open scoped BigOperators

variable (m : (ℓ : Loc nD τ sig) → Buf (Elt Ideal) ℓ) (c : Dev nD)

/-- The blocks the windows show at a point of the grid. -/
theorem idx : ∀ t : Fin cfg0.N, win0_0.index t = ![t.val / 16, t.val / 2 % 8, t.val % 2, 0, 0] ∧ win0_1.index t = ![t.val / 16, t.val / 2 % 8, 0, 0]
    ∧ win0_2.index t = ![t.val / 16, t.val / 2 % 8, 0, 0, 0] ∧ win0_3.index t = ![t.val / 16, t.val / 2 % 8, t.val % 2, 0, 0] ∧ t.val < 64 :=
  (by decide +kernel : ∀ t : Fin grid0.N, _)

theorem lt_N (t : Fin cfg0.N) : t.val < 64 := (idx t).2.2.2.2

/-- A block of queries, of keys, of values, read in the arrays they come from: of any array, then of the kernel's. -/
theorem qBlk_read_of (x : FVec Ideal S4x8x16x128x512 .bf16) (t : Fin cfg0.N) (u : Fin 8) (d : Fin 128) (i : Fin 512) :
    (qBlk (((cfg0.win 0).blk t).view.read (Elt Ideal) x) u (ix5 0 0 0 d i) : EReal)
      = x (ix5 ⟨t.val / 16, by have := lt_N t; omega⟩ ⟨t.val / 2 % 8, by omega⟩ ⟨t.val % 2 * 8 + u.val, by omega⟩ d i) := by
  unfold qBlk
  blk_ext [idx t, qOff]

theorem kBlk_read_of (x : FVec Ideal S4x8x8192x128 .bf16) (t : Fin cfg0.N) (j : Fin 16) (i : Fin 512) (d : Fin 128) :
    (kBlk (((cfg0.win 1).blk t).view.read (Elt Ideal) x) j (ix4 0 0 i d) : EReal)
      = x (ix4 ⟨t.val / 16, by have := lt_N t; omega⟩ ⟨t.val / 2 % 8, by omega⟩ ⟨j.val * 512 + i.val, by omega⟩ d) := by
  unfold kBlk
  blk_ext [idx t, kOff]

theorem vBlk_read_of (x : FVec Ideal S4x8x16x144x512 .bf16) (t : Fin cfg0.N) (j : Fin 16) (e : Fin 144) (i : Fin 512) :
    (vBlk (((cfg0.win 2).blk t).view.read (Elt Ideal) x) j (ix5 0 0 0 e i) : EReal)
      = x (ix5 ⟨t.val / 16, by have := lt_N t; omega⟩ ⟨t.val / 2 % 8, by omega⟩ j e i) := by
  unfold vBlk
  blk_ext [idx t, vOff]

theorem qBlk_read (t : Fin cfg0.N) (u : Fin 8) (d : Fin 128) (i : Fin 512) :
    (qBlk (iblk m c 0 t) u (ix5 0 0 0 d i) : EReal)
      = arrQ m c (ix5 ⟨t.val / 16, by have := lt_N t; omega⟩ ⟨t.val / 2 % 8, by omega⟩ ⟨t.val % 2 * 8 + u.val, by omega⟩ d i) :=
  qBlk_read_of (V m c main_v10) t u d i

theorem kBlk_read (t : Fin cfg0.N) (j : Fin 16) (i : Fin 512) (d : Fin 128) :
    (kBlk (iblk m c 1 t) j (ix4 0 0 i d) : EReal)
      = arrK m c (ix4 ⟨t.val / 16, by have := lt_N t; omega⟩ ⟨t.val / 2 % 8, by omega⟩ ⟨j.val * 512 + i.val, by omega⟩ d) :=
  kBlk_read_of (V m c main_v12) t j i d

theorem vBlk_read (t : Fin cfg0.N) (j : Fin 16) (e : Fin 144) (i : Fin 512) :
    (vBlk (iblk m c 2 t) j (ix5 0 0 0 e i) : EReal)
      = arrV m c (ix5 ⟨t.val / 16, by have := lt_N t; omega⟩ ⟨t.val / 2 % 8, by omega⟩ j e i) :=
  vBlk_read_of (V m c main_v18) t j e i

/-- The queries' scale is a real number. -/
theorem scaleI_real : scaleI = (((√96)⁻¹ / Real.log 2 : ℝ) : EReal) := by
  have e : Ideal.ofBits .f32 0x42C00000#32 = ((96 : ℝ) : EReal) := by
    simp [Ideal.ofBits, Ideal.ieee]
    rw [← EReal.coe_mul]; norm_num
  have e' : Ideal.ofBits .f32 0x40000000#32 = ((2 : ℝ) : EReal) := by
    simp [Ideal.ofBits, Ideal.ieee]
    rw [← EReal.coe_mul]; norm_num
  have hl : Real.log 2 ≠ 0 := (Real.log_pos (by norm_num)).ne'
  unfold scaleI
  rw [e, e', Ideal.rsqrt_coe, if_neg (by norm_num), if_neg (by norm_num), Ideal.log_coe, if_neg (by norm_num)]
  exact Math.div_real_real _ hl

/-- The result over real queries `qr` and keys `kr` and any values. -/
def outAt (qr : S4x8192x8x96.Idx → ℝ) (kr : S4x8192x8x96.Idx → ℝ) (v : FVec Ideal S4x8192x8x128 .f32) (b : Fin 4) (h : Fin 8) (n : Fin 16)
    (e : Fin 128) (i : Fin 512) : EReal :=
  Math.attn (fun t : Fin 8192 => (∑ d : Fin 96, kr (ix4 b t h d) * qr (ix4 b ⟨n.val * 512 + i.val, by omega⟩ h d)) * (√96)⁻¹)
    (fun t => v (ix4 b t h e))

/-- The padded keys against the padded queries: the zeros count for nothing. -/
theorem sum_pad (qr kr : S4x8192x8x96.Idx → ℝ) (hq : ∀ i, (argQ m c i : EReal) = qr i) (hk : ∀ i, (argK m c i : EReal) = kr i)
    (b : Fin 4) (h : Fin 8) (s t : Fin 8192) :
    (∑ d : Fin 128, (padK m c (ix4 b t h d) : EReal) * padQ m c (ix4 b s h d))
      = (((∑ d : Fin 96, kr (ix4 b t h d) * qr (ix4 b s h d)) * (√96)⁻¹ / Real.log 2 : ℝ) : EReal) := by
  refine (Fin.sum_univ_add (a := 96) (b := 32) fun d => (padK m c (ix4 b t h d) : EReal) * padQ m c (ix4 b s h d)).trans ?_
  have e : (∑ d : Fin 32, (padK m c (ix4 b t h (Fin.natAdd 96 d)) : EReal) * padQ m c (ix4 b s h (Fin.natAdd 96 d))) = 0 :=
    Finset.sum_eq_zero fun d _ => (congrArg₂ (· * ·) (padK_high m c b t h d) (padQ_high m c b s h d)).trans (zero_mul _)
  refine (congrArg₂ (· + ·) (Finset.sum_congr rfl fun d _ => congrArg₂ (· * ·) ((padK_low m c b t h d).trans (hk _))
    ((padQ_low m c b s h d).trans (congrArg₂ (· * ·) (hq _) scaleI_real))) e).trans ?_
  rw [add_zero]
  exact Math.score _ _ _ _

/-- One place of one block of the result. -/
theorem point (qr : S4x8192x8x96.Idx → ℝ) (kr : S4x8192x8x96.Idx → ℝ) (hq : ∀ i, (argQ m c i : EReal) = qr i) (hk : ∀ i, (argK m c i : EReal) = kr i)
    (t : Fin cfg0.N) (u : Fin 8) (e : Fin 128) (i : Fin 512) :
    (oAt (qBlk (iblk m c 0 t) u) (kBlk (iblk m c 1 t)) (vBlk (iblk m c 2 t)) (ix5 0 0 0 e i) : EReal)
      = outAt qr kr (argV m c) ⟨t.val / 16, by have := lt_N t; omega⟩ ⟨t.val / 2 % 8, by omega⟩ ⟨t.val % 2 * 8 + u.val, by omega⟩ e i := by
  refine oAt_attn _ _ _ i e _ _ (fun j i' => ?_) (fun j i' => ?_) (fun j i' => ?_)
  · refine (Finset.sum_congr rfl fun d _ => congrArg₂ (· * ·) ((kBlk_read m c t j i' d).trans (arrK_apply m c _ _ _ _))
      ((qBlk_read m c t u d i).trans (arrQ_apply m c _ _ _ _ _))).trans ?_
    refine (sum_pad m c qr kr hq hk _ _ _ _).trans ?_
    rfl
  · exact (vBlk_read m c t j 128 i').trans (arrV_one m c _ _ _ _)
  · exact (vBlk_read m c t j _ i').trans (arrV_apply m c _ _ _ e _)

/-- The result array after the run. -/
theorem final (qr : S4x8192x8x96.Idx → ℝ) (kr : S4x8192x8x96.Idx → ℝ) (hq : ∀ i, (argQ m c i : EReal) = qr i) (hk : ∀ i, (argK m c i : EReal) = kr i) :
    (dats m 0 c).arrAt 3 (cfgs 0).N = fun y : S4x8x16x128x512.Idx => outAt qr kr (argV m c) (y 0) (y 1) (y 2) (y 3) (y 4) := by
  refine (dats m 0 c).arrAt_eq_of_covers 3 _ (by decide +kernel) fun t _ y => ?_
  blk_simp [idx t]
  rw [after0_3]
  unfold blkOut
  refine (point m c qr kr hq hk t _ _ _).trans ?_
  have h1 : (y 1).val < 1 := (y 1).isLt
  have h2 : (y 2).val < 8 := (y 2).isLt
  have h0 : (y 0).val < 1 := (y 0).isLt
  have hs : (subOf y).val = (y 2).val := rfl
  congr 1 <;> refine Fin.ext ?_ <;> blk_simp [idx t, hs] <;> (try dsimp only) <;> omega

end Cert.LatentIdeal.Body

end
-- ==== Proof.LatentRefValue.lean ====
/- The plain attention's result read over the extended reals: with real queries and keys it is the softmax-weighted
   sum of the values. -/
module

public import proofs.«01_k».proof.Proof.Gen.LatentRefIdeal.Read
public import proofs.«01_k».proof.Proof.Math
public import Idealize.ShloMosaic.Lib.Pointwise

@[expose] public section

set_option maxRecDepth 16384

noncomputable section

namespace Cert.LatentRefIdeal.Body

open Idealize.ShloMosaic Idealize.ShloMosaic.TcCoe
open Cert.LatentRefIdeal Cert.LatentRefIdeal.Gen Cert.LatentRefIdeal.Read
open scoped BigOperators

/-- The pattern of minus infinity. -/
theorem neg_inf : Ideal.ofBits .f32 0xFF800000#32 = ⊥ := by
  simp [Ideal.ofBits, Ideal.ieee]

/-- The host's maximum along the last of four axes, from minus infinity, is real where every entry is. -/
theorem hostMax_real {n0 n1 n2 n3 : Nat} {t u : Shape} (h : (⟨4, ![n0, n1, n2, n3]⟩ : Shape).ReducesTo [3] t) (hu : 0 < u.numel)
    (z : FVec Ideal ⟨4, ![n0, n1, n2, n3]⟩ .f32) (c : FVec Ideal u .f32) (hc : ∀ i, c i = (⊥ : EReal)) (hn : 0 < n3)
    (hz : ∀ i, ∃ r : ℝ, z i = (r : EReal)) (j : t.Idx) : ∃ r : ℝ, Host.reduce (FloatOps.maximumf (F := Ideal) (φ := .f32)) z c h hu j = (r : EReal) := by
  rw [Host.reduce_eq_fold, h.fold_fiber_r4_a3, hc]
  exact Math.fold_max_real _ ⟨⟨0, hn⟩, Finset.mem_univ _⟩ _ fun k _ => hz _

variable (X K : FVec Ideal S4x8192x8x96 .f32) (V : FVec Ideal S4x8192x8x128 .f32)

/-- The scores. -/
theorem v3_apply (b : Fin 4) (h : Fin 8) (s t : Fin 8192) :
    (val_main_v3 (F := Ideal) X K (ix4 b h s t) : EReal) = (∑ d : Fin 96, X (ix4 b s h d) * K (ix4 b t h d)) * Ideal.rsqrt (Ideal.ofBits .f32 0x42C00000#32) := by
  pointwise [val_main_v3, val_main_v2, val_main_v1, val_main_cst, val_main_v0]

/-- Their maximum over the keys, where they are real. -/
theorem v6_real (hz : ∀ i, ∃ r : ℝ, (val_main_v3 (F := Ideal) X K i : EReal) = r) (j : S4x8x8192.Idx) :
    ∃ r : ℝ, (val_main_v6 (F := Ideal) X K j : EReal) = r := by
  obtain ⟨r, hr⟩ := hostMax_real reducesTo_S4x8x8192x8192_S4x8x8192_d3 h_S_ (val_main_v3 (F := Ideal) X K) (val_main_cst_0 (F := Ideal))
    (fun _ => neg_inf) (by norm_num) hz j
  refine ⟨r, ?_⟩
  rw [val_main_v6_apply, val_main_v4, hr, val_main_v5_apply, val_main_cst_1_apply]
  exact (congrArg (max · (r : EReal)) neg_inf).trans (max_eq_right bot_le)

/-- The exponentials. -/
theorem v10_apply (b : Fin 4) (h : Fin 8) (s t : Fin 8192) :
    (val_main_v10 (F := Ideal) X K (ix4 b h s t) : EReal) = Ideal.exp ((val_main_v3 (F := Ideal) X K (ix4 b h s t) : EReal) - val_main_v6 (F := Ideal) X K (ix3 b h s)) := by
  pointwise [val_main_v10, val_main_v9, val_main_v8, val_main_v7]

/-- The weights. -/
theorem v14_apply (b : Fin 4) (h : Fin 8) (s t : Fin 8192) :
    (val_main_v14 (F := Ideal) X K (ix4 b h s t) : EReal) = Ideal.div (val_main_v10 (F := Ideal) X K (ix4 b h s t)) (∑ u : Fin 8192, (val_main_v10 (F := Ideal) X K (ix4 b h s u) : EReal)) := by
  pointwise [val_main_v14, val_main_v13, val_main_v12, val_main_v11, val_main_cst_2]

/-- The result. -/
theorem v19_apply (b : Fin 4) (h : Fin 8) (n : Fin 16) (e : Fin 128) (i : Fin 512) :
    (val_main_v19 (F := Ideal) X K V (ix5 b h n e i) : EReal)
      = ∑ t : Fin 8192, V (ix4 b t h e) * val_main_v14 (F := Ideal) X K (ix4 b h ⟨n.val * 512 + i.val, by omega⟩ t) := by
  pointwise [val_main_v19, val_main_v18, val_main_v17, val_main_v16, val_main_v15]

/-- The factor on the scores. -/
theorem scale_real : Ideal.rsqrt (Ideal.ofBits .f32 0x42C00000#32) = (((√96)⁻¹ : ℝ) : EReal) := by
  have e : Ideal.ofBits .f32 0x42C00000#32 = ((96 : ℝ) : EReal) := by
    simp [Ideal.ofBits, Ideal.ieee]
    rw [← EReal.coe_mul]; norm_num
  rw [e, Ideal.rsqrt_coe, if_neg (by norm_num), if_neg (by norm_num)]

/-- With real queries and keys the plain attention's result is the softmax-weighted sum of the values. -/
theorem result (xr kr : S4x8192x8x96.Idx → ℝ) (hX : ∀ i, (X i : EReal) = xr i) (hK : ∀ i, (K i : EReal) = kr i)
    (b : Fin 4) (h : Fin 8) (n : Fin 16) (e : Fin 128) (i : Fin 512) :
    (val_main_v19 (F := Ideal) X K V (ix5 b h n e i) : EReal)
      = Math.attn (fun t : Fin 8192 => (∑ d : Fin 96, kr (ix4 b t h d) * xr (ix4 b ⟨n.val * 512 + i.val, by omega⟩ h d)) * (√96)⁻¹)
          (fun t => V (ix4 b t h e)) := by
  have h3 : ∀ (b : Fin 4) (h : Fin 8) (s t : Fin 8192), (val_main_v3 (F := Ideal) X K (ix4 b h s t) : EReal)
      = (((∑ d : Fin 96, kr (ix4 b t h d) * xr (ix4 b s h d)) * (√96)⁻¹ : ℝ) : EReal) := by
    intro b h s t
    rw [v3_apply, scale_real, ← Math.score_ref]
    simp only [hX, hK, mul_comm]
  have hz : ∀ j, ∃ r : ℝ, (val_main_v3 (F := Ideal) X K j : EReal) = r := by
    intro j
    obtain ⟨b, h, s, t, rfl⟩ : ∃ b h s t, j = ix4 b h s t := ⟨j 0, j 1, j 2, j 3, by funext a; fin_cases a <;> rfl⟩
    exact ⟨_, h3 b h s t⟩
  obtain ⟨M, hM⟩ := v6_real X K hz (ix3 b h ⟨n.val * 512 + i.val, by omega⟩)
  rw [v19_apply, ← Math.attn_of_softmax _ _ M]
  refine Finset.sum_congr rfl fun t _ => ?_
  rw [v14_apply]
  simp only [v10_apply, hM, h3]
  exact mul_comm _ _

end Cert.LatentRefIdeal.Body

end
-- ==== Proof.LatentClaims.lean ====
/- The precondition read at an index, and the kernel's program told from the same text over the two interpretations of
   floats. -/
module

public import proofs.«01_k».proof.Defs
public import proofs.«01_k».proof.Proof.Gen.Latent
public import proofs.«01_k».proof.Proof.Gen.Latent.Skeleton
public import proofs.«01_k».proof.Proof.Gen.Pre_finite_latent
public import proofs.«01_k».proof.Proof.LatentKFrame
public import proofs.«01_k».proof.Proof.Claims
public import Idealize.ShloMosaic.Lib.Pipeline.Regions
public import Idealize.ShloMosaic.Lib.Pointwise

@[expose] public section

set_option maxRecDepth 8192

noncomputable section

namespace Cert.Claims.Latent

open Idealize.ShloMosaic Idealize.ShloMosaic.TcCoe Idealize.SL.Sem

open Cert.Pre_finite_latent in
/-- Where the precondition holds, every query and every key is real. -/
theorem reals_of_pre (q : FVec Ideal S4x8192x8x96 .f32) (k : FVec Ideal S4x8192x8x96 .f32) (v : FVec Ideal S4x8192x8x128 .f32)
    (h1 : (Cert.Pre_finite_latent.fn (F := Ideal) q k v).1 = fun _ => 1#1) (h2 : (Cert.Pre_finite_latent.fn (F := Ideal) q k v).2 = fun _ => 1#1) :
    (∃ qr : S4x8192x8x96.Idx → ℝ, ∀ i, (q i : EReal) = qr i) ∧ (∃ kr : S4x8192x8x96.Idx → ℝ, ∀ i, (k i : EReal) = kr i) := by
  have a : ∀ i, ∃ r : ℝ, (q i : EReal) = r := fun i => real_of_abs_lt _ (congrFun h1 i)
  have b : ∀ i, ∃ r : ℝ, (k i : EReal) = r := fun i => real_of_abs_lt _ (congrFun h2 i)
  choose qr hq using a
  choose kr hk using b
  exact ⟨⟨qr, hq⟩, ⟨kr, hk⟩⟩

/-- The claim on the kernel's program at bit patterns, stated of the same text printed a second time. -/
def sameText : Prop :=
  ∀ (m : (ℓ : Loc Cert.LatentIdeal.nD Cert.LatentIdeal.τ Cert.LatentIdeal.sig) → Buf (Elt Bits) ℓ) (g : Dev Cert.LatentIdeal.nD → PrngReg), True →
    θ_run (Cert.LatentIdeal.defs (F := Bits)) (onTc (τ := Cert.LatentIdeal.τ) (Cert.LatentIdeal.main (F := Bits))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

theorem kernel_text : Cert.quiescent_Latent = sameText := by chain_rfl

/-- The kernel's program runs, leaves its arguments unchanged and ends with every counter at zero. -/
theorem kernel_runs : Cert.quiescent_Latent :=
  kernel_text ▸ fun m g _ => Cert.LatentIdeal.Body.quiescent (F := Bits) m g

end Cert.Claims.Latent

end
-- ==== Proof.Rms.lean ====
/- The root-mean-square normalisation of a row over the extended reals: the normalised row is real wherever the gain is. -/
module

public import proofs.«01_k».proof.Proof.Math

@[expose] public section

noncomputable section

namespace Cert.Math

open Idealize.ShloMosaic
open scoped BigOperators

/-- The mean square of a row, moved by the small constant. -/
def meanSq (x : Fin 1024 → EReal) : EReal :=
  Ideal.div (∑ k, x k * x k) (Ideal.ofBits .f32 0x44800000#32) + Ideal.ofBits .f32 0x358637BD#32

/-- A row divided by its root mean square, times the gain. -/
def rms (x g : Fin 1024 → EReal) (d : Fin 1024) : EReal := x d * Ideal.rsqrt (meanSq x) * g d

theorem count_real : Ideal.ofBits .f32 0x44800000#32 = ((1024 : ℝ) : EReal) := by
  simp [Ideal.ofBits, Ideal.ieee]
  rw [← EReal.coe_mul]; norm_num

/-- The small constant is a positive real. -/
theorem eps_real : ∃ e : ℝ, 0 < e ∧ Ideal.ofBits .f32 0x358637BD#32 = (e : EReal) := by
  refine ⟨8796093 / 2 ^ 43, by norm_num, ?_⟩
  simp [Ideal.ofBits, Ideal.ieee]
  rw [← EReal.coe_mul]; norm_num

/-- Where a row has an infinite entry its mean square is infinite. -/
theorem meanSq_top (x : Fin 1024 → EReal) (k : Fin 1024) (hk : x k = ⊤ ∨ x k = ⊥) : meanSq x = ⊤ := by
  have hsq : ∀ j, 0 ≤ x j * x j := fun j => by
    rcases le_total 0 (x j) with h | h
    · exact EReal.mul_nonneg h h
    · rw [← neg_mul_neg]
      exact EReal.mul_nonneg (EReal.neg_nonneg.mpr h) (EReal.neg_nonneg.mpr h)
  have hs : ∑ j, x j * x j = ⊤ := by
    refine top_le_iff.mp ((Finset.single_le_sum (fun j _ => hsq j) (Finset.mem_univ k)).trans' ?_)
    rcases hk with h | h <;> rw [h] <;> simp
  obtain ⟨e, _, he⟩ := eps_real
  unfold meanSq
  rw [hs, count_real, div_real _ (by norm_num), EReal.top_mul_coe_of_pos (by norm_num), he, EReal.top_add_coe]

/-- The normalised row is real wherever the gain is real, whatever the row. -/
theorem rms_real (x g : Fin 1024 → EReal) (hg : ∀ d, ∃ r : ℝ, g d = r) (d : Fin 1024) : ∃ r : ℝ, rms x g d = r := by
  by_cases h : ∃ k, x k = ⊤ ∨ x k = ⊥
  · obtain ⟨k, hk⟩ := h
    refine ⟨0, ?_⟩
    unfold rms
    rw [meanSq_top x k hk, Ideal.rsqrt_top, mul_zero, zero_mul]
    rfl
  · have hx : ∀ k, ∃ r : ℝ, x k = r := fun k =>
      ⟨(x k).toReal, (EReal.coe_toReal (fun e => h ⟨k, .inl e⟩) (fun e => h ⟨k, .inr e⟩)).symm⟩
    choose xr hxr using hx
    obtain ⟨gr, hgr⟩ := hg d
    obtain ⟨e, he0, he⟩ := eps_real
    have hs : ∑ k, x k * x k = ((∑ k, xr k * xr k : ℝ) : EReal) := by
      rw [coe_sum]
      exact Finset.sum_congr rfl fun k _ => by rw [hxr, EReal.coe_mul]
    have hp : 0 < (∑ k, xr k * xr k) / 1024 + e :=
      add_pos_of_nonneg_of_pos (div_nonneg (Finset.sum_nonneg fun k _ => mul_self_nonneg _) (by norm_num)) he0
    have hm : meanSq x = (((∑ k, xr k * xr k) / 1024 + e : ℝ) : EReal) := by
      unfold meanSq
      rw [hs, count_real, div_real_real _ (by norm_num), he, EReal.coe_add]
    unfold rms
    rw [hm, Ideal.rsqrt_coe, if_neg (not_lt.mpr hp.le), if_neg hp.ne', hxr, hgr]
    exact ⟨_, by rw [← EReal.coe_mul, ← EReal.coe_mul]⟩

/-- Attention over all keys at once, with the division after the product: scores in powers of two, their maximum taken off. -/
theorem attn_once {ι : Type*} [Fintype ι] [Nonempty ι] (x : ι → ℝ) (v : ι → EReal) (M : ℝ) :
    Ideal.div (∑ t, v t * Ideal.exp2 (((x t / Real.log 2 : ℝ) : EReal) - M)) (∑ u, Ideal.exp2 (((x u / Real.log 2 : ℝ) : EReal) - M)) = attn x v := by
  have hl : Real.log 2 ≠ 0 := (Real.log_pos one_lt_two).ne'
  have e : ∀ t, Ideal.exp2 (((x t / Real.log 2 : ℝ) : EReal) - M) = ((Real.exp (x t - M * Real.log 2) : ℝ) : EReal) := fun t => by
    rw [exp2_sub, sub_mul, div_mul_cancel₀ _ hl]
  have hp := sum_exp_pos fun t => x t - M * Real.log 2
  simp only [e]
  rw [← coe_sum, div_real _ hp.ne', mul_comm, mul_sum _ _ (inv_nonneg.mpr hp.le)]
  unfold attn
  refine Finset.sum_congr rfl fun t _ => ?_
  rw [mul_left_comm, mul_comm, ← EReal.coe_mul, ← weight_shift x (M * Real.log 2) t, div_eq_mul_inv, mul_comm (Real.exp _)]

end Cert.Math

end
-- ==== Proof.TailPoint.lean ====
/- The body of the mixer's tail kernel over the extended reals, one block at an index: the normalised rows, the queries
   and scores of a head, its attention over the memory, the gates, and the two halves of the last product. -/
module

public import proofs.«01_k».proof.Proof.Gen.TailIdeal.Frame
public import proofs.«01_k».proof.Proof.Rms
public import Idealize.ShloMosaic.Lib.Pointwise
public import Idealize.ShloMosaic.Lib.Pipeline.ValueKit

@[expose] public section

set_option maxRecDepth 16384

noncomputable section

namespace Cert.TailIdeal.Body

open Idealize.ShloMosaic Idealize.ShloMosaic.TcCoe
open Cert.TailIdeal Cert.TailIdeal.Gen
open scoped BigOperators

section
variable {F : FTy → Type} [FloatOps F] [Named F]

/-- The scores of a head: its keys against its queries. -/
def scoreV (q : FVec F S256x512 .bf16) (k : Vec F S1x256x256 .bf16) : FVec F S256x512 .f32 :=
  matmul dot_S256x256_S256x512_S256x512_1_0_0_1_n_n none (shapeCast S256x256 k shapeCasts_S1x256x256_S256x256) q
    (constant S256x512 .f32 0x00000000#32)

/-- A head's attention from its normalised rows, query weights, keys and values. -/
def headV (h : FVec F S512x1024 .bf16) (wq : Vec F S256x1024 .bf16) (k v : Vec F S1x256x256 .bf16) : FVec F S256x512 .f32 :=
  k0_pay8 (scoreV (k0_pay12 h wq) k) v

/-- Half of the rows of an array of eight heads. -/
def rowsV (o : Fin 2 → ℕ) (ho : S1024x512.Slices o S512x512) (a : Vec F S1x8x1x128x512 .bf16) : FVec F S512x512 .f32 :=
  extf .f32 (extractStridedSlice S512x512 o (shapeCast S1024x512 (shapeCast S8x1x128x512 a shapeCasts_S1x8x1x128x512_S8x1x128x512)
    shapeCasts_S8x1x128x512_S1024x512) ho) bitsLt_bf16_f32

/-- The gated sum of three branches. -/
def gatedV (ga gb gc a b c : FVec F S512x512 .f32) : FVec F S512x512 .f32 :=
  addf (addf (mulf (logistic ga) a) (mulf (logistic gb) b)) (mulf (logistic gc) c)

/-- Half of the last product. -/
def halfV (y : FVec F S512x512 .f32) (w : Vec F S512x1024 .bf16) : FVec F S512x1024 .f32 :=
  matmul dot_S512x512_S512x1024_S512x1024_0_0_1_1_n_n none (truncf .bf16 y bitsLt_bf16_f32) (shapeCast S512x1024 w shapeCasts_S512x1024_S512x1024)
    (constant S512x1024 .f32 0x00000000#32)

/-- Two heads' attention, one above the other. -/
def pairV (a b : FVec F S256x512 .f32) : FVec F S512x512 .f32 :=
  concatenate S512x512 0 [⟨S256x512, a⟩, ⟨S256x512, b⟩] concatenates_S256x512_S256x512_S512x512_d0

/-- A block of the result from the blocks the windows show. -/
def outV (x : Vec F S1x512x1024 .f32) (g : Vec F S1x1024 .f32) (a b : Vec F S1x8x1x128x512 .bf16)
    (k v : Fin 4 → Vec F S1x256x256 .bf16) (wq : Fin 4 → Vec F S256x1024 .bf16) (wg : Fin 3 → Fin 2 → Vec F S512x1024 .bf16)
    (w : Fin 2 → Vec F S512x1024 .bf16) : FVec F S1x512x1024 .f32 :=
  shapeCast S1x512x1024 (addf (k0_pay2 x) (addf
    (halfV (gatedV (k0_pay7 (k0_pay3 x g) (wg 0 0)) (k0_pay7 (k0_pay3 x g) (wg 1 0)) (k0_pay7 (k0_pay3 x g) (wg 2 0))
      (rowsV ![0, 0] slices_S1024x512_o0_0_S512x512 a) (rowsV ![0, 0] slices_S1024x512_o0_0_S512x512 b)
      (pairV (headV (k0_pay3 x g) (wq 0) (k 0) (v 0)) (headV (k0_pay3 x g) (wq 1) (k 1) (v 1)))) (w 0))
    (halfV (gatedV (k0_pay7 (k0_pay3 x g) (wg 0 1)) (k0_pay7 (k0_pay3 x g) (wg 1 1)) (k0_pay7 (k0_pay3 x g) (wg 2 1))
      (rowsV ![512, 0] slices_S1024x512_o512_0_S512x512 a) (rowsV ![512, 0] slices_S1024x512_o512_0_S512x512 b)
      (pairV (headV (k0_pay3 x g) (wq 2) (k 2) (v 2)) (headV (k0_pay3 x g) (wq 3) (k 3) (v 3)))) (w 1))))
    shapeCasts_S512x1024_S1x512x1024

/-- What the body leaves in the result's window is that block. -/
theorem out_eq (x0 : Vec F S1x512x1024 .f32) (x1 : Vec F S1x1024 .f32) (x2 : Vec F S1x8x1x128x512 .bf16) (x3 : Vec F S1x8x1x128x512 .bf16) (x4 : Vec F S1x256x1024 .bf16) (x5 : Vec F S1x1024x256 .bf16) (x6 : Vec F S1024x1024 .bf16) (x7 : Vec F S3072x1024 .bf16) (x8 : Vec F S1024x1024 .bf16) :
    out0_9 x0 x1 x2 x3 x4 x5 x6 x7 x8 = outV x0 x1 x2 x3 ![View.ld x4 r0_4, View.ld x4 r0_6, View.ld x4 r0_15, View.ld x4 r0_17]
      ![View.ld x5 r0_8, View.ld x5 r0_10, View.ld x5 r0_19, View.ld x5 r0_21] ![View.ld x6 r0_2, View.ld x6 r0_3, View.ld x6 r0_13, View.ld x6 r0_14]
      ![![View.ld x7 r0_5, View.ld x7 r0_16], ![View.ld x7 r0_7, View.ld x7 r0_18], ![View.ld x7 r0_9, View.ld x7 r0_20]]
      ![View.ld x8 r0_12, View.ld x8 r0_22] := by
  frame_out
  unfold k0_pay23 k0_pay22
  frame_out
  rfl

end

/-- The pattern of minus infinity. -/
theorem neg_inf : Ideal.ofBits .f32 0xFF800000#32 = ⊥ := by
  simp [Ideal.ofBits, Ideal.ieee]

/-- The queries' named scale. -/
def scaleI : EReal := ((16⁻¹ * (Real.log 2)⁻¹ : ℝ) : EReal)

theorem scale_named : Named.named (F := Ideal) κ "scale" (φ := .f32) 0x3DB8AA3B#32 = scaleI := rfl

/-- The normalised rows. -/
theorem rows_apply (x : Vec Ideal S1x512x1024 .f32) (g : Vec Ideal S1x1024 .f32) (i : Fin 512) (d : Fin 1024) :
    (k0_pay3 x g (ix2 i d) : EReal) = Math.rms (fun k => x (ix3 0 i k)) (fun k => g (ix2 0 k)) d := by
  pointwise [k0_pay3, k0_pay2, Math.rms, Math.meanSq]

/-- The queries. -/
theorem query_apply (h : FVec Ideal S512x1024 .bf16) (wq : Vec Ideal S256x1024 .bf16) (r : Fin 256) (i : Fin 512) :
    (k0_pay12 h wq (ix2 r i) : EReal) = (∑ d : Fin 1024, (wq (ix2 r d) : EReal) * h (ix2 i d)) * scaleI := by
  pointwise [k0_pay12, scale_named]

/-- The scores. -/
theorem score_apply (q : FVec Ideal S256x512 .bf16) (k : Vec Ideal S1x256x256 .bf16) (t : Fin 256) (i : Fin 512) :
    (scoreV q k (ix2 t i) : EReal) = ∑ r : Fin 256, (k (ix3 0 t r) : EReal) * q (ix2 r i) := by
  pointwise [scoreV]

/-- The attention of a head from its scores. -/
theorem soft_apply (s : FVec Ideal S256x512 .f32) (v : Vec Ideal S1x256x256 .bf16) (e : Fin 256) (i : Fin 512) :
    (k0_pay8 s v (ix2 e i) : EReal)
      = Ideal.div (∑ t : Fin 256, (v (ix3 0 e t) : EReal) * Ideal.exp2 ((s (ix2 t i) : EReal) - Finset.univ.fold max ⊥ fun u : Fin 256 => (s (ix2 u i) : EReal)))
          (∑ t : Fin 256, Ideal.exp2 ((s (ix2 t i) : EReal) - Finset.univ.fold max ⊥ fun u : Fin 256 => (s (ix2 u i) : EReal))) := by
  pointwise [k0_pay8, neg_inf]
  rfl

/-- A gate before the logistic function. -/
theorem gate_apply (h : FVec Ideal S512x1024 .bf16) (w : Vec Ideal S512x1024 .bf16) (r i : Fin 512) :
    (k0_pay7 h w (ix2 r i) : EReal) = ∑ d : Fin 1024, (w (ix2 r d) : EReal) * h (ix2 i d) := by
  pointwise [k0_pay7]

/-- The first half of the rows of eight heads. -/
theorem rows0_apply (a : Vec Ideal S1x8x1x128x512 .bf16) (r i : Fin 512) :
    (rowsV ![0, 0] slices_S1024x512_o0_0_S512x512 a (ix2 r i) : EReal) = a (ix5 0 ⟨r.val / 128, by omega⟩ 0 ⟨r.val % 128, by omega⟩ i) := by
  pointwise [rowsV]

/-- The second half. -/
theorem rows1_apply (a : Vec Ideal S1x8x1x128x512 .bf16) (r i : Fin 512) :
    (rowsV ![512, 0] slices_S1024x512_o512_0_S512x512 a (ix2 r i) : EReal) = a (ix5 0 ⟨(512 + r.val) / 128, by omega⟩ 0 ⟨(512 + r.val) % 128, by omega⟩ i) := by
  pointwise [rowsV]

/-- The gated sum. -/
theorem gated_apply (ga gb gc a b c : FVec Ideal S512x512 .f32) (r i : Fin 512) :
    (gatedV ga gb gc a b c (ix2 r i) : EReal)
      = Ideal.logistic (ga (ix2 r i)) * a (ix2 r i) + Ideal.logistic (gb (ix2 r i)) * b (ix2 r i) + Ideal.logistic (gc (ix2 r i)) * c (ix2 r i) := by
  pointwise [gatedV]

/-- Half of the last product. -/
theorem half_apply (y : FVec Ideal S512x512 .f32) (w : Vec Ideal S512x1024 .bf16) (i : Fin 512) (d : Fin 1024) :
    (halfV y w (ix2 i d) : EReal) = ∑ r : Fin 512, (y (ix2 r i) : EReal) * w (ix2 r d) := by
  pointwise [halfV]

/-- Of two heads one above the other, the upper. -/
theorem pair_low (a b : FVec Ideal S256x512 .f32) (e : Fin 256) (i : Fin 512) :
    (pairV a b (ix2 ⟨e.val, by omega⟩ i) : EReal) = a (ix2 e i) := by
  pointwise [pairV]

/-- The lower. -/
theorem pair_high (a b : FVec Ideal S256x512 .f32) (e : Fin 256) (i : Fin 512) :
    (pairV a b (ix2 ⟨256 + e.val, by omega⟩ i) : EReal) = b (ix2 e i) := by
  pointwise [pairV]

end Cert.TailIdeal.Body

end
-- ==== Proof.TailMath.lean ====
/- The mixer's tail over the extended reals, one row and one column of its result. -/
module

public import proofs.«01_k».proof.Proof.Rms

@[expose] public section

noncomputable section

namespace Cert.Math

open Idealize.ShloMosaic
open scoped BigOperators

/-- The gated sum of three branches at one column; the gates before the logistic function are `L`, one block of columns
    after the other. -/
def gated (L : Fin 3072 → EReal) (a b o : Fin 1024 → EReal) (c : Fin 1024) : EReal :=
  Ideal.logistic (L ⟨c.val, by omega⟩) * a c + Ideal.logistic (L ⟨1024 + c.val, by omega⟩) * b c + Ideal.logistic (L ⟨2048 + c.val, by omega⟩) * o c

/-- The attention over the memory at one column: real queries `q` of the row and keys `k`, a head every 256 columns. -/
def memory (q : Fin 1024 → ℝ) (k : Fin 256 → Fin 1024 → ℝ) (v : Fin 1024 → Fin 256 → EReal) (c : Fin 1024) : EReal :=
  attn (fun t : Fin 256 => (∑ r : Fin 256, k t ⟨c.val / 256 * 256 + r.val, by omega⟩ * q ⟨c.val / 256 * 256 + r.val, by omega⟩) * 16⁻¹) (v c)

/-- One place of the result: the residual, plus the gated sum against a column of the last weights; `w` are the first
    weights, whose columns from 3232 on give the gates. -/
def tailRow (x g : Fin 1024 → EReal) (w : Fin 1024 → Fin 6304 → EReal) (a b o wo : Fin 1024 → EReal) (d : Fin 1024) : EReal :=
  x d + ∑ c : Fin 1024, gated (fun r => ∑ d : Fin 1024, w d ⟨3232 + r.val, by omega⟩ * rms x g d) a b o c * wo c

end Cert.Math

end
-- ==== Proof.TailBlock.lean ====
/- A block of the mixer's tail over the extended reals, one place at a time: the residual plus the product of the gated
   sum with the last weights, over all 1024 columns at once. -/
module

public import proofs.«01_k».proof.Proof.TailPoint
public import proofs.«01_k».proof.Proof.TailMath

@[expose] public section

set_option maxRecDepth 16384

noncomputable section

namespace Cert.TailIdeal.Body

open Idealize.ShloMosaic Idealize.ShloMosaic.TcCoe
open Cert.TailIdeal Cert.TailIdeal.Gen
open scoped BigOperators

/-- A head's attention where its scores are real. -/
theorem head_apply (h : FVec Ideal S512x1024 .bf16) (wq : Vec Ideal S256x1024 .bf16) (k v : Vec Ideal S1x256x256 .bf16) (e : Fin 256) (i : Fin 512)
    (x : Fin 256 → ℝ)
    (hx : ∀ t, ∑ r : Fin 256, (k (ix3 0 t r) : EReal) * ((∑ d : Fin 1024, (wq (ix2 r d) : EReal) * h (ix2 i d)) * scaleI) = ((x t / Real.log 2 : ℝ) : EReal)) :
    (headV h wq k v (ix2 e i) : EReal) = Math.attn x fun t => v (ix3 0 e t) := by
  have hs : ∀ t, (scoreV (k0_pay12 h wq) k (ix2 t i) : EReal) = ((x t / Real.log 2 : ℝ) : EReal) := fun t => by
    rw [score_apply, ← hx]
    simp only [query_apply]
  obtain ⟨M, hM⟩ := Math.fold_max_real Finset.univ Finset.univ_nonempty (fun u : Fin 256 => (scoreV (k0_pay12 h wq) k (ix2 u i) : EReal)) fun u _ => ⟨_, hs u⟩
  unfold headV
  rw [soft_apply, hM]
  simp only [hs]
  exact Math.attn_once x (fun t => v (ix3 0 e t)) M

section
variable (x : Vec Ideal S1x512x1024 .f32) (g : Vec Ideal S1x1024 .f32) (a b : Vec Ideal S1x8x1x128x512 .bf16)
    (k v : Fin 4 → Vec Ideal S1x256x256 .bf16) (wq : Fin 4 → Vec Ideal S256x1024 .bf16) (wg : Fin 3 → Fin 2 → Vec Ideal S512x1024 .bf16)
    (w : Fin 2 → Vec Ideal S512x1024 .bf16) (i : Fin 512) (d : Fin 1024)
    (L : Fin 3072 → EReal) (A B O W : Fin 1024 → EReal)

/-- A gate's row. -/
theorem gate_row (hL : ∀ (n : Fin 3) (p : Fin 2) (r : Fin 512), ∑ d : Fin 1024, (wg n p (ix2 r d) : EReal) * Math.rms (fun k => x (ix3 0 i k)) (fun k => g (ix2 0 k)) d = L ⟨n.val * 1024 + (p.val * 512 + r.val), by omega⟩)
    (n : Fin 3) (p : Fin 2) (r : Fin 512) :
    (k0_pay7 (k0_pay3 x g) (wg n p) (ix2 r i) : EReal) = L ⟨n.val * 1024 + (p.val * 512 + r.val), by omega⟩ := by
  rw [gate_apply, ← hL]
  simp only [rows_apply]

/-- Two heads' rows. -/
theorem pair_row (hO : ∀ (n : Fin 4) (e : Fin 256), (headV (k0_pay3 x g) (wq n) (k n) (v n) (ix2 e i) : EReal) = O ⟨n.val * 256 + e.val, by omega⟩)
    (n n' : Fin 4) (hn : n'.val = n.val + 1) (r : Fin 512) :
    (pairV (headV (k0_pay3 x g) (wq n) (k n) (v n)) (headV (k0_pay3 x g) (wq n') (k n') (v n')) (ix2 r i) : EReal)
      = O ⟨n.val * 256 + r.val, by omega⟩ := by
  by_cases h : r.val < 256
  · exact (pair_low _ _ ⟨r.val, h⟩ i).trans (hO n ⟨r.val, h⟩)
  · have e : r = ⟨256 + (r.val - 256), by omega⟩ := Fin.ext (by simp only []; omega)
    rw [e]
    refine (pair_high _ _ ⟨r.val - 256, by omega⟩ i).trans ((hO n' ⟨r.val - 256, by omega⟩).trans (congrArg O (Fin.ext ?_)))
    dsimp only
    omega

/-- One place of the block. -/
theorem out_apply (hL : ∀ (n : Fin 3) (p : Fin 2) (r : Fin 512), ∑ d : Fin 1024, (wg n p (ix2 r d) : EReal) * Math.rms (fun k => x (ix3 0 i k)) (fun k => g (ix2 0 k)) d = L ⟨n.val * 1024 + (p.val * 512 + r.val), by omega⟩)
    (hA : ∀ c : Fin 1024, (a (ix5 0 ⟨c.val / 128, by omega⟩ 0 ⟨c.val % 128, by omega⟩ i) : EReal) = A c)
    (hB : ∀ c : Fin 1024, (b (ix5 0 ⟨c.val / 128, by omega⟩ 0 ⟨c.val % 128, by omega⟩ i) : EReal) = B c)
    (hO : ∀ (n : Fin 4) (e : Fin 256), (headV (k0_pay3 x g) (wq n) (k n) (v n) (ix2 e i) : EReal) = O ⟨n.val * 256 + e.val, by omega⟩)
    (hW : ∀ (p : Fin 2) (r : Fin 512), (w p (ix2 r d) : EReal) = W ⟨p.val * 512 + r.val, by omega⟩) :
    (outV x g a b k v wq wg w (ix3 0 i d) : EReal) = x (ix3 0 i d) + ∑ c : Fin 1024, Math.gated L A B O c * W c := by
  have e : (outV x g a b k v wq wg w (ix3 0 i d) : EReal) = x (ix3 0 i d) + (
      halfV (gatedV (k0_pay7 (k0_pay3 x g) (wg 0 0)) (k0_pay7 (k0_pay3 x g) (wg 1 0)) (k0_pay7 (k0_pay3 x g) (wg 2 0))
      (rowsV ![0, 0] slices_S1024x512_o0_0_S512x512 a) (rowsV ![0, 0] slices_S1024x512_o0_0_S512x512 b)
      (pairV (headV (k0_pay3 x g) (wq 0) (k 0) (v 0)) (headV (k0_pay3 x g) (wq 1) (k 1) (v 1)))) (w 0) (ix2 i d)
      + halfV (gatedV (k0_pay7 (k0_pay3 x g) (wg 0 1)) (k0_pay7 (k0_pay3 x g) (wg 1 1)) (k0_pay7 (k0_pay3 x g) (wg 2 1))
      (rowsV ![512, 0] slices_S1024x512_o512_0_S512x512 a) (rowsV ![512, 0] slices_S1024x512_o512_0_S512x512 b)
      (pairV (headV (k0_pay3 x g) (wq 2) (k 2) (v 2)) (headV (k0_pay3 x g) (wq 3) (k 3) (v 3)))) (w 1) (ix2 i d)) := by
    unfold outV
    generalize halfV (gatedV (k0_pay7 (k0_pay3 x g) (wg 0 0)) _ _ _ _ _) _ = y0
    generalize halfV (gatedV (k0_pay7 (k0_pay3 x g) (wg 0 1)) _ _ _ _ _) _ = y1
    pointwise [k0_pay2]
  rw [e]
  refine congrArg _ (Eq.trans ?_ (Fin.sum_univ_add (a := 512) (b := 512) fun c => Math.gated L A B O c * W c).symm)
  rw [half_apply, half_apply]
  refine congrArg₂ (· + ·) (Finset.sum_congr rfl fun r _ => ?_) (Finset.sum_congr rfl fun r _ => ?_)
  · rw [gated_apply, rows0_apply, rows0_apply, gate_row x g wg i L hL, gate_row x g wg i L hL, gate_row x g wg i L hL,
      pair_row x g k v wq i O hO 0 1 rfl, hW]
    have a' := hA (Fin.castAdd 512 r)
    have b' := hB (Fin.castAdd 512 r)
    refine congrArg₂ (· * ·) (congrArg₂ (· + ·) (congrArg₂ (· + ·) (congrArg₂ (· * ·) (congrArg (fun z => Ideal.logistic (L z)) (Fin.ext ?_)) a')
      (congrArg₂ (· * ·) (congrArg (fun z => Ideal.logistic (L z)) (Fin.ext ?_)) b'))
      (congrArg₂ (· * ·) (congrArg (fun z => Ideal.logistic (L z)) (Fin.ext ?_)) (congrArg O (Fin.ext ?_)))) (congrArg W (Fin.ext ?_)) <;> simp <;> omega
  · rw [gated_apply, rows1_apply, rows1_apply, gate_row x g wg i L hL, gate_row x g wg i L hL, gate_row x g wg i L hL,
      pair_row x g k v wq i O hO 2 3 rfl, hW]
    have a' := hA (Fin.natAdd 512 r)
    have b' := hB (Fin.natAdd 512 r)
    refine congrArg₂ (· * ·) (congrArg₂ (· + ·) (congrArg₂ (· + ·) (congrArg₂ (· * ·) (congrArg (fun z => Ideal.logistic (L z)) (Fin.ext ?_)) a')
      (congrArg₂ (· * ·) (congrArg (fun z => Ideal.logistic (L z)) (Fin.ext ?_)) b'))
      (congrArg₂ (· * ·) (congrArg (fun z => Ideal.logistic (L z)) (Fin.ext ?_)) (congrArg O (Fin.ext ?_)))) (congrArg W (Fin.ext ?_)) <;> simp <;> omega

end

end Cert.TailIdeal.Body

end
-- ==== Proof.TailHost.lean ====
/- What the mixer's tail kernel reads: the weights the host slices, transposes and casts, and the blocks its windows show,
   read at an index over the extended reals. -/
module

public import proofs.«01_k».proof.Proof.TailBlock
public import Idealize.ShloMosaic.Lib.Claim
public import Idealize.ShloMosaic.Lib.Pointwise
public import Idealize.ShloMosaic.Lib.Pipeline.ValueKit

@[expose] public section

set_option maxRecDepth 16384

noncomputable section

namespace Cert.TailIdeal.Body

open Idealize.ShloMosaic Idealize.ShloMosaic.TcCoe Idealize.SL.Sem
open Cert.TailIdeal Cert.TailIdeal.Gen
open scoped BigOperators

/-- The pieces of the blocks that the body loads. -/
def keysOf (x4 : Vec Ideal S1x256x1024 .bf16) : Fin 4 → Vec Ideal S1x256x256 .bf16 := ![View.ld x4 r0_4, View.ld x4 r0_6, View.ld x4 r0_15, View.ld x4 r0_17]
def valsOf (x5 : Vec Ideal S1x1024x256 .bf16) : Fin 4 → Vec Ideal S1x256x256 .bf16 := ![View.ld x5 r0_8, View.ld x5 r0_10, View.ld x5 r0_19, View.ld x5 r0_21]
def querOf (x6 : Vec Ideal S1024x1024 .bf16) : Fin 4 → Vec Ideal S256x1024 .bf16 := ![View.ld x6 r0_2, View.ld x6 r0_3, View.ld x6 r0_13, View.ld x6 r0_14]
def gateOf (x7 : Vec Ideal S3072x1024 .bf16) : Fin 3 → Fin 2 → Vec Ideal S512x1024 .bf16 :=
  ![![View.ld x7 r0_5, View.ld x7 r0_16], ![View.ld x7 r0_7, View.ld x7 r0_18], ![View.ld x7 r0_9, View.ld x7 r0_20]]
def lastOf (x8 : Vec Ideal S1024x1024 .bf16) : Fin 2 → Vec Ideal S512x1024 .bf16 := ![View.ld x8 r0_12, View.ld x8 r0_22]

theorem keysOf_apply (x4 : Vec Ideal S1x256x1024 .bf16) (n : Fin 4) (t r : Fin 256) :
    (keysOf x4 n (ix3 0 t r) : EReal) = x4 (ix3 0 t ⟨n.val * 256 + r.val, by omega⟩) := by
  match n with
  | ⟨0, _⟩ => show View.ld x4 r0_4 (ix3 0 t r) = _; pointwise
  | ⟨1, _⟩ => show View.ld x4 r0_6 (ix3 0 t r) = _; pointwise
  | ⟨2, _⟩ => show View.ld x4 r0_15 (ix3 0 t r) = _; pointwise
  | ⟨3, _⟩ => show View.ld x4 r0_17 (ix3 0 t r) = _; pointwise

theorem valsOf_apply (x5 : Vec Ideal S1x1024x256 .bf16) (n : Fin 4) (e t : Fin 256) :
    (valsOf x5 n (ix3 0 e t) : EReal) = x5 (ix3 0 ⟨n.val * 256 + e.val, by omega⟩ t) := by
  match n with
  | ⟨0, _⟩ => show View.ld x5 r0_8 (ix3 0 e t) = _; pointwise
  | ⟨1, _⟩ => show View.ld x5 r0_10 (ix3 0 e t) = _; pointwise
  | ⟨2, _⟩ => show View.ld x5 r0_19 (ix3 0 e t) = _; pointwise
  | ⟨3, _⟩ => show View.ld x5 r0_21 (ix3 0 e t) = _; pointwise

theorem querOf_apply (x6 : Vec Ideal S1024x1024 .bf16) (n : Fin 4) (r : Fin 256) (d : Fin 1024) :
    (querOf x6 n (ix2 r d) : EReal) = x6 (ix2 ⟨n.val * 256 + r.val, by omega⟩ d) := by
  match n with
  | ⟨0, _⟩ => show View.ld x6 r0_2 (ix2 r d) = _; pointwise
  | ⟨1, _⟩ => show View.ld x6 r0_3 (ix2 r d) = _; pointwise
  | ⟨2, _⟩ => show View.ld x6 r0_13 (ix2 r d) = _; pointwise
  | ⟨3, _⟩ => show View.ld x6 r0_14 (ix2 r d) = _; pointwise

theorem gateOf_apply (x7 : Vec Ideal S3072x1024 .bf16) (n : Fin 3) (p : Fin 2) (r : Fin 512) (d : Fin 1024) :
    (gateOf x7 n p (ix2 r d) : EReal) = x7 (ix2 ⟨n.val * 1024 + (p.val * 512 + r.val), by omega⟩ d) := by
  match n, p with
  | ⟨0, _⟩, ⟨0, _⟩ => show View.ld x7 r0_5 (ix2 r d) = _; pointwise
  | ⟨0, _⟩, ⟨1, _⟩ => show View.ld x7 r0_16 (ix2 r d) = _; pointwise
  | ⟨1, _⟩, ⟨0, _⟩ => show View.ld x7 r0_7 (ix2 r d) = _; pointwise
  | ⟨1, _⟩, ⟨1, _⟩ => show View.ld x7 r0_18 (ix2 r d) = _; pointwise; exact congrArg (fun z => x7 (ix2 z d)) (Fin.ext (by dsimp only; omega))
  | ⟨2, _⟩, ⟨0, _⟩ => show View.ld x7 r0_9 (ix2 r d) = _; pointwise
  | ⟨2, _⟩, ⟨1, _⟩ => show View.ld x7 r0_20 (ix2 r d) = _; pointwise; exact congrArg (fun z => x7 (ix2 z d)) (Fin.ext (by dsimp only; omega))

theorem lastOf_apply (x8 : Vec Ideal S1024x1024 .bf16) (p : Fin 2) (r : Fin 512) (d : Fin 1024) :
    (lastOf x8 p (ix2 r d) : EReal) = x8 (ix2 ⟨p.val * 512 + r.val, by omega⟩ d) := by
  match p with
  | ⟨0, _⟩ => show View.ld x8 r0_12 (ix2 r d) = _; pointwise
  | ⟨1, _⟩ => show View.ld x8 r0_22 (ix2 r d) = _; pointwise

variable (m : (ℓ : Loc nD τ sig) → Buf (Elt Ideal) ℓ) (c : Dev nD)

/-- The arrays the program is given. -/
abbrev argX : FVec Ideal S4x8192x1024 .f32 := m ((c.tc : Thread nD τ).loc main_arg0)
abbrev argG : FVec Ideal S1024 .f32 := m ((c.tc : Thread nD τ).loc main_arg1)
abbrev argA : FVec Ideal S4x8x16x128x512 .bf16 := m ((c.tc : Thread nD τ).loc main_arg2)
abbrev argB : FVec Ideal S4x8x16x128x512 .bf16 := m ((c.tc : Thread nD τ).loc main_arg3)
abbrev argK : FVec Ideal S4x256x1024 .bf16 := m ((c.tc : Thread nD τ).loc main_arg4)
abbrev argV : FVec Ideal S4x1024x256 .bf16 := m ((c.tc : Thread nD τ).loc main_arg5)
abbrev argI : FVec Ideal S1024x6304 .f32 := m ((c.tc : Thread nD τ).loc main_arg6)
abbrev argO : FVec Ideal S1024x1024 .f32 := m ((c.tc : Thread nD τ).loc main_arg7)

/-- The host's arrays. -/
abbrev arrG : FVec Ideal S1x1024 .f32 := V m c main_v6
abbrev arrQ : FVec Ideal S1024x1024 .bf16 := V m c main_v2
abbrev arrL : FVec Ideal S3072x1024 .bf16 := V m c main_v5
abbrev arrO : FVec Ideal S1024x1024 .bf16 := V m c main_v7

theorem arrG_apply (d : Fin 1024) : (arrG m c (ix2 0 d) : EReal) = argG m c (ix1 d) := by
  unfold arrG
  entry_read
  pointwise

theorem arrQ_apply (r d : Fin 1024) : (arrQ m c (ix2 r d) : EReal) = argI m c (ix2 d ⟨2208 + r.val, by omega⟩) := by
  unfold arrQ
  entry_read
  pointwise

theorem arrL_apply (r : Fin 3072) (d : Fin 1024) : (arrL m c (ix2 r d) : EReal) = argI m c (ix2 d ⟨3232 + r.val, by omega⟩) := by
  unfold arrL
  entry_read
  pointwise

theorem arrO_apply (r d : Fin 1024) : (arrO m c (ix2 r d) : EReal) = argO m c (ix2 r d) := by
  unfold arrO
  entry_read
  pointwise

/-- The blocks the windows show at a point of the grid. -/
theorem idx : ∀ t : Fin cfg0.N, win0_0.index t = ![t.val / 16, t.val % 16, 0] ∧ win0_1.index t = ![0, 0]
    ∧ win0_2.index t = ![t.val / 16, 0, t.val % 16, 0, 0] ∧ win0_3.index t = ![t.val / 16, 0, t.val % 16, 0, 0]
    ∧ win0_4.index t = ![t.val / 16, 0, 0] ∧ win0_5.index t = ![t.val / 16, 0, 0] ∧ win0_6.index t = ![0, 0] ∧ win0_7.index t = ![0, 0]
    ∧ win0_8.index t = ![0, 0] ∧ win0_9.index t = ![t.val / 16, t.val % 16, 0] ∧ t.val < 64 :=
  (by decide +kernel : ∀ t : Fin grid0.N, _)

theorem lt_N (t : Fin cfg0.N) : t.val < 64 := (idx t).2.2.2.2.2.2.2.2.2.2

/-- The sequence a point works on, and a row of its block among all rows. -/
def seqOf (t : Fin cfg0.N) : Fin 4 := ⟨t.val / 16, by have := lt_N t; omega⟩
def rowOf (t : Fin cfg0.N) (i : Fin 512) : Fin 8192 := ⟨t.val % 16 * 512 + i.val, by omega⟩

theorem blkX_of (x : FVec Ideal S4x8192x1024 .f32) (t : Fin cfg0.N) (i : Fin 512) (d : Fin 1024) :
    ((((cfg0.win 0).blk t).view.read (Elt Ideal) x) (ix3 0 i d) : EReal) = x (ix3 (seqOf t) (rowOf t i) d) := by
  blk_ext [idx t, seqOf, rowOf]

theorem blkG_of (x : FVec Ideal S1x1024 .f32) (t : Fin cfg0.N) (d : Fin 1024) :
    ((((cfg0.win 1).blk t).view.read (Elt Ideal) x) (ix2 0 d) : EReal) = x (ix2 0 d) := by
  blk_ext [idx t]

theorem blkA_of (x : FVec Ideal S4x8x16x128x512 .bf16) (t : Fin cfg0.N) (h : Fin 8) (e : Fin 128) (i : Fin 512) :
    ((((cfg0.win 2).blk t).view.read (Elt Ideal) x) (ix5 0 h 0 e i) : EReal) = x (ix5 (seqOf t) h ⟨t.val % 16, by omega⟩ e i) := by
  blk_ext [idx t, seqOf]

theorem blkB_of (x : FVec Ideal S4x8x16x128x512 .bf16) (t : Fin cfg0.N) (h : Fin 8) (e : Fin 128) (i : Fin 512) :
    ((((cfg0.win 3).blk t).view.read (Elt Ideal) x) (ix5 0 h 0 e i) : EReal) = x (ix5 (seqOf t) h ⟨t.val % 16, by omega⟩ e i) := by
  blk_ext [idx t, seqOf]

theorem blkK_of (x : FVec Ideal S4x256x1024 .bf16) (t : Fin cfg0.N) (u : Fin 256) (r : Fin 1024) :
    ((((cfg0.win 4).blk t).view.read (Elt Ideal) x) (ix3 0 u r) : EReal) = x (ix3 (seqOf t) u r) := by
  blk_ext [idx t, seqOf]

theorem blkV_of (x : FVec Ideal S4x1024x256 .bf16) (t : Fin cfg0.N) (r : Fin 1024) (u : Fin 256) :
    ((((cfg0.win 5).blk t).view.read (Elt Ideal) x) (ix3 0 r u) : EReal) = x (ix3 (seqOf t) r u) := by
  blk_ext [idx t, seqOf]

theorem blkQ_of (x : FVec Ideal S1024x1024 .bf16) (t : Fin cfg0.N) (r d : Fin 1024) :
    ((((cfg0.win 6).blk t).view.read (Elt Ideal) x) (ix2 r d) : EReal) = x (ix2 r d) := by
  blk_ext [idx t]

theorem blkL_of (x : FVec Ideal S3072x1024 .bf16) (t : Fin cfg0.N) (r : Fin 3072) (d : Fin 1024) :
    ((((cfg0.win 7).blk t).view.read (Elt Ideal) x) (ix2 r d) : EReal) = x (ix2 r d) := by
  blk_ext [idx t]

theorem blkO_of (x : FVec Ideal S1024x1024 .bf16) (t : Fin cfg0.N) (r d : Fin 1024) :
    ((((cfg0.win 8).blk t).view.read (Elt Ideal) x) (ix2 r d) : EReal) = x (ix2 r d) := by
  blk_ext [idx t]

/-- The same of the arrays the kernel is called with. -/
theorem blkX (t : Fin cfg0.N) (i : Fin 512) (d : Fin 1024) : (iblk m c 0 t (ix3 0 i d) : EReal) = argX m c (ix3 (seqOf t) (rowOf t i) d) :=
  (blkX_of (V m c main_arg0) t i d).trans (by rw [V_main_arg0])
theorem blkG (t : Fin cfg0.N) (d : Fin 1024) : (iblk m c 1 t (ix2 0 d) : EReal) = argG m c (ix1 d) :=
  (blkG_of (V m c main_v6) t d).trans (arrG_apply m c d)
theorem blkA (t : Fin cfg0.N) (h : Fin 8) (e : Fin 128) (i : Fin 512) :
    (iblk m c 2 t (ix5 0 h 0 e i) : EReal) = argA m c (ix5 (seqOf t) h ⟨t.val % 16, by omega⟩ e i) :=
  (blkA_of (V m c main_arg2) t h e i).trans (by rw [V_main_arg2])
theorem blkB (t : Fin cfg0.N) (h : Fin 8) (e : Fin 128) (i : Fin 512) :
    (iblk m c 3 t (ix5 0 h 0 e i) : EReal) = argB m c (ix5 (seqOf t) h ⟨t.val % 16, by omega⟩ e i) :=
  (blkB_of (V m c main_arg3) t h e i).trans (by rw [V_main_arg3])
theorem blkK (t : Fin cfg0.N) (u : Fin 256) (r : Fin 1024) : (iblk m c 4 t (ix3 0 u r) : EReal) = argK m c (ix3 (seqOf t) u r) :=
  (blkK_of (V m c main_arg4) t u r).trans (by rw [V_main_arg4])
theorem blkV (t : Fin cfg0.N) (r : Fin 1024) (u : Fin 256) : (iblk m c 5 t (ix3 0 r u) : EReal) = argV m c (ix3 (seqOf t) r u) :=
  (blkV_of (V m c main_arg5) t r u).trans (by rw [V_main_arg5])
theorem blkQ (t : Fin cfg0.N) (r d : Fin 1024) : (iblk m c 6 t (ix2 r d) : EReal) = argI m c (ix2 d ⟨2208 + r.val, by omega⟩) :=
  (blkQ_of (V m c main_v2) t r d).trans (arrQ_apply m c r d)
theorem blkL (t : Fin cfg0.N) (r : Fin 3072) (d : Fin 1024) : (iblk m c 7 t (ix2 r d) : EReal) = argI m c (ix2 d ⟨3232 + r.val, by omega⟩) :=
  (blkL_of (V m c main_v5) t r d).trans (arrL_apply m c r d)
theorem blkO (t : Fin cfg0.N) (r d : Fin 1024) : (iblk m c 8 t (ix2 r d) : EReal) = argO m c (ix2 r d) :=
  (blkO_of (V m c main_v7) t r d).trans (arrO_apply m c r d)

end Cert.TailIdeal.Body

end
-- ==== Proof.TailValue.lean ====
/- The result of the mixer's tail kernel over the extended reals: at every place the residual plus the gated sum of the two
   given branches and the attention over the memory, against the last weights. -/
module

public import proofs.«01_k».proof.Proof.TailHost

@[expose] public section

set_option maxRecDepth 16384

noncomputable section

namespace Cert.TailIdeal.Body

open Idealize.ShloMosaic Idealize.ShloMosaic.TcCoe Idealize.SL.Sem
open Cert.TailIdeal Cert.TailIdeal.Gen
open scoped BigOperators

variable (m : (ℓ : Loc nD τ sig) → Buf (Elt Ideal) ℓ) (c : Dev nD)

/-- The result over the arrays the program is given; `qr` and `kr` are the real queries and the real keys. -/
def outAt (qr : Fin 4 → Fin 8192 → Fin 1024 → ℝ) (kr : Fin 4 → Fin 256 → Fin 1024 → ℝ) (b : Fin 4) (s : Fin 8192) (d : Fin 1024) : EReal :=
  Math.tailRow (fun k => argX m c (ix3 b s k)) (fun k => argG m c (ix1 k)) (fun d r => argI m c (ix2 d r))
    (fun c' => argA m c (ix5 b ⟨c'.val / 128, by omega⟩ ⟨s.val / 512, by omega⟩ ⟨c'.val % 128, by omega⟩ ⟨s.val % 512, by omega⟩))
    (fun c' => argB m c (ix5 b ⟨c'.val / 128, by omega⟩ ⟨s.val / 512, by omega⟩ ⟨c'.val % 128, by omega⟩ ⟨s.val % 512, by omega⟩))
    (Math.memory (qr b s) (kr b) fun c' t => argV m c (ix3 b c' t)) (fun c' => argO m c (ix2 c' d)) d

variable (qr : Fin 4 → Fin 8192 → Fin 1024 → ℝ) (kr : Fin 4 → Fin 256 → Fin 1024 → ℝ)

/-- A normalised row of a point's block. -/
theorem row_eq (t : Fin cfg0.N) (i : Fin 512) :
    Math.rms (fun k => iblk m c 0 t (ix3 0 i k)) (fun k => iblk m c 1 t (ix2 0 k))
      = Math.rms (fun k => argX m c (ix3 (seqOf t) (rowOf t i) k)) (fun k => argG m c (ix1 k)) := by
  simp only [blkX, blkG]

/-- A point's row lies in the sixteenth of the rows that it works on. -/
theorem rowOf_div (t : Fin cfg0.N) (i : Fin 512) : (⟨(rowOf t i).val / 512, by have := (rowOf t i).isLt; omega⟩ : Fin 16) = ⟨t.val % 16, by omega⟩ :=
  Fin.ext (by show (t.val % 16 * 512 + i.val) / 512 = t.val % 16; omega)

theorem rowOf_mod (t : Fin cfg0.N) (i : Fin 512) : (⟨(rowOf t i).val % 512, by omega⟩ : Fin 512) = i :=
  Fin.ext (by show (t.val % 16 * 512 + i.val) % 512 = i.val; omega)

/-- A head's scores at a point are real. -/
theorem scores (hq : ∀ b s r, ∑ d : Fin 1024, (argI m c (ix2 d ⟨2208 + r.val, by omega⟩) : EReal)
      * Math.rms (fun k => argX m c (ix3 b s k)) (fun k => argG m c (ix1 k)) d = ((qr b s r : ℝ) : EReal))
    (hk : ∀ b t r, (argK m c (ix3 b t r) : EReal) = ((kr b t r : ℝ) : EReal))
    (t : Fin cfg0.N) (n : Fin 4) (i : Fin 512) (u : Fin 256) :
    ∑ r : Fin 256, (keysOf (iblk m c 4 t) n (ix3 0 u r) : EReal)
        * ((∑ d : Fin 1024, (querOf (iblk m c 6 t) n (ix2 r d) : EReal) * k0_pay3 (iblk m c 0 t) (iblk m c 1 t) (ix2 i d)) * scaleI)
      = (((∑ r : Fin 256, kr (seqOf t) u ⟨n.val * 256 + r.val, by omega⟩ * qr (seqOf t) (rowOf t i) ⟨n.val * 256 + r.val, by omega⟩) * 16⁻¹ / Real.log 2 : ℝ) : EReal) := by
  rw [← Math.score]
  refine Finset.sum_congr rfl fun r _ => congrArg₂ (· * ·) ?_ (congrArg₂ (· * ·) ?_ ?_)
  · rw [keysOf_apply, blkK, hk]
  · rw [← hq]
    refine Finset.sum_congr rfl fun d _ => congrArg₂ (· * ·) ?_ ?_
    · rw [querOf_apply, blkQ]
    · rw [rows_apply, row_eq]
  · unfold scaleI
    rw [div_eq_mul_inv]

/-- One place of one block of the result. -/
theorem point (hq : ∀ b s r, ∑ d : Fin 1024, (argI m c (ix2 d ⟨2208 + r.val, by omega⟩) : EReal)
      * Math.rms (fun k => argX m c (ix3 b s k)) (fun k => argG m c (ix1 k)) d = ((qr b s r : ℝ) : EReal))
    (hk : ∀ b t r, (argK m c (ix3 b t r) : EReal) = ((kr b t r : ℝ) : EReal))
    (t : Fin cfg0.N) (i : Fin 512) (d : Fin 1024) :
    (out0_9 (iblk m c 0 t) (iblk m c 1 t) (iblk m c 2 t) (iblk m c 3 t) (iblk m c 4 t) (iblk m c 5 t) (iblk m c 6 t) (iblk m c 7 t) (iblk m c 8 t) (ix3 0 i d) : EReal)
      = outAt m c qr kr (seqOf t) (rowOf t i) d := by
  rw [out_eq]
  refine (out_apply (iblk m c 0 t) (iblk m c 1 t) (iblk m c 2 t) (iblk m c 3 t) (keysOf (iblk m c 4 t)) (valsOf (iblk m c 5 t)) (querOf (iblk m c 6 t))
    (gateOf (iblk m c 7 t)) (lastOf (iblk m c 8 t)) i d
    (fun r => ∑ d : Fin 1024, (argI m c (ix2 d ⟨3232 + r.val, by omega⟩) : EReal) * Math.rms (fun k => argX m c (ix3 (seqOf t) (rowOf t i) k)) (fun k => argG m c (ix1 k)) d)
    _ _ (Math.memory (qr (seqOf t) (rowOf t i)) (kr (seqOf t)) fun c' u => argV m c (ix3 (seqOf t) c' u))
    (fun c' => argO m c (ix2 c' d)) (fun n p r => ?_) (fun c' => blkA m c t _ _ i) (fun c' => blkB m c t _ _ i) (fun n e => ?_) (fun p r => ?_)).trans ?_
  · rw [row_eq]
    refine Finset.sum_congr rfl fun d _ => congrArg (· * _) ?_
    rw [gateOf_apply, blkL]
  · refine (head_apply _ _ _ _ e i _ (scores m c qr kr hq hk t n i)).trans ?_
    have h : (n.val * 256 + e.val) / 256 = n.val := by omega
    unfold Math.memory
    refine congrArg₂ Math.attn (funext fun u => ?_) (funext fun u => ?_)
    · simp only [h]
    · rw [valsOf_apply, blkV]
  · rw [lastOf_apply, blkO]
  · unfold outAt Math.tailRow
    rw [blkX, rowOf_div, rowOf_mod]

/-- The same at a place of the block given as one index. -/
theorem point_at (hq : ∀ b s r, ∑ d : Fin 1024, (argI m c (ix2 d ⟨2208 + r.val, by omega⟩) : EReal)
      * Math.rms (fun k => argX m c (ix3 b s k)) (fun k => argG m c (ix1 k)) d = ((qr b s r : ℝ) : EReal))
    (hk : ∀ b t r, (argK m c (ix3 b t r) : EReal) = ((kr b t r : ℝ) : EReal))
    (t : Fin cfg0.N) (y : S1x512x1024.Idx) :
    (out0_9 (iblk m c 0 t) (iblk m c 1 t) (iblk m c 2 t) (iblk m c 3 t) (iblk m c 4 t) (iblk m c 5 t) (iblk m c 6 t) (iblk m c 7 t) (iblk m c 8 t) y : EReal)
      = outAt m c qr kr (seqOf t) (rowOf t (y 1)) (y 2) := by
  obtain ⟨i, d, rfl⟩ : ∃ (i : Fin 512) (d : Fin 1024), y = ix3 0 i d := ⟨y 1, y 2, by
    have h0 : (y 0).val < 1 := (y 0).isLt
    funext a
    match a with
    | ⟨0, _⟩ => exact Fin.ext (by show (y 0).val = 0; omega)
    | ⟨1, _⟩ => rfl
    | ⟨2, _⟩ => rfl⟩
  exact point m c qr kr hq hk t i d

/-- The result array after the run. -/
theorem final (hq : ∀ b s r, ∑ d : Fin 1024, (argI m c (ix2 d ⟨2208 + r.val, by omega⟩) : EReal)
      * Math.rms (fun k => argX m c (ix3 b s k)) (fun k => argG m c (ix1 k)) d = ((qr b s r : ℝ) : EReal))
    (hk : ∀ b t r, (argK m c (ix3 b t r) : EReal) = ((kr b t r : ℝ) : EReal))
    : (dats m 0 c).arrAt 9 (cfgs 0).N = fun y : S4x8192x1024.Idx => outAt m c qr kr (y 0) (y 1) (y 2) := by
  refine (dats m 0 c).arrAt_eq_of_covers 9 _ (by decide +kernel) fun t _ y => ?_
  blk_simp [idx t]
  rw [after0_9]
  refine (point_at m c qr kr hq hk t y).trans ?_
  have h0 : (y 0).val < 1 := (y 0).isLt
  refine congr (congr (congrArg (outAt m c qr kr) (Fin.ext ?_)) (Fin.ext ?_)) (Fin.ext ?_) <;> blk_simp [idx t, seqOf, rowOf] <;> (try dsimp only) <;> omega

end Cert.TailIdeal.Body

end
-- ==== Proof.TailRefValue.lean ====
/- The plain form of the mixer's tail read over the extended reals: with real queries and keys of the memory it is, at
   every place, the residual plus the gated sum of the two given branches and the attention, against the last weights. -/
module

public import proofs.«01_k».proof.Proof.Gen.TailRefIdeal.Read
public import proofs.«01_k».proof.Proof.TailMath
public import Idealize.ShloMosaic.Lib.Pointwise

@[expose] public section

set_option maxRecDepth 16384

noncomputable section

namespace Cert.TailRefIdeal.Body

open Idealize.ShloMosaic Idealize.ShloMosaic.TcCoe
open Cert.TailRefIdeal Cert.TailRefIdeal.Gen Cert.TailRefIdeal.Read
open scoped BigOperators

/-- The pattern of minus infinity. -/
theorem neg_inf : Ideal.ofBits .f32 0xFF800000#32 = ⊥ := by
  simp [Ideal.ofBits, Ideal.ieee]

/-- The host's maximum along the last of four axes, from minus infinity, is real where every entry is. -/
theorem hostMax_real {n0 n1 n2 n3 : Nat} {t u : Shape} (h : (⟨4, ![n0, n1, n2, n3]⟩ : Shape).ReducesTo [3] t) (hu : 0 < u.numel)
    (z : FVec Ideal ⟨4, ![n0, n1, n2, n3]⟩ .f32) (c : FVec Ideal u .f32) (hc : ∀ i, c i = (⊥ : EReal)) (hn : 0 < n3)
    (hz : ∀ i, ∃ r : ℝ, z i = (r : EReal)) (j : t.Idx) : ∃ r : ℝ, Host.reduce (FloatOps.maximumf (F := Ideal) (φ := .f32)) z c h hu j = (r : EReal) := by
  rw [Host.reduce_eq_fold, h.fold_fiber_r4_a3, hc]
  exact Math.fold_max_real _ ⟨⟨0, hn⟩, Finset.mem_univ _⟩ _ fun k _ => hz _

variable (X : FVec Ideal S4x8192x1024 .f32) (G : FVec Ideal S1024 .f32) (A B : FVec Ideal S4x8x16x128x512 .bf16) (K : FVec Ideal S4x256x1024 .bf16)
    (U : FVec Ideal S4x1024x256 .bf16) (I : FVec Ideal S1024x6304 .f32) (O : FVec Ideal S1024x1024 .f32)

/-- The normalised rows. -/
theorem v12_apply (b : Fin 4) (s : Fin 8192) (d : Fin 1024) :
    (val_main_v12 (F := Ideal) X G (ix3 b s d) : EReal) = Math.rms (fun k => X (ix3 b s k)) (fun k => G (ix1 k)) d := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0, Math.rms, Math.meanSq]

/-- Their product with the first weights. -/
theorem v13_apply (b : Fin 4) (s : Fin 8192) (r : Fin 6304) :
    (val_main_v13 (F := Ideal) X G I (ix3 b s r) : EReal) = ∑ d : Fin 1024, (I (ix2 d r) : EReal) * Math.rms (fun k => X (ix3 b s k)) (fun k => G (ix1 k)) d := by
  have e : (val_main_v13 (F := Ideal) X G I (ix3 b s r) : EReal) = ∑ d : Fin 1024, (val_main_v12 (F := Ideal) X G (ix3 b s d) : EReal) * I (ix2 d r) := by
    unfold val_main_v13
    generalize val_main_v12 (F := Ideal) X G = h
    pointwise
  rw [e]
  refine Finset.sum_congr rfl fun d _ => ?_
  rw [v12_apply, mul_comm]

/-- The scores. -/
theorem v25_apply (b h : Fin 4) (s : Fin 8192) (t : Fin 256) :
    (val_main_v25 (F := Ideal) X G K I (ix4 b h s t) : EReal)
      = (∑ r : Fin 256, (K (ix3 b t ⟨h.val * 256 + r.val, by omega⟩) : EReal) * val_main_v13 (F := Ideal) X G I (ix3 b s ⟨2208 + (h.val * 256 + r.val), by omega⟩))
        * Ideal.ofBits .f32 0x3D800000#32 := by
  unfold val_main_v25 val_main_v24 val_main_cst_2 val_main_v23 val_main_v19 val_main_v18 val_main_v15 val_main_v14
  generalize val_main_v13 (F := Ideal) X G I = p
  pointwise
  exact congrArg (· * _) (Finset.sum_congr rfl fun r _ => mul_comm _ _)

/-- Their maximum over the memory, where they are real. -/
theorem v28_real (hz : ∀ i, ∃ r : ℝ, (val_main_v25 (F := Ideal) X G K I i : EReal) = r) (j : S4x4x8192.Idx) :
    ∃ r : ℝ, (val_main_v28 (F := Ideal) X G K I j : EReal) = r := by
  obtain ⟨r, hr⟩ := hostMax_real reducesTo_S4x4x8192x256_S4x4x8192_d3 h_S_ (val_main_v25 (F := Ideal) X G K I) (val_main_cst_3 (F := Ideal))
    (fun _ => neg_inf) (by norm_num) hz j
  refine ⟨r, ?_⟩
  rw [val_main_v28_apply, val_main_v26, hr, val_main_v27_apply, val_main_cst_4_apply]
  exact (congrArg (max · (r : EReal)) neg_inf).trans (max_eq_right bot_le)

/-- The exponentials. -/
theorem v32_apply (b h : Fin 4) (s : Fin 8192) (t : Fin 256) :
    (val_main_v32 (F := Ideal) X G K I (ix4 b h s t) : EReal)
      = Ideal.exp ((val_main_v25 (F := Ideal) X G K I (ix4 b h s t) : EReal) - val_main_v28 (F := Ideal) X G K I (ix3 b h s)) := by
  unfold val_main_v32 val_main_v31 val_main_v30 val_main_v29
  generalize val_main_v25 (F := Ideal) X G K I = p
  generalize val_main_v28 (F := Ideal) X G K I = q
  pointwise

/-- The weights. -/
theorem v36_apply (b h : Fin 4) (s : Fin 8192) (t : Fin 256) :
    (val_main_v36 (F := Ideal) X G K I (ix4 b h s t) : EReal)
      = Ideal.div (val_main_v32 (F := Ideal) X G K I (ix4 b h s t)) (∑ u : Fin 256, (val_main_v32 (F := Ideal) X G K I (ix4 b h s u) : EReal)) := by
  unfold val_main_v36 val_main_v35 val_main_v34 val_main_v33 val_main_cst_5
  generalize val_main_v32 (F := Ideal) X G K I = p
  pointwise

/-- The attention over the memory. -/
theorem v39_apply (b : Fin 4) (s : Fin 8192) (c : Fin 1024) :
    (val_main_v39 (F := Ideal) X G K U I (ix3 b s c) : EReal)
      = ∑ t : Fin 256, (U (ix3 b c t) : EReal) * val_main_v36 (F := Ideal) X G K I (ix4 b ⟨c.val / 256, by omega⟩ s t) := by
  unfold val_main_v39 val_main_v38 val_main_v37 val_main_v22 val_main_v21 val_main_v20
  generalize val_main_v36 (F := Ideal) X G K I = p
  pointwise

/-- The two given branches, row by row. -/
theorem v42_apply (b : Fin 4) (s : Fin 8192) (c : Fin 1024) :
    (val_main_v42 (F := Ideal) A (ix3 b s c) : EReal) = A (ix5 b ⟨c.val / 128, by omega⟩ ⟨s.val / 512, by omega⟩ ⟨c.val % 128, by omega⟩ ⟨s.val % 512, by omega⟩) := by
  pointwise [val_main_v42, val_main_v41, val_main_v40]

theorem v45_apply (b : Fin 4) (s : Fin 8192) (c : Fin 1024) :
    (val_main_v45 (F := Ideal) B (ix3 b s c) : EReal) = B (ix5 b ⟨c.val / 128, by omega⟩ ⟨s.val / 512, by omega⟩ ⟨c.val % 128, by omega⟩ ⟨s.val % 512, by omega⟩) := by
  pointwise [val_main_v45, val_main_v44, val_main_v43]

/-- The pattern of one. -/
theorem one_bits : Ideal.ofBits .f32 0x3F800000#32 = 1 := by
  simp [Ideal.ofBits, Ideal.ieee]
  rw [← EReal.coe_mul]; norm_num

/-- The gates. -/
theorem v51_apply (b : Fin 4) (s : Fin 8192) (n : Fin 3) (c : Fin 1024) :
    (val_main_v51 (F := Ideal) X G I (ix4 b s n c) : EReal) = Ideal.logistic (val_main_v13 (F := Ideal) X G I (ix3 b s ⟨3232 + (n.val * 1024 + c.val), by omega⟩)) := by
  unfold val_main_v51 val_main_v50 val_main_cst_7 val_main_v49 val_main_v48 val_main_cst_6 val_main_v47 val_main_v46 val_main_v17 val_main_v16
  generalize val_main_v13 (F := Ideal) X G I = p
  pointwise [one_bits, Ideal.logistic]

/-- The gated sum. -/
theorem v62_apply (b : Fin 4) (s : Fin 8192) (c : Fin 1024) :
    (val_main_v62 (F := Ideal) X G A B K U I (ix3 b s c) : EReal)
      = val_main_v51 (F := Ideal) X G I (ix4 b s 0 c) * val_main_v42 (F := Ideal) A (ix3 b s c)
        + val_main_v51 (F := Ideal) X G I (ix4 b s 1 c) * val_main_v45 (F := Ideal) B (ix3 b s c)
        + val_main_v51 (F := Ideal) X G I (ix4 b s 2 c) * val_main_v39 (F := Ideal) X G K U I (ix3 b s c) := by
  unfold val_main_v62 val_main_v61 val_main_v60 val_main_v59 val_main_v58 val_main_v57 val_main_v56 val_main_v55 val_main_v54 val_main_v53 val_main_v52
  generalize val_main_v51 (F := Ideal) X G I = p
  generalize val_main_v42 (F := Ideal) A = q
  generalize val_main_v45 (F := Ideal) B = r
  generalize val_main_v39 (F := Ideal) X G K U I = o
  pointwise

/-- The result. -/
theorem v64_apply (b : Fin 4) (s : Fin 8192) (d : Fin 1024) :
    (val_main_v64 (F := Ideal) X G A B K U I O (ix3 b s d) : EReal)
      = X (ix3 b s d) + ∑ c : Fin 1024, (val_main_v62 (F := Ideal) X G A B K U I (ix3 b s c) : EReal) * O (ix2 c d) := by
  unfold val_main_v64 val_main_v63
  generalize val_main_v62 (F := Ideal) X G A B K U I = p
  pointwise

/-- The factor on the scores. -/
theorem scale_real : Ideal.ofBits .f32 0x3D800000#32 = ((16⁻¹ : ℝ) : EReal) := by
  simp [Ideal.ofBits, Ideal.ieee]
  rw [← EReal.coe_mul]; norm_num

/-- With real queries and keys, the attention over the memory. -/
theorem memory_apply (qr : Fin 4 → Fin 8192 → Fin 1024 → ℝ) (kr : Fin 4 → Fin 256 → Fin 1024 → ℝ)
    (hq : ∀ b s r, ∑ d : Fin 1024, (I (ix2 d ⟨2208 + r.val, by omega⟩) : EReal) * Math.rms (fun k => X (ix3 b s k)) (fun k => G (ix1 k)) d = ((qr b s r : ℝ) : EReal))
    (hk : ∀ b t r, (K (ix3 b t r) : EReal) = ((kr b t r : ℝ) : EReal)) (b : Fin 4) (s : Fin 8192) (c : Fin 1024) :
    (val_main_v39 (F := Ideal) X G K U I (ix3 b s c) : EReal) = Math.memory (qr b s) (kr b) (fun c' t => U (ix3 b c' t)) c := by
  have h25 : ∀ (b h : Fin 4) (s : Fin 8192) (t : Fin 256), (val_main_v25 (F := Ideal) X G K I (ix4 b h s t) : EReal)
      = (((∑ r : Fin 256, kr b t ⟨h.val * 256 + r.val, by omega⟩ * qr b s ⟨h.val * 256 + r.val, by omega⟩) * 16⁻¹ : ℝ) : EReal) := by
    intro b h s t
    rw [v25_apply, scale_real, ← Math.score_ref]
    refine congrArg (· * _) (Finset.sum_congr rfl fun r _ => congrArg₂ (· * ·) (hk _ _ _) ?_)
    exact (v13_apply X G I _ _ _).trans (hq _ _ ⟨h.val * 256 + r.val, by omega⟩)
  have hz : ∀ j, ∃ r : ℝ, (val_main_v25 (F := Ideal) X G K I j : EReal) = r := by
    intro j
    obtain ⟨b, h, s, t, rfl⟩ : ∃ b h s t, j = ix4 b h s t := ⟨j 0, j 1, j 2, j 3, by funext a; fin_cases a <;> rfl⟩
    exact ⟨_, h25 b h s t⟩
  obtain ⟨M, hM⟩ := v28_real X G K I hz (ix3 b ⟨c.val / 256, by omega⟩ s)
  unfold Math.memory
  rw [v39_apply, ← Math.attn_of_softmax _ _ M]
  refine Finset.sum_congr rfl fun t _ => ?_
  rw [v36_apply]
  simp only [v32_apply, hM, h25]
  exact mul_comm _ _

/-- With real queries and keys, the result. -/
theorem result (qr : Fin 4 → Fin 8192 → Fin 1024 → ℝ) (kr : Fin 4 → Fin 256 → Fin 1024 → ℝ)
    (hq : ∀ b s r, ∑ d : Fin 1024, (I (ix2 d ⟨2208 + r.val, by omega⟩) : EReal) * Math.rms (fun k => X (ix3 b s k)) (fun k => G (ix1 k)) d = ((qr b s r : ℝ) : EReal))
    (hk : ∀ b t r, (K (ix3 b t r) : EReal) = ((kr b t r : ℝ) : EReal)) (b : Fin 4) (s : Fin 8192) (d : Fin 1024) :
    (val_main_v64 (F := Ideal) X G A B K U I O (ix3 b s d) : EReal)
      = Math.tailRow (fun k => X (ix3 b s k)) (fun k => G (ix1 k)) (fun d r => I (ix2 d r))
          (fun c' => A (ix5 b ⟨c'.val / 128, by omega⟩ ⟨s.val / 512, by omega⟩ ⟨c'.val % 128, by omega⟩ ⟨s.val % 512, by omega⟩))
          (fun c' => B (ix5 b ⟨c'.val / 128, by omega⟩ ⟨s.val / 512, by omega⟩ ⟨c'.val % 128, by omega⟩ ⟨s.val % 512, by omega⟩))
          (Math.memory (qr b s) (kr b) fun c' t => U (ix3 b c' t)) (fun c' => O (ix2 c' d)) d := by
  rw [v64_apply]
  unfold Math.tailRow Math.gated
  refine congrArg _ (Finset.sum_congr rfl fun c _ => congrArg (· * _) ?_)
  rw [v62_apply, v42_apply, v45_apply, memory_apply X G K U I qr kr hq hk, v51_apply, v51_apply, v51_apply, v13_apply, v13_apply, v13_apply]
  have e0 : (⟨3232 + ((0 : Fin 3).val * 1024 + c.val), by simp; omega⟩ : Fin 6304) = ⟨3232 + c.val, by omega⟩ := Fin.ext (by simp)
  have e1 : (⟨3232 + ((1 : Fin 3).val * 1024 + c.val), by simp; omega⟩ : Fin 6304) = ⟨3232 + (1024 + c.val), by omega⟩ := Fin.ext (by simp)
  have e2 : (⟨3232 + ((2 : Fin 3).val * 1024 + c.val), by simp; omega⟩ : Fin 6304) = ⟨3232 + (2048 + c.val), by omega⟩ := Fin.ext (by simp)
  rw [e0, e1, e2]

end Cert.TailRefIdeal.Body

end
-- ==== Proof.TailClaims.lean ====
/- The mixer tail's precondition read at an index: the queries into the memory and the memory's keys are real. -/
module

public import proofs.«01_k».proof.Defs
public import proofs.«01_k».proof.Proof.Gen.Pre_finite_scores
public import proofs.«01_k».proof.Proof.Claims
public import proofs.«01_k».proof.Proof.Math
public import proofs.«01_k».proof.Proof.Rms
public import Idealize.ShloMosaic.Lib.Pointwise

@[expose] public section

set_option maxRecDepth 8192

noncomputable section

namespace Cert.Claims.Tail

open Idealize.ShloMosaic Idealize.ShloMosaic.TcCoe
open scoped BigOperators

/-- A sum of products of real numbers is real. -/
theorem sum_real {n : Nat} (f g : Fin n → EReal) (hf : ∀ i, ∃ r : ℝ, f i = r) (hg : ∀ i, ∃ r : ℝ, g i = r) : ∃ r : ℝ, ∑ i, f i * g i = (r : EReal) := by
  choose a ha using hf
  choose b hb using hg
  refine ⟨∑ i, a i * b i, ?_⟩
  rw [Math.coe_sum]
  exact Finset.sum_congr rfl fun i _ => by rw [ha, hb, EReal.coe_mul]

open Cert.Pre_finite_scores in
/-- Where the precondition holds, the queries into the memory are real, whatever the rows of `x`, and so are the keys. -/
theorem reals_of_pre (x : FVec Ideal S4x8192x1024 .f32) (g : FVec Ideal S1024 .f32) (a b : FVec Ideal S4x8x16x128x512 .bf16)
    (k : FVec Ideal S4x256x1024 .bf16) (v : FVec Ideal S4x1024x256 .bf16) (w : FVec Ideal S1024x6304 .f32) (o : FVec Ideal S1024x1024 .f32)
    (h1 : (Cert.Pre_finite_scores.fn (F := Ideal) x g a b k v w o).1 = fun _ => 1#1)
    (h2 : (Cert.Pre_finite_scores.fn (F := Ideal) x g a b k v w o).2.1 = fun _ => 1#1)
    (h3 : (Cert.Pre_finite_scores.fn (F := Ideal) x g a b k v w o).2.2 = fun _ => 1#1) :
    (∃ qr : Fin 4 → Fin 8192 → Fin 1024 → ℝ, ∀ b s r, ∑ d : Fin 1024, (w (ix2 d ⟨2208 + r.val, by omega⟩) : EReal) * Math.rms (fun k => x (ix3 b s k)) (fun k => g (ix1 k)) d = ((qr b s r : ℝ) : EReal))
      ∧ (∃ kr : Fin 4 → Fin 256 → Fin 1024 → ℝ, ∀ b t r, (k (ix3 b t r) : EReal) = ((kr b t r : ℝ) : EReal)) := by
  have hg : ∀ i, ∃ r : ℝ, (g i : EReal) = r := fun i => real_of_abs_lt _ (congrFun h1 i)
  have hk : ∀ i, ∃ r : ℝ, (k i : EReal) = r := fun i => real_of_abs_lt _ (congrFun h2 i)
  have hw : ∀ d r : Fin 1024, ∃ z : ℝ, (w (ix2 d ⟨2208 + r.val, by omega⟩) : EReal) = z := fun d r => by
    refine real_of_abs_lt _ (Eq.trans ?_ (congrFun h3 (ix2 d r)))
    refine congrArg (fun z : EReal => Ideal.cmp .olt (max z (-z)) (Ideal.ofBits .f32 0x7F800000#32)) ?_
    symm
    pointwise
  have hq : ∀ (b : Fin 4) (s : Fin 8192) (r : Fin 1024), ∃ z : ℝ, ∑ d : Fin 1024, (w (ix2 d ⟨2208 + r.val, by omega⟩) : EReal) * Math.rms (fun k => x (ix3 b s k)) (fun k => g (ix1 k)) d = ((z : ℝ) : EReal) :=
    fun b s r => sum_real _ _ (fun d => hw d r) fun d => Math.rms_real _ _ (fun k => hg _) d
  choose qr hqr using hq
  choose kr hkr using hk
  exact ⟨⟨qr, hqr⟩, ⟨fun b t r => kr (ix3 b t r), fun b t r => hkr _⟩⟩

end Cert.Claims.Tail

end
-- ==== Proof.MemoryValue.lean ====
/- The results of the memory's key and value kernel over the extended reals: the normalised rows against the key weights,
   and the value weights against the normalised rows. -/
module

public import proofs.«01_k».proof.Proof.Gen.MemoryIdeal.Frame
public import proofs.«01_k».proof.Proof.Rms
public import Idealize.ShloMosaic.Lib.Claim
public import Idealize.ShloMosaic.Lib.Pointwise
public import Idealize.ShloMosaic.Lib.Pipeline.ValueKit

@[expose] public section

set_option maxRecDepth 16384

noncomputable section

namespace Cert.MemoryIdeal.Body

open Idealize.ShloMosaic Idealize.ShloMosaic.TcCoe Idealize.SL.Sem
open Cert.MemoryIdeal Cert.MemoryIdeal.Gen
open scoped BigOperators

/-- The normalised rows of a block. -/
theorem rows_apply (x : Vec Ideal S1x256x1024 .f32) (g : Vec Ideal S1x1024 .f32) (t : Fin 256) (d : Fin 1024) :
    (k0_pay1 x g (ix2 t d) : EReal) = Math.rms (fun k => x (ix3 0 t k)) (fun k => g (ix2 0 k)) d := by
  pointwise [k0_pay1, Math.rms, Math.meanSq]

/-- A block of keys. -/
theorem keys_apply (x : Vec Ideal S1x256x1024 .f32) (g : Vec Ideal S1x1024 .f32) (w : Vec Ideal S1024x1024 .bf16) (t : Fin 256) (r : Fin 1024) :
    (k0_pay2 x g w (ix3 0 t r) : EReal) = ∑ d : Fin 1024, Math.rms (fun k => x (ix3 0 t k)) (fun k => g (ix2 0 k)) d * w (ix2 d r) := by
  simp only [← rows_apply]
  unfold k0_pay2
  generalize k0_pay1 x g = h
  pointwise

/-- A block of values. -/
theorem vals_apply (x : Vec Ideal S1x256x1024 .f32) (g : Vec Ideal S1x1024 .f32) (w : Vec Ideal S1024x1024 .bf16) (r : Fin 1024) (t : Fin 256) :
    (k0_pay3 x g w (ix3 0 r t) : EReal) = ∑ d : Fin 1024, Math.rms (fun k => x (ix3 0 t k)) (fun k => g (ix2 0 k)) d * w (ix2 r d) := by
  have e : (k0_pay3 x g w (ix3 0 r t) : EReal) = ∑ d : Fin 1024, (w (ix2 r d) : EReal) * k0_pay1 x g (ix2 t d) := by
    unfold k0_pay3
    generalize k0_pay1 x g = h
    pointwise
  rw [e]
  refine Finset.sum_congr rfl fun d _ => ?_
  rw [rows_apply, mul_comm]

variable (m : (ℓ : Loc nD τ sig) → Buf (Elt Ideal) ℓ) (c : Dev nD)

/-- The arrays the program is given. -/
abbrev argX : FVec Ideal S4x256x1024 .f32 := m ((c.tc : Thread nD τ).loc main_arg0)
abbrev argG : FVec Ideal S1024 .f32 := m ((c.tc : Thread nD τ).loc main_arg1)
abbrev argW : FVec Ideal S1024x2048 .f32 := m ((c.tc : Thread nD τ).loc main_arg2)

/-- The host's arrays. -/
abbrev arrK : FVec Ideal S1024x1024 .bf16 := V m c main_v1
abbrev arrV : FVec Ideal S1024x1024 .bf16 := V m c main_v4
abbrev arrG : FVec Ideal S1x1024 .f32 := V m c main_v5

theorem arrG_apply (d : Fin 1024) : (arrG m c (ix2 0 d) : EReal) = argG m c (ix1 d) := by
  unfold arrG
  entry_read
  pointwise

theorem arrK_apply (d r : Fin 1024) : (arrK m c (ix2 d r) : EReal) = argW m c (ix2 d ⟨r.val, by omega⟩) := by
  unfold arrK
  entry_read
  pointwise

theorem arrV_apply (r d : Fin 1024) : (arrV m c (ix2 r d) : EReal) = argW m c (ix2 d ⟨1024 + r.val, by omega⟩) := by
  unfold arrV
  entry_read
  pointwise

/-- The blocks the windows show at a point of the grid. -/
theorem idx : ∀ t : Fin cfg0.N, win0_0.index t = ![t.val, 0, 0] ∧ win0_1.index t = ![0, 0] ∧ win0_2.index t = ![0, 0] ∧ win0_3.index t = ![0, 0]
    ∧ win0_4.index t = ![t.val, 0, 0] ∧ win0_5.index t = ![t.val, 0, 0] ∧ t.val < 4 :=
  (by decide +kernel : ∀ t : Fin grid0.N, _)

theorem lt_N (t : Fin cfg0.N) : t.val < 4 := (idx t).2.2.2.2.2.2

/-- The sequence a point works on. -/
def seqOf (t : Fin cfg0.N) : Fin 4 := ⟨t.val, lt_N t⟩

theorem blkX_of (x : FVec Ideal S4x256x1024 .f32) (t : Fin cfg0.N) (i : Fin 256) (d : Fin 1024) :
    ((((cfg0.win 0).blk t).view.read (Elt Ideal) x) (ix3 0 i d) : EReal) = x (ix3 (seqOf t) i d) := by
  blk_ext [idx t, seqOf]

theorem blkG_of (x : FVec Ideal S1x1024 .f32) (t : Fin cfg0.N) (d : Fin 1024) :
    ((((cfg0.win 1).blk t).view.read (Elt Ideal) x) (ix2 0 d) : EReal) = x (ix2 0 d) := by
  blk_ext [idx t]

theorem blkK_of (x : FVec Ideal S1024x1024 .bf16) (t : Fin cfg0.N) (r d : Fin 1024) :
    ((((cfg0.win 2).blk t).view.read (Elt Ideal) x) (ix2 r d) : EReal) = x (ix2 r d) := by
  blk_ext [idx t]

theorem blkV_of (x : FVec Ideal S1024x1024 .bf16) (t : Fin cfg0.N) (r d : Fin 1024) :
    ((((cfg0.win 3).blk t).view.read (Elt Ideal) x) (ix2 r d) : EReal) = x (ix2 r d) := by
  blk_ext [idx t]

/-- The same of the arrays the kernel is called with. -/
theorem blkX (t : Fin cfg0.N) (i : Fin 256) (d : Fin 1024) : (iblk m c 0 t (ix3 0 i d) : EReal) = argX m c (ix3 (seqOf t) i d) :=
  (blkX_of (V m c main_arg0) t i d).trans (by rw [V_main_arg0])
theorem blkG (t : Fin cfg0.N) (d : Fin 1024) : (iblk m c 1 t (ix2 0 d) : EReal) = argG m c (ix1 d) :=
  (blkG_of (V m c main_v5) t d).trans (arrG_apply m c d)
theorem blkK (t : Fin cfg0.N) (d r : Fin 1024) : (iblk m c 2 t (ix2 d r) : EReal) = argW m c (ix2 d ⟨r.val, by omega⟩) :=
  (blkK_of (V m c main_v1) t d r).trans (arrK_apply m c d r)
theorem blkV (t : Fin cfg0.N) (r d : Fin 1024) : (iblk m c 3 t (ix2 r d) : EReal) = argW m c (ix2 d ⟨1024 + r.val, by omega⟩) :=
  (blkV_of (V m c main_v4) t r d).trans (arrV_apply m c r d)

/-- The keys and the values over the arrays the program is given. -/
def keyAt (b : Fin 4) (t : Fin 256) (r : Fin 1024) : EReal :=
  ∑ d : Fin 1024, Math.rms (fun k => argX m c (ix3 b t k)) (fun k => argG m c (ix1 k)) d * argW m c (ix2 d ⟨r.val, by omega⟩)
def valAt (b : Fin 4) (r : Fin 1024) (t : Fin 256) : EReal :=
  ∑ d : Fin 1024, Math.rms (fun k => argX m c (ix3 b t k)) (fun k => argG m c (ix1 k)) d * argW m c (ix2 d ⟨1024 + r.val, by omega⟩)

/-- One place of one block of keys. -/
theorem key_point (t : Fin cfg0.N) (y : S1x256x1024.Idx) :
    (k0_pay2 (iblk m c 0 t) (iblk m c 1 t) (iblk m c 2 t) y : EReal) = keyAt m c (seqOf t) (y 1) (y 2) := by
  obtain ⟨i, d, rfl⟩ : ∃ (i : Fin 256) (d : Fin 1024), y = ix3 0 i d := ⟨y 1, y 2, by
    have h0 : (y 0).val < 1 := (y 0).isLt
    funext a
    match a with
    | ⟨0, _⟩ => exact Fin.ext (by show (y 0).val = 0; omega)
    | ⟨1, _⟩ => rfl
    | ⟨2, _⟩ => rfl⟩
  refine (keys_apply _ _ _ i d).trans ?_
  simp only [blkX, blkG, blkK]
  rfl

/-- One place of one block of values. -/
theorem val_point (t : Fin cfg0.N) (y : S1x1024x256.Idx) :
    (k0_pay3 (iblk m c 0 t) (iblk m c 1 t) (iblk m c 3 t) y : EReal) = valAt m c (seqOf t) (y 1) (y 2) := by
  obtain ⟨i, d, rfl⟩ : ∃ (i : Fin 1024) (d : Fin 256), y = ix3 0 i d := ⟨y 1, y 2, by
    have h0 : (y 0).val < 1 := (y 0).isLt
    funext a
    match a with
    | ⟨0, _⟩ => exact Fin.ext (by show (y 0).val = 0; omega)
    | ⟨1, _⟩ => rfl
    | ⟨2, _⟩ => rfl⟩
  refine (vals_apply _ _ _ i d).trans ?_
  simp only [blkX, blkG, blkV]
  rfl

/-- The keys after the run. -/
theorem final_keys : (dats m 0 c).arrAt 4 (cfgs 0).N = fun y : S4x256x1024.Idx => keyAt m c (y 0) (y 1) (y 2) := by
  refine (dats m 0 c).arrAt_eq_of_covers 4 _ (by decide +kernel) fun t _ y => ?_
  blk_simp [idx t]
  rw [after0_4]
  frame_out
  refine (key_point m c t y).trans ?_
  have h0 : (y 0).val < 1 := (y 0).isLt
  refine congr (congr (congrArg (keyAt m c) (Fin.ext ?_)) (Fin.ext ?_)) (Fin.ext ?_) <;> blk_simp [idx t, seqOf] <;> (try dsimp only) <;> omega

/-- The values after the run. -/
theorem final_vals : (dats m 0 c).arrAt 5 (cfgs 0).N = fun y : S4x1024x256.Idx => valAt m c (y 0) (y 1) (y 2) := by
  refine (dats m 0 c).arrAt_eq_of_covers 5 _ (by decide +kernel) fun t _ y => ?_
  blk_simp [idx t]
  rw [after0_5]
  frame_out
  refine (val_point m c t y).trans ?_
  have h0 : (y 0).val < 1 := (y 0).isLt
  refine congr (congr (congrArg (valAt m c) (Fin.ext ?_)) (Fin.ext ?_)) (Fin.ext ?_) <;> blk_simp [idx t, seqOf] <;> (try dsimp only) <;> omega

end Cert.MemoryIdeal.Body

end
-- ==== Proof.MemoryRefValue.lean ====
/- The plain keys and values of the memory read over the extended reals. -/
module

public import proofs.«01_k».proof.Proof.Gen.MemoryRefIdeal.Read
public import proofs.«01_k».proof.Proof.Rms
public import Idealize.ShloMosaic.Lib.Pointwise

@[expose] public section

set_option maxRecDepth 16384

noncomputable section

namespace Cert.MemoryRefIdeal.Body

open Idealize.ShloMosaic Idealize.ShloMosaic.TcCoe
open Cert.MemoryRefIdeal Cert.MemoryRefIdeal.Gen Cert.MemoryRefIdeal.Read
open scoped BigOperators

variable (X : FVec Ideal S4x256x1024 .f32) (G : FVec Ideal S1024 .f32) (W : FVec Ideal S1024x2048 .f32)

/-- The normalised rows. -/
theorem v12_apply (b : Fin 4) (t : Fin 256) (d : Fin 1024) :
    (val_main_v12 (F := Ideal) X G (ix3 b t d) : EReal) = Math.rms (fun k => X (ix3 b t k)) (fun k => G (ix1 k)) d := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0, Math.rms, Math.meanSq]

/-- The keys. -/
theorem v16_apply (b : Fin 4) (t : Fin 256) (r : Fin 1024) :
    (val_main_v16 (F := Ideal) X G W (ix3 b t r) : EReal)
      = ∑ d : Fin 1024, Math.rms (fun k => X (ix3 b t k)) (fun k => G (ix1 k)) d * W (ix2 d ⟨r.val, by omega⟩) := by
  simp only [← v12_apply]
  unfold val_main_v16 val_main_v14 val_main_v13
  generalize val_main_v12 (F := Ideal) X G = h
  pointwise

/-- The values, transposed. -/
theorem v18_apply (b : Fin 4) (r : Fin 1024) (t : Fin 256) :
    (val_main_v18 (F := Ideal) X G W (ix3 b r t) : EReal)
      = ∑ d : Fin 1024, Math.rms (fun k => X (ix3 b t k)) (fun k => G (ix1 k)) d * W (ix2 d ⟨1024 + r.val, by omega⟩) := by
  simp only [← v12_apply]
  unfold val_main_v18 val_main_v17 val_main_v15 val_main_v13
  generalize val_main_v12 (F := Ideal) X G = h
  pointwise

end Cert.MemoryRefIdeal.Body

end
-- ==== Proof.ProjIdealRun.lean ====
/- One point of the projections' kernel: run on whole buffers, it leaves its inputs as they were and six blocks of
   results, each put together from the pieces the run stores. -/
module

public import proofs.«01_k».proof.Proof.Gen.ProjIdeal.Frame.Runs
public import Idealize.ShloMosaic.Lib.Ring

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F] [Named F]

local notation "𝕄G" => MT nD τ sig Unit (Elt F) ℕ (UR sig nD τ) ℕ

section

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x256 .bf16) (harg5 : arg5.IsWhole)
  (arg6 : Memref sig .tc .vmem S256x1024 .bf16) (harg6 : arg6.IsWhole)
  (arg7 : Memref sig .tc .vmem S128x1 .f32) (harg7 : arg7.IsWhole)
  (arg8 : Memref sig .tc .vmem S1x128 .f32) (harg8 : arg8.IsWhole)
  (arg9 : Memref sig .tc .vmem S64x512 .f32) (harg9 : arg9.IsWhole)
  (arg10 : Memref sig .tc .vmem S64x512 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S384x1024 .bf16) (harg13 : arg13.IsWhole)
  (arg14 : Memref sig .tc .vmem S384x1 .f32) (harg14 : arg14.IsWhole)
  (arg15 : Memref sig .tc .vmem S1024x384 .bf16) (harg15 : arg15.IsWhole)
  (arg16 : Memref sig .tc .vmem S1024x256 .bf16) (harg16 : arg16.IsWhole)
  (arg17 : Memref sig .tc .vmem S1x256 .f32) (harg17 : arg17.IsWhole)
  (arg18 : Memref sig .tc .vmem S256x1024 .bf16) (harg18 : arg18.IsWhole)
  (arg19 : Memref sig .tc .vmem S1024x256 .bf16) (harg19 : arg19.IsWhole)
  (arg20 : Memref sig .tc .vmem S1024x256 .bf16) (harg20 : arg20.IsWhole)
  (arg21 : Memref sig .tc .vmem S16x512 .f32) (harg21 : arg21.IsWhole)
  (arg22 : Memref sig .tc .vmem S16x512 .f32) (harg22 : arg22.IsWhole)
  (arg23 : Memref sig .tc .vmem S512x128 .f32) (harg23 : arg23.IsWhole)
  (arg24 : Memref sig .tc .vmem S512x128 .f32) (harg24 : arg24.IsWhole)
  (arg25 : Memref sig .tc .vmem S1x8x1x128x512 .bf16) (harg25 : arg25.IsWhole)
  (arg26 : Memref sig .tc .vmem S1x2x512x128 .bf16) (harg26 : arg26.IsWhole)
  (arg27 : Memref sig .tc .vmem S1x2x1x144x512 .bf16) (harg27 : arg27.IsWhole)
  (arg28 : Memref sig .tc .vmem S1x8x1x128x512 .bf16) (harg28 : arg28.IsWhole)
  (arg29 : Memref sig .tc .vmem S1x8x512x128 .bf16) (harg29 : arg29.IsWhole)
  (arg30 : Memref sig .tc .vmem S1x8x1x144x512 .bf16) (harg30 : arg30.IsWhole)
  (x0 : Vec F S1x512x1024 .f32) (x1 : Vec F S1x1024 .f32) (x2 : Vec F S1024x1024 .bf16) (x3 : Vec F S1024x256 .bf16) (x4 : Vec F S256x1024 .bf16) (x5 : Vec F S128x1 .f32) (x6 : Vec F S1x128 .f32) (x7 : Vec F S64x512 .f32) (x8 : Vec F S64x512 .f32) (x9 : Vec F S512x128 .f32) (x10 : Vec F S512x128 .f32) (x11 : Vec F S384x1024 .bf16) (x12 : Vec F S384x1 .f32) (x13 : Vec F S1024x384 .bf16) (x14 : Vec F S1024x256 .bf16) (x15 : Vec F S1x256 .f32) (x16 : Vec F S256x1024 .bf16) (x17 : Vec F S1024x256 .bf16) (x18 : Vec F S1024x256 .bf16) (x19 : Vec F S16x512 .f32) (x20 : Vec F S16x512 .f32) (x21 : Vec F S512x128 .f32) (x22 : Vec F S512x128 .f32)

set_option maxHeartbeats 4000000 in
set_option sl_exec.squeezeSlice true in
/-- The pieces stored to each of the six results, together with the fact that the kernel, given the inputs' blocks and
    any buffers for the results, ends with the inputs unchanged and those pieces written over the results' buffers. -/
def run :
    Σ' (L23 : List (View.Piece (Elt F) S1x8x1x128x512 .bf16)),
    Σ' (L24 : List (View.Piece (Elt F) S1x2x512x128 .bf16)),
    Σ' (L25 : List (View.Piece (Elt F) S1x2x1x144x512 .bf16)),
    Σ' (L26 : List (View.Piece (Elt F) S1x8x1x128x512 .bf16)),
    Σ' (L27 : List (View.Piece (Elt F) S1x8x512x128 .bf16)),
    { L28 : List (View.Piece (Elt F) S1x8x1x144x512 .bf16) //
      ∀ (E : Set ℕ) (K : PUnit → sProp 𝕄G),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22
            ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22
                ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28)) -∗ K ⟨⟩))
          ⊢ wp frame (wpE (defs₀ (F := F)) Variants.none c none) E (cc0_proj_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, fun E K => ?run⟩
  case run =>
    simp only [cc0_proj_attn_eq_skeleton]
    unfold cc0_proj_attn_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg2.eq_unread e0
    obtain rfl := harg3.eq_unread e1
    obtain rfl := harg4.eq_unread e2
    obtain rfl := harg5.eq_unread e3
    obtain rfl := harg6.eq_unread e4
    obtain rfl := harg7.eq_unread e5
    obtain rfl := harg8.eq_unread e6
    obtain rfl := harg9.eq_unread e7
    obtain rfl := harg10.eq_unread e8
    obtain rfl := harg11.eq_unread e9
    obtain rfl := harg12.eq_unread e10
    obtain rfl := harg13.eq_unread e11
    obtain rfl := harg14.eq_unread e12
    obtain rfl := harg15.eq_unread e13
    obtain rfl := harg16.eq_unread e14
    obtain rfl := harg17.eq_unread e15
    obtain rfl := harg18.eq_unread e16
    obtain rfl := harg19.eq_unread e17
    obtain rfl := harg20.eq_unread e18
    obtain rfl := harg21.eq_unread e19
    obtain rfl := harg22.eq_unread e20
    obtain rfl := harg23.eq_unread e21
    obtain rfl := harg24.eq_unread e22
    sl_exec
    sl_step
    iapply Hk
    isplitl [H0]
    · iexists _
      isplitr
      · ipureintro; exact harg2.read_unread _
      iexact H0
    isplitl [H1]
    · iexists _
      isplitr
      · ipureintro; exact harg3.read_unread _
      iexact H1
    isplitl [H2]
    · iexists _
      isplitr
      · ipureintro; exact harg4.read_unread _
      iexact H2
    isplitl [H3]
    · iexists _
      isplitr
      · ipureintro; exact harg5.read_unread _
      iexact H3
    isplitl [H4]
    · iexists _
      isplitr
      · ipureintro; exact harg6.read_unread _
      iexact H4
    isplitl [H5]
    · iexists _
      isplitr
      · ipureintro; exact harg7.read_unread _
      iexact H5
    isplitl [H6]
    · iexists _
      isplitr
      · ipureintro; exact harg8.read_unread _
      iexact H6
    isplitl [H7]
    · iexists _
      isplitr
      · ipureintro; exact harg9.read_unread _
      iexact H7
    isplitl [H8]
    · iexists _
      isplitr
      · ipureintro; exact harg10.read_unread _
      iexact H8
    isplitl [H9]
    · iexists _
      isplitr
      · ipureintro; exact harg11.read_unread _
      iexact H9
    isplitl [H10]
    · iexists _
      isplitr
      · ipureintro; exact harg12.read_unread _
      iexact H10
    isplitl [H11]
    · iexists _
      isplitr
      · ipureintro; exact harg13.read_unread _
      iexact H11
    isplitl [H12]
    · iexists _
      isplitr
      · ipureintro; exact harg14.read_unread _
      iexact H12
    isplitl [H13]
    · iexists _
      isplitr
      · ipureintro; exact harg15.read_unread _
      iexact H13
    isplitl [H14]
    · iexists _
      isplitr
      · ipureintro; exact harg16.read_unread _
      iexact H14
    isplitl [H15]
    · iexists _
      isplitr
      · ipureintro; exact harg17.read_unread _
      iexact H15
    isplitl [H16]
    · iexists _
      isplitr
      · ipureintro; exact harg18.read_unread _
      iexact H16
    isplitl [H17]
    · iexists _
      isplitr
      · ipureintro; exact harg19.read_unread _
      iexact H17
    isplitl [H18]
    · iexists _
      isplitr
      · ipureintro; exact harg20.read_unread _
      iexact H18
    isplitl [H19]
    · iexists _
      isplitr
      · ipureintro; exact harg21.read_unread _
      iexact H19
    isplitl [H20]
    · iexists _
      isplitr
      · ipureintro; exact harg22.read_unread _
      iexact H20
    isplitl [H21]
    · iexists _
      isplitr
      · ipureintro; exact harg23.read_unread _
      iexact H21
    isplitl [H22]
    · iexists _
      isplitr
      · ipureintro; exact harg24.read_unread _
      iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

/-! Each result's pieces cover its block. -/

theorem cover23 (y : S1x8x1x128x512.Idx) : ∃ pc ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).1, y ∈ pc.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).1 S1x1x1x128x512.size (by sl_kernel_rfl) y

theorem cover24 (y : S1x2x512x128.Idx) : ∃ pc ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.1, y ∈ pc.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.1 S1x1x512x128.size (by sl_kernel_rfl) y

theorem cover25 (y : S1x2x1x144x512.Idx) : ∃ pc ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.1, y ∈ pc.1.set :=
  View.cover_of_tiledBy (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.1 ![1, 1, 1, 16, 512] (by sl_kernel_rfl) y

theorem cover26 (y : S1x8x1x128x512.Idx) : ∃ pc ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.2.1, y ∈ pc.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.2.1 S1x1x1x128x512.size (by sl_kernel_rfl) y

theorem cover27 (y : S1x8x512x128.Idx) : ∃ pc ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.2.2.1, y ∈ pc.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.2.2.1 S1x1x512x128.size (by sl_kernel_rfl) y

theorem cover28 (y : S1x8x1x144x512.Idx) : ∃ pc ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.2.2.2.1, y ∈ pc.1.set :=
  View.cover_of_tiledBy (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22).2.2.2.2.2.1 ![1, 1, 1, 16, 512] (by sl_kernel_rfl) y

end

end Cert.ProjIdeal.Body

end
-- ==== Proof.ProjIdealFrame.lean ====
/- The projections' pipeline: what every block of the six results holds, and that the program runs with its
   arguments unchanged. -/
module

public import proofs.«01_k».proof.Proof.ProjIdealRun
public import Idealize.ShloMosaic.Lib.Pipeline.ValueKit

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-! The six results' blocks after a point of the grid. -/

def out23 (c : Dev nD) (t : Fin cfg0.N) : Vec F S1x8x1x128x512 .bf16 :=
  VO0_23.read (Elt F) (VO0_23.writes (Elt F) VO0_23.junk (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).1)

def out24 (c : Dev nD) (t : Fin cfg0.N) : Vec F S1x2x512x128 .bf16 :=
  VO0_24.read (Elt F) (VO0_24.writes (Elt F) VO0_24.junk (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.1)

def out25 (c : Dev nD) (t : Fin cfg0.N) : Vec F S1x2x1x144x512 .bf16 :=
  VO0_25.read (Elt F) (VO0_25.writes (Elt F) VO0_25.junk (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.1)

def out26 (c : Dev nD) (t : Fin cfg0.N) : Vec F S1x8x1x128x512 .bf16 :=
  VO0_26.read (Elt F) (VO0_26.writes (Elt F) VO0_26.junk (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.1)

def out27 (c : Dev nD) (t : Fin cfg0.N) : Vec F S1x8x512x128 .bf16 :=
  VO0_27.read (Elt F) (VO0_27.writes (Elt F) VO0_27.junk (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.1)

def out28 (c : Dev nD) (t : Fin cfg0.N) : Vec F S1x8x1x144x512 .bf16 :=
  VO0_28.read (Elt F) (VO0_28.writes (Elt F) VO0_28.junk (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2.1)

/-- What every buffer holds after the kernel at a point of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out23 m c t
    | ⟨24, _⟩ => out24 m c t
    | ⟨25, _⟩ => out25 m c t
    | ⟨26, _⟩ => out26 m c t
    | ⟨27, _⟩ => out27 m c t
    | ⟨28, _⟩ => out28 m c t
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out23 m c t := by dsimp only [dats]
theorem after0_24 (c : Dev nD) (t : Fin cfg0.N) : (dats m 0 c).after 24 t = out24 m c t := by dsimp only [dats]
theorem after0_25 (c : Dev nD) (t : Fin cfg0.N) : (dats m 0 c).after 25 t = out25 m c t := by dsimp only [dats]
theorem after0_26 (c : Dev nD) (t : Fin cfg0.N) : (dats m 0 c).after 26 t = out26 m c t := by dsimp only [dats]
theorem after0_27 (c : Dev nD) (t : Fin cfg0.N) : (dats m 0 c).after 27 t = out27 m c t := by dsimp only [dats]
theorem after0_28 (c : Dev nD) (t : Fin cfg0.N) : (dats m 0 c).after 28 t = out28 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-- Before the kernel at a point of the grid. -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- After it. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 4000000 in
/-- The kernel at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  unfold out23 out24 out25 out26 out27 out28
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2.2 _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%e27, H27⟩, ⟨%e28, H28⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; exact View.read_writes_of_cover _ _ _ _ _ (cover23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H28
  ipureintro; exact View.read_writes_of_cover _ _ _ _ _ (cover28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body the pipeline runs at a point of the grid is the kernel there. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- The program runs; at the end every array is what the pipeline's blocks make it, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its arguments as they were, with every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.ProjIdeal.Body

end
-- ==== Proof.ProjHost.lean ====
/- What the host hands to the projections' kernel, read at an index over the extended reals: the weights' columns
   turned over or padded head by head, the gains, and the tables of cosines and sines. -/
module

public import proofs.«01_k».proof.Proof.Gen.ProjIdeal.Frame.Runs
public import Idealize.ShloMosaic.Lib.Claim
public import Idealize.ShloMosaic.Lib.KernelVsHost
public import Idealize.ShloMosaic.Lib.Pointwise
public import Idealize.ShloMosaic.Lib.Pipeline.ValueKit

@[expose] public section

set_option maxRecDepth 16384

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- The arrays the program is given: the rows, the gain of their normalisation, the weights of all projections, the gains of
    the heads and of the latent rows, the latent weights, the cosines and sines. -/
abbrev argX : FVec Ideal S4x8192x1024 .f32 := m ((c.tc : Thread nD τ).loc main_arg0)
abbrev argG : FVec Ideal S1024 .f32 := m ((c.tc : Thread nD τ).loc main_arg1)
abbrev argW : FVec Ideal S1024x6304 .f32 := m ((c.tc : Thread nD τ).loc main_arg2)
abbrev argGq : FVec Ideal S128 .f32 := m ((c.tc : Thread nD τ).loc main_arg3)
abbrev argGk : FVec Ideal S128 .f32 := m ((c.tc : Thread nD τ).loc main_arg4)
abbrev argGa : FVec Ideal S384 .f32 := m ((c.tc : Thread nD τ).loc main_arg5)
abbrev argGc : FVec Ideal S256 .f32 := m ((c.tc : Thread nD τ).loc main_arg6)
abbrev argUq : FVec Ideal S384x768 .f32 := m ((c.tc : Thread nD τ).loc main_arg7)
abbrev argUk : FVec Ideal S256x1536 .f32 := m ((c.tc : Thread nD τ).loc main_arg8)
abbrev argCg : FVec Ideal S8192x64 .f32 := m ((c.tc : Thread nD τ).loc main_arg9)
abbrev argSg : FVec Ideal S8192x64 .f32 := m ((c.tc : Thread nD τ).loc main_arg10)
abbrev argCm : FVec Ideal S8192x16 .f32 := m ((c.tc : Thread nD τ).loc main_arg11)
abbrev argSm : FVec Ideal S8192x16 .f32 := m ((c.tc : Thread nD τ).loc main_arg12)

/-- The host's arrays. -/
abbrev arrG : FVec Ideal S1x1024 .f32 := V m c main_v51
abbrev arrWq : FVec Ideal S1024x1024 .bf16 := V m c main_v21
abbrev arrWk : FVec Ideal S1024x256 .bf16 := V m c main_v22
abbrev arrWv : FVec Ideal S256x1024 .bf16 := V m c main_v24
abbrev arrGq : FVec Ideal S128x1 .f32 := V m c main_v25
abbrev arrGk : FVec Ideal S1x128 .f32 := V m c main_v26
abbrev arrCg : FVec Ideal S64x8192 .f32 := V m c main_v27
abbrev arrSg : FVec Ideal S64x8192 .f32 := V m c main_v28
abbrev arrCgk : FVec Ideal S8192x128 .f32 := V m c main_v29
abbrev arrSgk : FVec Ideal S8192x128 .f32 := V m c main_v31
abbrev arrWa : FVec Ideal S384x1024 .bf16 := V m c main_v33
abbrev arrGa : FVec Ideal S384x1 .f32 := V m c main_v34
abbrev arrUb : FVec Ideal S1024x384 .bf16 := V m c main_v37
abbrev arrWc : FVec Ideal S1024x256 .bf16 := V m c main_v38
abbrev arrGc : FVec Ideal S1x256 .f32 := V m c main_v39
abbrev arrUk : FVec Ideal S256x1024 .bf16 := V m c main_v41
abbrev arrWr : FVec Ideal S1024x256 .bf16 := V m c main_v42
abbrev arrUv : FVec Ideal S1024x256 .bf16 := V m c main_v45
abbrev arrCm : FVec Ideal S16x8192 .f32 := V m c main_v46
abbrev arrSm : FVec Ideal S16x8192 .f32 := V m c main_v47
abbrev arrCmk : FVec Ideal S8192x128 .f32 := V m c main_v48
abbrev arrSmk : FVec Ideal S8192x128 .f32 := V m c main_v50

theorem arrG_apply (d : Fin 1024) : (arrG m c (ix2 0 d) : EReal) = argG m c (ix1 d) := by
  unfold arrG V hostOps0 hostOps0_1 hostOps0_2 hostOps0_3 hostOps0_4
  simp only [List.flatten_cons, List.flatten_nil, List.append_nil, List.cons_append, List.nil_append]
  entry_read
  pointwise

theorem arrWq_apply (r d : Fin 1024) : (arrWq m c (ix2 r d) : EReal) = argW m c (ix2 d ⟨r.val, by omega⟩) := by
  unfold arrWq V hostOps0 hostOps0_1 hostOps0_2 hostOps0_3 hostOps0_4
  simp only [List.flatten_cons, List.flatten_nil, List.append_nil, List.cons_append, List.nil_append]
  entry_read
  pointwise

theorem arrWk_apply (d : Fin 1024) (r : Fin 256) : (arrWk m c (ix2 d r) : EReal) = argW m c (ix2 d ⟨1024 + r.val, by omega⟩) := by
  unfold arrWk V hostOps0 hostOps0_1 hostOps0_2 hostOps0_3 hostOps0_4
  simp only [List.flatten_cons, List.flatten_nil, List.append_nil, List.cons_append, List.nil_append]
  entry_read
  pointwise

theorem arrWv_apply (r : Fin 256) (d : Fin 1024) : (arrWv m c (ix2 r d) : EReal) = argW m c (ix2 d ⟨1280 + r.val, by omega⟩) := by
  unfold arrWv V hostOps0 hostOps0_1 hostOps0_2 hostOps0_3 hostOps0_4
  simp only [List.flatten_cons, List.flatten_nil, List.append_nil, List.cons_append, List.nil_append]
  entry_read
  pointwise

theorem arrGq_apply (e : Fin 128) : (arrGq m c (ix2 e 0) : EReal) = argGq m c (ix1 e) := by
  unfold arrGq V hostOps0 hostOps0_1 hostOps0_2 hostOps0_3 hostOps0_4
  simp only [List.flatten_cons, List.flatten_nil, List.append_nil, List.cons_append, List.nil_append]
  entry_read
  pointwise

theorem arrGk_apply (e : Fin 128) : (arrGk m c (ix2 0 e) : EReal) = argGk m c (ix1 e) := by
  unfold arrGk V hostOps0 hostOps0_1 hostOps0_2 hostOps0_3 hostOps0_4
  simp only [List.flatten_cons, List.flatten_nil, List.append_nil, List.cons_append, List.nil_append]
  entry_read
  pointwise

theorem arrCg_apply (j : Fin 64) (s : Fin 8192) : (arrCg m c (ix2 j s) : EReal) = argCg m c (ix2 s j) := by
  unfold arrCg V hostOps0 hostOps0_1 hostOps0_2 hostOps0_3 hostOps0_4
  simp only [List.flatten_cons, List.flatten_nil, List.append_nil, List.cons_append, List.nil_append]
  entry_read
  pointwise

theorem arrSg_apply (j : Fin 64) (s : Fin 8192) : (arrSg m c (ix2 j s) : EReal) = argSg m c (ix2 s j) := by
  unfold arrSg V hostOps0 hostOps0_1 hostOps0_2 hostOps0_3 hostOps0_4
  simp only [List.flatten_cons, List.flatten_nil, List.append_nil, List.cons_append, List.nil_append]
  entry_read
  pointwise

theorem arrCgk_apply (s : Fin 8192) (e : Fin 128) : (arrCgk m c (ix2 s e) : EReal) = argCg m c (ix2 s ⟨e.val % 64, by omega⟩) := by
  unfold arrCgk V hostOps0 hostOps0_1 hostOps0_2 hostOps0_3 hostOps0_4
  simp only [List.flatten_cons, List.flatten_nil, List.append_nil, List.cons_append, List.nil_append]
  entry_read
  pointwise
  split
  · exact congrArg (argCg m c) (congrArg (ix2 s) (Fin.ext (by dsimp only; omega)))
  · exact congrArg (argCg m c) (congrArg (ix2 s) (Fin.ext (by dsimp only; omega)))

theorem arrSgk_apply (s : Fin 8192) (e : Fin 128) : (arrSgk m c (ix2 s e) : EReal) = if e.val < 64 then -argSg m c (ix2 s ⟨e.val % 64, by omega⟩) else argSg m c (ix2 s ⟨e.val % 64, by omega⟩) := by
  unfold arrSgk V hostOps0 hostOps0_1 hostOps0_2 hostOps0_3 hostOps0_4
  simp only [List.flatten_cons, List.flatten_nil, List.append_nil, List.cons_append, List.nil_append]
  entry_read
  pointwise
  by_cases h : e.val < 64
  · rw [dif_pos h, if_pos h]
    exact congrArg (fun i => -argSg m c i) (congrArg (ix2 s) (Fin.ext (by dsimp only; omega)))
  · rw [dif_neg h, if_neg h]
    exact congrArg (argSg m c) (congrArg (ix2 s) (Fin.ext (by dsimp only; omega)))

theorem arrWa_apply (r : Fin 384) (d : Fin 1024) : (arrWa m c (ix2 r d) : EReal) = argW m c (ix2 d ⟨1536 + r.val, by omega⟩) := by
  unfold arrWa V hostOps0 hostOps0_1 hostOps0_2 hostOps0_3 hostOps0_4
  simp only [List.flatten_cons, List.flatten_nil, List.append_nil, List.cons_append, List.nil_append]
  entry_read
  pointwise

theorem arrGa_apply (r : Fin 384) : (arrGa m c (ix2 r 0) : EReal) = argGa m c (ix1 r) := by
  unfold arrGa V hostOps0 hostOps0_1 hostOps0_2 hostOps0_3 hostOps0_4
  simp only [List.flatten_cons, List.flatten_nil, List.append_nil, List.cons_append, List.nil_append]
  entry_read
  pointwise

theorem arrWc_apply (d : Fin 1024) (r : Fin 256) : (arrWc m c (ix2 d r) : EReal) = argW m c (ix2 d ⟨1920 + r.val, by omega⟩) := by
  unfold arrWc V hostOps0 hostOps0_1 hostOps0_2 hostOps0_3 hostOps0_4
  simp only [List.flatten_cons, List.flatten_nil, List.append_nil, List.cons_append, List.nil_append]
  entry_read
  pointwise

theorem arrGc_apply (r : Fin 256) : (arrGc m c (ix2 0 r) : EReal) = argGc m c (ix1 r) := by
  unfold arrGc V hostOps0 hostOps0_1 hostOps0_2 hostOps0_3 hostOps0_4
  simp only [List.flatten_cons, List.flatten_nil, List.append_nil, List.cons_append, List.nil_append]
  entry_read
  pointwise

theorem arrUv_apply (hd : Fin 8) (e : Fin 128) (k : Fin 256) : (arrUv m c (ix2 ⟨hd.val * 128 + e.val, by omega⟩ k) : EReal) = argUk m c (ix2 k ⟨hd.val * 192 + (64 + e.val), by omega⟩) := by
  unfold arrUv V hostOps0 hostOps0_1 hostOps0_2 hostOps0_3 hostOps0_4
  simp only [List.flatten_cons, List.flatten_nil, List.append_nil, List.cons_append, List.nil_append]
  entry_read
  pointwise
  exact congrArg (argUk m c) (congrArg (ix2 k) (Fin.ext (by dsimp only; omega)))

theorem arrCm_apply (j : Fin 16) (s : Fin 8192) : (arrCm m c (ix2 j s) : EReal) = argCm m c (ix2 s j) := by
  unfold arrCm V hostOps0 hostOps0_1 hostOps0_2 hostOps0_3 hostOps0_4
  simp only [List.flatten_cons, List.flatten_nil, List.append_nil, List.cons_append, List.nil_append]
  entry_read
  pointwise

theorem arrSm_apply (j : Fin 16) (s : Fin 8192) : (arrSm m c (ix2 j s) : EReal) = argSm m c (ix2 s j) := by
  unfold arrSm V hostOps0 hostOps0_1 hostOps0_2 hostOps0_3 hostOps0_4
  simp only [List.flatten_cons, List.flatten_nil, List.append_nil, List.cons_append, List.nil_append]
  entry_read
  pointwise

/-- The arrays the shared key's weights and the tables of latent attention are put together from. -/
abbrev catW : FVec Ideal S1024x32 .f32 := V m c main_v5
abbrev catW' : FVec Ideal S1024x32 .f32 := V m c main_v10
abbrev zeroW : FVec Ideal S1024x64 .f32 := V m c main_v6
abbrev zeroW' : FVec Ideal S1024x32 .f32 := V m c main_v7
abbrev zeroT : FVec Ideal S8192x64 .f32 := V m c main_v18
abbrev zeroT' : FVec Ideal S8192x32 .f32 := V m c main_v19
abbrev negS : FVec Ideal S8192x16 .f32 := V m c main_v49

theorem catW_apply (d : Fin 1024) (j : Fin 32) : (catW m c (ix2 d j) : EReal) = argW m c (ix2 d ⟨2176 + j.val, by omega⟩) := by
  unfold catW V hostOps0 hostOps0_1 hostOps0_2 hostOps0_3 hostOps0_4
  simp only [List.flatten_cons, List.flatten_nil, List.append_nil, List.cons_append, List.nil_append]
  entry_read
  pointwise

theorem catW'_apply (d : Fin 1024) (j : Fin 32) : (catW' m c (ix2 d j) : EReal) = if h : j.val < 16 then argW m c (ix2 d ⟨2176 + (16 + j.val), by omega⟩) else argW m c (ix2 d ⟨2176 + (j.val - 16), by omega⟩) := by
  unfold catW' V hostOps0 hostOps0_1 hostOps0_2 hostOps0_3 hostOps0_4
  simp only [List.flatten_cons, List.flatten_nil, List.append_nil, List.cons_append, List.nil_append]
  entry_read
  pointwise

theorem zeroW_apply (d : Fin 1024) (j : Fin 64) : (zeroW m c (ix2 d j) : EReal) = 0 := by
  unfold zeroW V hostOps0 hostOps0_1 hostOps0_2 hostOps0_3 hostOps0_4
  simp only [List.flatten_cons, List.flatten_nil, List.append_nil, List.cons_append, List.nil_append]
  entry_read
  pointwise

theorem zeroW'_apply (d : Fin 1024) (j : Fin 32) : (zeroW' m c (ix2 d j) : EReal) = 0 := by
  unfold zeroW' V hostOps0 hostOps0_1 hostOps0_2 hostOps0_3 hostOps0_4
  simp only [List.flatten_cons, List.flatten_nil, List.append_nil, List.cons_append, List.nil_append]
  entry_read
  pointwise

theorem zeroT_apply (s : Fin 8192) (j : Fin 64) : (zeroT m c (ix2 s j) : EReal) = 0 := by
  unfold zeroT V hostOps0 hostOps0_1 hostOps0_2 hostOps0_3 hostOps0_4
  simp only [List.flatten_cons, List.flatten_nil, List.append_nil, List.cons_append, List.nil_append]
  entry_read
  pointwise

theorem zeroT'_apply (s : Fin 8192) (j : Fin 32) : (zeroT' m c (ix2 s j) : EReal) = 0 := by
  unfold zeroT' V hostOps0 hostOps0_1 hostOps0_2 hostOps0_3 hostOps0_4
  simp only [List.flatten_cons, List.flatten_nil, List.append_nil, List.cons_append, List.nil_append]
  entry_read
  pointwise

theorem negS_apply (s : Fin 8192) (j : Fin 16) : (negS m c (ix2 s j) : EReal) = -argSm m c (ix2 s j) := by
  unfold negS V hostOps0 hostOps0_1 hostOps0_2 hostOps0_3 hostOps0_4
  simp only [List.flatten_cons, List.flatten_nil, List.append_nil, List.cons_append, List.nil_append]
  entry_read
  pointwise

theorem arrUb_apply (hd : Fin 8) (e : Fin 128) (k : Fin 384) : (arrUb m c (ix2 ⟨hd.val * 128 + e.val, by omega⟩ k) : EReal) = if h : e.val < 96 then argUq m c (ix2 k ⟨hd.val * 96 + e.val, by omega⟩) else 0 := by
  unfold arrUb V hostOps0 hostOps0_1 hostOps0_2 hostOps0_3 hostOps0_4
  simp only [List.flatten_cons, List.flatten_nil, List.append_nil, List.cons_append, List.nil_append]
  entry_read
  change (truncf .bf16 (transpose S1024x384 [1, 0] (shapeCast S384x1024 (pad S384x8x128 ![0, 0, 0] ![0, 0, 32] ![0, 0, 0] (shapeCast S384x8x96 (argUq m c) shapeCasts_S384x768_S384x8x96)
    (sitofp .f32 (constantI S_ 32 0#32)) pads_S384x8x96_S384x8x128_000_000_0320 h_S_) shapeCasts_S384x8x128_S384x1024) transposes_S384x1024_S1024x384_1_0) bitsLt_bf16_f32 : FVec Ideal S1024x384 .bf16) _ = _
  pointwise
  split
  · rfl
  · exact sitofp_zero

theorem arrUk_apply (k : Fin 256) (hd : Fin 8) (e : Fin 128) : (arrUk m c (ix2 k ⟨hd.val * 128 + e.val, by omega⟩) : EReal) = if h : e.val < 64 then argUk m c (ix2 k ⟨hd.val * 192 + e.val, by omega⟩) else 0 := by
  unfold arrUk V hostOps0 hostOps0_1 hostOps0_2 hostOps0_3 hostOps0_4
  simp only [List.flatten_cons, List.flatten_nil, List.append_nil, List.cons_append, List.nil_append]
  entry_read
  change (truncf .bf16 (shapeCast S256x1024 (pad S256x8x128 ![0, 0, 0] ![0, 0, 64] ![0, 0, 0] (extractStridedSlice S256x8x64 ![0, 0, 0] (shapeCast S256x8x192 (argUk m c) shapeCasts_S256x1536_S256x8x192) slices_S256x8x192_S256x8x64_0_0_0)
    (sitofp .f32 (constantI S_ 32 0#32)) pads_S256x8x64_S256x8x128_000_000_0640 h_S_) shapeCasts_S256x8x128_S256x1024) bitsLt_bf16_f32 : FVec Ideal S256x1024 .bf16) _ = _
  pointwise
  split
  · rfl
  · exact sitofp_zero

end Cert.ProjIdeal.Body

end
-- ==== Proof.ProjCat.lean ====
/- The arrays the host puts together from pieces: the shared key's weights and the tables its turn reads. -/
module

public import proofs.«01_k».proof.Proof.ProjHost

@[expose] public section

set_option maxRecDepth 16384

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- The shared key's weights before they are narrowed. -/
abbrev catAll : FVec Ideal S1024x256 .f32 := V m c main_v11

set_option maxHeartbeats 4000000 in
/-- The host narrows them last. -/
theorem arrWr_eq : arrWr m c = truncf .bf16 (catAll m c) bitsLt_bf16_f32 := rfl

set_option maxHeartbeats 4000000 in
/-- The shared key's weights are six pieces side by side. -/
theorem catAll_eq : catAll m c = concatenate S1024x256 1 [⟨S1024x64, zeroW m c⟩, ⟨S1024x32, catW m c⟩, ⟨S1024x32, zeroW' m c⟩, ⟨S1024x64, zeroW m c⟩,
    ⟨S1024x32, catW' m c⟩, ⟨S1024x32, zeroW' m c⟩] concatenates_S1024x64_S1024x32_S1024x32_S1024x64_S1024x32_S1024x32_S1024x256_d1 := rfl

set_option maxHeartbeats 4000000 in
/-- The cosines' table is four pieces side by side. -/
theorem arrCmk_cat : arrCmk m c = concatenate S8192x128 1 [⟨S8192x64, zeroT m c⟩, ⟨S8192x16, V m c main_arg11⟩, ⟨S8192x16, V m c main_arg11⟩, ⟨S8192x32, zeroT' m c⟩]
    concatenates_S8192x64_S8192x16_S8192x16_S8192x32_S8192x128_d1 := rfl

set_option maxHeartbeats 4000000 in
/-- The sines' table is four pieces side by side. -/
theorem arrSmk_cat : arrSmk m c = concatenate S8192x128 1 [⟨S8192x64, zeroT m c⟩, ⟨S8192x16, negS m c⟩, ⟨S8192x16, V m c main_arg12⟩, ⟨S8192x32, zeroT' m c⟩]
    concatenates_S8192x64_S8192x16_S8192x16_S8192x32_S8192x128_d1 := rfl

end Cert.ProjIdeal.Body

end
-- ==== Proof.ProjTab.lean ====
/- The arrays the host puts together from pieces: the shared key's weights and the tables its turn reads, at an index over
   the extended reals. -/
module

public import proofs.«01_k».proof.Proof.ProjCat

@[expose] public section

set_option maxRecDepth 16384

noncomputable section

namespace Cert.ProjIdeal.Body

open Idealize.ShloMosaic Idealize.ShloMosaic.TcCoe Idealize.SL.Sem
open Cert.ProjIdeal Cert.ProjIdeal.Gen
open scoped BigOperators

/-- A table of four pieces, zeros at either end: at a column. -/
theorem tab_cat (z : FVec Ideal S8192x64 .f32) (a b : FVec Ideal S8192x16 .f32) (z' : FVec Ideal S8192x32 .f32)
    (hz : ∀ s j, (z (ix2 s j) : EReal) = 0) (hz' : ∀ s j, (z' (ix2 s j) : EReal) = 0) (s : Fin 8192) (e : Fin 128) :
    (concatenate S8192x128 1 [⟨S8192x64, z⟩, ⟨S8192x16, a⟩, ⟨S8192x16, b⟩, ⟨S8192x32, z'⟩] concatenates_S8192x64_S8192x16_S8192x16_S8192x32_S8192x128_d1 (ix2 s e) : EReal)
      = if h : 64 ≤ e.val ∧ e.val < 80 then a (ix2 s ⟨e.val - 64, by omega⟩)
        else if h : 80 ≤ e.val ∧ e.val < 96 then b (ix2 s ⟨e.val - 80, by omega⟩) else 0 := by
  by_cases n0 : 64 ≤ e.val ∧ e.val < 80
  · rw [dif_pos n0]
    pointwise
    split_ifs <;> first
      | omega
      | rfl
  · rw [dif_neg n0]
    by_cases n1 : 80 ≤ e.val ∧ e.val < 96
    · have n2 : (⟨e.val - 80, by omega⟩ : Fin 16) = ⟨e.val - 64 - 16, by omega⟩ := Fin.ext (by dsimp only; omega)
      rw [dif_pos n1, n2]
      pointwise
      split_ifs <;> first
        | omega
        | rfl
    · rw [dif_neg n1]
      pointwise
      split_ifs <;> first
        | omega
        | exact hz _ _
        | exact hz' _ _

/-- Weights of six pieces, the first three: at a column. -/
theorem w_low (z : FVec Ideal S1024x64 .f32) (a b z' : FVec Ideal S1024x32 .f32) (hz : ∀ d j, (z (ix2 d j) : EReal) = 0)
    (hz' : ∀ d j, (z' (ix2 d j) : EReal) = 0) (d : Fin 1024) (e : Fin 128) :
    ((concatenate S1024x256 1 [⟨S1024x64, z⟩, ⟨S1024x32, a⟩, ⟨S1024x32, z'⟩, ⟨S1024x64, z⟩, ⟨S1024x32, b⟩, ⟨S1024x32, z'⟩] concatenates_S1024x64_S1024x32_S1024x32_S1024x64_S1024x32_S1024x32_S1024x256_d1 : FVec Ideal S1024x256 .f32) (ix2 d ⟨e.val, by omega⟩) : EReal)
      = if h : 64 ≤ e.val ∧ e.val < 96 then a (ix2 d ⟨e.val - 64, by omega⟩) else 0 := by
  by_cases n0 : 64 ≤ e.val ∧ e.val < 96
  · rw [dif_pos n0]
    pointwise
    split_ifs <;> first
      | omega
      | rfl
      | exact congrArg a (congrArg (ix2 d) (Fin.ext (by dsimp only <;> omega)))
  · rw [dif_neg n0]
    pointwise
    split_ifs <;> first
      | omega
      | exact hz _ _
      | exact hz' _ _

/-- Weights of six pieces, the last three: at a column. -/
theorem w_high (z : FVec Ideal S1024x64 .f32) (a b z' : FVec Ideal S1024x32 .f32) (hz : ∀ d j, (z (ix2 d j) : EReal) = 0)
    (hz' : ∀ d j, (z' (ix2 d j) : EReal) = 0) (d : Fin 1024) (e : Fin 128) :
    ((concatenate S1024x256 1 [⟨S1024x64, z⟩, ⟨S1024x32, a⟩, ⟨S1024x32, z'⟩, ⟨S1024x64, z⟩, ⟨S1024x32, b⟩, ⟨S1024x32, z'⟩] concatenates_S1024x64_S1024x32_S1024x32_S1024x64_S1024x32_S1024x32_S1024x256_d1 : FVec Ideal S1024x256 .f32) (ix2 d ⟨128 + e.val, by omega⟩) : EReal)
      = if h : 64 ≤ e.val ∧ e.val < 96 then b (ix2 d ⟨e.val - 64, by omega⟩) else 0 := by
  by_cases n0 : 64 ≤ e.val ∧ e.val < 96
  · rw [dif_pos n0]
    pointwise
    split_ifs <;> first
      | omega
      | rfl
      | exact congrArg b (congrArg (ix2 d) (Fin.ext (by dsimp only <;> omega)))
  · rw [dif_neg n0]
    pointwise
    split_ifs <;> first
      | omega
      | exact hz _ _
      | exact hz' _ _

variable (m : (ℓ : Loc nD τ sig) → Buf (Elt Ideal) ℓ) (c : Dev nD)

/-- The shared key's weights, first half: the last 32 columns of the projections' weights, between zeros. -/
theorem arrWr_low (d : Fin 1024) (e : Fin 128) : (arrWr m c (ix2 d ⟨e.val, by omega⟩) : EReal)
    = if h : 64 ≤ e.val ∧ e.val < 96 then argW m c (ix2 d ⟨2176 + (e.val - 64), by omega⟩) else 0 := by
  rw [arrWr_eq, catAll_eq]
  refine (w_low _ _ _ _ (zeroW_apply m c) (zeroW'_apply m c) d e).trans ?_
  split
  · exact catW_apply m c d _
  · rfl

/-- The shared key's weights, second half: the same columns, their halves exchanged, between zeros. -/
theorem arrWr_high (d : Fin 1024) (e : Fin 128) : (arrWr m c (ix2 d ⟨128 + e.val, by omega⟩) : EReal)
    = if h : 64 ≤ e.val ∧ e.val < 96 then
        argW m c (ix2 d ⟨2176 + (if e.val < 80 then 16 + (e.val - 64) else e.val - 80), by split <;> omega⟩) else 0 := by
  rw [arrWr_eq, catAll_eq]
  refine (w_high _ _ _ _ (zeroW_apply m c) (zeroW'_apply m c) d e).trans ?_
  split
  · rename_i h
    refine (catW'_apply m c d _).trans ?_
    by_cases n1 : e.val - 64 < 16
    · have n2 : e.val < 80 := by omega
      rw [dif_pos n1]
      exact congrArg (argW m c) (congrArg (ix2 d) (Fin.ext (by simp only [if_pos n2])))
    · have n2 : ¬e.val < 80 := by omega
      rw [dif_neg n1]
      exact congrArg (argW m c) (congrArg (ix2 d) (Fin.ext (by simp only [if_neg n2]; omega)))
  · rfl

/-- The cosines' table at a column: zeros but from 64 to 96, the cosines twice there. -/
theorem arrCmk_apply (s : Fin 8192) (e : Fin 128) : (arrCmk m c (ix2 s e) : EReal)
    = if h : 64 ≤ e.val ∧ e.val < 80 then argCm m c (ix2 s ⟨e.val - 64, by omega⟩)
      else if h : 80 ≤ e.val ∧ e.val < 96 then argCm m c (ix2 s ⟨e.val - 80, by omega⟩) else 0 := by
  rw [arrCmk_cat]
  refine (tab_cat _ _ _ _ (zeroT_apply m c) (zeroT'_apply m c) s e).trans ?_
  rw [V_main_arg11]

/-- The sines' table at a column: zeros but from 64 to 96, the sines with their sign turned, then as they are. -/
theorem arrSmk_apply (s : Fin 8192) (e : Fin 128) : (arrSmk m c (ix2 s e) : EReal)
    = if h : 64 ≤ e.val ∧ e.val < 80 then -argSm m c (ix2 s ⟨e.val - 64, by omega⟩)
      else if h : 80 ≤ e.val ∧ e.val < 96 then argSm m c (ix2 s ⟨e.val - 80, by omega⟩) else 0 := by
  rw [arrSmk_cat]
  refine (tab_cat _ _ _ _ (zeroT_apply m c) (zeroT'_apply m c) s e).trans ?_
  rw [V_main_arg12]
  split
  · exact negS_apply m c s _
  · rfl

end Cert.ProjIdeal.Body

end
-- ==== Proof.ProjMath.lean ====
/- The attention projections of one row over the extended reals: a normalised row against the weights, the normalisation
   of a head, the rotation of a head by its position's cosines and sines, and the row of ones below the values. -/
module

public import proofs.«01_k».proof.Proof.Rms

@[expose] public section

noncomputable section

namespace Cert.Math

open Idealize.ShloMosaic
open scoped BigOperators

/-- A row of any width divided by its root mean square, times the gain; `w` is the pattern of the width. -/
def rmsOf {n : Nat} (w : BitVec 32) (x g : Fin n → EReal) (d : Fin n) : EReal :=
  x d * Ideal.rsqrt (Ideal.div (∑ k, x k * x k) (Ideal.ofBits .f32 w) + Ideal.ofBits .f32 0x358637BD#32) * g d

/-- A row against one column of a weight. -/
def row {n k : Nat} (h : Fin n → EReal) (W : Fin n → Fin k → EReal) (j : Fin k) : EReal := ∑ d, h d * W d j

/-- The rotation of a head of 128 entries by 64 cosines and sines. -/
def turn (v : Fin 128 → EReal) (c s : Fin 64 → EReal) (e : Fin 128) : EReal :=
  if h : e.val < 64 then v ⟨e.val, by omega⟩ * c ⟨e.val, h⟩ - v ⟨64 + e.val, by omega⟩ * s ⟨e.val, h⟩
  else v ⟨64 + (e.val - 64), by omega⟩ * c ⟨e.val - 64, by omega⟩ + v ⟨e.val - 64, by omega⟩ * s ⟨e.val - 64, by omega⟩

/-- The rotation of entries 64 to 95 of a head of 128 by 16 cosines and sines; the other entries stay. -/
def turnMid (v : Fin 128 → EReal) (c s : Fin 16 → EReal) (e : Fin 128) : EReal :=
  if h : e.val < 64 then v ⟨e.val, by omega⟩
  else if h' : e.val - 64 < 16 then v ⟨64 + (e.val - 64), by omega⟩ * c ⟨e.val - 64, by omega⟩ - v ⟨80 + (e.val - 64), by omega⟩ * s ⟨e.val - 64, by omega⟩
  else if h'' : e.val - 64 - 16 < 16 then
    v ⟨80 + (e.val - 64 - 16), by omega⟩ * c ⟨e.val - 64 - 16, by omega⟩ + v ⟨64 + (e.val - 64 - 16), by omega⟩ * s ⟨e.val - 64 - 16, by omega⟩
  else v ⟨96 + (e.val - 64 - 16 - 16), by omega⟩

/-- The same rotation with the head rolled by half its width against sines of either sign. -/
theorem turn_roll (v : Fin 128 → EReal) (c s : Fin 64 → EReal) (cc ss : Fin 128 → EReal) (hc : ∀ e : Fin 128, cc e = c ⟨e.val % 64, by omega⟩)
    (hs : ∀ e : Fin 128, ss e = if e.val < 64 then -s ⟨e.val % 64, by omega⟩ else s ⟨e.val % 64, by omega⟩) (e : Fin 128) :
    v e * cc e + v ⟨(e.val + 128 - 64) % 128, by omega⟩ * ss e = turn v c s e := by
  rw [hc, hs]
  unfold turn
  by_cases h : e.val < 64
  · have h1 : (⟨(e.val + 128 - 64) % 128, by omega⟩ : Fin 128) = ⟨64 + e.val, by omega⟩ := Fin.ext (by simp only []; omega)
    have h2 : (⟨e.val % 64, by omega⟩ : Fin 64) = ⟨e.val, h⟩ := Fin.ext (by simp only []; omega)
    rw [if_pos h, dif_pos h, h1, h2, mul_neg, ← sub_eq_add_neg]
  · have h1 : (⟨(e.val + 128 - 64) % 128, by omega⟩ : Fin 128) = ⟨e.val - 64, by omega⟩ := Fin.ext (by simp only []; omega)
    have h2 : (⟨e.val % 64, by omega⟩ : Fin 64) = ⟨e.val - 64, by omega⟩ := Fin.ext (by simp only []; omega)
    have h3 : (⟨64 + (e.val - 64), by omega⟩ : Fin 128) = e := Fin.ext (by simp only []; omega)
    rw [if_neg h, dif_neg h, h1, h2, h3]

/-- A column of values, a one below it and zeros below that. -/
def withOne (v : Fin 128 → EReal) (e : Fin 144) : EReal :=
  if h : e.val < 128 then v ⟨e.val, h⟩ else if e.val = 128 then 1 else 0

/-- The queries, keys and values of grouped attention from a normalised row `h`. -/
def gq (h : Fin 1024 → EReal) (W : Fin 1024 → Fin 6304 → EReal) (g : Fin 128 → EReal) (c s : Fin 64 → EReal) (k : EReal) (hd : Fin 8) (e : Fin 128) : EReal :=
  turn (rmsOf 0x43000000#32 (fun e => row h W ⟨hd.val * 128 + e.val, by omega⟩) g) c s e * k
def gk (h : Fin 1024 → EReal) (W : Fin 1024 → Fin 6304 → EReal) (g : Fin 128 → EReal) (c s : Fin 64 → EReal) (hd : Fin 2) (e : Fin 128) : EReal :=
  turn (rmsOf 0x43000000#32 (fun e => row h W ⟨1024 + (hd.val * 128 + e.val), by omega⟩) g) c s e
def gv (h : Fin 1024 → EReal) (W : Fin 1024 → Fin 6304 → EReal) (hd : Fin 2) (e : Fin 144) : EReal :=
  withOne (fun e => row h W ⟨1280 + (hd.val * 128 + e.val), by omega⟩) e

/-- The normalised latent rows of the queries and of the keys and values. -/
def latQ (h : Fin 1024 → EReal) (W : Fin 1024 → Fin 6304 → EReal) (g : Fin 384 → EReal) (r : Fin 384) : EReal :=
  rmsOf 0x43C00000#32 (fun r => row h W ⟨1536 + r.val, by omega⟩) g r
def latK (h : Fin 1024 → EReal) (W : Fin 1024 → Fin 6304 → EReal) (g : Fin 256 → EReal) (r : Fin 256) : EReal :=
  rmsOf 0x43800000#32 (fun r => row h W ⟨1920 + r.val, by omega⟩) g r

/-- The queries, keys and values of latent attention from a normalised row `h`; the heads of 96 entries are padded to 128. -/
def mq (h : Fin 1024 → EReal) (W : Fin 1024 → Fin 6304 → EReal) (g : Fin 384 → EReal) (U : Fin 384 → Fin 768 → EReal) (c s : Fin 16 → EReal) (k : EReal)
    (hd : Fin 8) (e : Fin 128) : EReal :=
  turnMid (fun e => if h' : e.val < 96 then row (latQ h W g) U ⟨hd.val * 96 + e.val, by omega⟩ else 0) c s e * k
def mk (h : Fin 1024 → EReal) (W : Fin 1024 → Fin 6304 → EReal) (g : Fin 256 → EReal) (U : Fin 256 → Fin 1536 → EReal) (c s : Fin 16 → EReal)
    (hd : Fin 8) (e : Fin 128) : EReal :=
  turnMid (fun e => if h' : e.val < 64 then row (latK h W g) U ⟨hd.val * 192 + e.val, by omega⟩
    else if h'' : e.val < 96 then row h W ⟨2176 + (e.val - 64), by omega⟩ else 0) c s e
def mv (h : Fin 1024 → EReal) (W : Fin 1024 → Fin 6304 → EReal) (g : Fin 256 → EReal) (U : Fin 256 → Fin 1536 → EReal) (hd : Fin 8) (e : Fin 144) : EReal :=
  withOne (fun e => row (latK h W g) U ⟨hd.val * 192 + (64 + e.val), by omega⟩) e

/-- A row against a column of zeros. -/
theorem row_zero {n : Nat} (h z : Fin n → EReal) (hz : ∀ d, z d = 0) : ∑ d, h d * z d = 0 :=
  Finset.sum_eq_zero fun d _ => by rw [hz, mul_zero]

/-- A sum with the negative of a product is a difference. -/
theorem add_mul_neg (x y z : EReal) : x + y * -z = x - y * z := by rw [mul_neg, ← sub_eq_add_neg]

end Cert.Math

end
-- ==== Proof.ProjPoint.lean ====
/- The pieces the attention projections' kernel stores, over the extended reals: each head of queries, keys and values. -/
module

public import proofs.«01_k».proof.Proof.Gen.ProjIdeal.Skeleton
public import proofs.«01_k».proof.Proof.ProjMath
public import Idealize.ShloMosaic.Lib.Claim
public import Idealize.ShloMosaic.Lib.Pointwise

@[expose] public section

set_option maxRecDepth 16384

noncomputable section

namespace Cert.ProjIdeal.Body

open Idealize.ShloMosaic Idealize.ShloMosaic.TcCoe
open Cert.ProjIdeal Cert.ProjIdeal.Gen
open scoped BigOperators

/-- The kernel's two constants. -/
abbrev scaleG : EReal := Named.named (F := Ideal) κ (φ := .f32) "scale_g" 0x3E0293EE#32
abbrev scaleM : EReal := Named.named (F := Ideal) κ (φ := .f32) "scale_m" 0x3E16C740#32

/-- One head of queries for latent attention, one for grouped attention, one of keys and one of values, each from the
    array that holds all heads. -/
def mqHead (v : FVec Ideal S1024x512 .f32) (c s : FVec Ideal S16x512 .f32) (hd : Fin 8) (e : Fin 128) (i : Fin 512) : EReal :=
  Math.turnMid (fun e => v (ix2 ⟨hd.val * 128 + e.val, by omega⟩ i)) (fun j => c (ix2 j i)) (fun j => s (ix2 j i)) e * scaleM
def gqHead (v : FVec Ideal S512x512 .f32) (g : FVec Ideal S128x1 .f32) (c s : FVec Ideal S64x512 .f32) (hd : Fin 4) (e : Fin 128) (i : Fin 512) : EReal :=
  Math.turn (Math.rmsOf 0x43000000#32 (fun e => v (ix2 ⟨hd.val * 128 + e.val, by omega⟩ i)) (fun e => g (ix2 e 0))) (fun j => c (ix2 j i)) (fun j => s (ix2 j i)) e * scaleG
def gkNorm (v : FVec Ideal S512x256 .f32) (g : Vec Ideal S1x128 .f32) (hd : Fin 2) (i : Fin 512) (e : Fin 128) : EReal :=
  Math.rmsOf 0x43000000#32 (fun e => v (ix2 i ⟨hd.val * 128 + e.val, by omega⟩)) (fun e => g (ix2 0 e)) e
def gkHead (v : FVec Ideal S512x256 .f32) (g : Vec Ideal S1x128 .f32) (c s : Vec Ideal S512x128 .f32) (hd : Fin 2) (i : Fin 512) (e : Fin 128) : EReal :=
  gkNorm v g hd i e * c (ix2 i e) + gkNorm v g hd i ⟨(e.val + 128 - 64) % 128, by omega⟩ * s (ix2 i e)

/-- The pattern of ones in row 0. -/
theorem ones_pick : ∀ e : Fin 16, Scalar.select (IntOp.cmpi .eq (BitVec.ofNat 32 e.val) 0#32) (1 : EReal) 0 = if e.val = 0 then 1 else 0 := by
  intro e
  fin_cases e <;> rfl

/-! ## Queries of latent attention -/

theorem mq0 (x : FVec Ideal S384x512 .f32) (g : FVec Ideal S384x1 .f32) (r : FVec Ideal S1x512 .f32) (w : Vec Ideal S1024x384 .bf16) (c s : FVec Ideal S16x512 .f32)
    (e : Fin 128) (i : Fin 512) :
    (k0_pay16 c s (k0_pay14 x g r w) (k0_pay15 x g r w) (ix5 0 0 0 e i) : EReal) = mqHead (k0_pay8 x g r w) c s 0 e i := by
  unfold k0_pay15 k0_pay14
  generalize k0_pay8 x g r w = v
  pointwise [k0_pay16, mqHead, Math.turnMid]

theorem mq1 (v : FVec Ideal S1024x512 .f32) (c s : FVec Ideal S16x512 .f32) (e : Fin 128) (i : Fin 512) : (k0_pay17 v c s (ix5 0 0 0 e i) : EReal) = mqHead v c s 1 e i := by
  pointwise [k0_pay17, mqHead, Math.turnMid]

theorem mq2 (v : FVec Ideal S1024x512 .f32) (c s : FVec Ideal S16x512 .f32) (e : Fin 128) (i : Fin 512) : (k0_pay19 (k0_pay18 v c s) (ix5 0 0 0 e i) : EReal) = mqHead v c s 2 e i := by
  pointwise [k0_pay19, k0_pay18, mqHead, Math.turnMid]

theorem mq3 (v : FVec Ideal S1024x512 .f32) (c s : FVec Ideal S16x512 .f32) (e : Fin 128) (i : Fin 512) : (k0_pay20 v c s (ix5 0 0 0 e i) : EReal) = mqHead v c s 3 e i := by
  pointwise [k0_pay20, mqHead, Math.turnMid]

theorem mq4 (v : FVec Ideal S1024x512 .f32) (c s : FVec Ideal S16x512 .f32) (e : Fin 128) (i : Fin 512) : (k0_pay22 (k0_pay21 v c s) (ix5 0 0 0 e i) : EReal) = mqHead v c s 4 e i := by
  pointwise [k0_pay22, k0_pay21, mqHead, Math.turnMid]

theorem mq5 (v : FVec Ideal S1024x512 .f32) (c s : FVec Ideal S16x512 .f32) (e : Fin 128) (i : Fin 512) : (k0_pay23 v c s (ix5 0 0 0 e i) : EReal) = mqHead v c s 5 e i := by
  pointwise [k0_pay23, mqHead, Math.turnMid]

theorem mq6 (v : FVec Ideal S1024x512 .f32) (c s : FVec Ideal S16x512 .f32) (e : Fin 128) (i : Fin 512) : (k0_pay24 v c s (ix5 0 0 0 e i) : EReal) = mqHead v c s 6 e i := by
  pointwise [k0_pay24, mqHead, Math.turnMid]

theorem mq7 (v : FVec Ideal S1024x512 .f32) (c s : FVec Ideal S16x512 .f32) (e : Fin 128) (i : Fin 512) : (k0_pay30 c s (k0_pay25 v) (k0_pay26 v) (k0_pay27 v) (k0_pay28 v) (k0_pay29 v c s) (ix5 0 0 0 e i) : EReal) = mqHead v c s 7 e i := by
  pointwise [k0_pay30, k0_pay29, k0_pay28, k0_pay27, k0_pay26, k0_pay25, mqHead, Math.turnMid]

/-! ## Keys of latent attention -/

theorem mk0 (v : FVec Ideal S512x1024 .f32) (r : FVec Ideal S512x128 .f32) (i : Fin 512) (e : Fin 128) : (k0_pay32 v r (ix4 0 0 i e) : EReal) = v (ix2 i ⟨(0 : Fin 8).val * 128 + e.val, by omega⟩) + r (ix2 i e) := by
  pointwise [k0_pay32]

theorem mk1 (v : FVec Ideal S512x1024 .f32) (r : FVec Ideal S512x128 .f32) (i : Fin 512) (e : Fin 128) : (k0_pay33 v r (ix4 0 0 i e) : EReal) = v (ix2 i ⟨(1 : Fin 8).val * 128 + e.val, by omega⟩) + r (ix2 i e) := by
  pointwise [k0_pay33]

theorem mk2 (v : FVec Ideal S512x1024 .f32) (r : FVec Ideal S512x128 .f32) (i : Fin 512) (e : Fin 128) : (k0_pay34 v r (ix4 0 0 i e) : EReal) = v (ix2 i ⟨(2 : Fin 8).val * 128 + e.val, by omega⟩) + r (ix2 i e) := by
  pointwise [k0_pay34]

theorem mk3 (v : FVec Ideal S512x1024 .f32) (r : FVec Ideal S512x128 .f32) (i : Fin 512) (e : Fin 128) : (k0_pay36 (k0_pay35 v r) (ix4 0 0 i e) : EReal) = v (ix2 i ⟨(3 : Fin 8).val * 128 + e.val, by omega⟩) + r (ix2 i e) := by
  pointwise [k0_pay36, k0_pay35]

theorem mk4 (v : FVec Ideal S512x1024 .f32) (r : FVec Ideal S512x128 .f32) (i : Fin 512) (e : Fin 128) : (k0_pay37 v r (ix4 0 0 i e) : EReal) = v (ix2 i ⟨(4 : Fin 8).val * 128 + e.val, by omega⟩) + r (ix2 i e) := by
  pointwise [k0_pay37]

theorem mk5 (v : FVec Ideal S512x1024 .f32) (r : FVec Ideal S512x128 .f32) (i : Fin 512) (e : Fin 128) : (k0_pay38 v r (ix4 0 0 i e) : EReal) = v (ix2 i ⟨(5 : Fin 8).val * 128 + e.val, by omega⟩) + r (ix2 i e) := by
  pointwise [k0_pay38]

theorem mk6 (v : FVec Ideal S512x1024 .f32) (r : FVec Ideal S512x128 .f32) (i : Fin 512) (e : Fin 128) : (k0_pay39 v r (ix4 0 0 i e) : EReal) = v (ix2 i ⟨(6 : Fin 8).val * 128 + e.val, by omega⟩) + r (ix2 i e) := by
  pointwise [k0_pay39]

theorem mk7 (v : FVec Ideal S512x1024 .f32) (r : FVec Ideal S512x128 .f32) (i : Fin 512) (e : Fin 128) : (k0_pay40 v r (ix4 0 0 i e) : EReal) = v (ix2 i ⟨(7 : Fin 8).val * 128 + e.val, by omega⟩) + r (ix2 i e) := by
  pointwise [k0_pay40]

/-! ## Values of latent attention -/

theorem mv0 (v : FVec Ideal S1024x512 .f32) (e : Fin 128) (i : Fin 512) : (k0_pay42 (k0_pay41 v) (ix5 0 0 0 e i) : EReal) = v (ix2 ⟨(0 : Fin 8).val * 128 + e.val, by omega⟩ i) := by
  pointwise [k0_pay42, k0_pay41]

theorem mv1 (v : FVec Ideal S1024x512 .f32) (e : Fin 128) (i : Fin 512) : (k0_pay44 v (ix5 0 0 0 e i) : EReal) = v (ix2 ⟨(1 : Fin 8).val * 128 + e.val, by omega⟩ i) := by
  pointwise [k0_pay44]

theorem mv2 (v : FVec Ideal S1024x512 .f32) (e : Fin 128) (i : Fin 512) : (k0_pay47 v (ix5 0 0 0 e i) : EReal) = v (ix2 ⟨(2 : Fin 8).val * 128 + e.val, by omega⟩ i) := by
  pointwise [k0_pay47]

theorem mv3 (v : FVec Ideal S1024x512 .f32) (e : Fin 128) (i : Fin 512) : (k0_pay49 v (ix5 0 0 0 e i) : EReal) = v (ix2 ⟨(3 : Fin 8).val * 128 + e.val, by omega⟩ i) := by
  pointwise [k0_pay49]

theorem mv4 (v : FVec Ideal S1024x512 .f32) (e : Fin 128) (i : Fin 512) : (k0_pay52 v (ix5 0 0 0 e i) : EReal) = v (ix2 ⟨(4 : Fin 8).val * 128 + e.val, by omega⟩ i) := by
  pointwise [k0_pay52]

theorem mv5 (v : FVec Ideal S1024x512 .f32) (e : Fin 128) (i : Fin 512) : (k0_pay55 (k0_pay54 v) (ix5 0 0 0 e i) : EReal) = v (ix2 ⟨(5 : Fin 8).val * 128 + e.val, by omega⟩ i) := by
  pointwise [k0_pay55, k0_pay54]

theorem mv6 (v : FVec Ideal S1024x512 .f32) (e : Fin 128) (i : Fin 512) : (k0_pay57 v (ix5 0 0 0 e i) : EReal) = v (ix2 ⟨(6 : Fin 8).val * 128 + e.val, by omega⟩ i) := by
  pointwise [k0_pay57]

theorem mv7 (v : FVec Ideal S1024x512 .f32) (e : Fin 128) (i : Fin 512) : (k0_pay60 v (ix5 0 0 0 e i) : EReal) = v (ix2 ⟨(7 : Fin 8).val * 128 + e.val, by omega⟩ i) := by
  pointwise [k0_pay60]

theorem mo0 (e : Fin 16) (i : Fin 512) : (k0_pay43 (F := Ideal) (ix5 0 0 0 e i) : EReal) = if e.val = 0 then 1 else 0 := by
  pointwise [k0_pay43]
  exact ones_pick e

theorem mo1 (e : Fin 16) (i : Fin 512) : (k0_pay46 (k0_pay45 (F := Ideal)) (ix5 0 0 0 e i) : EReal) = if e.val = 0 then 1 else 0 := by
  pointwise [k0_pay46, k0_pay45]
  exact ones_pick e

theorem mo2 (e : Fin 16) (i : Fin 512) : (k0_pay48 (F := Ideal) (ix5 0 0 0 e i) : EReal) = if e.val = 0 then 1 else 0 := by
  pointwise [k0_pay48]
  exact ones_pick e

theorem mo3 (e : Fin 16) (i : Fin 512) : (k0_pay51 (F := Ideal) k0_pay50 (Scalar.ofBits (F := Ideal) .f32 0x3F800000#32) (Scalar.ofBits (F := Ideal) .f32 0x00000000#32) (ix5 0 0 0 e i) : EReal) = if e.val = 0 then 1 else 0 := by
  pointwise [k0_pay51, k0_pay50]
  exact ones_pick e

theorem mo4 (e : Fin 16) (i : Fin 512) : (k0_pay53 (F := Ideal) (ix5 0 0 0 e i) : EReal) = if e.val = 0 then 1 else 0 := by
  pointwise [k0_pay53]
  exact ones_pick e

theorem mo5 (e : Fin 16) (i : Fin 512) : (k0_pay56 (F := Ideal) (ix5 0 0 0 e i) : EReal) = if e.val = 0 then 1 else 0 := by
  pointwise [k0_pay56]
  exact ones_pick e

theorem mo6 (e : Fin 16) (i : Fin 512) : (k0_pay59 (k0_pay58 (F := Ideal)) (ix5 0 0 0 e i) : EReal) = if e.val = 0 then 1 else 0 := by
  pointwise [k0_pay59, k0_pay58]
  exact ones_pick e

theorem mo7 (e : Fin 16) (i : Fin 512) : (k0_pay61 (F := Ideal) (ix5 0 0 0 e i) : EReal) = if e.val = 0 then 1 else 0 := by
  pointwise [k0_pay61]
  exact ones_pick e

/-! ## Queries, keys and values of grouped attention -/

theorem gq0 (v : FVec Ideal S512x512 .f32) (g : FVec Ideal S128x1 .f32) (c s : FVec Ideal S64x512 .f32) (e : Fin 128) (i : Fin 512) : (k0_pay80 c s (k0_pay76 g v) (k0_pay77 g v) (k0_pay78 c g v) (k0_pay79 s g v) (ix5 0 0 0 e i) : EReal) = gqHead v g c s 0 e i := by
  pointwise [k0_pay80, k0_pay79, k0_pay78, k0_pay77, k0_pay76, k0_pay75, gqHead, Math.turn, Math.rmsOf]

theorem gq1 (v : FVec Ideal S512x512 .f32) (g : FVec Ideal S128x1 .f32) (c s : FVec Ideal S64x512 .f32) (e : Fin 128) (i : Fin 512) : (k0_pay81 c s g v (ix5 0 0 0 e i) : EReal) = gqHead v g c s 1 e i := by
  pointwise [k0_pay81, gqHead, Math.turn, Math.rmsOf]

theorem gq2 (v : FVec Ideal S512x512 .f32) (g : FVec Ideal S128x1 .f32) (c s : FVec Ideal S64x512 .f32) (e : Fin 128) (i : Fin 512) : (k0_pay84 c s g (k0_pay82 v) (k0_pay83 v) (ix5 0 0 0 e i) : EReal) = gqHead v g c s 2 e i := by
  pointwise [k0_pay84, k0_pay83, k0_pay82, gqHead, Math.turn, Math.rmsOf]

theorem gq3 (v : FVec Ideal S512x512 .f32) (g : FVec Ideal S128x1 .f32) (c s : FVec Ideal S64x512 .f32) (e : Fin 128) (i : Fin 512) : (k0_pay86 (k0_pay85 c s g v) scaleG (ix5 0 0 0 e i) : EReal) = gqHead v g c s 3 e i := by
  pointwise [k0_pay86, k0_pay85, gqHead, Math.turn, Math.rmsOf]

theorem gq4 (v : FVec Ideal S512x512 .f32) (g : FVec Ideal S128x1 .f32) (c s : FVec Ideal S64x512 .f32) (e : Fin 128) (i : Fin 512) : (k0_pay87 c s g v (ix5 0 0 0 e i) : EReal) = gqHead v g c s 0 e i := by
  pointwise [k0_pay87, gqHead, Math.turn, Math.rmsOf]

theorem gq5 (v : FVec Ideal S512x512 .f32) (g : FVec Ideal S128x1 .f32) (c s : FVec Ideal S64x512 .f32) (e : Fin 128) (i : Fin 512) : (k0_pay91 c s g (k0_pay88 v) (k0_pay89 v) (k0_pay90 (F := Ideal)) (ix5 0 0 0 e i) : EReal) = gqHead v g c s 1 e i := by
  pointwise [k0_pay91, k0_pay90, k0_pay89, k0_pay88, gqHead, Math.turn, Math.rmsOf]

theorem gq6 (v : FVec Ideal S512x512 .f32) (g : FVec Ideal S128x1 .f32) (c s : FVec Ideal S64x512 .f32) (e : Fin 128) (i : Fin 512) : (k0_pay93 (k0_pay92 c s g v) (ix5 0 0 0 e i) : EReal) = gqHead v g c s 2 e i := by
  pointwise [k0_pay93, k0_pay92, gqHead, Math.turn, Math.rmsOf]

theorem gq7 (v : FVec Ideal S512x512 .f32) (g : FVec Ideal S128x1 .f32) (c s : FVec Ideal S64x512 .f32) (e : Fin 128) (i : Fin 512) : (k0_pay94 c s g v (ix5 0 0 0 e i) : EReal) = gqHead v g c s 3 e i := by
  pointwise [k0_pay94, gqHead, Math.turn, Math.rmsOf]

theorem gk0 (v : FVec Ideal S512x256 .f32) (g : Vec Ideal S1x128 .f32) (c s : Vec Ideal S512x128 .f32) (i : Fin 512) (e : Fin 128) : (k0_pay67 v g c s (ix4 0 0 i e) : EReal) = gkHead v g c s 0 i e := by
  pointwise [k0_pay67, gkHead, gkNorm, Math.rmsOf]

theorem gk1 (v : FVec Ideal S512x256 .f32) (g : Vec Ideal S1x128 .f32) (c s : Vec Ideal S512x128 .f32) (i : Fin 512) (e : Fin 128) : (k0_pay72 (k0_pay68 v) (k0_pay69 g) (k0_pay70 v) (k0_pay71 (F := Ideal)) c s (ix4 0 0 i e) : EReal) = gkHead v g c s 1 i e := by
  pointwise [k0_pay72, k0_pay71, k0_pay70, k0_pay69, k0_pay68, gkHead, gkNorm, Math.rmsOf]

theorem gv0 (v : FVec Ideal S256x512 .f32) (e : Fin 128) (i : Fin 512) : (k0_pay95 v (ix5 0 0 0 e i) : EReal) = v (ix2 ⟨(0 : Fin 2).val * 128 + e.val, by omega⟩ i) := by
  pointwise [k0_pay95]

theorem gv1 (v : FVec Ideal S256x512 .f32) (e : Fin 128) (i : Fin 512) : (k0_pay97 v (ix5 0 0 0 e i) : EReal) = v (ix2 ⟨(1 : Fin 2).val * 128 + e.val, by omega⟩ i) := by
  pointwise [k0_pay97]

theorem go0 (e : Fin 16) (i : Fin 512) : (k0_pay96 (F := Ideal) (iota .tc S16x512 32 [0] iota_S16x512_d0_w32) 0#32 (ix5 0 0 0 e i) : EReal) = if e.val = 0 then 1 else 0 := by
  pointwise [k0_pay96]
  exact ones_pick e

theorem go1 (e : Fin 16) (i : Fin 512) : (k0_pay1 (F := Ideal) k0_pay98 (Scalar.ofBits (F := Ideal) .f32 0x00000000#32) k0_pay99 (ix5 0 0 0 e i) : EReal) = if e.val = 0 then 1 else 0 := by
  pointwise [k0_pay1, k0_pay98, k0_pay99]
  exact ones_pick e

/-! ## The arrays that hold all heads -/

/-- The normalised rows of a block. -/
def hRow (x : Vec Ideal S1x512x1024 .f32) (g : Vec Ideal S1x1024 .f32) (i : Fin 512) (d : Fin 1024) : EReal :=
  Math.rmsOf 0x44800000#32 (fun k => x (ix3 0 i k)) (fun k => g (ix2 0 k)) d

theorem rows_apply (x : Vec Ideal S1x512x1024 .f32) (g : Vec Ideal S1x1024 .f32) (i : Fin 512) (d : Fin 1024) : (k0_pay2 x g (ix2 i d) : EReal) = hRow x g i d := by
  pointwise [k0_pay2, hRow, Math.rmsOf]

/-- The columns of the latent query array before and after normalisation. -/
def latRow (x : Vec Ideal S1x512x1024 .f32) (g : Vec Ideal S1x1024 .f32) (w : Vec Ideal S384x1024 .bf16) (i : Fin 512) (r : Fin 384) : EReal :=
  ∑ d : Fin 1024, hRow x g i d * w (ix2 r d)

theorem lat_apply (x : Vec Ideal S1x512x1024 .f32) (g : Vec Ideal S1x1024 .f32) (w : Vec Ideal S384x1024 .bf16) (r : Fin 384) (i : Fin 512) :
    (k0_pay3 x g w (ix2 r i) : EReal) = latRow x g w i r := by
  have e : (k0_pay3 x g w (ix2 r i) : EReal) = ∑ d : Fin 1024, (w (ix2 r d) : EReal) * k0_pay2 x g (ix2 i d) := by
    unfold k0_pay3
    generalize k0_pay2 x g = h
    pointwise
  rw [e]
  exact Finset.sum_congr rfl fun d _ => by rw [rows_apply, mul_comm]

/-- The queries of latent attention, all heads. -/
theorem mqAll_apply (x : Vec Ideal S1x512x1024 .f32) (g : Vec Ideal S1x1024 .f32) (w : Vec Ideal S384x1024 .bf16) (ga : Vec Ideal S384x1 .f32) (u : Vec Ideal S1024x384 .bf16)
    (r : Fin 1024) (i : Fin 512) :
    (k0_pay8 (k0_pay3 x g w) (k0_pay6 ga) (k0_pay7 x g w) u (ix2 r i) : EReal)
      = ∑ k : Fin 384, Math.rmsOf 0x43C00000#32 (latRow x g w i) (fun k => ga (ix2 k 0)) k * u (ix2 r k) := by
  have e : (k0_pay8 (k0_pay3 x g w) (k0_pay6 ga) (k0_pay7 x g w) u (ix2 r i) : EReal)
      = ∑ k : Fin 384, (u (ix2 r k) : EReal) * Math.rmsOf 0x43C00000#32 (fun k => k0_pay3 x g w (ix2 k i)) (fun k => ga (ix2 k 0)) k := by
    unfold k0_pay7
    generalize k0_pay3 x g w = h
    pointwise [k0_pay8, k0_pay6, Math.rmsOf]
  rw [e]
  simp only [lat_apply]
  exact Finset.sum_congr rfl fun d _ => mul_comm _ _

/-- The latent row of keys and values. -/
def latKRow (x : Vec Ideal S1x512x1024 .f32) (g : Vec Ideal S1x1024 .f32) (w : Vec Ideal S1024x256 .bf16) (i : Fin 512) (r : Fin 256) : EReal :=
  ∑ d : Fin 1024, hRow x g i d * w (ix2 d r)

theorem latK_apply (x : Vec Ideal S1x512x1024 .f32) (g : Vec Ideal S1x1024 .f32) (w : Vec Ideal S1024x256 .bf16) (i : Fin 512) (r : Fin 256) :
    (k0_pay4 x g w (ix2 i r) : EReal) = latKRow x g w i r := by
  unfold latKRow
  simp only [← rows_apply]
  unfold k0_pay4
  generalize k0_pay2 x g = h
  pointwise

theorem latKn_apply (x : Vec Ideal S1x512x1024 .f32) (g : Vec Ideal S1x1024 .f32) (w : Vec Ideal S1024x256 .bf16) (gc : Vec Ideal S1x256 .f32) (i : Fin 512) (r : Fin 256) :
    (k0_pay9 (k0_pay4 x g w) gc (ix2 i r) : EReal) = Math.rmsOf 0x43800000#32 (latKRow x g w i) (fun k => gc (ix2 0 k)) r := by
  have e : (k0_pay9 (k0_pay4 x g w) gc (ix2 i r) : EReal) = Math.rmsOf 0x43800000#32 (fun k => k0_pay4 x g w (ix2 i k)) (fun k => gc (ix2 0 k)) r := by
    generalize k0_pay4 x g w = h
    pointwise [k0_pay9, Math.rmsOf]
  rw [e]
  simp only [latK_apply]

theorem mkAll_apply (x : Vec Ideal S1x512x1024 .f32) (g : Vec Ideal S1x1024 .f32) (w : Vec Ideal S1024x256 .bf16) (gc : Vec Ideal S1x256 .f32) (u : Vec Ideal S256x1024 .bf16)
    (i : Fin 512) (r : Fin 1024) :
    (k0_pay10 (k0_pay4 x g w) gc u (ix2 i r) : EReal)
      = ∑ k : Fin 256, Math.rmsOf 0x43800000#32 (latKRow x g w i) (fun k => gc (ix2 0 k)) k * u (ix2 k r) := by
  simp only [← latKn_apply]
  unfold k0_pay10
  generalize k0_pay9 (k0_pay4 x g w) gc = h
  pointwise

theorem mvAll_apply (x : Vec Ideal S1x512x1024 .f32) (g : Vec Ideal S1x1024 .f32) (w : Vec Ideal S1024x256 .bf16) (gc : Vec Ideal S1x256 .f32) (u : Vec Ideal S1024x256 .bf16)
    (r : Fin 1024) (i : Fin 512) :
    (k0_pay31 (k0_pay9 (k0_pay4 x g w) gc) u (ix2 r i) : EReal)
      = ∑ k : Fin 256, Math.rmsOf 0x43800000#32 (latKRow x g w i) (fun k => gc (ix2 0 k)) k * u (ix2 r k) := by
  have e : (k0_pay31 (k0_pay9 (k0_pay4 x g w) gc) u (ix2 r i) : EReal) = ∑ k : Fin 256, (u (ix2 r k) : EReal) * k0_pay9 (k0_pay4 x g w) gc (ix2 i k) := by
    unfold k0_pay31
    generalize k0_pay9 (k0_pay4 x g w) gc = h
    pointwise
  rw [e]
  exact Finset.sum_congr rfl fun d _ => by rw [latKn_apply, mul_comm]

/-- The rotated part the latent keys of all heads share. -/
theorem mkRot_apply (x : Vec Ideal S1x512x1024 .f32) (g : Vec Ideal S1x1024 .f32) (w : Vec Ideal S1024x256 .bf16) (c s : Vec Ideal S512x128 .f32) (i : Fin 512) (e : Fin 128) :
    (k0_pay11 (k0_pay5 x g w) c s (ix2 i e) : EReal)
      = (∑ d : Fin 1024, hRow x g i d * w (ix2 d ⟨e.val, by omega⟩)) * c (ix2 i e) + (∑ d : Fin 1024, hRow x g i d * w (ix2 d ⟨128 + e.val, by omega⟩)) * s (ix2 i e) := by
  simp only [← rows_apply]
  unfold k0_pay5
  generalize k0_pay2 x g = h
  pointwise [k0_pay11]

/-- The keys, queries and values of grouped attention, all heads. -/
theorem gkAll_apply (x : Vec Ideal S1x512x1024 .f32) (g : Vec Ideal S1x1024 .f32) (w : Vec Ideal S1024x256 .bf16) (i : Fin 512) (r : Fin 256) :
    (k0_pay65 (k0_pay2 x g) w (ix2 i r) : EReal) = ∑ d : Fin 1024, hRow x g i d * w (ix2 d r) := by
  simp only [← rows_apply]
  generalize k0_pay2 x g = h
  pointwise [k0_pay65]

theorem gqLo_apply (x : Vec Ideal S1x512x1024 .f32) (g : Vec Ideal S1x1024 .f32) (w : Vec Ideal S512x1024 .bf16) (r : Fin 512) (i : Fin 512) :
    (k0_pay66 (k0_pay2 x g) w (ix2 r i) : EReal) = ∑ d : Fin 1024, hRow x g i d * w (ix2 r d) := by
  have e : (k0_pay66 (k0_pay2 x g) w (ix2 r i) : EReal) = ∑ d : Fin 1024, (w (ix2 r d) : EReal) * k0_pay2 x g (ix2 i d) := by
    generalize k0_pay2 x g = h
    pointwise [k0_pay66]
  rw [e]
  exact Finset.sum_congr rfl fun d _ => by rw [rows_apply, mul_comm]

theorem gqHi_apply (x : Vec Ideal S1x512x1024 .f32) (g : Vec Ideal S1x1024 .f32) (w : Vec Ideal S512x1024 .bf16) (r : Fin 512) (i : Fin 512) :
    (k0_pay73 (k0_pay2 x g) w (ix2 r i) : EReal) = ∑ d : Fin 1024, hRow x g i d * w (ix2 r d) := by
  have e : (k0_pay73 (k0_pay2 x g) w (ix2 r i) : EReal) = ∑ d : Fin 1024, (w (ix2 r d) : EReal) * k0_pay2 x g (ix2 i d) := by
    generalize k0_pay2 x g = h
    pointwise [k0_pay73]
  rw [e]
  exact Finset.sum_congr rfl fun d _ => by rw [rows_apply, mul_comm]

theorem gvAll_apply (x : Vec Ideal S1x512x1024 .f32) (g : Vec Ideal S1x1024 .f32) (w : Vec Ideal S256x1024 .bf16) (r : Fin 256) (i : Fin 512) :
    (k0_pay74 (k0_pay2 x g) w (ix2 r i) : EReal) = ∑ d : Fin 1024, hRow x g i d * w (ix2 r d) := by
  have e : (k0_pay74 (k0_pay2 x g) w (ix2 r i) : EReal) = ∑ d : Fin 1024, (w (ix2 r d) : EReal) * k0_pay2 x g (ix2 i d) := by
    generalize k0_pay2 x g = h
    pointwise [k0_pay74]
  rw [e]
  exact Finset.sum_congr rfl fun d _ => by rw [rows_apply, mul_comm]

end Cert.ProjIdeal.Body

end
-- ==== Proof.ProjBlock.lean ====
/- The blocks the projections' kernel sees at a point of its grid, over the arrays the program is given, and the pieces it
   stores over the normalised row of one position. -/
module

public import proofs.«01_k».proof.Proof.ProjTab
public import proofs.«01_k».proof.Proof.ProjPoint

@[expose] public section

set_option maxRecDepth 16384

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

theorem lt_N (t : Fin cfg0.N) : t.val < 64 := (by decide +kernel : ∀ t : Fin grid0.N, t.val < 64) t

/-! ## The block each window shows at a point of the grid -/

theorem idx0 : ∀ t : Fin cfg0.N, win0_0.index t = ![t.val / 16, t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, t.val % 16] := (by decide +kernel : ∀ t : Fin grid0.N, _)
theorem idx8 : ∀ t : Fin cfg0.N, win0_8.index t = ![0, t.val % 16] := (by decide +kernel : ∀ t : Fin grid0.N, _)
theorem idx9 : ∀ t : Fin cfg0.N, win0_9.index t = ![t.val % 16, 0] := (by decide +kernel : ∀ t : Fin grid0.N, _)
theorem idx10 : ∀ t : Fin cfg0.N, win0_10.index t = ![t.val % 16, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, t.val % 16] := (by decide +kernel : ∀ t : Fin grid0.N, _)
theorem idx20 : ∀ t : Fin cfg0.N, win0_20.index t = ![0, t.val % 16] := (by decide +kernel : ∀ t : Fin grid0.N, _)
theorem idx21 : ∀ t : Fin cfg0.N, win0_21.index t = ![t.val % 16, 0] := (by decide +kernel : ∀ t : Fin grid0.N, _)
theorem idx22 : ∀ t : Fin cfg0.N, win0_22.index t = ![t.val % 16, 0] := (by decide +kernel : ∀ t : Fin grid0.N, _)
theorem idx23 : ∀ t : Fin cfg0.N, win0_23.index t = ![t.val / 16, 0, t.val % 16, 0, 0] := (by decide +kernel : ∀ t : Fin grid0.N, _)
theorem idx24 : ∀ t : Fin cfg0.N, win0_24.index t = ![t.val / 16, 0, t.val % 16, 0] := (by decide +kernel : ∀ t : Fin grid0.N, _)
theorem idx25 : ∀ t : Fin cfg0.N, win0_25.index t = ![t.val / 16, 0, t.val % 16, 0, 0] := (by decide +kernel : ∀ t : Fin grid0.N, _)
theorem idx26 : ∀ t : Fin cfg0.N, win0_26.index t = ![t.val / 16, 0, t.val % 16, 0, 0] := (by decide +kernel : ∀ t : Fin grid0.N, _)
theorem idx27 : ∀ t : Fin cfg0.N, win0_27.index t = ![t.val / 16, 0, t.val % 16, 0] := (by decide +kernel : ∀ t : Fin grid0.N, _)
theorem idx28 : ∀ t : Fin cfg0.N, win0_28.index t = ![t.val / 16, 0, t.val % 16, 0, 0] := (by decide +kernel : ∀ t : Fin grid0.N, _)

/-- The sequence and the rows a point works on. -/
def seqOf (t : Fin cfg0.N) : Fin 4 := ⟨t.val / 16, by have := lt_N t; omega⟩
def rowOf (t : Fin cfg0.N) (i : Fin 512) : Fin 8192 := ⟨t.val % 16 * 512 + i.val, by omega⟩

/-! ## Each window's block over its array -/

theorem blkX_of (x : FVec Ideal S4x8192x1024 .f32) (t : Fin cfg0.N) (i : Fin 512) (d : Fin 1024) :
    ((((cfg0.win 0).blk t).view.read (Elt Ideal) x) (ix3 0 i d) : EReal) = x (ix3 (seqOf t) (rowOf t i) d) := by
  blk_ext [idx0 t, seqOf, rowOf]
theorem blkX (t : Fin cfg0.N) (i : Fin 512) (d : Fin 1024) : (iblk m c 0 t (ix3 0 i d) : EReal) = argX m c (ix3 (seqOf t) (rowOf t i) d) :=
  (blkX_of (V m c main_arg0) t i d).trans (by rw [V_main_arg0])
theorem blkG_of (x : FVec Ideal S1x1024 .f32) (t : Fin cfg0.N) (p : Fin 1) (q : Fin 1024) :
    ((((cfg0.win 1).blk t).view.read (Elt Ideal) x) (ix2 p q) : EReal) = x (ix2 p q) := by
  blk_ext [idx1 t]
theorem blkG (t : Fin cfg0.N) (p : Fin 1) (q : Fin 1024) : (iblk m c 1 t (ix2 p q) : EReal) = arrG m c (ix2 p q) :=
  blkG_of (V m c main_v51) t p q
theorem blkWq_of (x : FVec Ideal S1024x1024 .bf16) (t : Fin cfg0.N) (p : Fin 1024) (q : Fin 1024) :
    ((((cfg0.win 2).blk t).view.read (Elt Ideal) x) (ix2 p q) : EReal) = x (ix2 p q) := by
  blk_ext [idx2 t]
theorem blkWq (t : Fin cfg0.N) (p : Fin 1024) (q : Fin 1024) : (iblk m c 2 t (ix2 p q) : EReal) = arrWq m c (ix2 p q) :=
  blkWq_of (V m c main_v21) t p q
theorem blkWk_of (x : FVec Ideal S1024x256 .bf16) (t : Fin cfg0.N) (p : Fin 1024) (q : Fin 256) :
    ((((cfg0.win 3).blk t).view.read (Elt Ideal) x) (ix2 p q) : EReal) = x (ix2 p q) := by
  blk_ext [idx3 t]
theorem blkWk (t : Fin cfg0.N) (p : Fin 1024) (q : Fin 256) : (iblk m c 3 t (ix2 p q) : EReal) = arrWk m c (ix2 p q) :=
  blkWk_of (V m c main_v22) t p q
theorem blkWv_of (x : FVec Ideal S256x1024 .bf16) (t : Fin cfg0.N) (p : Fin 256) (q : Fin 1024) :
    ((((cfg0.win 4).blk t).view.read (Elt Ideal) x) (ix2 p q) : EReal) = x (ix2 p q) := by
  blk_ext [idx4 t]
theorem blkWv (t : Fin cfg0.N) (p : Fin 256) (q : Fin 1024) : (iblk m c 4 t (ix2 p q) : EReal) = arrWv m c (ix2 p q) :=
  blkWv_of (V m c main_v24) t p q
theorem blkGq_of (x : FVec Ideal S128x1 .f32) (t : Fin cfg0.N) (p : Fin 128) (q : Fin 1) :
    ((((cfg0.win 5).blk t).view.read (Elt Ideal) x) (ix2 p q) : EReal) = x (ix2 p q) := by
  blk_ext [idx5 t]
theorem blkGq (t : Fin cfg0.N) (p : Fin 128) (q : Fin 1) : (iblk m c 5 t (ix2 p q) : EReal) = arrGq m c (ix2 p q) :=
  blkGq_of (V m c main_v25) t p q
theorem blkGk_of (x : FVec Ideal S1x128 .f32) (t : Fin cfg0.N) (p : Fin 1) (q : Fin 128) :
    ((((cfg0.win 6).blk t).view.read (Elt Ideal) x) (ix2 p q) : EReal) = x (ix2 p q) := by
  blk_ext [idx6 t]
theorem blkGk (t : Fin cfg0.N) (p : Fin 1) (q : Fin 128) : (iblk m c 6 t (ix2 p q) : EReal) = arrGk m c (ix2 p q) :=
  blkGk_of (V m c main_v26) t p q
theorem blkCg_of (x : FVec Ideal S64x8192 .f32) (t : Fin cfg0.N) (p : Fin 64) (q : Fin 512) :
    ((((cfg0.win 7).blk t).view.read (Elt Ideal) x) (ix2 p q) : EReal) = x (ix2 p (rowOf t q)) := by
  blk_ext [idx7 t, rowOf]
theorem blkCg (t : Fin cfg0.N) (p : Fin 64) (q : Fin 512) : (iblk m c 7 t (ix2 p q) : EReal) = arrCg m c (ix2 p (rowOf t q)) :=
  blkCg_of (V m c main_v27) t p q
theorem blkSg_of (x : FVec Ideal S64x8192 .f32) (t : Fin cfg0.N) (p : Fin 64) (q : Fin 512) :
    ((((cfg0.win 8).blk t).view.read (Elt Ideal) x) (ix2 p q) : EReal) = x (ix2 p (rowOf t q)) := by
  blk_ext [idx8 t, rowOf]
theorem blkSg (t : Fin cfg0.N) (p : Fin 64) (q : Fin 512) : (iblk m c 8 t (ix2 p q) : EReal) = arrSg m c (ix2 p (rowOf t q)) :=
  blkSg_of (V m c main_v28) t p q
theorem blkCgk_of (x : FVec Ideal S8192x128 .f32) (t : Fin cfg0.N) (p : Fin 512) (q : Fin 128) :
    ((((cfg0.win 9).blk t).view.read (Elt Ideal) x) (ix2 p q) : EReal) = x (ix2 (rowOf t p) q) := by
  blk_ext [idx9 t, rowOf]
theorem blkCgk (t : Fin cfg0.N) (p : Fin 512) (q : Fin 128) : (iblk m c 9 t (ix2 p q) : EReal) = arrCgk m c (ix2 (rowOf t p) q) :=
  blkCgk_of (V m c main_v29) t p q
theorem blkSgk_of (x : FVec Ideal S8192x128 .f32) (t : Fin cfg0.N) (p : Fin 512) (q : Fin 128) :
    ((((cfg0.win 10).blk t).view.read (Elt Ideal) x) (ix2 p q) : EReal) = x (ix2 (rowOf t p) q) := by
  blk_ext [idx10 t, rowOf]
theorem blkSgk (t : Fin cfg0.N) (p : Fin 512) (q : Fin 128) : (iblk m c 10 t (ix2 p q) : EReal) = arrSgk m c (ix2 (rowOf t p) q) :=
  blkSgk_of (V m c main_v31) t p q
theorem blkWa_of (x : FVec Ideal S384x1024 .bf16) (t : Fin cfg0.N) (p : Fin 384) (q : Fin 1024) :
    ((((cfg0.win 11).blk t).view.read (Elt Ideal) x) (ix2 p q) : EReal) = x (ix2 p q) := by
  blk_ext [idx11 t]
theorem blkWa (t : Fin cfg0.N) (p : Fin 384) (q : Fin 1024) : (iblk m c 11 t (ix2 p q) : EReal) = arrWa m c (ix2 p q) :=
  blkWa_of (V m c main_v33) t p q
theorem blkGa_of (x : FVec Ideal S384x1 .f32) (t : Fin cfg0.N) (p : Fin 384) (q : Fin 1) :
    ((((cfg0.win 12).blk t).view.read (Elt Ideal) x) (ix2 p q) : EReal) = x (ix2 p q) := by
  blk_ext [idx12 t]
theorem blkGa (t : Fin cfg0.N) (p : Fin 384) (q : Fin 1) : (iblk m c 12 t (ix2 p q) : EReal) = arrGa m c (ix2 p q) :=
  blkGa_of (V m c main_v34) t p q
theorem blkUb_of (x : FVec Ideal S1024x384 .bf16) (t : Fin cfg0.N) (p : Fin 1024) (q : Fin 384) :
    ((((cfg0.win 13).blk t).view.read (Elt Ideal) x) (ix2 p q) : EReal) = x (ix2 p q) := by
  blk_ext [idx13 t]
theorem blkUb (t : Fin cfg0.N) (p : Fin 1024) (q : Fin 384) : (iblk m c 13 t (ix2 p q) : EReal) = arrUb m c (ix2 p q) :=
  blkUb_of (V m c main_v37) t p q
theorem blkWc_of (x : FVec Ideal S1024x256 .bf16) (t : Fin cfg0.N) (p : Fin 1024) (q : Fin 256) :
    ((((cfg0.win 14).blk t).view.read (Elt Ideal) x) (ix2 p q) : EReal) = x (ix2 p q) := by
  blk_ext [idx14 t]
theorem blkWc (t : Fin cfg0.N) (p : Fin 1024) (q : Fin 256) : (iblk m c 14 t (ix2 p q) : EReal) = arrWc m c (ix2 p q) :=
  blkWc_of (V m c main_v38) t p q
theorem blkGc_of (x : FVec Ideal S1x256 .f32) (t : Fin cfg0.N) (p : Fin 1) (q : Fin 256) :
    ((((cfg0.win 15).blk t).view.read (Elt Ideal) x) (ix2 p q) : EReal) = x (ix2 p q) := by
  blk_ext [idx15 t]
theorem blkGc (t : Fin cfg0.N) (p : Fin 1) (q : Fin 256) : (iblk m c 15 t (ix2 p q) : EReal) = arrGc m c (ix2 p q) :=
  blkGc_of (V m c main_v39) t p q
theorem blkUk_of (x : FVec Ideal S256x1024 .bf16) (t : Fin cfg0.N) (p : Fin 256) (q : Fin 1024) :
    ((((cfg0.win 16).blk t).view.read (Elt Ideal) x) (ix2 p q) : EReal) = x (ix2 p q) := by
  blk_ext [idx16 t]
theorem blkUk (t : Fin cfg0.N) (p : Fin 256) (q : Fin 1024) : (iblk m c 16 t (ix2 p q) : EReal) = arrUk m c (ix2 p q) :=
  blkUk_of (V m c main_v41) t p q
theorem blkWr_of (x : FVec Ideal S1024x256 .bf16) (t : Fin cfg0.N) (p : Fin 1024) (q : Fin 256) :
    ((((cfg0.win 17).blk t).view.read (Elt Ideal) x) (ix2 p q) : EReal) = x (ix2 p q) := by
  blk_ext [idx17 t]
theorem blkWr (t : Fin cfg0.N) (p : Fin 1024) (q : Fin 256) : (iblk m c 17 t (ix2 p q) : EReal) = arrWr m c (ix2 p q) :=
  blkWr_of (V m c main_v42) t p q
theorem blkUv_of (x : FVec Ideal S1024x256 .bf16) (t : Fin cfg0.N) (p : Fin 1024) (q : Fin 256) :
    ((((cfg0.win 18).blk t).view.read (Elt Ideal) x) (ix2 p q) : EReal) = x (ix2 p q) := by
  blk_ext [idx18 t]
theorem blkUv (t : Fin cfg0.N) (p : Fin 1024) (q : Fin 256) : (iblk m c 18 t (ix2 p q) : EReal) = arrUv m c (ix2 p q) :=
  blkUv_of (V m c main_v45) t p q
theorem blkCm_of (x : FVec Ideal S16x8192 .f32) (t : Fin cfg0.N) (p : Fin 16) (q : Fin 512) :
    ((((cfg0.win 19).blk t).view.read (Elt Ideal) x) (ix2 p q) : EReal) = x (ix2 p (rowOf t q)) := by
  blk_ext [idx19 t, rowOf]
theorem blkCm (t : Fin cfg0.N) (p : Fin 16) (q : Fin 512) : (iblk m c 19 t (ix2 p q) : EReal) = arrCm m c (ix2 p (rowOf t q)) :=
  blkCm_of (V m c main_v46) t p q
theorem blkSm_of (x : FVec Ideal S16x8192 .f32) (t : Fin cfg0.N) (p : Fin 16) (q : Fin 512) :
    ((((cfg0.win 20).blk t).view.read (Elt Ideal) x) (ix2 p q) : EReal) = x (ix2 p (rowOf t q)) := by
  blk_ext [idx20 t, rowOf]
theorem blkSm (t : Fin cfg0.N) (p : Fin 16) (q : Fin 512) : (iblk m c 20 t (ix2 p q) : EReal) = arrSm m c (ix2 p (rowOf t q)) :=
  blkSm_of (V m c main_v47) t p q
theorem blkCmk_of (x : FVec Ideal S8192x128 .f32) (t : Fin cfg0.N) (p : Fin 512) (q : Fin 128) :
    ((((cfg0.win 21).blk t).view.read (Elt Ideal) x) (ix2 p q) : EReal) = x (ix2 (rowOf t p) q) := by
  blk_ext [idx21 t, rowOf]
theorem blkCmk (t : Fin cfg0.N) (p : Fin 512) (q : Fin 128) : (iblk m c 21 t (ix2 p q) : EReal) = arrCmk m c (ix2 (rowOf t p) q) :=
  blkCmk_of (V m c main_v48) t p q
theorem blkSmk_of (x : FVec Ideal S8192x128 .f32) (t : Fin cfg0.N) (p : Fin 512) (q : Fin 128) :
    ((((cfg0.win 22).blk t).view.read (Elt Ideal) x) (ix2 p q) : EReal) = x (ix2 (rowOf t p) q) := by
  blk_ext [idx22 t, rowOf]
theorem blkSmk (t : Fin cfg0.N) (p : Fin 512) (q : Fin 128) : (iblk m c 22 t (ix2 p q) : EReal) = arrSmk m c (ix2 (rowOf t p) q) :=
  blkSmk_of (V m c main_v50) t p q

/-! ## Each window's block over the arrays the program is given -/

theorem inG (t : Fin cfg0.N) (d : Fin 1024) : (iblk m c 1 t (ix2 0 d) : EReal) = argG m c (ix1 d) := (blkG m c t 0 d).trans (arrG_apply m c d)
theorem inWq (t : Fin cfg0.N) (r d : Fin 1024) : (iblk m c 2 t (ix2 r d) : EReal) = argW m c (ix2 d ⟨r.val, by omega⟩) := (blkWq m c t r d).trans (arrWq_apply m c r d)
theorem inWk (t : Fin cfg0.N) (d : Fin 1024) (r : Fin 256) : (iblk m c 3 t (ix2 d r) : EReal) = argW m c (ix2 d ⟨1024 + r.val, by omega⟩) := (blkWk m c t d r).trans (arrWk_apply m c d r)
theorem inWv (t : Fin cfg0.N) (r : Fin 256) (d : Fin 1024) : (iblk m c 4 t (ix2 r d) : EReal) = argW m c (ix2 d ⟨1280 + r.val, by omega⟩) := (blkWv m c t r d).trans (arrWv_apply m c r d)
theorem inGq (t : Fin cfg0.N) (e : Fin 128) : (iblk m c 5 t (ix2 e 0) : EReal) = argGq m c (ix1 e) := (blkGq m c t e 0).trans (arrGq_apply m c e)
theorem inGk (t : Fin cfg0.N) (e : Fin 128) : (iblk m c 6 t (ix2 0 e) : EReal) = argGk m c (ix1 e) := (blkGk m c t 0 e).trans (arrGk_apply m c e)
theorem inCg (t : Fin cfg0.N) (j : Fin 64) (i : Fin 512) : (iblk m c 7 t (ix2 j i) : EReal) = argCg m c (ix2 (rowOf t i) j) := (blkCg m c t j i).trans (arrCg_apply m c j _)
theorem inSg (t : Fin cfg0.N) (j : Fin 64) (i : Fin 512) : (iblk m c 8 t (ix2 j i) : EReal) = argSg m c (ix2 (rowOf t i) j) := (blkSg m c t j i).trans (arrSg_apply m c j _)
theorem inWa (t : Fin cfg0.N) (r : Fin 384) (d : Fin 1024) : (iblk m c 11 t (ix2 r d) : EReal) = argW m c (ix2 d ⟨1536 + r.val, by omega⟩) := (blkWa m c t r d).trans (arrWa_apply m c r d)
theorem inGa (t : Fin cfg0.N) (r : Fin 384) : (iblk m c 12 t (ix2 r 0) : EReal) = argGa m c (ix1 r) := (blkGa m c t r 0).trans (arrGa_apply m c r)
theorem inUb (t : Fin cfg0.N) (hd : Fin 8) (e : Fin 128) (k : Fin 384) : (iblk m c 13 t (ix2 ⟨hd.val * 128 + e.val, by omega⟩ k) : EReal)
    = if h : e.val < 96 then argUq m c (ix2 k ⟨hd.val * 96 + e.val, by omega⟩) else 0 := (blkUb m c t _ k).trans (arrUb_apply m c hd e k)
theorem inWc (t : Fin cfg0.N) (d : Fin 1024) (r : Fin 256) : (iblk m c 14 t (ix2 d r) : EReal) = argW m c (ix2 d ⟨1920 + r.val, by omega⟩) := (blkWc m c t d r).trans (arrWc_apply m c d r)
theorem inGc (t : Fin cfg0.N) (r : Fin 256) : (iblk m c 15 t (ix2 0 r) : EReal) = argGc m c (ix1 r) := (blkGc m c t 0 r).trans (arrGc_apply m c r)
theorem inUk (t : Fin cfg0.N) (k : Fin 256) (hd : Fin 8) (e : Fin 128) : (iblk m c 16 t (ix2 k ⟨hd.val * 128 + e.val, by omega⟩) : EReal)
    = if h : e.val < 64 then argUk m c (ix2 k ⟨hd.val * 192 + e.val, by omega⟩) else 0 := (blkUk m c t k _).trans (arrUk_apply m c k hd e)
theorem inWrLow (t : Fin cfg0.N) (d : Fin 1024) (e : Fin 128) : (iblk m c 17 t (ix2 d ⟨e.val, by omega⟩) : EReal)
    = if h : 64 ≤ e.val ∧ e.val < 96 then argW m c (ix2 d ⟨2176 + (e.val - 64), by omega⟩) else 0 := (blkWr m c t d _).trans (arrWr_low m c d e)
theorem inWrHigh (t : Fin cfg0.N) (d : Fin 1024) (e : Fin 128) : (iblk m c 17 t (ix2 d ⟨128 + e.val, by omega⟩) : EReal)
    = if h : 64 ≤ e.val ∧ e.val < 96 then argW m c (ix2 d ⟨2176 + (if e.val < 80 then 16 + (e.val - 64) else e.val - 80), by split <;> omega⟩) else 0 :=
  (blkWr m c t d _).trans (arrWr_high m c d e)
theorem inUv (t : Fin cfg0.N) (hd : Fin 8) (e : Fin 128) (k : Fin 256) : (iblk m c 18 t (ix2 ⟨hd.val * 128 + e.val, by omega⟩ k) : EReal)
    = argUk m c (ix2 k ⟨hd.val * 192 + (64 + e.val), by omega⟩) := (blkUv m c t _ k).trans (arrUv_apply m c hd e k)
theorem inCm (t : Fin cfg0.N) (j : Fin 16) (i : Fin 512) : (iblk m c 19 t (ix2 j i) : EReal) = argCm m c (ix2 (rowOf t i) j) := (blkCm m c t j i).trans (arrCm_apply m c j _)
theorem inSm (t : Fin cfg0.N) (j : Fin 16) (i : Fin 512) : (iblk m c 20 t (ix2 j i) : EReal) = argSm m c (ix2 (rowOf t i) j) := (blkSm m c t j i).trans (arrSm_apply m c j _)
theorem inCmk (t : Fin cfg0.N) (i : Fin 512) (e : Fin 128) : (iblk m c 21 t (ix2 i e) : EReal)
    = if h : 64 ≤ e.val ∧ e.val < 80 then argCm m c (ix2 (rowOf t i) ⟨e.val - 64, by omega⟩)
      else if h : 80 ≤ e.val ∧ e.val < 96 then argCm m c (ix2 (rowOf t i) ⟨e.val - 80, by omega⟩) else 0 := (blkCmk m c t i e).trans (arrCmk_apply m c _ e)
theorem inSmk (t : Fin cfg0.N) (i : Fin 512) (e : Fin 128) : (iblk m c 22 t (ix2 i e) : EReal)
    = if h : 64 ≤ e.val ∧ e.val < 80 then -argSm m c (ix2 (rowOf t i) ⟨e.val - 64, by omega⟩)
      else if h : 80 ≤ e.val ∧ e.val < 96 then argSm m c (ix2 (rowOf t i) ⟨e.val - 80, by omega⟩) else 0 := (blkSmk m c t i e).trans (arrSmk_apply m c _ e)

/-! ## The pieces the kernel stores, over the normalised row of one position -/

/-- The normalised row of a position, and the weights of all projections. -/
def hid (b : Fin 4) (s : Fin 8192) : Fin 1024 → EReal := Math.rmsOf 0x44800000#32 (fun k => argX m c (ix3 b s k)) (fun k => argG m c (ix1 k))
abbrev wAt (d : Fin 1024) (j : Fin 6304) : EReal := argW m c (ix2 d j)

theorem hRow_blk (t : Fin cfg0.N) (i : Fin 512) : hRow (iblk m c 0 t) (iblk m c 1 t) i = hid m c (seqOf t) (rowOf t i) := by
  funext d
  unfold hRow hid
  simp only [blkX, inG]

/-- The queries, keys and values of grouped attention over the arrays the program is given. -/
def gqAt (b : Fin 4) (s : Fin 8192) (hd : Fin 8) (e : Fin 128) : EReal :=
  Math.gq (hid m c b s) (wAt m c) (fun e => argGq m c (ix1 e)) (fun j => argCg m c (ix2 s j)) (fun j => argSg m c (ix2 s j)) scaleG hd e
def gkAt (b : Fin 4) (s : Fin 8192) (hd : Fin 2) (e : Fin 128) : EReal :=
  Math.gk (hid m c b s) (wAt m c) (fun e => argGk m c (ix1 e)) (fun j => argCg m c (ix2 s j)) (fun j => argSg m c (ix2 s j)) hd e
def gvAt (b : Fin 4) (s : Fin 8192) (hd : Fin 2) (e : Fin 144) : EReal := Math.gv (hid m c b s) (wAt m c) hd e

/-- The queries, keys and values of latent attention over the arrays the program is given. -/
def mqAt (b : Fin 4) (s : Fin 8192) (hd : Fin 8) (e : Fin 128) : EReal :=
  Math.mq (hid m c b s) (wAt m c) (fun r => argGa m c (ix1 r)) (fun k r => argUq m c (ix2 k r)) (fun j => argCm m c (ix2 s j)) (fun j => argSm m c (ix2 s j)) scaleM hd e
def mkAt (b : Fin 4) (s : Fin 8192) (hd : Fin 8) (e : Fin 128) : EReal :=
  Math.mk (hid m c b s) (wAt m c) (fun r => argGc m c (ix1 r)) (fun k r => argUk m c (ix2 k r)) (fun j => argCm m c (ix2 s j)) (fun j => argSm m c (ix2 s j)) hd e
def mvAt (b : Fin 4) (s : Fin 8192) (hd : Fin 8) (e : Fin 144) : EReal :=
  Math.mv (hid m c b s) (wAt m c) (fun r => argGc m c (ix1 r)) (fun k r => argUk m c (ix2 k r)) hd e

/-- A head of queries from the first half of the weights' rows, and from the second. -/
theorem gq_lo (t : Fin cfg0.N) (w : Vec Ideal S512x1024 .bf16) (hw : ∀ (r : Fin 512) (d : Fin 1024), (w (ix2 r d) : EReal) = iblk m c 2 t (ix2 ⟨r.val, by omega⟩ d))
    (hd : Fin 4) (e : Fin 128) (i : Fin 512) :
    gqHead (k0_pay66 (k0_pay2 (iblk m c 0 t) (iblk m c 1 t)) w) (iblk m c 5 t) (iblk m c 7 t) (iblk m c 8 t) hd e i
      = gqAt m c (seqOf t) (rowOf t i) ⟨hd.val, by omega⟩ e := by
  unfold gqHead gqAt Math.gq Math.row
  simp only [gqLo_apply, hRow_blk, hw, inWq, inGq, inCg, inSg]

theorem gq_hi (t : Fin cfg0.N) (w : Vec Ideal S512x1024 .bf16) (hw : ∀ (r : Fin 512) (d : Fin 1024), (w (ix2 r d) : EReal) = iblk m c 2 t (ix2 ⟨512 + r.val, by omega⟩ d))
    (hd : Fin 4) (e : Fin 128) (i : Fin 512) :
    gqHead (k0_pay73 (k0_pay2 (iblk m c 0 t) (iblk m c 1 t)) w) (iblk m c 5 t) (iblk m c 7 t) (iblk m c 8 t) hd e i
      = gqAt m c (seqOf t) (rowOf t i) ⟨4 + hd.val, by omega⟩ e := by
  have hi : ∀ e : Fin 128, (⟨512 + (hd.val * 128 + e.val), by omega⟩ : Fin 1024) = ⟨(4 + hd.val) * 128 + e.val, by omega⟩ := fun e => Fin.ext (by dsimp only; omega)
  unfold gqHead gqAt Math.gq Math.row
  simp only [gqHi_apply, hRow_blk, hw, hi, inWq, inGq, inCg, inSg]

/-- A head of keys. -/
theorem gk_blk (t : Fin cfg0.N) (hd : Fin 2) (e : Fin 128) (i : Fin 512) :
    gkHead (k0_pay65 (k0_pay2 (iblk m c 0 t) (iblk m c 1 t)) (iblk m c 3 t)) (iblk m c 6 t) (iblk m c 9 t) (iblk m c 10 t) hd i e
      = gkAt m c (seqOf t) (rowOf t i) hd e := by
  unfold gkHead
  refine (Math.turn_roll (gkNorm (k0_pay65 (k0_pay2 (iblk m c 0 t) (iblk m c 1 t)) (iblk m c 3 t)) (iblk m c 6 t) hd i)
    (fun j => argCg m c (ix2 (rowOf t i) j)) (fun j => argSg m c (ix2 (rowOf t i) j)) (fun e => iblk m c 9 t (ix2 i e)) (fun e => iblk m c 10 t (ix2 i e))
    (fun e => (blkCgk m c t i e).trans (arrCgk_apply m c _ e)) (fun e => (blkSgk m c t i e).trans (arrSgk_apply m c _ e)) e).trans ?_
  unfold gkAt Math.gk
  refine congrArg (fun v => Math.turn v _ _ e) (funext fun e => ?_)
  unfold gkNorm Math.row
  simp only [gkAll_apply, hRow_blk, inWk, inGk]

/-- A value of grouped attention. -/
theorem gv_blk (t : Fin cfg0.N) (r : Fin 256) (i : Fin 512) :
    (k0_pay74 (k0_pay2 (iblk m c 0 t) (iblk m c 1 t)) (iblk m c 4 t) (ix2 r i) : EReal)
      = Math.row (hid m c (seqOf t) (rowOf t i)) (wAt m c) ⟨1280 + r.val, by omega⟩ := by
  unfold Math.row
  simp only [gvAll_apply, hRow_blk, inWv]

/-- The latent row of the queries. -/
theorem latQ_blk (t : Fin cfg0.N) (i : Fin 512) (k : Fin 384) :
    Math.rmsOf 0x43C00000#32 (latRow (iblk m c 0 t) (iblk m c 1 t) (iblk m c 11 t) i) (fun k => iblk m c 12 t (ix2 k 0)) k
      = Math.latQ (hid m c (seqOf t) (rowOf t i)) (wAt m c) (fun r => argGa m c (ix1 r)) k := by
  have e : latRow (iblk m c 0 t) (iblk m c 1 t) (iblk m c 11 t) i = fun r => Math.row (hid m c (seqOf t) (rowOf t i)) (wAt m c) ⟨1536 + r.val, by omega⟩ := by
    funext r
    unfold latRow Math.row
    simp only [hRow_blk, inWa]
  unfold Math.latQ
  rw [e]
  simp only [inGa]

/-- A head of queries of latent attention. -/
theorem mq_blk (t : Fin cfg0.N) (hd : Fin 8) (e : Fin 128) (i : Fin 512) :
    mqHead (k0_pay8 (k0_pay3 (iblk m c 0 t) (iblk m c 1 t) (iblk m c 11 t)) (k0_pay6 (iblk m c 12 t)) (k0_pay7 (iblk m c 0 t) (iblk m c 1 t) (iblk m c 11 t)) (iblk m c 13 t))
        (iblk m c 19 t) (iblk m c 20 t) hd e i
      = mqAt m c (seqOf t) (rowOf t i) hd e := by
  unfold mqHead mqAt Math.mq
  simp only [inCm, inSm]
  refine congrArg (fun v => Math.turnMid v _ _ e * scaleM) (funext fun e => ?_)
  refine (mqAll_apply _ _ _ _ _ _ i).trans ?_
  simp only [latQ_blk, inUb]
  by_cases h : e.val < 96
  · simp only [dif_pos h]
    rfl
  · simp only [dif_neg h, mul_zero, Finset.sum_const_zero]

/-- The latent row of the keys and values. -/
theorem latK_blk (t : Fin cfg0.N) (i : Fin 512) (k : Fin 256) :
    Math.rmsOf 0x43800000#32 (latKRow (iblk m c 0 t) (iblk m c 1 t) (iblk m c 14 t) i) (fun k => iblk m c 15 t (ix2 0 k)) k
      = Math.latK (hid m c (seqOf t) (rowOf t i)) (wAt m c) (fun r => argGc m c (ix1 r)) k := by
  have e : latKRow (iblk m c 0 t) (iblk m c 1 t) (iblk m c 14 t) i = fun r => Math.row (hid m c (seqOf t) (rowOf t i)) (wAt m c) ⟨1920 + r.val, by omega⟩ := by
    funext r
    unfold latKRow Math.row
    simp only [hRow_blk, inWc]
  unfold Math.latK
  rw [e]
  simp only [inGc]

/-- The part of a key of latent attention its head has of its own. -/
theorem mk_own (t : Fin cfg0.N) (hd : Fin 8) (e : Fin 128) (i : Fin 512) :
    (k0_pay10 (k0_pay4 (iblk m c 0 t) (iblk m c 1 t) (iblk m c 14 t)) (iblk m c 15 t) (iblk m c 16 t) (ix2 i ⟨hd.val * 128 + e.val, by omega⟩) : EReal)
      = if h : e.val < 64 then Math.row (Math.latK (hid m c (seqOf t) (rowOf t i)) (wAt m c) (fun r => argGc m c (ix1 r))) (fun k r => argUk m c (ix2 k r)) ⟨hd.val * 192 + e.val, by omega⟩ else 0 := by
  refine (mkAll_apply _ _ _ _ _ i _).trans ?_
  simp only [latK_blk, inUk]
  by_cases h : e.val < 64
  · simp only [dif_pos h]
    rfl
  · simp only [dif_neg h, mul_zero, Finset.sum_const_zero]

/-- The part of a key of latent attention all heads share. -/
theorem mk_rot (t : Fin cfg0.N) (e : Fin 128) (i : Fin 512) :
    (k0_pay11 (k0_pay5 (iblk m c 0 t) (iblk m c 1 t) (iblk m c 17 t)) (iblk m c 21 t) (iblk m c 22 t) (ix2 i e) : EReal)
      = if h : e.val < 64 then 0
        else if h' : e.val - 64 < 16 then
          Math.row (hid m c (seqOf t) (rowOf t i)) (wAt m c) ⟨2176 + (e.val - 64), by omega⟩ * argCm m c (ix2 (rowOf t i) ⟨e.val - 64, by omega⟩)
            - Math.row (hid m c (seqOf t) (rowOf t i)) (wAt m c) ⟨2176 + (16 + (e.val - 64)), by omega⟩ * argSm m c (ix2 (rowOf t i) ⟨e.val - 64, by omega⟩)
        else if h'' : e.val - 64 - 16 < 16 then
          Math.row (hid m c (seqOf t) (rowOf t i)) (wAt m c) ⟨2176 + (e.val - 64), by omega⟩ * argCm m c (ix2 (rowOf t i) ⟨e.val - 64 - 16, by omega⟩)
            + Math.row (hid m c (seqOf t) (rowOf t i)) (wAt m c) ⟨2176 + (e.val - 80), by omega⟩ * argSm m c (ix2 (rowOf t i) ⟨e.val - 64 - 16, by omega⟩)
        else 0 := by
  refine (mkRot_apply _ _ _ _ _ i e).trans ?_
  simp only [hRow_blk, inWrLow, inWrHigh, inCmk, inSmk]
  by_cases h : e.val < 64
  · have n1 : ¬(64 ≤ e.val ∧ e.val < 96) := by omega
    have n2 : ¬(64 ≤ e.val ∧ e.val < 80) := by omega
    have n3 : ¬(80 ≤ e.val ∧ e.val < 96) := by omega
    simp only [dif_pos h, dif_neg n1, dif_neg n2, dif_neg n3, mul_zero, add_zero]
  · by_cases h' : e.val - 64 < 16
    · have n1 : 64 ≤ e.val ∧ e.val < 96 := by omega
      have n2 : 64 ≤ e.val ∧ e.val < 80 := by omega
      have n3 : e.val < 80 := by omega
      simp only [dif_neg h, dif_pos h', dif_pos n1, dif_pos n2, if_pos n3]
      exact Math.add_mul_neg _ _ _
    · by_cases h'' : e.val - 64 - 16 < 16
      · have n1 : 64 ≤ e.val ∧ e.val < 96 := by omega
        have n2 : ¬(64 ≤ e.val ∧ e.val < 80) := by omega
        have n3 : ¬e.val < 80 := by omega
        have n4 : 80 ≤ e.val ∧ e.val < 96 := by omega
        simp only [dif_neg h, dif_neg h', dif_pos h'', dif_pos n1, dif_neg n2, if_neg n3, dif_pos n4]
        rfl
      · have n1 : ¬(64 ≤ e.val ∧ e.val < 96) := by omega
        have n2 : ¬(64 ≤ e.val ∧ e.val < 80) := by omega
        have n3 : ¬(80 ≤ e.val ∧ e.val < 96) := by omega
        simp only [dif_neg h, dif_neg h', dif_neg h'', dif_neg n1, dif_neg n2, dif_neg n3, mul_zero, add_zero]

/-- A head of keys of latent attention: its own part and the shared one. -/
theorem mk_blk (t : Fin cfg0.N) (hd : Fin 8) (e : Fin 128) (i : Fin 512) :
    (k0_pay10 (k0_pay4 (iblk m c 0 t) (iblk m c 1 t) (iblk m c 14 t)) (iblk m c 15 t) (iblk m c 16 t) (ix2 i ⟨hd.val * 128 + e.val, by omega⟩) : EReal)
      + k0_pay11 (k0_pay5 (iblk m c 0 t) (iblk m c 1 t) (iblk m c 17 t)) (iblk m c 21 t) (iblk m c 22 t) (ix2 i e)
      = mkAt m c (seqOf t) (rowOf t i) hd e := by
  refine (congrArg₂ (fun x y : EReal => x + y) (mk_own m c t hd e i) (mk_rot m c t e i)).trans ?_
  unfold mkAt Math.mk Math.turnMid
  dsimp only
  by_cases h : e.val < 64
  · simp only [dif_pos h, add_zero]
  · by_cases h' : e.val - 64 < 16
    · have n1 : ¬(64 + (e.val - 64) < 64) := by omega
      have n2 : 64 + (e.val - 64) < 96 := by omega
      have n3 : ¬(80 + (e.val - 64) < 64) := by omega
      have n4 : 80 + (e.val - 64) < 96 := by omega
      have e1 : (⟨2176 + (64 + (e.val - 64) - 64), by omega⟩ : Fin 6304) = ⟨2176 + (e.val - 64), by omega⟩ := Fin.ext (by dsimp only; omega)
      have e2 : (⟨2176 + (80 + (e.val - 64) - 64), by omega⟩ : Fin 6304) = ⟨2176 + (16 + (e.val - 64)), by omega⟩ := Fin.ext (by dsimp only; omega)
      simp only [dif_neg h, dif_pos h', dif_neg n1, dif_pos n2, dif_neg n3, dif_pos n4, zero_add, e1, e2]
    · by_cases h'' : e.val - 64 - 16 < 16
      · have n1 : ¬(64 + (e.val - 64 - 16) < 64) := by omega
        have n2 : 64 + (e.val - 64 - 16) < 96 := by omega
        have n3 : ¬(80 + (e.val - 64 - 16) < 64) := by omega
        have n4 : 80 + (e.val - 64 - 16) < 96 := by omega
        have e1 : (⟨2176 + (64 + (e.val - 64 - 16) - 64), by omega⟩ : Fin 6304) = ⟨2176 + (e.val - 80), by omega⟩ := Fin.ext (by dsimp only; omega)
        have e2 : (⟨2176 + (80 + (e.val - 64 - 16) - 64), by omega⟩ : Fin 6304) = ⟨2176 + (e.val - 64), by omega⟩ := Fin.ext (by dsimp only; omega)
        simp only [dif_neg h, dif_neg h', dif_pos h'', dif_neg n1, dif_pos n2, dif_neg n3, dif_pos n4, zero_add, e1, e2]
      · have n1 : ¬(96 + (e.val - 64 - 16 - 16) < 64) := by omega
        have n2 : ¬(96 + (e.val - 64 - 16 - 16) < 96) := by omega
        simp only [dif_neg h, dif_neg h', dif_neg h'', dif_neg n1, dif_neg n2, zero_add]

/-- A value of latent attention. -/
theorem mv_blk (t : Fin cfg0.N) (hd : Fin 8) (e : Fin 128) (i : Fin 512) :
    (k0_pay31 (k0_pay9 (k0_pay4 (iblk m c 0 t) (iblk m c 1 t) (iblk m c 14 t)) (iblk m c 15 t)) (iblk m c 18 t) (ix2 ⟨hd.val * 128 + e.val, by omega⟩ i) : EReal)
      = Math.row (Math.latK (hid m c (seqOf t) (rowOf t i)) (wAt m c) (fun r => argGc m c (ix1 r))) (fun k r => argUk m c (ix2 k r)) ⟨hd.val * 192 + (64 + e.val), by omega⟩ := by
  refine (mvAll_apply _ _ _ _ _ _ i).trans ?_
  simp only [latK_blk, inUv]
  rfl

end Cert.ProjIdeal.Body

end
-- ==== Proof.ProjPiece.lean ====
module

public import proofs.«01_k».proof.Proof.ProjBlock
public import Idealize.ShloMosaic.Lib.Claim
public import Idealize.ShloMosaic.Lib.Pointwise
public import Idealize.ShloMosaic.Lib.Pipeline.ValueKit

/-! Each piece the kernel stores, at each of its places, is an entry of the queries, keys or values over the arrays the program is given. -/

@[expose] public section

set_option maxRecDepth 16384
set_option maxHeartbeats 4000000

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- An index whose first three places have one entry each, and the same of two. -/
theorem eta5 {p q : Nat} (x : (⟨5, ![1, 1, 1, p, q]⟩ : Shape).Idx) : ∃ (e : Fin p) (i : Fin q), x = ix5 0 0 0 e i := ⟨x 3, x 4, by
  have h0 : (x 0).val < 1 := (x 0).isLt
  have h1 : (x 1).val < 1 := (x 1).isLt
  have h2 : (x 2).val < 1 := (x 2).isLt
  funext a
  match a with
  | ⟨0, _⟩ => exact Fin.ext (by show (x 0).val = 0; omega)
  | ⟨1, _⟩ => exact Fin.ext (by show (x 1).val = 0; omega)
  | ⟨2, _⟩ => exact Fin.ext (by show (x 2).val = 0; omega)
  | ⟨3, _⟩ => rfl
  | ⟨4, _⟩ => rfl⟩
theorem eta4 {p q : Nat} (x : (⟨4, ![1, 1, p, q]⟩ : Shape).Idx) : ∃ (i : Fin p) (e : Fin q), x = ix4 0 0 i e := ⟨x 2, x 3, by
  have h0 : (x 0).val < 1 := (x 0).isLt
  have h1 : (x 1).val < 1 := (x 1).isLt
  funext a
  match a with
  | ⟨0, _⟩ => exact Fin.ext (by show (x 0).val = 0; omega)
  | ⟨1, _⟩ => exact Fin.ext (by show (x 1).val = 0; omega)
  | ⟨2, _⟩ => rfl
  | ⟨3, _⟩ => rfl⟩

theorem gvAt_low (b : Fin 4) (s : Fin 8192) (hd : Fin 2) (e : Fin 128) : gvAt m c b s hd ⟨e.val, by omega⟩ = Math.row (hid m c b s) (wAt m c) ⟨1280 + (hd.val * 128 + e.val), by omega⟩ := by
  unfold gvAt Math.gv Math.withOne
  rw [dif_pos (show e.val < 128 from e.isLt)]

theorem gvAt_high (b : Fin 4) (s : Fin 8192) (hd : Fin 2) (e : Fin 16) : gvAt m c b s hd ⟨128 + e.val, by omega⟩ = if e.val = 0 then 1 else 0 := by
  unfold gvAt Math.gv Math.withOne
  rw [dif_neg (show ¬128 + e.val < 128 by omega)]
  refine if_congr ?_ rfl rfl
  show 128 + e.val = 128 ↔ e.val = 0
  omega

theorem mvAt_low (b : Fin 4) (s : Fin 8192) (hd : Fin 8) (e : Fin 128) : mvAt m c b s hd ⟨e.val, by omega⟩ = Math.row (Math.latK (hid m c b s) (wAt m c) (fun r => argGc m c (ix1 r))) (fun k r => argUk m c (ix2 k r)) ⟨hd.val * 192 + (64 + e.val), by omega⟩ := by
  unfold mvAt Math.mv Math.withOne
  rw [dif_pos (show e.val < 128 from e.isLt)]

theorem mvAt_high (b : Fin 4) (s : Fin 8192) (hd : Fin 8) (e : Fin 16) : mvAt m c b s hd ⟨128 + e.val, by omega⟩ = if e.val = 0 then 1 else 0 := by
  unfold mvAt Math.mv Math.withOne
  rw [dif_neg (show ¬128 + e.val < 128 by omega)]
  refine if_congr ?_ rfl rfl
  show 128 + e.val = 128 ↔ e.val = 0
  omega

theorem pieceGq0 (t : Fin cfg0.N) (w : Vec Ideal S512x1024 .bf16) (hw : ∀ (r : Fin 512) (d : Fin 1024), (w (ix2 r d) : EReal) = iblk m c 2 t (ix2 ⟨r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay80 cc ss (k0_pay76 gg (k0_pay66 (k0_pay2 (iblk m c 0 t) (iblk m c 1 t)) w)) (k0_pay77 gg (k0_pay66 (k0_pay2 (iblk m c 0 t) (iblk m c 1 t)) w)) (k0_pay78 cc gg (k0_pay66 (k0_pay2 (iblk m c 0 t) (iblk m c 1 t)) w)) (k0_pay79 ss gg (k0_pay66 (k0_pay2 (iblk m c 0 t) (iblk m c 1 t)) w)) x : EReal) = gqAt m c (seqOf t) (rowOf t (x 4)) 0 (x 3) := by
  subst hg hc hs
  obtain ⟨e, i, rfl⟩ := eta5 x
  exact (gq0 (k0_pay66 (k0_pay2 (iblk m c 0 t) (iblk m c 1 t)) w) (iblk m c 5 t) (iblk m c 7 t) (iblk m c 8 t) e i).trans (gq_lo m c t w hw 0 e i)

theorem pieceGq1 (t : Fin cfg0.N) (w : Vec Ideal S512x1024 .bf16) (hw : ∀ (r : Fin 512) (d : Fin 1024), (w (ix2 r d) : EReal) = iblk m c 2 t (ix2 ⟨r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay81 cc ss gg (k0_pay66 (k0_pay2 (iblk m c 0 t) (iblk m c 1 t)) w) x : EReal) = gqAt m c (seqOf t) (rowOf t (x 4)) 1 (x 3) := by
  subst hg hc hs
  obtain ⟨e, i, rfl⟩ := eta5 x
  exact (gq1 (k0_pay66 (k0_pay2 (iblk m c 0 t) (iblk m c 1 t)) w) (iblk m c 5 t) (iblk m c 7 t) (iblk m c 8 t) e i).trans (gq_lo m c t w hw 1 e i)

theorem pieceGq2 (t : Fin cfg0.N) (w : Vec Ideal S512x1024 .bf16) (hw : ∀ (r : Fin 512) (d : Fin 1024), (w (ix2 r d) : EReal) = iblk m c 2 t (ix2 ⟨r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay84 cc ss gg (k0_pay82 (k0_pay66 (k0_pay2 (iblk m c 0 t) (iblk m c 1 t)) w)) (k0_pay83 (k0_pay66 (k0_pay2 (iblk m c 0 t) (iblk m c 1 t)) w)) x : EReal) = gqAt m c (seqOf t) (rowOf t (x 4)) 2 (x 3) := by
  subst hg hc hs
  obtain ⟨e, i, rfl⟩ := eta5 x
  exact (gq2 (k0_pay66 (k0_pay2 (iblk m c 0 t) (iblk m c 1 t)) w) (iblk m c 5 t) (iblk m c 7 t) (iblk m c 8 t) e i).trans (gq_lo m c t w hw 2 e i)

theorem pieceGq3 (t : Fin cfg0.N) (w : Vec Ideal S512x1024 .bf16) (hw : ∀ (r : Fin 512) (d : Fin 1024), (w (ix2 r d) : EReal) = iblk m c 2 t (ix2 ⟨r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay86 (k0_pay85 cc ss gg (k0_pay66 (k0_pay2 (iblk m c 0 t) (iblk m c 1 t)) w)) scaleG x : EReal) = gqAt m c (seqOf t) (rowOf t (x 4)) 3 (x 3) := by
  subst hg hc hs
  obtain ⟨e, i, rfl⟩ := eta5 x
  exact (gq3 (k0_pay66 (k0_pay2 (iblk m c 0 t) (iblk m c 1 t)) w) (iblk m c 5 t) (iblk m c 7 t) (iblk m c 8 t) e i).trans (gq_lo m c t w hw 3 e i)

theorem pieceGq4 (t : Fin cfg0.N) (w : Vec Ideal S512x1024 .bf16) (hw : ∀ (r : Fin 512) (d : Fin 1024), (w (ix2 r d) : EReal) = iblk m c 2 t (ix2 ⟨512 + r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay87 cc ss gg (k0_pay73 (k0_pay2 (iblk m c 0 t) (iblk m c 1 t)) w) x : EReal) = gqAt m c (seqOf t) (rowOf t (x 4)) 4 (x 3) := by
  subst hg hc hs
  obtain ⟨e, i, rfl⟩ := eta5 x
  exact (gq4 (k0_pay73 (k0_pay2 (iblk m c 0 t) (iblk m c 1 t)) w) (iblk m c 5 t) (iblk m c 7 t) (iblk m c 8 t) e i).trans (gq_hi m c t w hw 0 e i)

theorem pieceGq5 (t : Fin cfg0.N) (w : Vec Ideal S512x1024 .bf16) (hw : ∀ (r : Fin 512) (d : Fin 1024), (w (ix2 r d) : EReal) = iblk m c 2 t (ix2 ⟨512 + r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay91 cc ss gg (k0_pay88 (k0_pay73 (k0_pay2 (iblk m c 0 t) (iblk m c 1 t)) w)) (k0_pay89 (k0_pay73 (k0_pay2 (iblk m c 0 t) (iblk m c 1 t)) w)) (k0_pay90 (F := Ideal)) x : EReal) = gqAt m c (seqOf t) (rowOf t (x 4)) 5 (x 3) := by
  subst hg hc hs
  obtain ⟨e, i, rfl⟩ := eta5 x
  exact (gq5 (k0_pay73 (k0_pay2 (iblk m c 0 t) (iblk m c 1 t)) w) (iblk m c 5 t) (iblk m c 7 t) (iblk m c 8 t) e i).trans (gq_hi m c t w hw 1 e i)

theorem pieceGq6 (t : Fin cfg0.N) (w : Vec Ideal S512x1024 .bf16) (hw : ∀ (r : Fin 512) (d : Fin 1024), (w (ix2 r d) : EReal) = iblk m c 2 t (ix2 ⟨512 + r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay93 (k0_pay92 cc ss gg (k0_pay73 (k0_pay2 (iblk m c 0 t) (iblk m c 1 t)) w)) x : EReal) = gqAt m c (seqOf t) (rowOf t (x 4)) 6 (x 3) := by
  subst hg hc hs
  obtain ⟨e, i, rfl⟩ := eta5 x
  exact (gq6 (k0_pay73 (k0_pay2 (iblk m c 0 t) (iblk m c 1 t)) w) (iblk m c 5 t) (iblk m c 7 t) (iblk m c 8 t) e i).trans (gq_hi m c t w hw 2 e i)

theorem pieceGq7 (t : Fin cfg0.N) (w : Vec Ideal S512x1024 .bf16) (hw : ∀ (r : Fin 512) (d : Fin 1024), (w (ix2 r d) : EReal) = iblk m c 2 t (ix2 ⟨512 + r.val, by omega⟩ d))
    (gg : FVec Ideal S128x1 .f32) (cc ss : FVec Ideal S64x512 .f32) (hg : gg = iblk m c 5 t) (hc : cc = iblk m c 7 t) (hs : ss = iblk m c 8 t) (x : S1x1x1x128x512.Idx) : (k0_pay94 cc ss gg (k0_pay73 (k0_pay2 (iblk m c 0 t) (iblk m c 1 t)) w) x : EReal) = gqAt m c (seqOf t) (rowOf t (x 4)) 7 (x 3) := by
  subst hg hc hs
  obtain ⟨e, i, rfl⟩ := eta5 x
  exact (gq7 (k0_pay73 (k0_pay2 (iblk m c 0 t) (iblk m c 1 t)) w) (iblk m c 5 t) (iblk m c 7 t) (iblk m c 8 t) e i).trans (gq_hi m c t w hw 3 e i)

theorem pieceGk0 (t : Fin cfg0.N) (x : S1x1x512x128.Idx) : (k0_pay67 (k0_pay65 (k0_pay2 (iblk m c 0 t) (iblk m c 1 t)) (iblk m c 3 t)) (iblk m c 6 t) (iblk m c 9 t) (iblk m c 10 t) x : EReal) = gkAt m c (seqOf t) (rowOf t (x 2)) 0 (x 3) := by
  obtain ⟨i, e, rfl⟩ := eta4 x
  exact (gk0 (k0_pay65 (k0_pay2 (iblk m c 0 t) (iblk m c 1 t)) (iblk m c 3 t)) (iblk m c 6 t) (iblk m c 9 t) (iblk m c 10 t) i e).trans (gk_blk m c t 0 e i)

theorem pieceGk1 (t : Fin cfg0.N) (x : S1x1x512x128.Idx) : (k0_pay72 (k0_pay68 (k0_pay65 (k0_pay2 (iblk m c 0 t) (iblk m c 1 t)) (iblk m c 3 t))) (k0_pay69 (iblk m c 6 t)) (k0_pay70 (k0_pay65 (k0_pay2 (iblk m c 0 t) (iblk m c 1 t)) (iblk m c 3 t))) (k0_pay71 (F := Ideal)) (iblk m c 9 t) (iblk m c 10 t) x : EReal) = gkAt m c (seqOf t) (rowOf t (x 2)) 1 (x 3) := by
  obtain ⟨i, e, rfl⟩ := eta4 x
  exact (gk1 (k0_pay65 (k0_pay2 (iblk m c 0 t) (iblk m c 1 t)) (iblk m c 3 t)) (iblk m c 6 t) (iblk m c 9 t) (iblk m c 10 t) i e).trans (gk_blk m c t 1 e i)

theorem pieceGv0 (t : Fin cfg0.N) (x : S1x1x1x128x512.Idx) : (k0_pay95 (k0_pay74 (k0_pay2 (iblk m c 0 t) (iblk m c 1 t)) (iblk m c 4 t)) x : EReal) = gvAt m c (seqOf t) (rowOf t (x 4)) 0 ⟨(x 3).val, Nat.lt_trans (x 3).isLt (by decide)⟩ := by
  obtain ⟨e, i, rfl⟩ := eta5 x
  exact (gv0 (k0_pay74 (k0_pay2 (iblk m c 0 t) (iblk m c 1 t)) (iblk m c 4 t)) e i).trans ((gv_blk m c t _ i).trans (gvAt_low m c _ _ 0 e).symm)

theorem pieceGo0 (t : Fin cfg0.N) (x : S1x1x1x16x512.Idx) : (k0_pay96 (F := Ideal) (iota .tc S16x512 32 [0] iota_S16x512_d0_w32) 0#32 x : EReal) = gvAt m c (seqOf t) (rowOf t (x 4)) 0 ⟨128 + (x 3).val, Nat.add_lt_add_left (x 3).isLt 128⟩ := by
  obtain ⟨e, i, rfl⟩ := eta5 x
  exact (go0 e i).trans (gvAt_high m c _ _ 0 e).symm

theorem pieceGv1 (t : Fin cfg0.N) (x : S1x1x1x128x512.Idx) : (k0_pay97 (k0_pay74 (k0_pay2 (iblk m c 0 t) (iblk m c 1 t)) (iblk m c 4 t)) x : EReal) = gvAt m c (seqOf t) (rowOf t (x 4)) 1 ⟨(x 3).val, Nat.lt_trans (x 3).isLt (by decide)⟩ := by
  obtain ⟨e, i, rfl⟩ := eta5 x
  exact (gv1 (k0_pay74 (k0_pay2 (iblk m c 0 t) (iblk m c 1 t)) (iblk m c 4 t)) e i).trans ((gv_blk m c t _ i).trans (gvAt_low m c _ _ 1 e).symm)

theorem pieceGo1 (t : Fin cfg0.N) (x : S1x1x1x16x512.Idx) : (k0_pay1 (F := Ideal) k0_pay98 (Scalar.ofBits (F := Ideal) .f32 0x00000000#32) k0_pay99 x : EReal) = gvAt m c (seqOf t) (rowOf t (x 4)) 1 ⟨128 + (x 3).val, Nat.add_lt_add_left (x 3).isLt 128⟩ := by
  obtain ⟨e, i, rfl⟩ := eta5 x
  exact (go1 e i).trans (gvAt_high m c _ _ 1 e).symm

theorem pieceMq0 (t : Fin cfg0.N) (cc ss : FVec Ideal S16x512 .f32) (hc : cc = iblk m c 19 t) (hs : ss = iblk m c 20 t) (x : S1x1x1x128x512.Idx) : (k0_pay16 cc ss (k0_pay14 (k0_pay3 (iblk m c 0 t) (iblk m c 1 t) (iblk m c 11 t)) (k0_pay6 (iblk m c 12 t)) (k0_pay7 (iblk m c 0 t) (iblk m c 1 t) (iblk m c 11 t)) (iblk m c 13 t)) (k0_pay15 (k0_pay3 (iblk m c 0 t) (iblk m c 1 t) (iblk m c 11 t)) (k0_pay6 (iblk m c 12 t)) (k0_pay7 (iblk m c 0 t) (iblk m c 1 t) (iblk m c 11 t)) (iblk m c 13 t)) x : EReal) = mqAt m c (seqOf t) (rowOf t (x 4)) 0 (x 3) := by
  subst hc hs
  obtain ⟨e, i, rfl⟩ := eta5 x
  exact (mq0 (k0_pay3 (iblk m c 0 t) (iblk m c 1 t) (iblk m c 11 t)) (k0_pay6 (iblk m c 12 t)) (k0_pay7 (iblk m c 0 t) (iblk m c 1 t) (iblk m c 11 t)) (iblk m c 13 t) (iblk m c 19 t) (iblk m c 20 t) e i).trans (mq_blk m c t 0 e i)

theorem pieceMq1 (t : Fin cfg0.N) (cc ss : FVec Ideal S16x512 .f32) (hc : cc = iblk m c 19 t) (hs : ss = iblk m c 20 t) (x : S1x1x1x128x512.Idx) : (k0_pay17 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) cc ss x : EReal) = mqAt m c (seqOf t) (rowOf t (x 4)) 1 (x 3) := by
  subst hc hs
  obtain ⟨e, i, rfl⟩ := eta5 x
  exact (mq1 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) (iblk m c 19 t) (iblk m c 20 t) e i).trans (mq_blk m c t 1 e i)

theorem pieceMq2 (t : Fin cfg0.N) (cc ss : FVec Ideal S16x512 .f32) (hc : cc = iblk m c 19 t) (hs : ss = iblk m c 20 t) (x : S1x1x1x128x512.Idx) : (k0_pay19 (k0_pay18 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) cc ss) x : EReal) = mqAt m c (seqOf t) (rowOf t (x 4)) 2 (x 3) := by
  subst hc hs
  obtain ⟨e, i, rfl⟩ := eta5 x
  exact (mq2 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) (iblk m c 19 t) (iblk m c 20 t) e i).trans (mq_blk m c t 2 e i)

theorem pieceMq3 (t : Fin cfg0.N) (cc ss : FVec Ideal S16x512 .f32) (hc : cc = iblk m c 19 t) (hs : ss = iblk m c 20 t) (x : S1x1x1x128x512.Idx) : (k0_pay20 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) cc ss x : EReal) = mqAt m c (seqOf t) (rowOf t (x 4)) 3 (x 3) := by
  subst hc hs
  obtain ⟨e, i, rfl⟩ := eta5 x
  exact (mq3 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) (iblk m c 19 t) (iblk m c 20 t) e i).trans (mq_blk m c t 3 e i)

theorem pieceMq4 (t : Fin cfg0.N) (cc ss : FVec Ideal S16x512 .f32) (hc : cc = iblk m c 19 t) (hs : ss = iblk m c 20 t) (x : S1x1x1x128x512.Idx) : (k0_pay22 (k0_pay21 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) cc ss) x : EReal) = mqAt m c (seqOf t) (rowOf t (x 4)) 4 (x 3) := by
  subst hc hs
  obtain ⟨e, i, rfl⟩ := eta5 x
  exact (mq4 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) (iblk m c 19 t) (iblk m c 20 t) e i).trans (mq_blk m c t 4 e i)

theorem pieceMq5 (t : Fin cfg0.N) (cc ss : FVec Ideal S16x512 .f32) (hc : cc = iblk m c 19 t) (hs : ss = iblk m c 20 t) (x : S1x1x1x128x512.Idx) : (k0_pay23 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) cc ss x : EReal) = mqAt m c (seqOf t) (rowOf t (x 4)) 5 (x 3) := by
  subst hc hs
  obtain ⟨e, i, rfl⟩ := eta5 x
  exact (mq5 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) (iblk m c 19 t) (iblk m c 20 t) e i).trans (mq_blk m c t 5 e i)

theorem pieceMq6 (t : Fin cfg0.N) (cc ss : FVec Ideal S16x512 .f32) (hc : cc = iblk m c 19 t) (hs : ss = iblk m c 20 t) (x : S1x1x1x128x512.Idx) : (k0_pay24 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) cc ss x : EReal) = mqAt m c (seqOf t) (rowOf t (x 4)) 6 (x 3) := by
  subst hc hs
  obtain ⟨e, i, rfl⟩ := eta5 x
  exact (mq6 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) (iblk m c 19 t) (iblk m c 20 t) e i).trans (mq_blk m c t 6 e i)

theorem pieceMq7 (t : Fin cfg0.N) (cc ss : FVec Ideal S16x512 .f32) (hc : cc = iblk m c 19 t) (hs : ss = iblk m c 20 t) (x : S1x1x1x128x512.Idx) : (k0_pay30 cc ss (k0_pay25 (k0_pay8 (k0_pay3 (iblk m c 0 t) (iblk m c 1 t) (iblk m c 11 t)) (k0_pay6 (iblk m c 12 t)) (k0_pay7 (iblk m c 0 t) (iblk m c 1 t) (iblk m c 11 t)) (iblk m c 13 t))) (k0_pay26 (k0_pay8 (k0_pay3 (iblk m c 0 t) (iblk m c 1 t) (iblk m c 11 t)) (k0_pay6 (iblk m c 12 t)) (k0_pay7 (iblk m c 0 t) (iblk m c 1 t) (iblk m c 11 t)) (iblk m c 13 t))) (k0_pay27 (k0_pay8 (k0_pay3 (iblk m c 0 t) (iblk m c 1 t) (iblk m c 11 t)) (k0_pay6 (iblk m c 12 t)) (k0_pay7 (iblk m c 0 t) (iblk m c 1 t) (iblk m c 11 t)) (iblk m c 13 t))) (k0_pay28 (k0_pay8 (k0_pay3 (iblk m c 0 t) (iblk m c 1 t) (iblk m c 11 t)) (k0_pay6 (iblk m c 12 t)) (k0_pay7 (iblk m c 0 t) (iblk m c 1 t) (iblk m c 11 t)) (iblk m c 13 t))) (k0_pay29 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) cc ss) x : EReal) = mqAt m c (seqOf t) (rowOf t (x 4)) 7 (x 3) := by
  subst hc hs
  obtain ⟨e, i, rfl⟩ := eta5 x
  exact (mq7 (k0_pay8 (k0_pay3 (iblk m c 0 t) (iblk m c 1 t) (iblk m c 11 t)) (k0_pay6 (iblk m c 12 t)) (k0_pay7 (iblk m c 0 t) (iblk m c 1 t) (iblk m c 11 t)) (iblk m c 13 t)) (iblk m c 19 t) (iblk m c 20 t) e i).trans (mq_blk m c t 7 e i)

theorem pieceMk0 (t : Fin cfg0.N) (x : S1x1x512x128.Idx) : (k0_pay32 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) x : EReal) = mkAt m c (seqOf t) (rowOf t (x 2)) 0 (x 3) := by
  obtain ⟨i, e, rfl⟩ := eta4 x
  exact (mk0 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 0 e i)

theorem pieceMk1 (t : Fin cfg0.N) (x : S1x1x512x128.Idx) : (k0_pay33 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) x : EReal) = mkAt m c (seqOf t) (rowOf t (x 2)) 1 (x 3) := by
  obtain ⟨i, e, rfl⟩ := eta4 x
  exact (mk1 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 1 e i)

theorem pieceMk2 (t : Fin cfg0.N) (x : S1x1x512x128.Idx) : (k0_pay34 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) x : EReal) = mkAt m c (seqOf t) (rowOf t (x 2)) 2 (x 3) := by
  obtain ⟨i, e, rfl⟩ := eta4 x
  exact (mk2 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 2 e i)

theorem pieceMk3 (t : Fin cfg0.N) (x : S1x1x512x128.Idx) : (k0_pay36 (k0_pay35 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t))) x : EReal) = mkAt m c (seqOf t) (rowOf t (x 2)) 3 (x 3) := by
  obtain ⟨i, e, rfl⟩ := eta4 x
  exact (mk3 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 3 e i)

theorem pieceMk4 (t : Fin cfg0.N) (x : S1x1x512x128.Idx) : (k0_pay37 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) x : EReal) = mkAt m c (seqOf t) (rowOf t (x 2)) 4 (x 3) := by
  obtain ⟨i, e, rfl⟩ := eta4 x
  exact (mk4 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 4 e i)

theorem pieceMk5 (t : Fin cfg0.N) (x : S1x1x512x128.Idx) : (k0_pay38 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) x : EReal) = mkAt m c (seqOf t) (rowOf t (x 2)) 5 (x 3) := by
  obtain ⟨i, e, rfl⟩ := eta4 x
  exact (mk5 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 5 e i)

theorem pieceMk6 (t : Fin cfg0.N) (x : S1x1x512x128.Idx) : (k0_pay39 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) x : EReal) = mkAt m c (seqOf t) (rowOf t (x 2)) 6 (x 3) := by
  obtain ⟨i, e, rfl⟩ := eta4 x
  exact (mk6 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 6 e i)

theorem pieceMk7 (t : Fin cfg0.N) (x : S1x1x512x128.Idx) : (k0_pay40 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) x : EReal) = mkAt m c (seqOf t) (rowOf t (x 2)) 7 (x 3) := by
  obtain ⟨i, e, rfl⟩ := eta4 x
  exact (mk7 (k0_pay10 (k0_pay4 (iblk m c 0 t) (iblk m c 1 t) (iblk m c 14 t)) (iblk m c 15 t) (iblk m c 16 t)) (k0_pay11 (k0_pay5 (iblk m c 0 t) (iblk m c 1 t) (iblk m c 17 t)) (iblk m c 21 t) (iblk m c 22 t)) i e).trans (mk_blk m c t 7 e i)

theorem pieceMv0 (t : Fin cfg0.N) (x : S1x1x1x128x512.Idx) : (k0_pay42 (k0_pay41 (k0_pay31 (k0_pay9 (k0_pay4 (iblk m c 0 t) (iblk m c 1 t) (iblk m c 14 t)) (iblk m c 15 t)) (iblk m c 18 t))) x : EReal) = mvAt m c (seqOf t) (rowOf t (x 4)) 0 ⟨(x 3).val, Nat.lt_trans (x 3).isLt (by decide)⟩ := by
  obtain ⟨e, i, rfl⟩ := eta5 x
  exact (mv0 (k0_pay31 (k0_pay9 (k0_pay4 (iblk m c 0 t) (iblk m c 1 t) (iblk m c 14 t)) (iblk m c 15 t)) (iblk m c 18 t)) e i).trans ((mv_blk m c t 0 e i).trans (mvAt_low m c _ _ 0 e).symm)

theorem pieceMo0 (t : Fin cfg0.N) (x : S1x1x1x16x512.Idx) : (k0_pay43 (F := Ideal) x : EReal) = mvAt m c (seqOf t) (rowOf t (x 4)) 0 ⟨128 + (x 3).val, Nat.add_lt_add_left (x 3).isLt 128⟩ := by
  obtain ⟨e, i, rfl⟩ := eta5 x
  exact (mo0 e i).trans (mvAt_high m c _ _ 0 e).symm

theorem pieceMv1 (t : Fin cfg0.N) (x : S1x1x1x128x512.Idx) : (k0_pay44 (k0_pay31 (k0_pay9 (k0_pay4 (iblk m c 0 t) (iblk m c 1 t) (iblk m c 14 t)) (iblk m c 15 t)) (iblk m c 18 t)) x : EReal) = mvAt m c (seqOf t) (rowOf t (x 4)) 1 ⟨(x 3).val, Nat.lt_trans (x 3).isLt (by decide)⟩ := by
  obtain ⟨e, i, rfl⟩ := eta5 x
  exact (mv1 (k0_pay31 (k0_pay9 (k0_pay4 (iblk m c 0 t) (iblk m c 1 t) (iblk m c 14 t)) (iblk m c 15 t)) (iblk m c 18 t)) e i).trans ((mv_blk m c t 1 e i).trans (mvAt_low m c _ _ 1 e).symm)

theorem pieceMo1 (t : Fin cfg0.N) (x : S1x1x1x16x512.Idx) : (k0_pay46 (k0_pay45 (F := Ideal)) x : EReal) = mvAt m c (seqOf t) (rowOf t (x 4)) 1 ⟨128 + (x 3).val, Nat.add_lt_add_left (x 3).isLt 128⟩ := by
  obtain ⟨e, i, rfl⟩ := eta5 x
  exact (mo1 e i).trans (mvAt_high m c _ _ 1 e).symm

theorem pieceMv2 (t : Fin cfg0.N) (x : S1x1x1x128x512.Idx) : (k0_pay47 (k0_pay31 (k0_pay9 (k0_pay4 (iblk m c 0 t) (iblk m c 1 t) (iblk m c 14 t)) (iblk m c 15 t)) (iblk m c 18 t)) x : EReal) = mvAt m c (seqOf t) (rowOf t (x 4)) 2 ⟨(x 3).val, Nat.lt_trans (x 3).isLt (by decide)⟩ := by
  obtain ⟨e, i, rfl⟩ := eta5 x
  exact (mv2 (k0_pay31 (k0_pay9 (k0_pay4 (iblk m c 0 t) (iblk m c 1 t) (iblk m c 14 t)) (iblk m c 15 t)) (iblk m c 18 t)) e i).trans ((mv_blk m c t 2 e i).trans (mvAt_low m c _ _ 2 e).symm)

theorem pieceMo2 (t : Fin cfg0.N) (x : S1x1x1x16x512.Idx) : (k0_pay48 (F := Ideal) x : EReal) = mvAt m c (seqOf t) (rowOf t (x 4)) 2 ⟨128 + (x 3).val, Nat.add_lt_add_left (x 3).isLt 128⟩ := by
  obtain ⟨e, i, rfl⟩ := eta5 x
  exact (mo2 e i).trans (mvAt_high m c _ _ 2 e).symm

theorem pieceMv3 (t : Fin cfg0.N) (x : S1x1x1x128x512.Idx) : (k0_pay49 (k0_pay31 (k0_pay9 (k0_pay4 (iblk m c 0 t) (iblk m c 1 t) (iblk m c 14 t)) (iblk m c 15 t)) (iblk m c 18 t)) x : EReal) = mvAt m c (seqOf t) (rowOf t (x 4)) 3 ⟨(x 3).val, Nat.lt_trans (x 3).isLt (by decide)⟩ := by
  obtain ⟨e, i, rfl⟩ := eta5 x
  exact (mv3 (k0_pay31 (k0_pay9 (k0_pay4 (iblk m c 0 t) (iblk m c 1 t) (iblk m c 14 t)) (iblk m c 15 t)) (iblk m c 18 t)) e i).trans ((mv_blk m c t 3 e i).trans (mvAt_low m c _ _ 3 e).symm)

theorem pieceMo3 (t : Fin cfg0.N) (x : S1x1x1x16x512.Idx) : (k0_pay51 (F := Ideal) k0_pay50 (Scalar.ofBits (F := Ideal) .f32 0x3F800000#32) (Scalar.ofBits (F := Ideal) .f32 0x00000000#32) x : EReal) = mvAt m c (seqOf t) (rowOf t (x 4)) 3 ⟨128 + (x 3).val, Nat.add_lt_add_left (x 3).isLt 128⟩ := by
  obtain ⟨e, i, rfl⟩ := eta5 x
  exact (mo3 e i).trans (mvAt_high m c _ _ 3 e).symm

theorem pieceMv4 (t : Fin cfg0.N) (x : S1x1x1x128x512.Idx) : (k0_pay52 (k0_pay31 (k0_pay9 (k0_pay4 (iblk m c 0 t) (iblk m c 1 t) (iblk m c 14 t)) (iblk m c 15 t)) (iblk m c 18 t)) x : EReal) = mvAt m c (seqOf t) (rowOf t (x 4)) 4 ⟨(x 3).val, Nat.lt_trans (x 3).isLt (by decide)⟩ := by
  obtain ⟨e, i, rfl⟩ := eta5 x
  exact (mv4 (k0_pay31 (k0_pay9 (k0_pay4 (iblk m c 0 t) (iblk m c 1 t) (iblk m c 14 t)) (iblk m c 15 t)) (iblk m c 18 t)) e i).trans ((mv_blk m c t 4 e i).trans (mvAt_low m c _ _ 4 e).symm)

theorem pieceMo4 (t : Fin cfg0.N) (x : S1x1x1x16x512.Idx) : (k0_pay53 (F := Ideal) x : EReal) = mvAt m c (seqOf t) (rowOf t (x 4)) 4 ⟨128 + (x 3).val, Nat.add_lt_add_left (x 3).isLt 128⟩ := by
  obtain ⟨e, i, rfl⟩ := eta5 x
  exact (mo4 e i).trans (mvAt_high m c _ _ 4 e).symm

theorem pieceMv5 (t : Fin cfg0.N) (x : S1x1x1x128x512.Idx) : (k0_pay55 (k0_pay54 (k0_pay31 (k0_pay9 (k0_pay4 (iblk m c 0 t) (iblk m c 1 t) (iblk m c 14 t)) (iblk m c 15 t)) (iblk m c 18 t))) x : EReal) = mvAt m c (seqOf t) (rowOf t (x 4)) 5 ⟨(x 3).val, Nat.lt_trans (x 3).isLt (by decide)⟩ := by
  obtain ⟨e, i, rfl⟩ := eta5 x
  exact (mv5 (k0_pay31 (k0_pay9 (k0_pay4 (iblk m c 0 t) (iblk m c 1 t) (iblk m c 14 t)) (iblk m c 15 t)) (iblk m c 18 t)) e i).trans ((mv_blk m c t 5 e i).trans (mvAt_low m c _ _ 5 e).symm)

theorem pieceMo5 (t : Fin cfg0.N) (x : S1x1x1x16x512.Idx) : (k0_pay56 (F := Ideal) x : EReal) = mvAt m c (seqOf t) (rowOf t (x 4)) 5 ⟨128 + (x 3).val, Nat.add_lt_add_left (x 3).isLt 128⟩ := by
  obtain ⟨e, i, rfl⟩ := eta5 x
  exact (mo5 e i).trans (mvAt_high m c _ _ 5 e).symm

theorem pieceMv6 (t : Fin cfg0.N) (x : S1x1x1x128x512.Idx) : (k0_pay57 (k0_pay31 (k0_pay9 (k0_pay4 (iblk m c 0 t) (iblk m c 1 t) (iblk m c 14 t)) (iblk m c 15 t)) (iblk m c 18 t)) x : EReal) = mvAt m c (seqOf t) (rowOf t (x 4)) 6 ⟨(x 3).val, Nat.lt_trans (x 3).isLt (by decide)⟩ := by
  obtain ⟨e, i, rfl⟩ := eta5 x
  exact (mv6 (k0_pay31 (k0_pay9 (k0_pay4 (iblk m c 0 t) (iblk m c 1 t) (iblk m c 14 t)) (iblk m c 15 t)) (iblk m c 18 t)) e i).trans ((mv_blk m c t 6 e i).trans (mvAt_low m c _ _ 6 e).symm)

theorem pieceMo6 (t : Fin cfg0.N) (x : S1x1x1x16x512.Idx) : (k0_pay59 (k0_pay58 (F := Ideal)) x : EReal) = mvAt m c (seqOf t) (rowOf t (x 4)) 6 ⟨128 + (x 3).val, Nat.add_lt_add_left (x 3).isLt 128⟩ := by
  obtain ⟨e, i, rfl⟩ := eta5 x
  exact (mo6 e i).trans (mvAt_high m c _ _ 6 e).symm

theorem pieceMv7 (t : Fin cfg0.N) (x : S1x1x1x128x512.Idx) : (k0_pay60 (k0_pay31 (k0_pay9 (k0_pay4 (iblk m c 0 t) (iblk m c 1 t) (iblk m c 14 t)) (iblk m c 15 t)) (iblk m c 18 t)) x : EReal) = mvAt m c (seqOf t) (rowOf t (x 4)) 7 ⟨(x 3).val, Nat.lt_trans (x 3).isLt (by decide)⟩ := by
  obtain ⟨e, i, rfl⟩ := eta5 x
  exact (mv7 (k0_pay31 (k0_pay9 (k0_pay4 (iblk m c 0 t) (iblk m c 1 t) (iblk m c 14 t)) (iblk m c 15 t)) (iblk m c 18 t)) e i).trans ((mv_blk m c t 7 e i).trans (mvAt_low m c _ _ 7 e).symm)

theorem pieceMo7 (t : Fin cfg0.N) (x : S1x1x1x16x512.Idx) : (k0_pay61 (F := Ideal) x : EReal) = mvAt m c (seqOf t) (rowOf t (x 4)) 7 ⟨128 + (x 3).val, Nat.add_lt_add_left (x 3).isLt 128⟩ := by
  obtain ⟨e, i, rfl⟩ := eta5 x
  exact (mo7 e i).trans (mvAt_high m c _ _ 7 e).symm

end Cert.ProjIdeal.Body

end
-- ==== Proof.ProjOut23.lean ====
module

public import proofs.«01_k».proof.Proof.ProjIdealFrame
public import proofs.«01_k».proof.Proof.ProjPiece
public import Idealize.ShloMosaic.Lib.Claim
public import Idealize.ShloMosaic.Lib.Pointwise
public import Idealize.ShloMosaic.Lib.Pipeline.ValueKit

/-! The queries of grouped attention: one place of one block, and the whole array after the run. -/

@[expose] public section

set_option maxRecDepth 16384
set_option maxHeartbeats 4000000

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- One place of one block of queries of grouped attention. -/
theorem point23 (t : Fin cfg0.N) (y : S1x8x1x128x512.Idx) : (out23 m c t y : EReal) = gqAt m c (seqOf t) (rowOf t (y 4)) (y 1) (y 3) := by
  obtain ⟨G, eG⟩ : ∃ G : S1x8x1x128x512.Idx → EReal, ∀ z, G z = gqAt m c (seqOf t) (rowOf t (z 4)) (z 1) (z 3) := ⟨_, fun _ => rfl⟩
  refine Eq.trans ?_ (eG y)
  unfold out23
  frame_out
  canon_tiles x h
  case piece0 =>
    refine (pieceGq7 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 7 = (y 1).val
        omega
      · show (x 3).val = (y 3).val
        omega
  case piece1 =>
    refine (pieceGq6 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 6 = (y 1).val
        omega
      · show (x 3).val = (y 3).val
        omega
  case piece2 =>
    refine (pieceGq5 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 5 = (y 1).val
        omega
      · show (x 3).val = (y 3).val
        omega
  case piece3 =>
    refine (pieceGq4 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 4 = (y 1).val
        omega
      · show (x 3).val = (y 3).val
        omega
  case piece4 =>
    refine (pieceGq3 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 3 = (y 1).val
        omega
      · show (x 3).val = (y 3).val
        omega
  case piece5 =>
    refine (pieceGq2 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 2 = (y 1).val
        omega
      · show (x 3).val = (y 3).val
        omega
  case piece6 =>
    refine (pieceGq1 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 1 = (y 1).val
        omega
      · show (x 3).val = (y 3).val
        omega
  case piece7 =>
    refine (pieceGq0 m c t _ (fun r d => View.ld_unit_apply_of _ _ _ _ _ _ fun a => ?_) _ _ _ ?_ ?_ ?_ x).trans (Eq.trans ?_ (eG y).symm)
    · match a with
      | ⟨0, _⟩ => first | rfl | exact (Nat.zero_add _).symm
      | ⟨1, _⟩ => exact (Nat.zero_add _).symm
    · exact shapeCast_id _ _
    · exact shapeCast_id _ _
    · exact shapeCast_id _ _
    · refine congr (congr (congrArg (gqAt m c (seqOf t)) (congrArg (rowOf t) (Fin.ext ?_))) (Fin.ext ?_)) (Fin.ext ?_)
      · omega
      · show 0 = (y 1).val
        omega
      · show (x 3).val = (y 3).val
        omega

/-- The queries of grouped attention after the run. -/
theorem final23 : (dats m 0 c).arrAt 23 (cfgs 0).N = fun y : S4x8x16x128x512.Idx => gqAt m c (y 0) ⟨(y 2).val * 512 + (y 4).val, by have h2 : (y 2).val < 16 := (y 2).isLt; have h4 : (y 4).val < 512 := (y 4).isLt; omega⟩ (y 1) (y 3) := by
  refine (dats m 0 c).arrAt_eq_of_covers 23 _ (by decide +kernel) fun t _ y => ?_
  blk_simp [idx23 t]
  rw [after0_23]
  refine (point23 m c t y).trans ?_
  have h0 : (y 0).val < 1 := (y 0).isLt
  have ht := lt_N t
  refine congr (congr (congr (congrArg (gqAt m c) (Fin.ext ?_)) (Fin.ext ?_)) (Fin.ext ?_)) (Fin.ext ?_) <;> blk_simp [idx23 t, seqOf, rowOf] <;> (try dsimp only) <;> omega

end Cert.ProjIdeal.Body

end
-- ==== Proof.ProjOut24.lean ====
module

public import proofs.«01_k».proof.Proof.ProjIdealFrame
public import proofs.«01_k».proof.Proof.ProjPiece
public import Idealize.ShloMosaic.Lib.Claim
public import Idealize.ShloMosaic.Lib.Pointwise
public import Idealize.ShloMosaic.Lib.Pipeline.ValueKit

/-! The keys of grouped attention: one place of one block, and the whole array after the run. -/

@[expose] public section

set_option maxRecDepth 16384
set_option maxHeartbeats 4000000

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- One place of one block of keys of grouped attention. -/
theorem point24 (t : Fin cfg0.N) (y : S1x2x512x128.Idx) : (out24 m c t y : EReal) = gkAt m c (seqOf t) (rowOf t (y 2)) (y 1) (y 3) := by
  obtain ⟨G, eG⟩ : ∃ G : S1x2x512x128.Idx → EReal, ∀ z, G z = gkAt m c (seqOf t) (rowOf t (z 2)) (z 1) (z 3) := ⟨_, fun _ => rfl⟩
  refine Eq.trans ?_ (eG y)
  unfold out24
  frame_out
  canon_tiles x h
  case piece0 =>
    refine (pieceGk1 m c t x).trans (Eq.trans ?_ (eG y).symm)
    refine congr (congr (congrArg (gkAt m c (seqOf t)) (congrArg (rowOf t) (Fin.ext ?_))) (Fin.ext ?_)) (Fin.ext ?_)
    · omega
    · show 1 = (y 1).val
      omega
    · show (x 3).val = (y 3).val
      omega
  case piece1 =>
    refine (pieceGk0 m c t x).trans (Eq.trans ?_ (eG y).symm)
    refine congr (congr (congrArg (gkAt m c (seqOf t)) (congrArg (rowOf t) (Fin.ext ?_))) (Fin.ext ?_)) (Fin.ext ?_)
    · omega
    · show 0 = (y 1).val
      omega
    · show (x 3).val = (y 3).val
      omega

/-- The keys of grouped attention after the run. -/
theorem final24 : (dats m 0 c).arrAt 24 (cfgs 0).N = fun y : S4x2x8192x128.Idx => gkAt m c (y 0) (y 2) (y 1) (y 3) := by
  refine (dats m 0 c).arrAt_eq_of_covers 24 _ (by decide +kernel) fun t _ y => ?_
  blk_simp [idx24 t]
  rw [after0_24]
  refine (point24 m c t y).trans ?_
  have h0 : (y 0).val < 1 := (y 0).isLt
  have ht := lt_N t
  refine congr (congr (congr (congrArg (gkAt m c) (Fin.ext ?_)) (Fin.ext ?_)) (Fin.ext ?_)) (Fin.ext ?_) <;> blk_simp [idx24 t, seqOf, rowOf] <;> (try dsimp only) <;> omega

end Cert.ProjIdeal.Body

end
-- ==== Proof.ProjOut25.lean ====
module

public import proofs.«01_k».proof.Proof.ProjIdealFrame
public import proofs.«01_k».proof.Proof.ProjPiece
public import Idealize.ShloMosaic.Lib.Claim
public import Idealize.ShloMosaic.Lib.Pointwise
public import Idealize.ShloMosaic.Lib.Pipeline.ValueKit

/-! The values of grouped attention: one place of one block, and the whole array after the run. -/

@[expose] public section

set_option maxRecDepth 16384
set_option maxHeartbeats 4000000

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- One place of one block of values of grouped attention. -/
theorem point25 (t : Fin cfg0.N) (y : S1x2x1x144x512.Idx) : (out25 m c t y : EReal) = gvAt m c (seqOf t) (rowOf t (y 4)) (y 1) (y 3) := by
  obtain ⟨G, eG⟩ : ∃ G : S1x2x1x144x512.Idx → EReal, ∀ z, G z = gvAt m c (seqOf t) (rowOf t (z 4)) (z 1) (z 3) := ⟨_, fun _ => rfl⟩
  refine Eq.trans ?_ (eG y)
  unfold out25
  frame_out
  canon_tiles x h using (View.cover_of_tiledBy _ ![1, 1, 1, 16, 512] (by sl_kernel_rfl) y)
  case piece0 =>
    refine (pieceGo1 m c t x).trans (Eq.trans ?_ (eG y).symm)
    refine congr (congr (congrArg (gvAt m c (seqOf t)) (congrArg (rowOf t) (Fin.ext ?_))) (Fin.ext ?_)) (Fin.ext ?_)
    · omega
    · show 1 = (y 1).val
      omega
    · show 128 + (x 3).val = (y 3).val
      omega
  case piece1 =>
    refine (pieceGv1 m c t x).trans (Eq.trans ?_ (eG y).symm)
    refine congr (congr (congrArg (gvAt m c (seqOf t)) (congrArg (rowOf t) (Fin.ext ?_))) (Fin.ext ?_)) (Fin.ext ?_)
    · omega
    · show 1 = (y 1).val
      omega
    · show (x 3).val = (y 3).val
      omega
  case piece2 =>
    refine (pieceGo0 m c t x).trans (Eq.trans ?_ (eG y).symm)
    refine congr (congr (congrArg (gvAt m c (seqOf t)) (congrArg (rowOf t) (Fin.ext ?_))) (Fin.ext ?_)) (Fin.ext ?_)
    · omega
    · show 0 = (y 1).val
      omega
    · show 128 + (x 3).val = (y 3).val
      omega
  case piece3 =>
    refine (pieceGv0 m c t x).trans (Eq.trans ?_ (eG y).symm)
    refine congr (congr (congrArg (gvAt m c (seqOf t)) (congrArg (rowOf t) (Fin.ext ?_))) (Fin.ext ?_)) (Fin.ext ?_)
    · omega
    · show 0 = (y 1).val
      omega
    · show (x 3).val = (y 3).val
      omega

/-- The values of grouped attention after the run. -/
theorem final25 : (dats m 0 c).arrAt 25 (cfgs 0).N = fun y : S4x2x16x144x512.Idx => gvAt m c (y 0) ⟨(y 2).val * 512 + (y 4).val, by have h2 : (y 2).val < 16 := (y 2).isLt; have h4 : (y 4).val < 512 := (y 4).isLt; omega⟩ (y 1) (y 3) := by
  refine (dats m 0 c).arrAt_eq_of_covers 25 _ (by decide +kernel) fun t _ y => ?_
  blk_simp [idx25 t]
  rw [after0_25]
  refine (point25 m c t y).trans ?_
  have h0 : (y 0).val < 1 := (y 0).isLt
  have ht := lt_N t
  refine congr (congr (congr (congrArg (gvAt m c) (Fin.ext ?_)) (Fin.ext ?_)) (Fin.ext ?_)) (Fin.ext ?_) <;> blk_simp [idx25 t, seqOf, rowOf] <;> (try dsimp only) <;> omega

end Cert.ProjIdeal.Body

end
-- ==== Proof.ProjOut26.lean ====
module

public import proofs.«01_k».proof.Proof.ProjIdealFrame
public import proofs.«01_k».proof.Proof.ProjPiece
public import Idealize.ShloMosaic.Lib.Claim
public import Idealize.ShloMosaic.Lib.Pointwise
public import Idealize.ShloMosaic.Lib.Pipeline.ValueKit

/-! The queries of latent attention: one place of one block, and the whole array after the run. -/

@[expose] public section

set_option maxRecDepth 16384
set_option maxHeartbeats 4000000

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- One place of one block of queries of latent attention. -/
theorem point26 (t : Fin cfg0.N) (y : S1x8x1x128x512.Idx) : (out26 m c t y : EReal) = mqAt m c (seqOf t) (rowOf t (y 4)) (y 1) (y 3) := by
  obtain ⟨G, eG⟩ : ∃ G : S1x8x1x128x512.Idx → EReal, ∀ z, G z = mqAt m c (seqOf t) (rowOf t (z 4)) (z 1) (z 3) := ⟨_, fun _ => rfl⟩
  refine Eq.trans ?_ (eG y)
  unfold out26
  frame_out
  canon_tiles x h
  case piece0 =>
    refine (pieceMq7 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 7 = (y 1).val
        omega
      · show (x 3).val = (y 3).val
        omega
  case piece1 =>
    refine (pieceMq6 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 6 = (y 1).val
        omega
      · show (x 3).val = (y 3).val
        omega
  case piece2 =>
    refine (pieceMq5 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 5 = (y 1).val
        omega
      · show (x 3).val = (y 3).val
        omega
  case piece3 =>
    refine (pieceMq4 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 4 = (y 1).val
        omega
      · show (x 3).val = (y 3).val
        omega
  case piece4 =>
    refine (pieceMq3 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 3 = (y 1).val
        omega
      · show (x 3).val = (y 3).val
        omega
  case piece5 =>
    refine (pieceMq2 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 2 = (y 1).val
        omega
      · show (x 3).val = (y 3).val
        omega
  case piece6 =>
    refine (pieceMq1 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 1 = (y 1).val
        omega
      · show (x 3).val = (y 3).val
        omega
  case piece7 =>
    refine (pieceMq0 m c t _ _ ?_ ?_ x).trans (Eq.trans ?_ (eG y).symm)
    · exact shapeCast_id _ _
    · exact shapeCast_id _ _
    · refine congr (congr (congrArg (mqAt m c (seqOf t)) (congrArg (rowOf t) (Fin.ext ?_))) (Fin.ext ?_)) (Fin.ext ?_)
      · omega
      · show 0 = (y 1).val
        omega
      · show (x 3).val = (y 3).val
        omega

/-- The queries of latent attention after the run. -/
theorem final26 : (dats m 0 c).arrAt 26 (cfgs 0).N = fun y : S4x8x16x128x512.Idx => mqAt m c (y 0) ⟨(y 2).val * 512 + (y 4).val, by have h2 : (y 2).val < 16 := (y 2).isLt; have h4 : (y 4).val < 512 := (y 4).isLt; omega⟩ (y 1) (y 3) := by
  refine (dats m 0 c).arrAt_eq_of_covers 26 _ (by decide +kernel) fun t _ y => ?_
  blk_simp [idx26 t]
  rw [after0_26]
  refine (point26 m c t y).trans ?_
  have h0 : (y 0).val < 1 := (y 0).isLt
  have ht := lt_N t
  refine congr (congr (congr (congrArg (mqAt m c) (Fin.ext ?_)) (Fin.ext ?_)) (Fin.ext ?_)) (Fin.ext ?_) <;> blk_simp [idx26 t, seqOf, rowOf] <;> (try dsimp only) <;> omega

end Cert.ProjIdeal.Body

end
-- ==== Proof.ProjOut27.lean ====
module

public import proofs.«01_k».proof.Proof.ProjIdealFrame
public import proofs.«01_k».proof.Proof.ProjPiece
public import Idealize.ShloMosaic.Lib.Claim
public import Idealize.ShloMosaic.Lib.Pointwise
public import Idealize.ShloMosaic.Lib.Pipeline.ValueKit

/-! The keys of latent attention: one place of one block, and the whole array after the run. -/

@[expose] public section

set_option maxRecDepth 16384
set_option maxHeartbeats 4000000

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- One place of one block of keys of latent attention. -/
theorem point27 (t : Fin cfg0.N) (y : S1x8x512x128.Idx) : (out27 m c t y : EReal) = mkAt m c (seqOf t) (rowOf t (y 2)) (y 1) (y 3) := by
  obtain ⟨G, eG⟩ : ∃ G : S1x8x512x128.Idx → EReal, ∀ z, G z = mkAt m c (seqOf t) (rowOf t (z 2)) (z 1) (z 3) := ⟨_, fun _ => rfl⟩
  refine Eq.trans ?_ (eG y)
  unfold out27
  frame_out
  canon_tiles x h
  case piece0 =>
    refine (pieceMk7 m c t x).trans (Eq.trans ?_ (eG y).symm)
    refine congr (congr (congrArg (mkAt m c (seqOf t)) (congrArg (rowOf t) (Fin.ext ?_))) (Fin.ext ?_)) (Fin.ext ?_)
    · omega
    · show 7 = (y 1).val
      omega
    · show (x 3).val = (y 3).val
      omega
  case piece1 =>
    refine (pieceMk6 m c t x).trans (Eq.trans ?_ (eG y).symm)
    refine congr (congr (congrArg (mkAt m c (seqOf t)) (congrArg (rowOf t) (Fin.ext ?_))) (Fin.ext ?_)) (Fin.ext ?_)
    · omega
    · show 6 = (y 1).val
      omega
    · show (x 3).val = (y 3).val
      omega
  case piece2 =>
    refine (pieceMk5 m c t x).trans (Eq.trans ?_ (eG y).symm)
    refine congr (congr (congrArg (mkAt m c (seqOf t)) (congrArg (rowOf t) (Fin.ext ?_))) (Fin.ext ?_)) (Fin.ext ?_)
    · omega
    · show 5 = (y 1).val
      omega
    · show (x 3).val = (y 3).val
      omega
  case piece3 =>
    refine (pieceMk4 m c t x).trans (Eq.trans ?_ (eG y).symm)
    refine congr (congr (congrArg (mkAt m c (seqOf t)) (congrArg (rowOf t) (Fin.ext ?_))) (Fin.ext ?_)) (Fin.ext ?_)
    · omega
    · show 4 = (y 1).val
      omega
    · show (x 3).val = (y 3).val
      omega
  case piece4 =>
    refine (pieceMk3 m c t x).trans (Eq.trans ?_ (eG y).symm)
    refine congr (congr (congrArg (mkAt m c (seqOf t)) (congrArg (rowOf t) (Fin.ext ?_))) (Fin.ext ?_)) (Fin.ext ?_)
    · omega
    · show 3 = (y 1).val
      omega
    · show (x 3).val = (y 3).val
      omega
  case piece5 =>
    refine (pieceMk2 m c t x).trans (Eq.trans ?_ (eG y).symm)
    refine congr (congr (congrArg (mkAt m c (seqOf t)) (congrArg (rowOf t) (Fin.ext ?_))) (Fin.ext ?_)) (Fin.ext ?_)
    · omega
    · show 2 = (y 1).val
      omega
    · show (x 3).val = (y 3).val
      omega
  case piece6 =>
    refine (pieceMk1 m c t x).trans (Eq.trans ?_ (eG y).symm)
    refine congr (congr (congrArg (mkAt m c (seqOf t)) (congrArg (rowOf t) (Fin.ext ?_))) (Fin.ext ?_)) (Fin.ext ?_)
    · omega
    · show 1 = (y 1).val
      omega
    · show (x 3).val = (y 3).val
      omega
  case piece7 =>
    refine (pieceMk0 m c t x).trans (Eq.trans ?_ (eG y).symm)
    refine congr (congr (congrArg (mkAt m c (seqOf t)) (congrArg (rowOf t) (Fin.ext ?_))) (Fin.ext ?_)) (Fin.ext ?_)
    · omega
    · show 0 = (y 1).val
      omega
    · show (x 3).val = (y 3).val
      omega

/-- The keys of latent attention after the run. -/
theorem final27 : (dats m 0 c).arrAt 27 (cfgs 0).N = fun y : S4x8x8192x128.Idx => mkAt m c (y 0) (y 2) (y 1) (y 3) := by
  refine (dats m 0 c).arrAt_eq_of_covers 27 _ (by decide +kernel) fun t _ y => ?_
  blk_simp [idx27 t]
  rw [after0_27]
  refine (point27 m c t y).trans ?_
  have h0 : (y 0).val < 1 := (y 0).isLt
  have ht := lt_N t
  refine congr (congr (congr (congrArg (mkAt m c) (Fin.ext ?_)) (Fin.ext ?_)) (Fin.ext ?_)) (Fin.ext ?_) <;> blk_simp [idx27 t, seqOf, rowOf] <;> (try dsimp only) <;> omega

end Cert.ProjIdeal.Body

end
-- ==== Proof.ProjOut28.lean ====
module

public import proofs.«01_k».proof.Proof.ProjIdealFrame
public import proofs.«01_k».proof.Proof.ProjPiece
public import Idealize.ShloMosaic.Lib.Claim
public import Idealize.ShloMosaic.Lib.Pointwise
public import Idealize.ShloMosaic.Lib.Pipeline.ValueKit

/-! The values of latent attention: one place of one block, and the whole array after the run. -/

@[expose] public section

set_option maxRecDepth 16384
set_option maxHeartbeats 4000000

noncomputable section

namespace Cert.ProjIdeal.Body

open Idealize.ShloMosaic Idealize.ShloMosaic.TcCoe Idealize.SL.Sem
open Cert.ProjIdeal Cert.ProjIdeal.Gen
open scoped BigOperators

variable (m : (ℓ : Loc nD τ sig) → Buf (Elt Ideal) ℓ) (c : Dev nD)

/-- One place of one block of values of latent attention. -/
theorem point28 (t : Fin cfg0.N) (y : S1x8x1x144x512.Idx) : (out28 m c t y : EReal) = mvAt m c (seqOf t) (rowOf t (y 4)) (y 1) (y 3) := by
  obtain ⟨G, eG⟩ : ∃ G : S1x8x1x144x512.Idx → EReal, ∀ z, G z = mvAt m c (seqOf t) (rowOf t (z 4)) (z 1) (z 3) := ⟨_, fun _ => rfl⟩
  refine Eq.trans ?_ (eG y)
  unfold out28
  frame_out
  canon_tiles x h using (View.cover_of_tiledBy _ ![1, 1, 1, 16, 512] (by sl_kernel_rfl) y)
  case piece0 =>
    refine (pieceMo7 m c t x).trans (Eq.trans ?_ (eG y).symm)
    refine congr (congr (congrArg (mvAt m c (seqOf t)) (congrArg (rowOf t) (Fin.ext ?_))) (Fin.ext ?_)) (Fin.ext ?_)
    · omega
    · show 7 = (y 1).val
      omega
    · show 128 + (x 3).val = (y 3).val
      omega
  case piece1 =>
    refine (pieceMv7 m c t x).trans (Eq.trans ?_ (eG y).symm)
    refine congr (congr (congrArg (mvAt m c (seqOf t)) (congrArg (rowOf t) (Fin.ext ?_))) (Fin.ext ?_)) (Fin.ext ?_)
    · omega
    · show 7 = (y 1).val
      omega
    · show (x 3).val = (y 3).val
      omega
  case piece2 =>
    refine (pieceMo6 m c t x).trans (Eq.trans ?_ (eG y).symm)
    refine congr (congr (congrArg (mvAt m c (seqOf t)) (congrArg (rowOf t) (Fin.ext ?_))) (Fin.ext ?_)) (Fin.ext ?_)
    · omega
    · show 6 = (y 1).val
      omega
    · show 128 + (x 3).val = (y 3).val
      omega
  case piece3 =>
    refine (pieceMv6 m c t x).trans (Eq.trans ?_ (eG y).symm)
    refine congr (congr (congrArg (mvAt m c (seqOf t)) (congrArg (rowOf t) (Fin.ext ?_))) (Fin.ext ?_)) (Fin.ext ?_)
    · omega
    · show 6 = (y 1).val
      omega
    · show (x 3).val = (y 3).val
      omega
  case piece4 =>
    refine (pieceMo5 m c t x).trans (Eq.trans ?_ (eG y).symm)
    refine congr (congr (congrArg (mvAt m c (seqOf t)) (congrArg (rowOf t) (Fin.ext ?_))) (Fin.ext ?_)) (Fin.ext ?_)
    · omega
    · show 5 = (y 1).val
      omega
    · show 128 + (x 3).val = (y 3).val
      omega
  case piece5 =>
    refine (pieceMv5 m c t x).trans (Eq.trans ?_ (eG y).symm)
    refine congr (congr (congrArg (mvAt m c (seqOf t)) (congrArg (rowOf t) (Fin.ext ?_))) (Fin.ext ?_)) (Fin.ext ?_)
    · omega
    · show 5 = (y 1).val
      omega
    · show (x 3).val = (y 3).val
      omega
  case piece6 =>
    refine (pieceMo4 m c t x).trans (Eq.trans ?_ (eG y).symm)
    refine congr (congr (congrArg (mvAt m c (seqOf t)) (congrArg (rowOf t) (Fin.ext ?_))) (Fin.ext ?_)) (Fin.ext ?_)
    · omega
    · show 4 = (y 1).val
      omega
    · show 128 + (x 3).val = (y 3).val
      omega
  case piece7 =>
    refine (pieceMv4 m c t x).trans (Eq.trans ?_ (eG y).symm)
    refine congr (congr (congrArg (mvAt m c (seqOf t)) (congrArg (rowOf t) (Fin.ext ?_))) (Fin.ext ?_)) (Fin.ext ?_)
    · omega
    · show 4 = (y 1).val
      omega
    · show (x 3).val = (y 3).val
      omega
  case piece8 =>
    refine (pieceMo3 m c t x).trans (Eq.trans ?_ (eG y).symm)
    refine congr (congr (congrArg (mvAt m c (seqOf t)) (congrArg (rowOf t) (Fin.ext ?_))) (Fin.ext ?_)) (Fin.ext ?_)
    · omega
    · show 3 = (y 1).val
      omega
    · show 128 + (x 3).val = (y 3).val
      omega
  case piece9 =>
    refine (pieceMv3 m c t x).trans (Eq.trans ?_ (eG y).symm)
    refine congr (congr (congrArg (mvAt m c (seqOf t)) (congrArg (rowOf t) (Fin.ext ?_))) (Fin.ext ?_)) (Fin.ext ?_)
    · omega
    · show 3 = (y 1).val
      omega
    · show (x 3).val = (y 3).val
      omega
  case piece10 =>
    refine (pieceMo2 m c t x).trans (Eq.trans ?_ (eG y).symm)
    refine congr (congr (congrArg (mvAt m c (seqOf t)) (congrArg (rowOf t) (Fin.ext ?_))) (Fin.ext ?_)) (Fin.ext ?_)
    · omega
    · show 2 = (y 1).val
      omega
    · show 128 + (x 3).val = (y 3).val
      omega
  case piece11 =>
    refine (pieceMv2 m c t x).trans (Eq.trans ?_ (eG y).symm)
    refine congr (congr (congrArg (mvAt m c (seqOf t)) (congrArg (rowOf t) (Fin.ext ?_))) (Fin.ext ?_)) (Fin.ext ?_)
    · omega
    · show 2 = (y 1).val
      omega
    · show (x 3).val = (y 3).val
      omega
  case piece12 =>
    refine (pieceMo1 m c t x).trans (Eq.trans ?_ (eG y).symm)
    refine congr (congr (congrArg (mvAt m c (seqOf t)) (congrArg (rowOf t) (Fin.ext ?_))) (Fin.ext ?_)) (Fin.ext ?_)
    · omega
    · show 1 = (y 1).val
      omega
    · show 128 + (x 3).val = (y 3).val
      omega
  case piece13 =>
    refine (pieceMv1 m c t x).trans (Eq.trans ?_ (eG y).symm)
    refine congr (congr (congrArg (mvAt m c (seqOf t)) (congrArg (rowOf t) (Fin.ext ?_))) (Fin.ext ?_)) (Fin.ext ?_)
    · omega
    · show 1 = (y 1).val
      omega
    · show (x 3).val = (y 3).val
      omega
  case piece14 =>
    refine (pieceMo0 m c t x).trans (Eq.trans ?_ (eG y).symm)
    refine congr (congr (congrArg (mvAt m c (seqOf t)) (congrArg (rowOf t) (Fin.ext ?_))) (Fin.ext ?_)) (Fin.ext ?_)
    · omega
    · show 0 = (y 1).val
      omega
    · show 128 + (x 3).val = (y 3).val
      omega
  case piece15 =>
    refine (pieceMv0 m c t x).trans (Eq.trans ?_ (eG y).symm)
    refine congr (congr (congrArg (mvAt m c (seqOf t)) (congrArg (rowOf t) (Fin.ext ?_))) (Fin.ext ?_)) (Fin.ext ?_)
    · omega
    · show 0 = (y 1).val
      omega
    · show (x 3).val = (y 3).val
      omega

/-- The values of latent attention after the run. -/
theorem final28 : (dats m 0 c).arrAt 28 (cfgs 0).N = fun y : S4x8x16x144x512.Idx => mvAt m c (y 0) ⟨(y 2).val * 512 + (y 4).val, by have h2 : (y 2).val < 16 := (y 2).isLt; have h4 : (y 4).val < 512 := (y 4).isLt; omega⟩ (y 1) (y 3) := by
  refine (dats m 0 c).arrAt_eq_of_covers 28 _ (by decide +kernel) fun t _ y => ?_
  blk_simp [idx28 t]
  rw [after0_28]
  refine (point28 m c t y).trans ?_
  have h0 : (y 0).val < 1 := (y 0).isLt
  have ht := lt_N t
  refine congr (congr (congr (congrArg (mvAt m c) (Fin.ext ?_)) (Fin.ext ?_)) (Fin.ext ?_)) (Fin.ext ?_) <;> blk_simp [idx28 t, seqOf, rowOf] <;> (try dsimp only) <;> omega

end Cert.ProjIdeal.Body

end
-- ==== Proof.ProjRefValue.lean ====
/- The plain attention projections read over the extended reals: queries, keys and values of both attentions over the
   normalised row of one position. -/
module

public import proofs.«01_k».proof.Proof.Gen.ProjRefIdeal.Read
public import proofs.«01_k».proof.Proof.ProjMath
public import proofs.«01_k».proof.Proof.Math
public import Idealize.ShloMosaic.Lib.Pointwise

@[expose] public section

set_option maxRecDepth 16384

noncomputable section

namespace Cert.ProjRefIdeal.Body

open Idealize.ShloMosaic Idealize.ShloMosaic.TcCoe
open Cert.ProjRefIdeal Cert.ProjRefIdeal.Gen Cert.ProjRefIdeal.Read
open scoped BigOperators

variable (x0 : FVec Ideal S4x8192x1024 .f32) (x1 : FVec Ideal S1024 .f32) (x2 : FVec Ideal S1024x6304 .f32) (x3 x4 : FVec Ideal S128 .f32)
  (x5 : FVec Ideal S384 .f32) (x6 : FVec Ideal S256 .f32) (x7 : FVec Ideal S384x768 .f32) (x8 : FVec Ideal S256x1536 .f32)
  (x9 x10 : FVec Ideal S8192x64 .f32) (x11 x12 : FVec Ideal S8192x16 .f32)

/-- The normalised row of a position. -/
def hid (b : Fin 4) (s : Fin 8192) : Fin 1024 → EReal := Math.rmsOf 0x44800000#32 (fun k => x0 (ix3 b s k)) (fun k => x1 (ix1 k))

/-- The normalised rows. -/
theorem v12_apply (b : Fin 4) (s : Fin 8192) (d : Fin 1024) :
    (val_main_v12 (F := Ideal) x0 x1 (ix3 b s d) : EReal)
      = hid x0 x1 b s d := by
  pointwise [val_main_v12, val_main_v11, val_main_v10, val_main_v9, val_main_v8, val_main_v7, val_main_v6, val_main_v5, val_main_cst_1, val_main_v4, val_main_v3, val_main_cst_0, val_main_v2, val_main_v1, val_main_cst, val_main_v0, hid, Math.rmsOf]

/-- All projections. -/
theorem v13_apply (b : Fin 4) (s : Fin 8192) (j : Fin 6304) :
    (val_main_v13 (F := Ideal) x0 x1 x2 (ix3 b s j) : EReal)
      = Math.row (hid x0 x1 b s) (fun d j => x2 (ix2 d j)) j := by
  unfold Math.row
  simp only [← v12_apply]
  unfold val_main_v13
  generalize val_main_v12 (F := Ideal) x0 x1 = h0
  pointwise

/-- The normalised heads of queries. -/
theorem v28_apply (b : Fin 4) (s : Fin 8192) (hd : Fin 8) (e : Fin 128) :
    (val_main_v28 (F := Ideal) x0 x1 x2 x3 (ix4 b s hd e) : EReal)
      = Math.rmsOf 0x43000000#32 (fun e => val_main_v13 (F := Ideal) x0 x1 x2 (ix3 b s ⟨hd.val * 128 + e.val, by omega⟩)) (fun e => x3 (ix1 e)) e := by
  unfold val_main_v28 val_main_v27 val_main_v26 val_main_v25 val_main_v24 val_main_v23 val_main_v22 val_main_v21 val_main_cst_4 val_main_v20 val_main_v19 val_main_cst_3 val_main_v18 val_main_v17 val_main_cst_2 val_main_v16 val_main_v15 val_main_v14
  generalize val_main_v13 (F := Ideal) x0 x1 x2 = h0
  pointwise [Math.rmsOf]

/-- The normalised heads of keys. -/
theorem v58_apply (b : Fin 4) (s : Fin 8192) (hd : Fin 2) (e : Fin 128) :
    (val_main_v58 (F := Ideal) x0 x1 x2 x4 (ix4 b s hd e) : EReal)
      = Math.rmsOf 0x43000000#32 (fun e => val_main_v13 (F := Ideal) x0 x1 x2 (ix3 b s ⟨1024 + (hd.val * 128 + e.val), by omega⟩)) (fun e => x4 (ix1 e)) e := by
  unfold val_main_v58 val_main_v57 val_main_v56 val_main_v55 val_main_v54 val_main_v53 val_main_v52 val_main_v51 val_main_cst_7 val_main_v50 val_main_v49 val_main_cst_6 val_main_v48 val_main_v47 val_main_cst_5 val_main_v46 val_main_v45 val_main_v44
  generalize val_main_v13 (F := Ideal) x0 x1 x2 = h0
  pointwise [Math.rmsOf]

/-- The rotated heads of queries. -/
theorem v43_apply (b : Fin 4) (s : Fin 8192) (hd : Fin 8) (e : Fin 128) :
    (val_main_v43 (F := Ideal) x0 x1 x2 x3 x9 x10 (ix4 b s hd e) : EReal)
      = Math.turn (fun e => val_main_v28 (F := Ideal) x0 x1 x2 x3 (ix4 b s hd e)) (fun j => x9 (ix2 s j)) (fun j => x10 (ix2 s j)) e := by
  unfold val_main_v43 val_main_v42 val_main_v41 val_main_v40 val_main_v39 val_main_v38 val_main_v37 val_main_v36 val_main_v35 val_main_v32 val_main_v30 val_main_v34 val_main_v33 val_main_v31 val_main_v29
  generalize val_main_v28 (F := Ideal) x0 x1 x2 x3 = h0
  pointwise [Math.turn]

/-- The rotated heads of keys. -/
theorem v73_apply (b : Fin 4) (s : Fin 8192) (hd : Fin 2) (e : Fin 128) :
    (val_main_v73 (F := Ideal) x0 x1 x2 x4 x9 x10 (ix4 b s hd e) : EReal)
      = Math.turn (fun e => val_main_v58 (F := Ideal) x0 x1 x2 x4 (ix4 b s hd e)) (fun j => x9 (ix2 s j)) (fun j => x10 (ix2 s j)) e := by
  unfold val_main_v73 val_main_v72 val_main_v71 val_main_v70 val_main_v69 val_main_v68 val_main_v67 val_main_v66 val_main_v65 val_main_v62 val_main_v60 val_main_v64 val_main_v63 val_main_v61 val_main_v59
  generalize val_main_v58 (F := Ideal) x0 x1 x2 x4 = h0
  pointwise [Math.turn]

/-- The values of grouped attention. -/
theorem v75_apply (b : Fin 4) (s : Fin 8192) (hd : Fin 2) (e : Fin 128) :
    (val_main_v75 (F := Ideal) x0 x1 x2 (ix4 b s hd e) : EReal)
      = val_main_v13 (F := Ideal) x0 x1 x2 (ix3 b s ⟨1280 + (hd.val * 128 + e.val), by omega⟩) := by
  unfold val_main_v75 val_main_v74
  generalize val_main_v13 (F := Ideal) x0 x1 x2 = h0
  pointwise

/-- The normalised latent row of the queries. -/
theorem v89_apply (b : Fin 4) (s : Fin 8192) (r : Fin 384) :
    (val_main_v89 (F := Ideal) x0 x1 x2 x5 (ix3 b s r) : EReal)
      = Math.rmsOf 0x43C00000#32 (fun r => val_main_v13 (F := Ideal) x0 x1 x2 (ix3 b s ⟨1536 + r.val, by omega⟩)) (fun r => x5 (ix1 r)) r := by
  unfold val_main_v89 val_main_v88 val_main_v87 val_main_v86 val_main_v85 val_main_v84 val_main_v83 val_main_v82 val_main_cst_10 val_main_v81 val_main_v80 val_main_cst_9 val_main_v79 val_main_v78 val_main_cst_8 val_main_v77 val_main_v76
  generalize val_main_v13 (F := Ideal) x0 x1 x2 = h0
  pointwise [Math.rmsOf]

/-- The normalised latent row of the keys and values. -/
theorem v123_apply (b : Fin 4) (s : Fin 8192) (r : Fin 256) :
    (val_main_v123 (F := Ideal) x0 x1 x2 x6 (ix3 b s r) : EReal)
      = Math.rmsOf 0x43800000#32 (fun r => val_main_v13 (F := Ideal) x0 x1 x2 (ix3 b s ⟨1920 + r.val, by omega⟩)) (fun r => x6 (ix1 r)) r := by
  unfold val_main_v123 val_main_v122 val_main_v121 val_main_v120 val_main_v119 val_main_v118 val_main_v117 val_main_v116 val_main_cst_13 val_main_v115 val_main_v114 val_main_cst_12 val_main_v113 val_main_v112 val_main_cst_11 val_main_v111 val_main_v110
  generalize val_main_v13 (F := Ideal) x0 x1 x2 = h0
  pointwise [Math.rmsOf]

/-- The heads of queries of latent attention. -/
theorem v91_apply (b : Fin 4) (s : Fin 8192) (hd : Fin 8) (e : Fin 96) :
    (val_main_v91 (F := Ideal) x0 x1 x2 x5 x7 (ix4 b s hd e) : EReal)
      = ∑ k : Fin 384, (val_main_v89 (F := Ideal) x0 x1 x2 x5 (ix3 b s k) : EReal) * x7 (ix2 k ⟨hd.val * 96 + e.val, by omega⟩) := by
  unfold val_main_v91 val_main_v90
  generalize val_main_v89 (F := Ideal) x0 x1 x2 x5 = h0
  pointwise

/-- The heads of keys and values of latent attention. -/
theorem v125_apply (b : Fin 4) (s : Fin 8192) (hd : Fin 8) (e : Fin 192) :
    (val_main_v125 (F := Ideal) x0 x1 x2 x6 x8 (ix4 b s hd e) : EReal)
      = ∑ k : Fin 256, (val_main_v123 (F := Ideal) x0 x1 x2 x6 (ix3 b s k) : EReal) * x8 (ix2 k ⟨hd.val * 192 + e.val, by omega⟩) := by
  unfold val_main_v125 val_main_v124
  generalize val_main_v123 (F := Ideal) x0 x1 x2 x6 = h0
  pointwise

/-- The queries of latent attention, padded. -/
theorem v168_apply (b : Fin 4) (s : Fin 8192) (hd : Fin 8) (e : Fin 128) :
    (val_main_v168 (F := Ideal) x0 x1 x2 x5 x7 x11 x12 (ix4 b s hd e) : EReal)
      = Math.turnMid (fun e => if h : e.val < 96 then val_main_v91 (F := Ideal) x0 x1 x2 x5 x7 (ix4 b s hd ⟨e.val, h⟩) else 0) (fun j => x11 (ix2 s j)) (fun j => x12 (ix2 s j)) e * val_main_v152 (F := Ideal) ix0 := by
  unfold val_main_v168 val_main_v146 val_main_cst_14 val_main_v167 val_main_v166 val_main_v109 val_main_v108 val_main_v107 val_main_v106 val_main_v105 val_main_v104 val_main_v103 val_main_v102 val_main_v101 val_main_v100 val_main_v97 val_main_v95 val_main_v99 val_main_v98 val_main_v96 val_main_v94 val_main_v93 val_main_v92
  generalize val_main_v91 (F := Ideal) x0 x1 x2 x5 x7 = h0
  generalize val_main_v152 (F := Ideal)  = h1
  pointwise [Math.turnMid]
  have q1 : ∀ (x : ℕ) (hx : 64 + (16 + x) < 96), (⟨64 + (16 + x), hx⟩ : Fin 96) = ⟨80 + x, by omega⟩ := fun x hx => Fin.ext (by dsimp only; omega)
  have q2 : ∀ (x : ℕ) (hx : 2176 + (80 + x - 64) < 6304), (⟨2176 + (80 + x - 64), hx⟩ : Fin 6304) = ⟨2176 + (16 + x), by omega⟩ := fun x hx => Fin.ext (by dsimp only; omega)
  by_cases n1 : e.val < 64
  · have n2 : e.val < 96 := by omega
    simp only [dif_pos n1, dif_pos n2]
  · by_cases n3 : e.val - 64 < 16
    · have n2 : e.val < 96 := by omega
      have n4 : 64 + (e.val - 64) < 96 := by omega
      have n5 : 80 + (e.val - 64) < 96 := by omega
      have n6 : ¬(80 + (e.val - 64) < 64) := by omega
      have n7 : ¬(64 + (e.val - 64) < 64) := by omega
      simp only [dif_neg n1, dif_pos n2, dif_pos n3, dif_pos n4, dif_pos n5, dif_neg n6, dif_neg n7, q1, q2]
    · by_cases n4 : e.val - 64 - 16 < 16
      · have n2 : e.val < 96 := by omega
        have n5 : 64 + (e.val - 64 - 16) < 96 := by omega
        have n6 : 80 + (e.val - 64 - 16) < 96 := by omega
        have n7 : ¬(80 + (e.val - 64 - 16) < 64) := by omega
        have n8 : ¬(64 + (e.val - 64 - 16) < 64) := by omega
        simp only [dif_neg n1, dif_pos n2, dif_neg n3, dif_pos n4, dif_pos n5, dif_pos n6, dif_neg n7, dif_neg n8, q1, q2]
      · have n2 : ¬e.val < 96 := by omega
        have n5 : ¬(96 + (e.val - 64 - 16 - 16) < 64) := by omega
        simp only [dif_neg n1, dif_neg n2, dif_neg n3, dif_neg n4, dif_neg n5, zero_mul]

/-- The keys of latent attention, padded. -/
theorem v172_apply (b : Fin 4) (s : Fin 8192) (hd : Fin 8) (e : Fin 128) :
    (val_main_v172 (F := Ideal) x0 x1 x2 x6 x8 x11 x12 (ix4 b s hd e) : EReal)
      = Math.turnMid (fun e => if h : e.val < 64 then val_main_v125 (F := Ideal) x0 x1 x2 x6 x8 (ix4 b s hd ⟨e.val, by omega⟩) else if h' : e.val < 96 then val_main_v13 (F := Ideal) x0 x1 x2 (ix3 b s ⟨2176 + (e.val - 64), by omega⟩) else 0) (fun j => x11 (ix2 s j)) (fun j => x12 (ix2 s j)) e := by
  unfold val_main_v172 val_main_v146 val_main_cst_14 val_main_v145 val_main_v144 val_main_v142 val_main_v141 val_main_v140 val_main_v139 val_main_v138 val_main_v137 val_main_v136 val_main_v135 val_main_v134 val_main_v131 val_main_v129 val_main_v133 val_main_v132 val_main_v130 val_main_v128 val_main_v127 val_main_v126 val_main_v143
  generalize val_main_v125 (F := Ideal) x0 x1 x2 x6 x8 = h0
  generalize val_main_v13 (F := Ideal) x0 x1 x2 = h1
  pointwise [Math.turnMid]
  have q1 : ∀ (x : ℕ) (hx : 64 + (16 + x) < 96), (⟨64 + (16 + x), hx⟩ : Fin 96) = ⟨80 + x, by omega⟩ := fun x hx => Fin.ext (by dsimp only; omega)
  have q2 : ∀ (x : ℕ) (hx : 2176 + (80 + x - 64) < 6304), (⟨2176 + (80 + x - 64), hx⟩ : Fin 6304) = ⟨2176 + (16 + x), by omega⟩ := fun x hx => Fin.ext (by dsimp only; omega)
  by_cases n1 : e.val < 64
  · have n2 : e.val < 96 := by omega
    simp only [dif_pos n1, dif_pos n2]
  · by_cases n3 : e.val - 64 < 16
    · have n2 : e.val < 96 := by omega
      have n4 : 64 + (e.val - 64) < 96 := by omega
      have n5 : 80 + (e.val - 64) < 96 := by omega
      have n6 : ¬(80 + (e.val - 64) < 64) := by omega
      have n7 : ¬(64 + (e.val - 64) < 64) := by omega
      simp only [dif_neg n1, dif_pos n2, dif_pos n3, dif_pos n4, dif_pos n5, dif_neg n6, dif_neg n7, q1, q2]
    · by_cases n4 : e.val - 64 - 16 < 16
      · have n2 : e.val < 96 := by omega
        have n5 : 64 + (e.val - 64 - 16) < 96 := by omega
        have n6 : 80 + (e.val - 64 - 16) < 96 := by omega
        have n7 : ¬(80 + (e.val - 64 - 16) < 64) := by omega
        have n8 : ¬(64 + (e.val - 64 - 16) < 64) := by omega
        simp only [dif_neg n1, dif_pos n2, dif_neg n3, dif_pos n4, dif_pos n5, dif_pos n6, dif_neg n7, dif_neg n8, q1, q2]
      · have n2 : ¬e.val < 96 := by omega
        have n5 : ¬(96 + (e.val - 64 - 16 - 16) < 64) := by omega
        simp only [dif_neg n1, dif_neg n2, dif_neg n3, dif_neg n4, dif_neg n5, zero_mul]

/-- The queries of grouped attention, laid out. -/
theorem v157_apply (b : Fin 4) (hd : Fin 8) (n : Fin 16) (e : Fin 128) (i : Fin 512) :
    (val_main_v157 (F := Ideal) x0 x1 x2 x3 x9 x10 (ix5 b hd n e i) : EReal)
      = (val_main_v43 (F := Ideal) x0 x1 x2 x3 x9 x10 (ix4 b ⟨n.val * 512 + i.val, by omega⟩ hd e) : EReal) * val_main_v149 (F := Ideal) ix0 := by
  unfold val_main_v157 val_main_v156 val_main_v155 val_main_v154 val_main_v153
  generalize val_main_v43 (F := Ideal) x0 x1 x2 x3 x9 x10 = h0
  generalize val_main_v149 (F := Ideal)  = h1
  pointwise

/-- The keys of grouped attention, laid out. -/
theorem v159_apply (b : Fin 4) (hd : Fin 2) (s : Fin 8192) (e : Fin 128) :
    (val_main_v159 (F := Ideal) x0 x1 x2 x4 x9 x10 (ix4 b hd s e) : EReal)
      = val_main_v73 (F := Ideal) x0 x1 x2 x4 x9 x10 (ix4 b s hd e) := by
  unfold val_main_v159 val_main_v158
  generalize val_main_v73 (F := Ideal) x0 x1 x2 x4 x9 x10 = h0
  pointwise

/-- The values of grouped attention, laid out. -/
theorem v165_apply (b : Fin 4) (hd : Fin 2) (n : Fin 16) (e : Fin 144) (i : Fin 512) :
    (val_main_v165 (F := Ideal) x0 x1 x2 (ix5 b hd n e i) : EReal)
      = Math.withOne (fun e => val_main_v75 (F := Ideal) x0 x1 x2 (ix4 b ⟨n.val * 512 + i.val, by omega⟩ hd e)) e := by
  unfold val_main_v165 val_main_v164 val_main_cst_20 val_main_v163 val_main_cst_19 val_main_v162 val_main_v161 val_main_v160
  generalize val_main_v75 (F := Ideal) x0 x1 x2 = h0
  pointwise [Math.withOne]
  split_ifs <;> first
    | omega
    | rfl

/-- The queries of latent attention, laid out. -/
theorem v171_apply (b : Fin 4) (hd : Fin 8) (n : Fin 16) (e : Fin 128) (i : Fin 512) :
    (val_main_v171 (F := Ideal) x0 x1 x2 x5 x7 x11 x12 (ix5 b hd n e i) : EReal)
      = (val_main_v168 (F := Ideal) x0 x1 x2 x5 x7 x11 x12 (ix4 b ⟨n.val * 512 + i.val, by omega⟩ hd e) : EReal) := by
  unfold val_main_v171 val_main_v170 val_main_v169
  generalize val_main_v168 (F := Ideal) x0 x1 x2 x5 x7 x11 x12 = h0
  pointwise

/-- The keys of latent attention, laid out. -/
theorem v174_apply (b : Fin 4) (hd : Fin 8) (s : Fin 8192) (e : Fin 128) :
    (val_main_v174 (F := Ideal) x0 x1 x2 x6 x8 x11 x12 (ix4 b hd s e) : EReal)
      = val_main_v172 (F := Ideal) x0 x1 x2 x6 x8 x11 x12 (ix4 b s hd e) := by
  unfold val_main_v174 val_main_v173
  generalize val_main_v172 (F := Ideal) x0 x1 x2 x6 x8 x11 x12 = h0
  pointwise

/-- The values of latent attention, laid out. -/
theorem v181_apply (b : Fin 4) (hd : Fin 8) (n : Fin 16) (e : Fin 144) (i : Fin 512) :
    (val_main_v181 (F := Ideal) x0 x1 x2 x6 x8 (ix5 b hd n e i) : EReal)
      = Math.withOne (fun e => val_main_v125 (F := Ideal) x0 x1 x2 x6 x8 (ix4 b ⟨n.val * 512 + i.val, by omega⟩ hd ⟨64 + e.val, by omega⟩)) e := by
  unfold val_main_v181 val_main_v180 val_main_cst_22 val_main_v179 val_main_cst_21 val_main_v178 val_main_v177 val_main_v176 val_main_v175
  generalize val_main_v125 (F := Ideal) x0 x1 x2 x6 x8 = h0
  pointwise [Math.withOne]
  split_ifs <;> first
    | omega
    | rfl

/-- The queries of grouped attention. -/
theorem v157_math (b : Fin 4) (hd : Fin 8) (n : Fin 16) (e : Fin 128) (i : Fin 512) :
    (val_main_v157 (F := Ideal) x0 x1 x2 x3 x9 x10 (ix5 b hd n e i) : EReal)
      = Math.gq (hid x0 x1 b ⟨n.val * 512 + i.val, by omega⟩) (fun d j => x2 (ix2 d j)) (fun e => x3 (ix1 e)) (fun j => x9 (ix2 ⟨n.val * 512 + i.val, by omega⟩ j)) (fun j => x10 (ix2 ⟨n.val * 512 + i.val, by omega⟩ j)) (val_main_v149 (F := Ideal) ix0) hd e := by
  simp only [v157_apply, v43_apply, v28_apply, v13_apply]
  rfl

/-- The keys of grouped attention. -/
theorem v159_math (b : Fin 4) (hd : Fin 2) (s : Fin 8192) (e : Fin 128) :
    (val_main_v159 (F := Ideal) x0 x1 x2 x4 x9 x10 (ix4 b hd s e) : EReal)
      = Math.gk (hid x0 x1 b s) (fun d j => x2 (ix2 d j)) (fun e => x4 (ix1 e)) (fun j => x9 (ix2 s j)) (fun j => x10 (ix2 s j)) hd e := by
  simp only [v159_apply, v73_apply, v58_apply, v13_apply]
  rfl

/-- The values of grouped attention. -/
theorem v165_math (b : Fin 4) (hd : Fin 2) (n : Fin 16) (e : Fin 144) (i : Fin 512) :
    (val_main_v165 (F := Ideal) x0 x1 x2 (ix5 b hd n e i) : EReal)
      = Math.gv (hid x0 x1 b ⟨n.val * 512 + i.val, by omega⟩) (fun d j => x2 (ix2 d j)) hd e := by
  simp only [v165_apply, v75_apply, v13_apply]
  rfl

/-- The queries of latent attention. -/
theorem v171_math (b : Fin 4) (hd : Fin 8) (n : Fin 16) (e : Fin 128) (i : Fin 512) :
    (val_main_v171 (F := Ideal) x0 x1 x2 x5 x7 x11 x12 (ix5 b hd n e i) : EReal)
      = Math.mq (hid x0 x1 b ⟨n.val * 512 + i.val, by omega⟩) (fun d j => x2 (ix2 d j)) (fun r => x5 (ix1 r)) (fun k r => x7 (ix2 k r)) (fun j => x11 (ix2 ⟨n.val * 512 + i.val, by omega⟩ j)) (fun j => x12 (ix2 ⟨n.val * 512 + i.val, by omega⟩ j)) (val_main_v152 (F := Ideal) ix0) hd e := by
  simp only [v171_apply, v168_apply, v91_apply, v89_apply, v13_apply]
  rfl

/-- The keys of latent attention. -/
theorem v174_math (b : Fin 4) (hd : Fin 8) (s : Fin 8192) (e : Fin 128) :
    (val_main_v174 (F := Ideal) x0 x1 x2 x6 x8 x11 x12 (ix4 b hd s e) : EReal)
      = Math.mk (hid x0 x1 b s) (fun d j => x2 (ix2 d j)) (fun r => x6 (ix1 r)) (fun k r => x8 (ix2 k r)) (fun j => x11 (ix2 s j)) (fun j => x12 (ix2 s j)) hd e := by
  simp only [v174_apply, v172_apply, v125_apply, v123_apply, v13_apply]
  rfl

/-- The values of latent attention. -/
theorem v181_math (b : Fin 4) (hd : Fin 8) (n : Fin 16) (e : Fin 144) (i : Fin 512) :
    (val_main_v181 (F := Ideal) x0 x1 x2 x6 x8 (ix5 b hd n e i) : EReal)
      = Math.mv (hid x0 x1 b ⟨n.val * 512 + i.val, by omega⟩) (fun d j => x2 (ix2 d j)) (fun r => x6 (ix1 r)) (fun k r => x8 (ix2 k r)) hd e := by
  simp only [v181_apply, v125_apply, v123_apply, v13_apply]
  rfl

/-- The scale of a head of 128 entries is a real number. -/
theorem v149_real : (val_main_v149 (F := Ideal) ix0 : EReal) = (((Real.sqrt 128)⁻¹ * (Real.log 2)⁻¹ : ℝ) : EReal) := by
  have e : Ideal.ofBits .f32 0x43000000#32 = ((128 : ℝ) : EReal) := by
    simp [Ideal.ofBits, Ideal.ieee]
    rw [← EReal.coe_mul]; norm_num
  have e' : Ideal.ofBits .f32 0x40000000#32 = ((2 : ℝ) : EReal) := by
    simp [Ideal.ofBits, Ideal.ieee]
    rw [← EReal.coe_mul]; norm_num
  have hl : Real.log 2 ≠ 0 := (Real.log_pos (by norm_num)).ne'
  have r : (val_main_v149 (F := Ideal) ix0 : EReal) = Ideal.div (Ideal.rsqrt (Ideal.ofBits .f32 0x43000000#32)) (Ideal.log (Ideal.ofBits .f32 0x40000000#32)) := by
    pointwise [val_main_v149, val_main_v148, val_main_cst_16, val_main_v147, val_main_cst_15]
  rw [r, e, e', Ideal.rsqrt_coe, if_neg (by norm_num), if_neg (by norm_num), Ideal.log_coe, if_neg (by norm_num)]
  exact Math.div_real_real _ hl

/-- The scale of a head of 96 entries is a real number. -/
theorem v152_real : (val_main_v152 (F := Ideal) ix0 : EReal) = (((Real.sqrt 96)⁻¹ * (Real.log 2)⁻¹ : ℝ) : EReal) := by
  have e : Ideal.ofBits .f32 0x42C00000#32 = ((96 : ℝ) : EReal) := by
    simp [Ideal.ofBits, Ideal.ieee]
    rw [← EReal.coe_mul]; norm_num
  have e' : Ideal.ofBits .f32 0x40000000#32 = ((2 : ℝ) : EReal) := by
    simp [Ideal.ofBits, Ideal.ieee]
    rw [← EReal.coe_mul]; norm_num
  have hl : Real.log 2 ≠ 0 := (Real.log_pos (by norm_num)).ne'
  have r : (val_main_v152 (F := Ideal) ix0 : EReal) = Ideal.div (Ideal.rsqrt (Ideal.ofBits .f32 0x42C00000#32)) (Ideal.log (Ideal.ofBits .f32 0x40000000#32)) := by
    pointwise [val_main_v152, val_main_v151, val_main_cst_18, val_main_v150, val_main_cst_17]
  rw [r, e, e', Ideal.rsqrt_coe, if_neg (by norm_num), if_neg (by norm_num), Ideal.log_coe, if_neg (by norm_num)]
  exact Math.div_real_real _ hl

end Cert.ProjRefIdeal.Body

end
-- ==== Proof.ProjClaims.lean ====
/- The projections' kernel and the plain projections have the same queries, keys and values, as functions of the arrays both are
   given. -/
module

public import proofs.«01_k».proof.Defs
public import proofs.«01_k».proof.Proof.ProjBlock
public import proofs.«01_k».proof.Proof.ProjRefValue

@[expose] public section

set_option maxRecDepth 16384

noncomputable section

namespace Cert.Claims.Proj

open Idealize.ShloMosaic Idealize.ShloMosaic.TcCoe Idealize.SL.Sem
open Cert.ProjIdeal.Body
open scoped BigOperators

variable (m : (ℓ : Loc Cert.ProjIdeal.nD Cert.ProjIdeal.τ Cert.ProjIdeal.sig) → Buf (Elt Ideal) ℓ) (c : Dev Cert.ProjIdeal.nD)

/-- The queries of grouped attention. -/
theorem gq_same : Cert.ProjRefIdeal.Read.val_main_v157 (F := Ideal) (argX m c) (argG m c) (argW m c) (argGq m c) (argCg m c) (argSg m c)
    = fun y : Cert.ProjIdeal.S4x8x16x128x512.Idx => gqAt m c (y 0) ⟨(y 2).val * 512 + (y 4).val, by have h2 : (y 2).val < 16 := (y 2).isLt; have h4 : (y 4).val < 512 := (y 4).isLt; omega⟩ (y 1) (y 3) := by
  funext y
  obtain ⟨b, h, n, e, i, rfl⟩ : ∃ b h n e i, y = ix5 b h n e i := ⟨y 0, y 1, y 2, y 3, y 4, by funext a; fin_cases a <;> rfl⟩
  refine (Cert.ProjRefIdeal.Body.v157_math _ _ _ _ _ _ b h n e i).trans ?_
  rw [Cert.ProjRefIdeal.Body.v149_real]
  rfl

/-- The keys of grouped attention. -/
theorem gk_same : Cert.ProjRefIdeal.Read.val_main_v159 (F := Ideal) (argX m c) (argG m c) (argW m c) (argGk m c) (argCg m c) (argSg m c)
    = fun y : Cert.ProjIdeal.S4x2x8192x128.Idx => gkAt m c (y 0) (y 2) (y 1) (y 3) := by
  funext y
  obtain ⟨b, h, s, e, rfl⟩ : ∃ b h s e, y = ix4 b h s e := ⟨y 0, y 1, y 2, y 3, by funext a; fin_cases a <;> rfl⟩
  refine (Cert.ProjRefIdeal.Body.v159_math _ _ _ _ _ _ b h s e).trans ?_
  rfl

/-- The values of grouped attention. -/
theorem gv_same : Cert.ProjRefIdeal.Read.val_main_v165 (F := Ideal) (argX m c) (argG m c) (argW m c)
    = fun y : Cert.ProjIdeal.S4x2x16x144x512.Idx => gvAt m c (y 0) ⟨(y 2).val * 512 + (y 4).val, by have h2 : (y 2).val < 16 := (y 2).isLt; have h4 : (y 4).val < 512 := (y 4).isLt; omega⟩ (y 1) (y 3) := by
  funext y
  obtain ⟨b, h, n, e, i, rfl⟩ : ∃ b h n e i, y = ix5 b h n e i := ⟨y 0, y 1, y 2, y 3, y 4, by funext a; fin_cases a <;> rfl⟩
  refine (Cert.ProjRefIdeal.Body.v165_math _ _ _ b h n e i).trans ?_
  rfl

/-- The queries of latent attention. -/
theorem mq_same : Cert.ProjRefIdeal.Read.val_main_v171 (F := Ideal) (argX m c) (argG m c) (argW m c) (argGa m c) (argUq m c) (argCm m c) (argSm m c)
    = fun y : Cert.ProjIdeal.S4x8x16x128x512.Idx => mqAt m c (y 0) ⟨(y 2).val * 512 + (y 4).val, by have h2 : (y 2).val < 16 := (y 2).isLt; have h4 : (y 4).val < 512 := (y 4).isLt; omega⟩ (y 1) (y 3) := by
  funext y
  obtain ⟨b, h, n, e, i, rfl⟩ : ∃ b h n e i, y = ix5 b h n e i := ⟨y 0, y 1, y 2, y 3, y 4, by funext a; fin_cases a <;> rfl⟩
  refine (Cert.ProjRefIdeal.Body.v171_math _ _ _ _ _ _ _ b h n e i).trans ?_
  rw [Cert.ProjRefIdeal.Body.v152_real]
  rfl

/-- The keys of latent attention. -/
theorem mk_same : Cert.ProjRefIdeal.Read.val_main_v174 (F := Ideal) (argX m c) (argG m c) (argW m c) (argGc m c) (argUk m c) (argCm m c) (argSm m c)
    = fun y : Cert.ProjIdeal.S4x8x8192x128.Idx => mkAt m c (y 0) (y 2) (y 1) (y 3) := by
  funext y
  obtain ⟨b, h, s, e, rfl⟩ : ∃ b h s e, y = ix4 b h s e := ⟨y 0, y 1, y 2, y 3, by funext a; fin_cases a <;> rfl⟩
  refine (Cert.ProjRefIdeal.Body.v174_math _ _ _ _ _ _ _ b h s e).trans ?_
  rfl

/-- The values of latent attention. -/
theorem mv_same : Cert.ProjRefIdeal.Read.val_main_v181 (F := Ideal) (argX m c) (argG m c) (argW m c) (argGc m c) (argUk m c)
    = fun y : Cert.ProjIdeal.S4x8x16x144x512.Idx => mvAt m c (y 0) ⟨(y 2).val * 512 + (y 4).val, by have h2 : (y 2).val < 16 := (y 2).isLt; have h4 : (y 4).val < 512 := (y 4).isLt; omega⟩ (y 1) (y 3) := by
  funext y
  obtain ⟨b, h, n, e, i, rfl⟩ : ∃ b h n e i, y = ix5 b h n e i := ⟨y 0, y 1, y 2, y 3, y 4, by funext a; fin_cases a <;> rfl⟩
  refine (Cert.ProjRefIdeal.Body.v181_math _ _ _ _ _ b h n e i).trans ?_
  rfl

/-- The two scales are the values their names are given. -/
theorem preserves : Cert.preserves_Proj_ProjIdeal :=
  ⟨IdealRules.named_const.statement Cert.ProjIdeal.κ "scale_m" .f32 0x3E16C740#32 (((Real.sqrt 96)⁻¹ * (Real.log 2)⁻¹ : ℝ) : EReal) rfl,
   IdealRules.named_const.statement Cert.ProjIdeal.κ "scale_g" .f32 0x3E0293EE#32 (((Real.sqrt 128)⁻¹ * (Real.log 2)⁻¹ : ℝ) : EReal) rfl⟩

end Cert.Claims.Proj

end
-- ==== Proof.DestMath.lean ====
/- The layout of the rows of each expert in whole blocks, over the natural numbers, and the whole numbers among the extended reals. -/
module

public import Idealize.ShloMosaic.Lib.Pointwise
public import Idealize.ShloMosaic.Lib.Claim
public import Idealize.ShloMosaic.Lib.WordCmp
public import Idealize.ShloMosaic.Lib.Routing.Ops

@[expose] public section

noncomputable section

namespace Math

open Idealize.ShloMosaic
open scoped BigOperators

/-- A count of rows, up to a whole number of blocks of 256. -/
def padTo (n : ℕ) : ℕ := (n + 255) / 256 * 256
/-- The end of the rows of expert `e`. -/
def ends (N : ℕ → ℕ) (e : ℕ) : ℕ := ((List.range (e + 1)).map fun k => padTo (N k)).sum
/-- Their start. -/
def starts (N : ℕ → ℕ) (e : ℕ) : ℕ := ends N e - padTo (N e)
/-- The number of experts whose rows end at or before block `q`. -/
def passed (N : ℕ → ℕ) (q : ℕ) : ℕ := (Finset.univ.filter fun e : Fin 64 => ends N e.val ≤ q * 256).card

theorem padTo_le {n : ℕ} (h : n ≤ 65536) : padTo n ≤ 65536 := by unfold padTo; omega
theorem le_padTo (n : ℕ) : n ≤ padTo n := by unfold padTo; omega

theorem ends_succ (N : ℕ → ℕ) (e : ℕ) : ends N (e + 1) = ends N e + padTo (N (e + 1)) := by
  unfold ends
  rw [List.range_succ, List.map_append, List.sum_append]
  simp

theorem ends_zero (N : ℕ → ℕ) : ends N 0 = padTo (N 0) := by simp [ends]

theorem padTo_le_ends (N : ℕ → ℕ) (e : ℕ) : padTo (N e) ≤ ends N e := by
  cases e with
  | zero => rw [ends_zero]
  | succ e => rw [ends_succ]; omega

theorem ends_le (N : ℕ → ℕ) (hN : ∀ e, N e ≤ 65536) (e : ℕ) : ends N e ≤ 65536 * (e + 1) := by
  induction e with
  | zero => rw [ends_zero]; exact (padTo_le (hN 0)).trans (by omega)
  | succ e ih => rw [ends_succ]; have := padTo_le (hN (e + 1)); omega

theorem ends_sum (N : ℕ → ℕ) (e : Fin 64) : ((ends N e.val : ℕ) : ℝ) = ∑ k : Fin 64, if k.val ≤ e.val then (padTo (N k.val) : ℝ) else 0 := by
  have hs : ∀ m, ((ends N m : ℕ) : ℝ) = ∑ k ∈ Finset.range (m + 1), (padTo (N k) : ℝ) := by
    intro m
    induction m with
    | zero => rw [ends_zero, Finset.sum_range_one]
    | succ m ih => rw [ends_succ, Nat.cast_add, ih, ← Finset.sum_range_succ (fun k : ℕ => (padTo (N k) : ℝ))]
  have h := e.isLt
  rw [hs, ← Finset.sum_range (fun k : ℕ => if k ≤ e.val then (padTo (N k) : ℝ) else 0), ← Finset.sum_filter,
    show (Finset.range 64).filter (fun k => k ≤ e.val) = Finset.range (e.val + 1) from by ext k; simp; omega]

/-- A whole number read back from the extended reals. -/
theorem fptosi_nat (n : ℕ) (h : n < 2 ^ 31) : Ideal.fptosi 32 (((n : ℕ) : ℝ) : EReal) = BitVec.ofNat 32 n := by
  rw [Ideal.fptosi, Ideal.toIntClamped_coe, if_pos (Nat.cast_nonneg n), Int.floor_natCast, min_eq_right (by norm_num; omega),
    max_eq_right (by norm_num)]
  rfl

/-- The sum of one entry picked among zeros. -/
theorem sum_pick (f : Fin 64 → EReal) (e : Fin 64) (p : Fin 64 → Prop) [DecidablePred p] (hp : ∀ k, p k ↔ k = e) :
    (∑ k : Fin 64, if p k then f k else 0) = f e := by
  simp only [hp, Finset.sum_ite_eq', Finset.mem_univ, if_true]

/-- The padded count, in the arithmetic of the extended reals. -/
theorem padTo_real (n : ℕ) : ((⌊((n : ℝ) + 255) * (1 / 256)⌋ : ℤ) : ℝ) * 256 = ((padTo n : ℕ) : ℝ) := by
  have h : ⌊((n : ℝ) + 255) * (1 / 256)⌋ = (((n + 255) / 256 : ℕ) : ℤ) := by
    have e : (n + 255) / 256 * 256 + (n + 255) % 256 = n + 255 := by omega
    have l : (((n + 255) % 256 : ℕ) : ℝ) < 256 := by exact_mod_cast (show (n + 255) % 256 < 256 by omega)
    have p : (0 : ℝ) ≤ (((n + 255) % 256 : ℕ) : ℝ) := Nat.cast_nonneg _
    have e' : (((n + 255) / 256 : ℕ) : ℝ) * 256 + (((n + 255) % 256 : ℕ) : ℝ) = (n : ℝ) + 255 := by exact_mod_cast e
    rw [Int.floor_eq_iff, Int.cast_natCast]
    generalize (((n + 255) / 256 : ℕ) : ℝ) = a at e' ⊢
    generalize (((n + 255) % 256 : ℕ) : ℝ) = b at e' l p
    exact ⟨by linarith, by linarith⟩
  rw [h, Int.cast_natCast]
  unfold padTo
  rw [Nat.cast_mul]
  norm_num

theorem dvd_ends (N : ℕ → ℕ) (e : ℕ) : 256 ∣ ends N e := by
  induction e with
  | zero => rw [ends_zero]; exact Dvd.intro_left _ rfl
  | succ e ih => rw [ends_succ]; exact Dvd.dvd.add ih (Dvd.intro_left _ rfl)

theorem starts_real (N : ℕ → ℕ) (e : ℕ) : ((starts N e : ℕ) : ℝ) = (ends N e : ℝ) - (padTo (N e) : ℝ) := Nat.cast_sub (padTo_le_ends N e)

/-- The number of whole blocks before the end. -/
theorem blocks_real (N : ℕ → ℕ) (e : ℕ) : (ends N e : ℝ) * (1 / 256) = ((ends N e / 256 : ℕ) : ℝ) := by
  obtain ⟨q, hq⟩ := dvd_ends N e
  rw [hq, Nat.mul_div_cancel_left q (by norm_num)]
  push_cast
  ring

/-- A sum of reals among the extended reals. -/
theorem coe_sum {ι : Type} [Fintype ι] (f : ι → ℝ) : (∑ i, ((f i : ℝ) : EReal)) = ((∑ i, f i : ℝ) : EReal) :=
  (map_sum (⟨⟨Real.toEReal, EReal.coe_zero⟩, EReal.coe_add⟩ : ℝ →+ EReal) f Finset.univ).symm

/-- The words of the literals. -/
theorem lit255 : Ideal.ofBits .f32 0x437F0000#32 = ((255 : ℝ) : EReal) := by
  norm_num [Ideal.ofBits, Ideal.ieee, Nat.shiftRight_eq_div_pow]; decide
theorem lit256 : Ideal.ofBits .f32 0x43800000#32 = ((256 : ℝ) : EReal) := by
  norm_num [Ideal.ofBits, Ideal.ieee, Nat.shiftRight_eq_div_pow]; decide
theorem litInv : Ideal.ofBits .f32 0x3B800000#32 = ((1 / 256 : ℝ) : EReal) := by
  norm_num [Ideal.ofBits, Ideal.ieee, Nat.shiftRight_eq_div_pow]; decide
theorem lit8 : Ideal.ofBits .f32 0x41000000#32 = ((8 : ℝ) : EReal) := by
  norm_num [Ideal.ofBits, Ideal.ieee, Nat.shiftRight_eq_div_pow]; decide
theorem lit63 : Ideal.ofBits .f32 0x427C0000#32 = ((63 : ℝ) : EReal) := by
  norm_num [Ideal.ofBits, Ideal.ieee, Nat.shiftRight_eq_div_pow]; decide

/-- A choice by the comparison of two small words. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [Scalar.select, h]
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b <;> simp [Scalar.select, h]

/-- A small natural number as a word, read as a real. -/
theorem sitofp_nat (n : ℕ) (h : n < 2 ^ 31) : (FloatOps.sitofp (F := Ideal) .f32 (BitVec.ofNat 32 n) : EReal) = ((n : ℝ) : EReal) := by
  show (((BitVec.ofNat 32 n).toInt : ℝ) : EReal) = _
  rw [StableHlo.Predicate.toInt_ofNat_small n h]
  norm_num

end Math

end
-- ==== Proof.DestPoint.lean ====
/- What one point of the routing's layout kernel stores, over the natural numbers. -/
module

public import proofs.«01_k».proof.Proof.Gen.DestIdeal.Skeleton
public import proofs.«01_k».proof.Proof.DestMath
public import Idealize.ShloMosaic.Lib.Claim
public import Idealize.ShloMosaic.Lib.Pointwise

@[expose] public section

set_option maxRecDepth 16384

noncomputable section

namespace Cert.DestIdeal.Body

open Idealize.ShloMosaic Idealize.ShloMosaic.TcCoe Idealize.SL.Sem
open Cert.DestIdeal Cert.DestIdeal.Gen
open scoped BigOperators

variable (N : ℕ → ℕ) (v0 : Vec Ideal S64x128 .f32) (hN : ∀ e, N e ≤ 65536)
  (hv : ∀ (e : Fin 64) (l : Fin 128), (v0 (ix2 e l) : EReal) = ((N e.val : ℝ) : EReal))

section
include hv

theorem pay6_apply (e : Fin 64) (l : Fin 128) : (k0_pay6 v0 (ix2 e l) : EReal) = ((N e.val : ℝ) : EReal) := by
  pointwise [k0_pay6, hv]

/-- The counts in whole blocks. -/
theorem pay7_apply (e : Fin 64) (l : Fin 128) : (k0_pay7 v0 (ix2 e l) : EReal) = ((Math.padTo (N e.val) : ℝ) : EReal) := by
  pointwise [k0_pay7, k0_pay6, hv]
  rw [Math.lit255, Math.lit256, Math.litInv, ← EReal.coe_add, ← EReal.coe_mul, Ideal.liftRound_coe, ← EReal.coe_mul, Math.padTo_real]

/-- The ends. -/
theorem pay8_apply (e : Fin 64) (l : Fin 128) : (k0_pay8 v0 (ix2 e l) : EReal) = ((Math.ends N e.val : ℝ) : EReal) := by
  have h7 := pay7_apply N v0 hv
  unfold k0_pay8
  generalize k0_pay7 v0 = p at h7 ⊢
  pointwise [h7]
  have he := e.isLt
  rw [Math.ends_sum, ← Math.coe_sum]
  refine Finset.sum_congr rfl fun k _ => ?_
  have hk := k.isLt
  rw [Math.select_le _ _ (by omega) (by omega)]
  split <;> rfl

/-- The starts. -/
theorem pay9_apply (e : Fin 64) : (k0_pay9 v0 (ix2 e 0) : EReal) = ((Math.starts N e.val : ℝ) : EReal) := by
  have h7 := pay7_apply N v0 hv
  have h8 := pay8_apply N v0 hv
  unfold k0_pay9
  generalize k0_pay7 v0 = p at h7 ⊢
  generalize k0_pay8 v0 = q at h8 ⊢
  pointwise [h7, h8]
  rw [Math.starts_real, EReal.coe_sub]
end

include hN

theorem ends_lt (e : Fin 64) : Math.ends N e.val ≤ 2 ^ 22 := by
  have h := Math.ends_le N hN e.val
  have he := e.isLt
  omega

theorem starts_lt (e : Fin 64) : Math.starts N e.val ≤ 2 ^ 22 := (Nat.sub_le _ _).trans (ends_lt N hN e)

/-- The start of one expert, picked from the column of starts. -/
theorem pick (p : FVec Ideal S64x1 .f32) (hp : ∀ e : Fin 64, (p (ix2 e 0) : EReal) = ((Math.starts N e.val : ℝ) : EReal)) (e : Fin 64) :
    (FloatOps.fptosi (F := Ideal) (φ := .f32) 32 (∑ x : Fin 64, Scalar.select (IntOp.cmpi .eq (BitVec.ofNat 32 x.val) (BitVec.ofNat 32 e.val))
      ((Math.starts N x.val : ℝ) : EReal) 0) : BitVec 32) = BitVec.ofNat 32 (Math.starts N e.val) := by
  have he := e.isLt
  have hs := starts_lt N hN e
  refine Eq.trans (congrArg (Ideal.fptosi 32) (Eq.trans (Finset.sum_congr rfl fun k _ => ?_)
    (Math.sum_pick (fun k => ((Math.starts N k.val : ℝ) : EReal)) e (fun k => k.val = e.val) fun k => Fin.ext_iff.symm))) (Math.fptosi_nat _ (by omega))
  have hk := k.isLt
  exact Math.select_eq _ _ (by omega) (by omega) _ _

/-- A row of destinations. -/
theorem pay12_apply (p : FVec Ideal S64x1 .f32) (hp : ∀ e : Fin 64, (p (ix2 e 0) : EReal) = ((Math.starts N e.val : ℝ) : EReal))
    (v36 v46 : Vec Ideal S1x512 .i32) (j : Fin 512) (e : Fin 64) (he : v36 (ix2 0 j) = BitVec.ofNat 32 e.val) :
    (k0_pay12 p (iota .tc S64x512 32 [0] iota_S64x512_d0_w32) v36 v46 (ix2 0 j) : BitVec 32)
      = (BitVec.ofNat 32 (Math.starts N e.val) + v46 (ix2 0 j)) * 8#32 := by
  unfold k0_pay12
  pointwise [hp, he]
  rw [pick N hN p hp e]
  rfl

include hv in
theorem pay11_apply (v21 v31 : Vec Ideal S1x512 .i32) (j : Fin 512) (e : Fin 64) (he : v21 (ix2 0 j) = BitVec.ofNat 32 e.val) :
    (k0_pay11 v0 v21 v31 (ix2 0 j) : BitVec 32) = (BitVec.ofNat 32 (Math.starts N e.val) + v31 (ix2 0 j)) * 8#32 :=
  pay12_apply N hN (k0_pay9 v0) (pay9_apply N v0 hv) v21 v31 j e he

variable (v1 v8 v15 : FVec Ideal S64x128 .f32) (h6 : ∀ (e : Fin 64) (l : Fin 128), (v1 (ix2 e l) : EReal) = ((N e.val : ℝ) : EReal))
  (h7 : ∀ (e : Fin 64) (l : Fin 128), (v8 (ix2 e l) : EReal) = ((Math.padTo (N e.val) : ℝ) : EReal))
  (h8 : ∀ (e : Fin 64) (l : Fin 128), (v15 (ix2 e l) : EReal) = ((Math.ends N e.val : ℝ) : EReal))

include h8

/-- The expert of a block. -/
theorem pay13_apply (r : Fin 8) (j : Fin 384) : (k0_pay13 v15 (ix2 r j) : BitVec 32) = BitVec.ofNat 32 (min (Math.passed N j.val) 63) := by
  have hj := j.isLt
  unfold k0_pay13
  pointwise [h8]
  rw [show IntOp.muli (BitVec.ofNat 32 j.val) 256#32 = BitVec.ofNat 32 (j.val * 256) from (BitVec.ofNat_mul _ _).symm,
    Math.sitofp_nat _ (by omega), Math.lit63]
  have h : (∑ x : Fin 64, if ((Math.ends N x.val : ℝ) : EReal) ≤ (((j.val * 256 : ℕ) : ℝ) : EReal) then (1 : EReal) else 0)
      = ((Math.passed N j.val : ℝ) : EReal) := by
    unfold Math.passed
    rw [Finset.card_filter, Nat.cast_sum, ← Math.coe_sum]
    refine Finset.sum_congr rfl fun x _ => ?_
    simp only [EReal.coe_le_coe_iff, Nat.cast_le]
    split <;> simp
  rw [h, show ((63 : ℝ) : EReal) = (((63 : ℕ) : ℝ) : EReal) from by norm_num, ← EReal.coe_strictMono.monotone.map_min, ← Nat.cast_min]
  exact Math.fptosi_nat _ (by omega)

/-- The number of blocks. -/
theorem pay14_apply (r : Fin 8) (j : Fin 128) : (k0_pay14 v15 (ix2 r j) : BitVec 32) = BitVec.ofNat 32 (Math.ends N 63 / 256) := by
  have h := ends_lt N hN 63
  unfold k0_pay14
  pointwise [h8]
  rw [Math.litInv]
  change Ideal.fptosi 32 (((Math.ends N 63 : ℝ) : EReal) * ((1 / 256 : ℝ) : EReal)) = _
  rw [← EReal.coe_mul, Math.blocks_real]
  exact Math.fptosi_nat _ (by have : Math.ends N 63 ≤ 2 ^ 22 := h; omega)

theorem pay5_apply (j : Fin 128) : (k0_pay5 v15 (ix2 0 j) : BitVec 32) = BitVec.ofNat 32 (Math.ends N 63 / 256) := by
  have h := ends_lt N hN 63
  unfold k0_pay5
  pointwise [h8]
  rw [Math.litInv]
  change Ideal.fptosi 32 (((Math.ends N 63 : ℝ) : EReal) * ((1 / 256 : ℝ) : EReal)) = _
  rw [← EReal.coe_mul, Math.blocks_real]
  exact Math.fptosi_nat _ (by have : Math.ends N 63 ≤ 2 ^ 22 := h; omega)

omit hN h8 in
/-- A diagonal summed along its columns. -/
theorem diag (f : ℕ → ℕ) (hf : ∀ e : Fin 64, f e.val < 2 ^ 31) (j : Fin 128) :
    (Ideal.fptosi 32 (∑ x : Fin 64, Scalar.select (IntOp.cmpi .eq (BitVec.ofNat 32 x.val) (BitVec.ofNat 32 j.val)) ((f x.val : ℝ) : EReal) 0) : BitVec 32)
      = BitVec.ofNat 32 (if j.val < 64 then f j.val else 0) := by
  have hj := j.isLt
  have e : (∑ x : Fin 64, Scalar.select (IntOp.cmpi .eq (BitVec.ofNat 32 x.val) (BitVec.ofNat 32 j.val)) ((f x.val : ℝ) : EReal) 0)
      = (((if j.val < 64 then f j.val else 0 : ℕ) : ℝ) : EReal) := by
    refine Eq.trans (Finset.sum_congr rfl fun k _ => Math.select_eq _ _ (by have := k.isLt; omega) (by omega) _ _) ?_
    by_cases h : j.val < 64
    · rw [if_pos h]
      exact Math.sum_pick (fun k => ((f k.val : ℝ) : EReal)) ⟨j.val, h⟩ (fun k => k.val = j.val) fun k => ⟨fun e => Fin.ext e, fun e => congrArg Fin.val e⟩
    · rw [if_neg h]
      refine (Finset.sum_eq_zero fun k _ => if_neg ?_).trans (by simp)
      have := k.isLt
      omega
  rw [e]
  refine Math.fptosi_nat _ ?_
  split
  · exact hf ⟨j.val, by assumption⟩
  · norm_num

include h7 h6
/-- The first row after an expert's last. -/
theorem pay3_apply (j : Fin 128) :
    (k0_pay3 v1 v8 v15 (ix2 0 j) : BitVec 32) = BitVec.ofNat 32 (if j.val < 64 then (Math.starts N j.val + N j.val) * 8 else 0) := by
  unfold k0_pay3 k0_pay1
  pointwise [h6, h7, h8]
  rw [Math.lit8]
  refine Eq.trans (congrArg (Ideal.fptosi 32) (Finset.sum_congr rfl fun x _ => ?_))
    (diag (fun e => (Math.starts N e + N e) * 8) (fun e => by have := starts_lt N hN e; have := hN e.val; omega) j)
  congr 1
  rw [← EReal.coe_sub, ← EReal.coe_add, ← EReal.coe_mul, ← Math.starts_real]
  push_cast
  rfl

omit h8 in
/-- The number of rows that pad it. -/
theorem pay4_apply (j : Fin 128) : (k0_pay4 v1 v8 (ix2 0 j) : BitVec 32) = BitVec.ofNat 32 (if j.val < 64 then Math.padTo (N j.val) - N j.val else 0) := by
  unfold k0_pay4 k0_pay1
  pointwise [h6, h7]
  refine Eq.trans (congrArg (Ideal.fptosi 32) (Finset.sum_congr rfl fun x _ => ?_))
    (diag (fun e => Math.padTo (N e) - N e) (fun e => by have := Math.padTo_le (hN e.val); omega) j)
  congr 1
  rw [← EReal.coe_sub, Nat.cast_sub (Math.le_padTo _)]

end Cert.DestIdeal.Body

end
-- ==== Proof.DestValue.lean ====
/- The results of the routing's layout kernel: where the row of each chosen expert goes, the expert of each block, the number of blocks
   and the rows that pad each expert. -/
module

public import proofs.«01_k».proof.Proof.Gen.DestIdeal.Frame
public import proofs.«01_k».proof.Proof.DestPoint
public import Idealize.ShloMosaic.Lib.Claim
public import Idealize.ShloMosaic.Lib.Pointwise
public import Idealize.ShloMosaic.Lib.Pipeline.ValueKit

@[expose] public section

set_option maxRecDepth 16384

noncomputable section

namespace Cert.DestIdeal.Body

open Idealize.ShloMosaic Idealize.ShloMosaic.TcCoe Idealize.SL.Sem
open Cert.DestIdeal Cert.DestIdeal.Gen
open scoped BigOperators

variable (m : (ℓ : Loc nD τ sig) → Buf (Elt Ideal) ℓ) (c : Dev nD)

/-- The arrays the program is given. -/
abbrev argS : IVec S64 32 := m ((c.tc : Thread nD τ).loc main_arg0)
abbrev argR : IVec S8x32768 32 := m ((c.tc : Thread nD τ).loc main_arg1)

/-- The host's array of counts. -/
abbrev arrC : FVec Ideal S64x128 .f32 := V m c main_v2

theorem arrC_apply (e : Fin 64) (l : Fin 128) : (arrC m c (ix2 e l) : EReal) = FloatOps.sitofp (F := Ideal) .f32 (argS m c (ix1 e)) := by
  unfold arrC
  entry_read
  pointwise

/-- The blocks the windows show at a point of the grid. -/
theorem idx : ∀ t : Fin cfg0.N, win0_0.index t = ![0, 0] ∧ win0_1.index t = ![0, t.val] ∧ win0_2.index t = ![0, t.val] ∧ win0_3.index t = ![0, 0]
    ∧ win0_4.index t = ![0, 0] ∧ win0_5.index t = ![0, 0] ∧ t.val < 64 :=
  (by decide +kernel : ∀ t : Fin grid0.N, _)

theorem lt_N (t : Fin cfg0.N) : t.val < 64 := (idx t).2.2.2.2.2.2

/-- The token at a column of a point's block. -/
def tok (t : Fin cfg0.N) (j : Fin 512) : Fin 32768 := ⟨t.val * 512 + j.val, by have := lt_N t; omega⟩

theorem blkC_of (x : FVec Ideal S64x128 .f32) (t : Fin cfg0.N) (e : Fin 64) (l : Fin 128) :
    ((((cfg0.win 0).blk t).view.read (Elt Ideal) x) (ix2 e l) : EReal) = x (ix2 e l) := by
  blk_ext [idx t]

theorem blkR_of (x : IVec S8x32768 32) (t : Fin cfg0.N) (r : Fin 8) (j : Fin 512) :
    ((((cfg0.win 1).blk t).view.read (Elt Ideal) x) (ix2 r j) : BitVec 32) = x (ix2 r (tok t j)) := by
  blk_ext [idx t, tok]

theorem blkC (t : Fin cfg0.N) (e : Fin 64) (l : Fin 128) : (iblk m c 0 t (ix2 e l) : EReal) = FloatOps.sitofp (F := Ideal) .f32 (argS m c (ix1 e)) :=
  (blkC_of (V m c main_v2) t e l).trans (arrC_apply m c e l)
theorem blkR (t : Fin cfg0.N) (r : Fin 8) (j : Fin 512) : (iblk m c 1 t (ix2 r j) : BitVec 32) = argR m c (ix2 r (tok t j)) :=
  (blkR_of (V m c main_arg1) t r j).trans (by rw [V_main_arg1])

/-- A row stored last into a block of eight rows. -/
theorem canon_row {Val : EltTy → Type} [∀ e, Nonempty (Val e)] {e : EltTy} {W o : ℕ} (inb : ∀ a, (![o, 0] : Fin 2 → ℕ) a + (![1, W] : Fin 2 → ℕ) a ≤ (⟨2, ![8, W]⟩ : Shape).size a)
    (w : (Rect.unit (s := ⟨2, ![8, W]⟩) ![o, 0] ![1, W] inb).shape.Idx → Val e) (L : List (View.Piece Val ⟨2, ![8, W]⟩ e)) (r : Fin 8) (j : Fin W) :
    View.canon ((⟨Rect.unit (s := ⟨2, ![8, W]⟩) ![o, 0] ![1, W] inb, w⟩ : View.Piece Val ⟨2, ![8, W]⟩ e) :: L) (ix2 r j)
      = if r.val = o then w (ix2 0 j) else View.canon L (ix2 r j) := by
  by_cases h : r.val = o
  · rw [if_pos h]
    have hy : (Rect.unit (s := ⟨2, ![8, W]⟩) ![o, 0] ![1, W] inb).emb (ix2 0 j) = ix2 r j := funext fun a => Fin.ext (by
      match a with
      | ⟨0, _⟩ => show o + 1 * 0 = r.val; omega
      | ⟨1, _⟩ => show 0 + 1 * j.val = j.val; omega)
    rw [← hy]
    exact View.canon_cons_emb _ _ _ _
  · rw [if_neg h, View.canon_cons_of_not_mem]
    intro hm
    have h1 : o ≤ r.val ∧ r.val < o + 1 := ((Rect.mem_set_unit (inb := inb)).1 hm) 0
    omega

/-- A row of a block of eight rows. -/
theorem ld_row (x : IVec S8x512 32) (k : ℕ) (hk : k < 8) (inb : ∀ a, (![k, 0] : Fin 2 → ℕ) a + (![1, 512] : Fin 2 → ℕ) a ≤ S8x512.size a) (j : Fin 512) :
    (View.ld (Val := Elt Ideal) (e' := .i32) x (Rect.unit (s := S8x512) ![k, 0] ![1, 512] inb) (ix2 0 j) : BitVec 32) = x (ix2 ⟨k, hk⟩ j) := by
  refine congrArg x (funext fun a => Fin.ext ?_)
  match a with
  | ⟨0, _⟩ => show k + 1 * 0 = k; omega
  | ⟨1, _⟩ => show 0 + 1 * j.val = j.val; omega

/-- The counts and the chosen experts are in range. -/
structure InRange (N : ℕ → ℕ) (s : IVec S64 32) (x : IVec S8x32768 32) : Prop where
  le : ∀ e, N e ≤ 65536
  count : ∀ e : Fin 64, s (ix1 e) = BitVec.ofNat 32 (N e.val)
  expert : ∀ (k : Fin 2) (t : Fin 32768), ∃ e : Fin 64, x (ix2 ⟨k.val, by omega⟩ t) = BitVec.ofNat 32 e.val

/-- The four results. -/
def destOf (N : ℕ → ℕ) (x : IVec S8x32768 32) (r : Fin 8) (t : Fin 32768) : BitVec 32 :=
  if h : r.val < 2 then (BitVec.ofNat 32 (Math.starts N (x (ix2 r t)).toNat) + x (ix2 ⟨r.val + 2, by omega⟩ t)) * 8#32 else 0#32
def blkOf (N : ℕ → ℕ) (j : Fin 384) : BitVec 32 := BitVec.ofNat 32 (min (Math.passed N j.val) 63)
def nusedOf (N : ℕ → ℕ) : BitVec 32 := BitVec.ofNat 32 (Math.ends N 63 / 256)
def padOf (N : ℕ → ℕ) (r : Fin 8) (j : Fin 128) : BitVec 32 :=
  if r.val = 0 then BitVec.ofNat 32 (if j.val < 64 then (Math.starts N j.val + N j.val) * 8 else 0)
  else if r.val = 1 then BitVec.ofNat 32 (if j.val < 64 then Math.padTo (N j.val) - N j.val else 0)
  else if r.val = 2 then nusedOf N else 0#32

variable (N : ℕ → ℕ) (h : InRange N (argS m c) (argR m c))

include h

theorem cnt_block (t : Fin cfg0.N) (e : Fin 64) (l : Fin 128) : (iblk m c 0 t (ix2 e l) : EReal) = ((N e.val : ℝ) : EReal) := by
  rw [blkC, h.count]
  exact Math.sitofp_nat _ (by have := h.le e.val; omega)

/-- The expert of each block, after the run. -/
theorem final_blk : (dats m 0 c).arrAt 3 (cfgs 0).N = fun y : S8x384.Idx => blkOf N (y 1) := by
  refine (dats m 0 c).arrAt_eq_of_covers 3 _ (by decide +kernel) fun t _ y => ?_
  blk_simp [idx t]
  rw [after0_3]
  frame_out
  obtain ⟨r, j, rfl⟩ : ∃ (r : Fin 8) (j : Fin 384), y = ix2 r j := ⟨y 0, y 1, by funext a; match a with | ⟨0, _⟩ => rfl | ⟨1, _⟩ => rfl⟩
  refine (pay13_apply N h.le _ (pay8_apply N _ (cnt_block m c N h t)) r j).trans ?_
  refine congrArg (blkOf N) (Fin.ext ?_)
  blk_simp [idx t]
  try (dsimp only; omega)

/-- The number of blocks, after the run. -/
theorem final_nused : (dats m 0 c).arrAt 4 (cfgs 0).N = fun y : S8x128.Idx => nusedOf N := by
  refine (dats m 0 c).arrAt_eq_of_covers 4 _ (by decide +kernel) fun t _ y => ?_
  blk_simp [idx t]
  rw [after0_4]
  frame_out
  obtain ⟨r, j, rfl⟩ : ∃ (r : Fin 8) (j : Fin 128), y = ix2 r j := ⟨y 0, y 1, by funext a; match a with | ⟨0, _⟩ => rfl | ⟨1, _⟩ => rfl⟩
  exact pay14_apply N h.le _ (pay8_apply N _ (cnt_block m c N h t)) r j

/-- The rows that pad each expert, after the run. -/
theorem final_pad : (dats m 0 c).arrAt 5 (cfgs 0).N = fun y : S8x128.Idx => padOf N (y 0) (y 1) := by
  refine (dats m 0 c).arrAt_eq_of_covers 5 _ (by decide +kernel) fun t _ y => ?_
  blk_simp [idx t]
  rw [after0_5]
  frame_out
  obtain ⟨r, j, rfl⟩ : ∃ (r : Fin 8) (j : Fin 128), y = ix2 r j := ⟨y 0, y 1, by funext a; match a with | ⟨0, _⟩ => rfl | ⟨1, _⟩ => rfl⟩
  have hc := cnt_block m c N h t
  have h6 := pay6_apply N _ hc
  have h7 := pay7_apply N _ hc
  have h8 := pay8_apply N _ hc
  have e : padOf N r j = padOf N (((View.whole main_v3_3).slice (win0_5.rect t)).emb (ix2 r j) 0) (((View.whole main_v3_3).slice (win0_5.rect t)).emb (ix2 r j) 1) := by
    refine congr (congrArg (padOf N) (Fin.ext ?_)) (Fin.ext ?_) <;> blk_simp [idx t] <;> (try dsimp only) <;> (try omega)
  refine Eq.trans ?_ e
  refine (canon_row _ _ _ r j).trans ?_
  rw [canon_row, canon_row, View.canon_cons_unit_lit (S := S8x128) _ _ _ (by decide), pay5_apply N h.le _ h8, pay4_apply N h.le _ _ h6 h7,
    pay3_apply N h.le _ _ _ h6 h7 h8]
  unfold padOf nusedOf
  have hr := r.isLt
  by_cases h0 : r.val = 0
  · simp [h0]
  · by_cases h1 : r.val = 1
    · simp [h1]
    · by_cases h2 : r.val = 2
      · simp [h2]
      · simp [h0, h1, h2]
        rfl

/-- The destinations, after the run. -/
theorem final_dest : (dats m 0 c).arrAt 2 (cfgs 0).N = fun y : S8x32768.Idx => destOf N (argR m c) (y 0) (y 1) := by
  refine (dats m 0 c).arrAt_eq_of_covers 2 _ (by decide +kernel) fun t _ y => ?_
  blk_simp [idx t]
  rw [after0_2]
  unfold outsAt0
  dsimp only
  frame_out
  obtain ⟨r, j, rfl⟩ : ∃ (r : Fin 8) (j : Fin 512), y = ix2 r j := ⟨y 0, y 1, by funext a; match a with | ⟨0, _⟩ => rfl | ⟨1, _⟩ => rfl⟩
  have hc := cnt_block m c N h t
  have h9 := pay9_apply N _ hc
  have e : destOf N (argR m c) r (tok t j)
      = destOf N (argR m c) (((View.whole main_v3_0).slice (win0_2.rect t)).emb (ix2 r j) 0) (((View.whole main_v3_0).slice (win0_2.rect t)).emb (ix2 r j) 1) := by
    refine congr (congrArg (destOf N (argR m c)) (Fin.ext ?_)) (Fin.ext ?_) <;> blk_simp [idx t, tok] <;> (try dsimp only) <;> (try omega)
  refine Eq.trans ?_ e
  refine (canon_row _ _ _ r j).trans ?_
  rw [canon_row, View.canon_cons_unit_lit (S := S8x512) _ _ _ (by decide)]
  obtain ⟨e0, he0⟩ := h.expert 0 (tok t j)
  obtain ⟨e1, he1⟩ := h.expert 1 (tok t j)
  have p0 := pay11_apply N _ h.le hc (View.ld (Val := Elt Ideal) (e' := .i32) (iblk m c 1 t) (Rect.unit (s := S8x512) ![0, 0] ![1, 512] inb_S8x512_S1x512_0_0))
    (View.ld (Val := Elt Ideal) (e' := .i32) (iblk m c 1 t) (Rect.unit (s := S8x512) ![2, 0] ![1, 512] inb_S8x512_S1x512_2_0)) j e0
    ((ld_row _ 0 (by omega) _ j).trans ((blkR m c t _ j).trans he0))
  have p1 := pay12_apply N h.le (k0_pay9 (iblk m c 0 t)) h9 (View.ld (Val := Elt Ideal) (e' := .i32) (iblk m c 1 t) (Rect.unit (s := S8x512) ![1, 0] ![1, 512] inb_S8x512_S1x512_1_0))
    (View.ld (Val := Elt Ideal) (e' := .i32) (iblk m c 1 t) (Rect.unit (s := S8x512) ![3, 0] ![1, 512] inb_S8x512_S1x512_3_0)) j e1
    ((ld_row _ 1 (by omega) _ j).trans ((blkR m c t _ j).trans he1))
  have q0 := (ld_row (iblk m c 1 t) 2 (by omega) inb_S8x512_S1x512_2_0 j).trans (blkR m c t ⟨2, by omega⟩ j)
  have q1 := (ld_row (iblk m c 1 t) 3 (by omega) inb_S8x512_S1x512_3_0 j).trans (blkR m c t ⟨3, by omega⟩ j)
  rw [q0] at p0
  rw [q1] at p1
  have hr := r.isLt
  have n0 : (argR m c (ix2 (0 : Fin 8) (tok t j))).toNat = e0.val := by
    refine (congrArg BitVec.toNat he0).trans ?_
    have := e0.isLt
    rw [BitVec.toNat_ofNat]; omega
  have n1 : (argR m c (ix2 (1 : Fin 8) (tok t j))).toNat = e1.val := by
    refine (congrArg BitVec.toNat he1).trans ?_
    have := e1.isLt
    rw [BitVec.toNat_ofNat]; omega
  unfold destOf
  by_cases h0 : r.val = 0
  · obtain rfl : r = 0 := Fin.ext h0
    rw [if_neg (by decide), if_pos (by decide), dif_pos (by decide), n0]
    exact p0
  · by_cases h1 : r.val = 1
    · obtain rfl : r = 1 := Fin.ext h1
      rw [if_pos (by decide), dif_pos (by decide), n1]
      exact p1
    · rw [if_neg h1, if_neg h0, dif_neg (by omega)]
      rfl

end Cert.DestIdeal.Body

end
-- ==== Proof.DestRefValue.lean ====
/- The plain layout of the routing read over the natural numbers. -/
module

public import proofs.«01_k».proof.Proof.Gen.DestRefIdeal.Read
public import proofs.«01_k».proof.Proof.DestValue
public import Idealize.ShloMosaic.Lib.Routing.Ops
public import Idealize.ShloMosaic.Lib.Pointwise

@[expose] public section

set_option maxRecDepth 16384

noncomputable section

namespace Cert.DestRefIdeal.Body

open Idealize.ShloMosaic Idealize.ShloMosaic.TcCoe
open Cert.DestRefIdeal Cert.DestRefIdeal.Gen Cert.DestRefIdeal.Read
open Cert.DestIdeal.Body (InRange destOf blkOf nusedOf padOf)
open scoped BigOperators

variable (s : IVec S64 32) (x : IVec S8x32768 32) (N : ℕ → ℕ) (h : InRange N s x)

/-- A quotient of two words, both small. -/
theorem div256 (n : ℕ) (hn : n < 2 ^ 31) : IntOp.divsi .host (BitVec.ofNat 32 n) 256#32 = BitVec.ofNat 32 (n / 256) := by
  have hm : (BitVec.ofNat 32 n).msb = false := by
    rw [BitVec.msb_eq_false_iff_two_mul_lt, BitVec.toNat_ofNat]; omega
  have hc : ¬ IntOp.SDivCorner (BitVec.ofNat 32 n) 256#32 := by
    unfold IntOp.SDivCorner
    simp
  unfold IntOp.divsi
  rw [if_neg hc, BitVec.sdiv_eq, hm, show (256#32 : BitVec 32).msb = false from by decide]
  apply BitVec.eq_of_toNat_eq
  show (BitVec.ofNat 32 n / 256#32).toNat = _
  rw [BitVec.toNat_udiv, BitVec.toNat_ofNat, BitVec.toNat_ofNat, BitVec.toNat_ofNat, Nat.mod_eq_of_lt (by omega : n < 2 ^ 32),
    show 256 % 2 ^ 32 = 256 from rfl]
  omega

include h

/-- The padded counts. -/
theorem v5_apply (e : Fin 64) : (val_main_v5 (F := Ideal) s (ix1 e) : BitVec 32) = BitVec.ofNat 32 (Math.padTo (N e.val)) := by
  pointwise [val_main_v5, val_main_v4, val_main_c_1, val_main_v3, val_main_v2, val_main_c_0, val_main_v1, val_main_v0, val_main_c, h.count]
  have hn := h.le e.val
  rw [WordCmp.addi_ofNat, div256 _ (by omega), WordCmp.muli_ofNat]
  rfl

/-- The ends. -/
theorem v6_apply (e : Fin 64) : (val_main_v6 (F := Ideal) s (ix1 e) : BitVec 32) = BitVec.ofNat 32 (Math.ends N e.val) :=
  Routing.cumsum1 (N := 64) (Nm1 := 63) rfl (val_main_v5 (F := Ideal) s) (fun k => Math.padTo (N k)) (v5_apply s x N h) (val_main_call0_call0_v0 (F := Ideal)) rfl _ _ e

/-- The starts. -/
theorem v7_apply (e : Fin 64) : (val_main_v7 (F := Ideal) s (ix1 e) : BitVec 32) = BitVec.ofNat 32 (Math.starts N e.val) := by
  rw [val_main_v7_apply, v6_apply s x N h, v5_apply s x N h]
  have hp := Math.padTo_le_ends N e.val
  refine sub_eq_of_eq_add ?_
  rw [← BitVec.ofNat_add]
  congr 1
  unfold Math.starts
  omega

/-- The expert of each block. -/
theorem v31_apply (q : Fin 384) : (val_main_v31 (F := Ideal) s (ix1 q) : BitVec 32) = blkOf N q := by
  have h29 : (val_main_v29 (F := Ideal) s (ix1 q) : BitVec 32) = BitVec.ofNat 32 (Math.passed N q.val) := by
    apply BitVec.eq_of_toNat_eq
    unfold val_main_v29 val_main_v28
    refine (StableHlo.Predicate.toNat_reduce_count_rows (n := 64) (m := 384) (by norm_num) (val_main_v27 (F := Ideal) s) _ _ _ (ix1 q)).trans ?_
    have hp : Math.passed N q.val ≤ 64 := (Finset.card_le_univ _).trans (by simp)
    rw [BitVec.toNat_ofNat, Nat.mod_eq_of_lt (by omega)]
    unfold Math.passed
    refine congrArg Finset.card (Finset.filter_congr fun p _ => ?_)
    have h6 := v6_apply s x N h p
    have hq := q.isLt
    have hb := Cert.DestIdeal.Body.ends_lt N h.le p
    have e : (val_main_v27 (F := Ideal) s (ix2 p q) : BitVec 1) = IntOp.cmpi .sle (BitVec.ofNat 32 (Math.ends N p.val)) (BitVec.ofNat 32 (q.val * 256)) := by
      rw [← h6, ← WordCmp.muli_ofNat]
      pointwise [val_main_v27, val_main_v26, val_main_v25, val_main_v24, val_main_v23, val_main_v22, val_main_v21, val_main_v20, val_main_c_5]
    show val_main_v27 (F := Ideal) s (StableHlo.Predicate.ij p q) = 1#1 ↔ _
    rw [Routing.ij_eq_ix2]
    refine (congrArg (· = 1#1) e).to_iff.trans ?_
    rw [WordCmp.cmpi_sle_ofNat_eq_one_iff (by omega) (by omega)]
  have hp : Math.passed N q.val ≤ 64 := (Finset.card_le_univ _).trans (by simp)
  rw [val_main_v31_apply, h29]
  unfold blkOf
  have e : (val_main_v30 (F := Ideal) (ix1 q) : BitVec 32) = 63#32 := by pointwise [val_main_v30, val_main_c_7]
  rw [e]
  generalize Math.passed N q.val = n at hp ⊢
  exact (by decide : ∀ n : Fin 65, IntOp.minsi (BitVec.ofNat 32 n.val) 63#32 = BitVec.ofNat 32 (min n.val 63)) ⟨n, by omega⟩

/-- The number of blocks. -/
theorem v34_apply : (val_main_v34 (F := Ideal) s ix0 : BitVec 32) = nusedOf N := by
  have h33 : (val_main_v33 (F := Ideal) s ix0 : BitVec 32) = BitVec.ofNat 32 (Math.ends N 63) := by
    unfold val_main_v33
    pointwise [val_main_v32]
    exact v6_apply s x N h 63
  have hb : Math.ends N 63 ≤ 2 ^ 22 := Cert.DestIdeal.Body.ends_lt N h.le 63
  rw [val_main_v34_apply, h33]
  exact div256 _ (by omega)

/-- The rows that pad each expert. -/
theorem v46_apply (r : Fin 8) (j : Fin 128) : (val_main_v46 (F := Ideal) s (ix2 r j) : BitVec 32) = padOf N r j := by
  unfold val_main_v46
  pointwise [val_main_v42, val_main_v43, val_main_v44, val_main_v45, val_main_v39, val_main_v41, val_main_v38, val_main_v40]
  have e35 : ∀ k : Fin 64, (val_main_v35 (F := Ideal) (ix1 k) : BitVec 32) = 0#32 := fun k => by pointwise [val_main_v35, val_main_c_9]
  have e37 : ∀ k : Fin 64, (val_main_v37 (F := Ideal) (ix1 k) : BitVec 32) = 8#32 := fun k => by pointwise [val_main_v37, val_main_c_10]
  have e36 : ∀ k : Fin 64, (val_main_v36 (F := Ideal) s (ix1 k) : BitVec 32) = BitVec.ofNat 32 (Math.starts N k.val + N k.val) := fun k => by
    rw [val_main_v36_apply, v7_apply s x N h, h.count, WordCmp.addi_ofNat]
  have e40 : ∀ k : Fin 64, IntOp.subi (val_main_v5 (F := Ideal) s (ix1 k)) (s (ix1 k)) = BitVec.ofNat 32 (Math.padTo (N k.val) - N k.val) := fun k => by
    rw [v5_apply s x N h, h.count]
    have hp := Math.le_padTo (N k.val)
    refine sub_eq_of_eq_add ?_
    rw [← BitVec.ofNat_add]
    congr 1
    omega
  simp only [e35, e36, e37, e40, v34_apply s x N h]
  unfold padOf
  have hr := r.isLt
  by_cases h0 : r.val = 0
  · rw [dif_pos (by omega), if_pos h0]
    split
    · rw [show (8#32 : BitVec 32) = BitVec.ofNat 32 8 from rfl, WordCmp.muli_ofNat]
    · rfl
  · rw [dif_neg (by omega), if_neg h0]
    by_cases h1 : r.val = 1
    · rw [dif_pos (by omega), if_pos h1]
      split <;> rfl
    · rw [dif_neg (by omega), if_neg h1]
      by_cases h2 : r.val = 2
      · rw [dif_pos (by omega), if_pos h2]
      · rw [dif_neg (by omega), if_neg h2]
        rfl

/-- The destinations. -/
theorem v15_apply (k : Fin 2) (t : Fin 32768) (e : Fin 64) (he : x (ix2 ⟨k.val, by omega⟩ t) = BitVec.ofNat 32 e.val) :
    (val_main_v15 (F := Ideal) s x (ix2 k t) : BitVec 32) = BitVec.ofNat 32 (Math.starts N e.val) := by
  have h14 : (val_main_v14 (F := Ideal) x (ix3 k t 0) : BitVec 32) = BitVec.ofNat 32 e.val := by
    pointwise [val_main_v14, val_main_v13, val_main_v12, val_main_v11, val_main_v10, val_main_v9, val_main_v8, val_main_c_2, val_main_c_3]
    have hb := e.isLt
    rw [he, show (0#32 : BitVec 32) = BitVec.ofNat 32 0 from rfl, WordCmp.cmpi_slt_ofNat (by omega) (by omega)]
    rfl
  refine (ValueIdx.gather_take_apply (N := 64) (R := 2) (C := 32768) (by norm_num) _ (val_main_v7 (F := Ideal) s) (val_main_v14 (F := Ideal) x) (ix2 k t)).trans ?_
  rw [← v7_apply s x N h e]
  refine congrArg (val_main_v7 (F := Ideal) s) (congrArg ix1 (Fin.ext ?_))
  have hb := e.isLt
  have hi : ValueIdx.takeIdx (R := 2) (C := 32768) (ix2 k t) = ix3 k t 0 := by
    funext a
    match a with
    | ⟨0, _⟩ => rfl
    | ⟨1, _⟩ => rfl
    | ⟨2, _⟩ => rfl
  dsimp only
  rw [hi, h14, StableHlo.Predicate.toInt_ofNat_small _ (by omega)]
  omega

theorem v48_apply (r : Fin 8) (t : Fin 32768) : (val_main_v48 (F := Ideal) s x (ix2 r t) : BitVec 32) = destOf N x r t := by
  unfold val_main_v48
  pointwise [val_main_v19, val_main_v18, val_main_v17, val_main_v16]
  unfold destOf
  by_cases hr : r.val < 2
  · rw [dif_pos hr, dif_pos hr]
    obtain ⟨e, he⟩ := h.expert ⟨r.val, hr⟩ t
    have he' : x (ix2 r t) = BitVec.ofNat 32 e.val := he
    have hb := e.isLt
    rw [v15_apply s x N h ⟨r.val, hr⟩ t e he, he', BitVec.toNat_ofNat, Nat.mod_eq_of_lt (by omega)]
    refine congrArg (fun k => (BitVec.ofNat 32 (Math.starts N e.val) + x (ix2 k t)) * 8#32) (Fin.ext ?_)
    dsimp only
    omega
  · rw [dif_neg hr, dif_neg hr]
    pointwise [val_main_v47, val_main_c_12]

theorem v49_apply (r : Fin 8) (j : Fin 384) : (val_main_v49 (F := Ideal) s (ix2 r j) : BitVec 32) = blkOf N j := by
  rw [val_main_v49_apply]
  have e : idx_main_v49 (ix2 r j) = ix1 j := by
    funext a
    match a with
    | ⟨0, _⟩ => rfl
  rw [e]
  exact v31_apply s x N h j

theorem v50_apply (r : Fin 8) (j : Fin 128) : (val_main_v50 (F := Ideal) s (ix2 r j) : BitVec 32) = nusedOf N := by
  rw [val_main_v50_apply]
  have e : idx_main_v50 (ix2 r j) = ix0 := by
    funext a
    exact a.elim0
  rw [e]
  exact v34_apply s x N h

end Cert.DestRefIdeal.Body

end
-- ==== Proof.DestClaim.lean ====
/- The precondition on the counts and the experts read at an index: every count is a natural number up to 65536 and every
   expert is below 64. -/
module

public import proofs.«01_k».proof.Defs
public import proofs.«01_k».proof.Proof.Gen.Pre_routed
public import proofs.«01_k».proof.Proof.DestValue

@[expose] public section

set_option maxRecDepth 8192

noncomputable section

namespace Cert.Claims.Dest

open Idealize.ShloMosaic Idealize.ShloMosaic.TcCoe Idealize.SL.Sem

/-- The counts as natural numbers, zero beyond the last expert. -/
def counts (s : IVec Cert.DestIdeal.S64 32) (e : ℕ) : ℕ := if h : e < 64 then (s (ix1 ⟨e, h⟩)).toNat else 0

/-- A word at least zero and at most a small bound, both as signed numbers, is at most that bound. -/
theorem toNat_le (x : BitVec 32) (n : ℕ) (hn : n < 2 ^ 31) (h1 : IntOp.cmpi .sge x 0#32 = 1#1)
    (h2 : IntOp.cmpi .sle x (BitVec.ofNat 32 n) = 1#1) : x.toNat ≤ n := by
  have a : BitVec.ofBool ((0#32).sle x) = 1#1 := h1
  have b : BitVec.ofBool (x.sle (BitVec.ofNat 32 n)) = 1#1 := h2
  have a' : (0#32).sle x = true := by revert a; cases (0#32).sle x <;> simp
  have b' : x.sle (BitVec.ofNat 32 n) = true := by revert b; cases x.sle (BitVec.ofNat 32 n) <;> simp
  rw [BitVec.sle_iff_toInt_le] at a' b'
  rw [StableHlo.Predicate.toInt_ofNat_small _ hn] at b'
  rw [BitVec.toInt_zero] at a'
  have hx := x.isLt
  rw [BitVec.toInt_eq_toNat_cond] at a' b'
  split at a' <;> omega

/-- A word at least zero and below a small bound, both as signed numbers, is below that bound. -/
theorem toNat_lt (x : BitVec 32) (n : ℕ) (hn : n < 2 ^ 31) (h1 : IntOp.cmpi .sge x 0#32 = 1#1)
    (h2 : IntOp.cmpi .slt x (BitVec.ofNat 32 n) = 1#1) : x.toNat < n := by
  have a : BitVec.ofBool ((0#32).sle x) = 1#1 := h1
  have b : BitVec.ofBool (x.slt (BitVec.ofNat 32 n)) = 1#1 := h2
  have a' : (0#32).sle x = true := by revert a; cases (0#32).sle x <;> simp
  have b' : x.slt (BitVec.ofNat 32 n) = true := by revert b; cases x.slt (BitVec.ofNat 32 n) <;> simp
  rw [BitVec.sle_iff_toInt_le] at a'
  rw [BitVec.slt_iff_toInt_lt, StableHlo.Predicate.toInt_ofNat_small _ hn] at b'
  rw [BitVec.toInt_zero] at a'
  have hx := x.isLt
  rw [BitVec.toInt_eq_toNat_cond] at a' b'
  split at a' <;> omega

open Cert.Pre_routed in
/-- Where the precondition holds, the counts and the experts are in their ranges. -/
theorem inRange_of_pre (s : IVec S64 32) (x : IVec S8x32768 32)
    (h1 : (Cert.Pre_routed.fn (F := Ideal) s x).1 = fun _ => 1#1) (h2 : (Cert.Pre_routed.fn (F := Ideal) s x).2.1 = fun _ => 1#1)
    (h3 : (Cert.Pre_routed.fn (F := Ideal) s x).2.2.1 = fun _ => 1#1) (h4 : (Cert.Pre_routed.fn (F := Ideal) s x).2.2.2 = fun _ => 1#1) :
    Cert.DestIdeal.Body.InRange (counts s) s x where
  le e := by
    unfold counts
    split
    · rename_i he
      exact toNat_le _ 65536 (by norm_num) (congrFun h1 (ix1 ⟨e, he⟩)) (congrFun h2 (ix1 ⟨e, he⟩))
    · omega
  count e := by
    unfold counts
    rw [dif_pos e.isLt]
    exact ((BitVec.ofNat_toNat 32 (s (ix1 e))).trans (BitVec.setWidth_eq _)).symm
  expert k t := by
    have e : ∀ y : IVec S8x32768 32, extractStridedSlice S2x32768 ![0, 0] y Facts.slices_S8x32768_S2x32768_0_0 (ix2 k t) = y (ix2 ⟨k.val, by omega⟩ t) := fun y => by
      pointwise
    have a : IntOp.cmpi .sge (x (ix2 ⟨k.val, by omega⟩ t)) 0#32 = 1#1 := (congrArg (IntOp.cmpi .sge · 0#32) (e x)).symm.trans (congrFun h3 (ix2 k t))
    have b : IntOp.cmpi .slt (x (ix2 ⟨k.val, by omega⟩ t)) 64#32 = 1#1 := (congrArg (IntOp.cmpi .slt · 64#32) (e x)).symm.trans (congrFun h4 (ix2 k t))
    exact ⟨⟨_, toNat_lt _ 64 (by norm_num) a b⟩, ((BitVec.ofNat_toNat 32 _).trans (BitVec.setWidth_eq _)).symm⟩

end Cert.Claims.Dest

end
-- ==== Proof.lean ====
/- The proof of the claims: the programs run and leave their arguments unchanged, and over the extended reals each kernel
   and its reference have equal results, for both attentions, the projections that feed them, the mixer tail and the
   memory's keys and values. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Pre_finite_latent
public import proofs.«01_k».proof.Proof.Gen.Latent
public import proofs.«01_k».proof.Proof.Gen.Latent.Skeleton
public import proofs.«01_k».proof.Proof.Gen.LatentIdeal
public import proofs.«01_k».proof.Proof.Gen.LatentIdeal.Frame
public import proofs.«01_k».proof.Proof.Gen.LatentIdeal.Skeleton
public import proofs.«01_k».proof.Proof.Gen.LatentRefIdeal
public import proofs.«01_k».proof.Proof.Gen.LatentRefIdeal.Run
public import proofs.«01_k».proof.Proof.Gen.LatentRefIdeal.Read
public import proofs.«01_k».proof.Proof.Gen.KernelIdeal.Skeleton
public import proofs.«01_k».proof.Proof.Gen.Tail
public import proofs.«01_k».proof.Proof.Gen.Tail.Skeleton
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.Gen.Memory
public import proofs.«01_k».proof.Proof.Gen.Memory.Skeleton
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.MemoryRefIdeal.Read
public import proofs.«01_k».proof.Proof.Gen.Pre_finite_scores
public import proofs.«01_k».proof.Proof.Gen.Proj
public import proofs.«01_k».proof.Proof.Gen.Proj.Skeleton
public import proofs.«01_k».proof.Proof.Gen.ProjIdeal
public import proofs.«01_k».proof.Proof.Gen.ProjIdeal.Skeleton
public import proofs.«01_k».proof.Proof.Gen.ProjRefIdeal
public import proofs.«01_k».proof.Proof.Gen.ProjRefIdeal.Run
public import proofs.«01_k».proof.Proof.Gen.ProjRefIdeal.Read
public import proofs.«01_k».proof.Proof.Value
public import proofs.«01_k».proof.Proof.RefValue
public import proofs.«01_k».proof.Proof.Claims
public import proofs.«01_k».proof.Proof.LatentValue
public import proofs.«01_k».proof.Proof.LatentRefValue
public import proofs.«01_k».proof.Proof.LatentClaims
public import proofs.«01_k».proof.Proof.TailValue
public import proofs.«01_k».proof.Proof.TailRefValue
public import proofs.«01_k».proof.Proof.TailClaims
public import proofs.«01_k».proof.Proof.MemoryValue
public import proofs.«01_k».proof.Proof.MemoryRefValue
public import proofs.«01_k».proof.Proof.ProjFrame
public import proofs.«01_k».proof.Proof.ProjIdealFrame
public import proofs.«01_k».proof.Proof.ProjOut23
public import proofs.«01_k».proof.Proof.ProjOut24
public import proofs.«01_k».proof.Proof.ProjOut25
public import proofs.«01_k».proof.Proof.ProjOut26
public import proofs.«01_k».proof.Proof.ProjOut27
public import proofs.«01_k».proof.Proof.ProjOut28
public import proofs.«01_k».proof.Proof.ProjClaims
public import Idealize.ShloMosaic.Adequacy
public import Idealize.ShloMosaic.Init
public import proofs.«01_k».proof.Proof.Gen.Dest
public import proofs.«01_k».proof.Proof.Gen.Dest.Skeleton
public import proofs.«01_k».proof.Proof.Gen.Dest.Frame
public import proofs.«01_k».proof.Proof.Gen.DestIdeal
public import proofs.«01_k».proof.Proof.Gen.DestIdeal.Skeleton
public import proofs.«01_k».proof.Proof.Gen.DestIdeal.Frame
public import proofs.«01_k».proof.Proof.Gen.DestRefIdeal
public import proofs.«01_k».proof.Proof.Gen.DestRefIdeal.Run
public import proofs.«01_k».proof.Proof.Gen.DestRefIdeal.Read
public import proofs.«01_k».proof.Proof.Gen.Pre_routed
public import proofs.«01_k».proof.Proof.DestValue
public import proofs.«01_k».proof.Proof.DestRefValue
public import proofs.«01_k».proof.Proof.DestClaim

@[expose] public section

set_option maxRecDepth 16384

noncomputable section

namespace Cert.Proof

open Idealize.ShloMosaic Idealize.ShloMosaic.TcCoe Idealize.SL.Sem

/-- The reference's run leaves its arguments and its counters as they were. -/
theorem reference_runs : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

set_option maxHeartbeats 1600000 in
/-- Over the extended reals, from finite queries and keys, the attention kernel and the plain attention end with equal
    results. -/
theorem value : Cert.algebraic_KernelIdeal_ReferenceIdeal_pre_finite_qk := by
  pair_intro
  · run_from Cert.KernelIdeal.Body.run_main m g
  · refine (θ_run Cert.ReferenceIdeal.defs _ _).mono (fun r h c => ⟨(h c).1.trans ?_, (h c).2⟩) (Cert.ReferenceIdeal.Value.run m' g')
    obtain ⟨⟨qr, hq⟩, ⟨kr, hk⟩⟩ := Cert.Claims.reals_of_pre _ _ _ (hpre c).1 (hpre c).2
    rw [Cert.KernelIdeal.Body.final m c qr kr hq hk, (hagree c).1, (hagree c).2.1, (hagree c).2.2]
    refine (Cert.ReferenceIdeal.Read.val_main_v21_eq _ _ _).trans ?_
    funext y
    obtain ⟨b, h, n, e, i, rfl⟩ : ∃ b h n e i, y = ix5 b h n e i := ⟨y 0, y 1, y 2, y 3, y 4, by funext a; fin_cases a <;> rfl⟩
    exact Cert.ReferenceIdeal.Body.result _ _ _ qr kr hq hk b h n e i

/-- The second reference's run leaves its arguments and its counters as they were. -/
theorem latent_reference_runs : Cert.quiescent_LatentRefIdeal := by
  intro m g _
  exact (θ_run Cert.LatentRefIdeal.defs _ _).mono (fun r h => ⟨fun c => (h c).2, sem_eq_zero_of_no_sems (by decide) r.2⟩)
    (Cert.LatentRefIdeal.Value.run m g)

set_option maxHeartbeats 1600000 in
/-- Over the extended reals, from finite queries and keys, the attention kernel on padded queries and keys and the plain
    attention of the unpadded ones end with equal results. -/
theorem latent_value : Cert.algebraic_LatentIdeal_LatentRefIdeal_pre_finite_latent := by
  pair_intro
  · run_from Cert.LatentIdeal.Body.run_main m g
  · refine (θ_run Cert.LatentRefIdeal.defs _ _).mono (fun r h c => ⟨(h c).1.trans ?_, (h c).2⟩) (Cert.LatentRefIdeal.Value.run m' g')
    obtain ⟨⟨qr, hq⟩, ⟨kr, hk⟩⟩ := Cert.Claims.Latent.reals_of_pre _ _ _ (hpre c).1 (hpre c).2
    rw [Cert.LatentIdeal.Body.final m c qr kr hq hk, (hagree c).1, (hagree c).2.1, (hagree c).2.2]
    refine (Cert.LatentRefIdeal.Read.val_main_v19_eq _ _ _).trans ?_
    funext y
    obtain ⟨b, h, n, e, i, rfl⟩ : ∃ b h n e i, y = ix5 b h n e i := ⟨y 0, y 1, y 2, y 3, y 4, by funext a; fin_cases a <;> rfl⟩
    exact Cert.LatentRefIdeal.Body.result _ _ _ qr kr hq hk b h n e i

/-- The mixer tail's reference leaves its arguments and its counters as they were. -/
theorem tail_reference_runs : Cert.quiescent_TailRefIdeal := by
  intro m g _
  exact (θ_run Cert.TailRefIdeal.defs _ _).mono (fun r h => ⟨fun c => (h c).2, sem_eq_zero_of_no_sems (by decide) r.2⟩)
    (Cert.TailRefIdeal.Value.run m g)

set_option maxHeartbeats 1600000 in
/-- Over the extended reals, where the norm's weights, the memory's keys and the columns projecting to its queries are
    finite, the mixer tail's kernel and the plain mixer tail end with equal results. -/
theorem tail_value : Cert.algebraic_TailIdeal_TailRefIdeal_pre_finite_scores := by
  pair_intro
  · run_from Cert.TailIdeal.Gen.run_main m g
  · refine (θ_run Cert.TailRefIdeal.defs _ _).mono (fun r h c => ⟨(h c).1.trans ?_, (h c).2⟩) (Cert.TailRefIdeal.Value.run m' g')
    obtain ⟨⟨qr, hq⟩, ⟨kr, hk⟩⟩ := Cert.Claims.Tail.reals_of_pre _ _ _ _ _ _ _ _ (hpre c).1 (hpre c).2.1 (hpre c).2.2
    rw [Cert.TailIdeal.Body.final m c qr kr hq hk]
    refine (Cert.TailRefIdeal.Read.val_main_v64_eq m' c).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    funext y
    obtain ⟨b, s, d, rfl⟩ : ∃ b s d, y = ix3 b s d := ⟨y 0, y 1, y 2, by funext a; fin_cases a <;> rfl⟩
    exact Cert.TailRefIdeal.Body.result _ _ _ _ _ _ _ _ qr kr hq hk b s d

/-- The mixer tail's one named constant is the value its name is given. -/
theorem tail_preserves : Cert.preserves_Tail_TailIdeal :=
  IdealRules.named_const.statement Cert.TailIdeal.κ "scale" .f32 0x3DB8AA3B#32 ((16⁻¹ * (Real.log 2)⁻¹ : ℝ) : EReal) rfl

/-- The memory's reference leaves its arguments and its counters as they were. -/
theorem memory_reference_runs : Cert.quiescent_MemoryRefIdeal := by
  intro m g _
  exact (θ_run Cert.MemoryRefIdeal.defs _ _).mono (fun r h => ⟨fun c => (h c).2.2, sem_eq_zero_of_no_sems (by decide) r.2⟩)
    (Cert.MemoryRefIdeal.Value.run m g)

set_option maxHeartbeats 1600000 in
/-- Over the extended reals the memory's kernel and the plain projection of the normalised memory end with equal keys and
    equal values. -/
theorem memory_value : Cert.algebraic_MemoryIdeal_MemoryRefIdeal := by
  pair_intro
  · run_from Cert.MemoryIdeal.Gen.run_main m g
  · refine (θ_run Cert.MemoryRefIdeal.defs _ _).mono (fun r h c => ⟨(h c).1.trans ?_, (h c).2.1.trans ?_, (h c).2.2⟩) (Cert.MemoryRefIdeal.Value.run m' g')
    · rw [Cert.MemoryIdeal.Body.final_keys m c, (hagree c).1, (hagree c).2.1, (hagree c).2.2]
      refine (Cert.MemoryRefIdeal.Read.val_main_v16_eq _ _ _).trans ?_
      funext y
      obtain ⟨b, t, r, rfl⟩ : ∃ b t r, y = ix3 b t r := ⟨y 0, y 1, y 2, by funext a; fin_cases a <;> rfl⟩
      exact Cert.MemoryRefIdeal.Body.v16_apply _ _ _ b t r
    · rw [Cert.MemoryIdeal.Body.final_vals m c, (hagree c).1, (hagree c).2.1, (hagree c).2.2]
      refine (Cert.MemoryRefIdeal.Read.val_main_v18_eq _ _ _).trans ?_
      funext y
      obtain ⟨b, r, t, rfl⟩ : ∃ b r t, y = ix3 b r t := ⟨y 0, y 1, y 2, by funext a; fin_cases a <;> rfl⟩
      exact Cert.MemoryRefIdeal.Body.v18_apply _ _ _ b r t

/-- The plain projections leave their arguments and their counters as they were. -/
theorem proj_reference_runs : Cert.quiescent_ProjRefIdeal := by
  intro m g _
  exact (θ_run Cert.ProjRefIdeal.defs _ _).mono (fun r h => ⟨fun c => (h c).2.2.2.2.2.2, sem_eq_zero_of_no_sems (by decide) r.2⟩)
    (Cert.ProjRefIdeal.Value.run m g)

set_option maxHeartbeats 4000000 in
/-- Over the extended reals the projections' kernel and the plain projections end with equal queries, keys and values of
    both attentions. -/
theorem proj_value : Cert.algebraic_ProjIdeal_ProjRefIdeal := by
  intro m g m' g' _ hagree
  refine ⟨fun c => (Cert.ProjIdeal.Body.dats m 0 c).arrAt 23 (Cert.ProjIdeal.cfgs 0).N, fun c => (Cert.ProjIdeal.Body.dats m 0 c).arrAt 24 (Cert.ProjIdeal.cfgs 0).N, fun c => (Cert.ProjIdeal.Body.dats m 0 c).arrAt 25 (Cert.ProjIdeal.cfgs 0).N, fun c => (Cert.ProjIdeal.Body.dats m 0 c).arrAt 26 (Cert.ProjIdeal.cfgs 0).N, fun c => (Cert.ProjIdeal.Body.dats m 0 c).arrAt 27 (Cert.ProjIdeal.cfgs 0).N, fun c => (Cert.ProjIdeal.Body.dats m 0 c).arrAt 28 (Cert.ProjIdeal.cfgs 0).N, ?_, ?_⟩
  · exact θ_run_mono (θ_run_and (Cert.ProjIdeal.Gen.frame_of m g (Cert.ProjIdeal.Body.dats m) (Cert.ProjIdeal.Body.A_eq m) (Cert.ProjIdeal.Body.run_main m g))
        (Cert.ProjIdeal.Body.run_main m g)) fun r h c => ⟨(h.2 c).1 23, (h.2 c).1 24, (h.2 c).1 25, (h.2 c).1 26, (h.2 c).1 27, (h.2 c).1 28, h.1 c⟩
  · refine (θ_run Cert.ProjRefIdeal.defs _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩) (Cert.ProjRefIdeal.Value.run m' g')
    · refine Eq.trans ?_ (Cert.ProjIdeal.Body.final23 m c).symm
      refine (Cert.ProjRefIdeal.Read.val_main_v157_eq _).trans ?_
      refine Eq.trans (b := Cert.ProjRefIdeal.Read.val_main_v157 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg9)) (m' ((c.tc : Thread Cert.ProjRefIdeal.nD Cert.ProjRefIdeal.τ).loc Cert.ProjRefIdeal.main_arg10))) rfl ?_
      rw [(hagree c).1, (hagree c).2.1, (hagree c).2.2.1, (hagree c).2.2.2.1, (hagree c).2.2.2.2.2.2.2.2.2.1, (hagree c).2.2.2.2.2.2.2.2.2.2.1]
      exact Cert.Claims.Proj.gq_same m c
    · refine Eq.trans ?_ (Cert.ProjIdeal.Body.final24 m c).symm
      refine (Cert.ProjRefIdeal.Read.val_main_v159_eq _).trans ?_
      refine Eq.trans (b := Cert.ProjRefIdeal.Read.val_main_v159 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg9)) (m' ((c.tc : Thread Cert.ProjRefIdeal.nD Cert.ProjRefIdeal.τ).loc Cert.ProjRefIdeal.main_arg10))) rfl ?_
      rw [(hagree c).1, (hagree c).2.1, (hagree c).2.2.1, (hagree c).2.2.2.2.1, (hagree c).2.2.2.2.2.2.2.2.2.1, (hagree c).2.2.2.2.2.2.2.2.2.2.1]
      exact Cert.Claims.Proj.gk_same m c
    · refine Eq.trans ?_ (Cert.ProjIdeal.Body.final25 m c).symm
      refine (Cert.ProjRefIdeal.Read.val_main_v165_eq _).trans ?_
      refine Eq.trans (b := Cert.ProjRefIdeal.Read.val_main_v165 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))) rfl ?_
      rw [(hagree c).1, (hagree c).2.1, (hagree c).2.2.1]
      exact Cert.Claims.Proj.gv_same m c
    · refine Eq.trans ?_ (Cert.ProjIdeal.Body.final26 m c).symm
      refine (Cert.ProjRefIdeal.Read.val_main_v171_eq _).trans ?_
      refine Eq.trans (b := Cert.ProjRefIdeal.Read.val_main_v171 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5)) (m' ((c.tc : Thread Cert.ProjRefIdeal.nD Cert.ProjRefIdeal.τ).loc Cert.ProjRefIdeal.main_arg7)) (m' ((c.tc : Thread Cert.ProjRefIdeal.nD Cert.ProjRefIdeal.τ).loc Cert.ProjRefIdeal.main_arg11)) (m' ((c.tc : Thread Cert.ProjRefIdeal.nD Cert.ProjRefIdeal.τ).loc Cert.ProjRefIdeal.main_arg12))) rfl ?_
      rw [(hagree c).1, (hagree c).2.1, (hagree c).2.2.1, (hagree c).2.2.2.2.2.1, (hagree c).2.2.2.2.2.2.2.1, (hagree c).2.2.2.2.2.2.2.2.2.2.2.1, (hagree c).2.2.2.2.2.2.2.2.2.2.2.2]
      exact Cert.Claims.Proj.mq_same m c
    · refine Eq.trans ?_ (Cert.ProjIdeal.Body.final27 m c).symm
      refine (Cert.ProjRefIdeal.Read.val_main_v174_eq _).trans ?_
      refine Eq.trans (b := Cert.ProjRefIdeal.Read.val_main_v174 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg6)) (m' ((c.tc : Thread Cert.ProjRefIdeal.nD Cert.ProjRefIdeal.τ).loc Cert.ProjRefIdeal.main_arg8)) (m' ((c.tc : Thread Cert.ProjRefIdeal.nD Cert.ProjRefIdeal.τ).loc Cert.ProjRefIdeal.main_arg11)) (m' ((c.tc : Thread Cert.ProjRefIdeal.nD Cert.ProjRefIdeal.τ).loc Cert.ProjRefIdeal.main_arg12))) rfl ?_
      rw [(hagree c).1, (hagree c).2.1, (hagree c).2.2.1, (hagree c).2.2.2.2.2.2.1, (hagree c).2.2.2.2.2.2.2.2.1, (hagree c).2.2.2.2.2.2.2.2.2.2.2.1, (hagree c).2.2.2.2.2.2.2.2.2.2.2.2]
      exact Cert.Claims.Proj.mk_same m c
    · refine Eq.trans ?_ (Cert.ProjIdeal.Body.final28 m c).symm
      refine (Cert.ProjRefIdeal.Read.val_main_v181_eq _).trans ?_
      refine Eq.trans (b := Cert.ProjRefIdeal.Read.val_main_v181 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg6)) (m' ((c.tc : Thread Cert.ProjRefIdeal.nD Cert.ProjRefIdeal.τ).loc Cert.ProjRefIdeal.main_arg8))) rfl ?_
      rw [(hagree c).1, (hagree c).2.1, (hagree c).2.2.1, (hagree c).2.2.2.2.2.2.1, (hagree c).2.2.2.2.2.2.2.2.1]
      exact Cert.Claims.Proj.mv_same m c

/-- The plain destinations leave their arguments and their counters as they were. -/
theorem dest_reference_runs : Cert.quiescent_DestRefIdeal := by
  intro m g _
  exact (θ_run Cert.DestRefIdeal.defs _ _).mono (fun r h => ⟨fun c => (h c).2.2.2.2, sem_eq_zero_of_no_sems (by decide) r.2⟩)
    (Cert.DestRefIdeal.Value.run m g)

set_option maxHeartbeats 1600000 in
/-- Where the counts and the experts are in their ranges, the destinations' kernel and the plain destinations end with
    equal destinations, block tables, numbers of blocks and padding tables. -/
theorem dest_value : Cert.algebraic_DestIdeal_DestRefIdeal_pre_routed := by
  pair_intro
  · run_from Cert.DestIdeal.Gen.run_main m g
  · refine (θ_run Cert.DestRefIdeal.defs _ _).mono (fun r h c => ⟨(h c).1.trans ?_, (h c).2.1.trans ?_, (h c).2.2.1.trans ?_,
      (h c).2.2.2.1.trans ?_, (h c).2.2.2.2⟩) (Cert.DestRefIdeal.Value.run m' g')
    all_goals have hr := Cert.Claims.Dest.inRange_of_pre _ _ (hpre c).1 (hpre c).2.1 (hpre c).2.2.1 (hpre c).2.2.2
    · rw [Cert.DestIdeal.Body.final_dest m c _ hr, (hagree c).1, (hagree c).2]
      refine (Cert.DestRefIdeal.Read.val_main_v48_eq _ _).trans ?_
      funext y
      obtain ⟨b, t, rfl⟩ : ∃ b t, y = ix2 b t := ⟨y 0, y 1, by funext a; fin_cases a <;> rfl⟩
      exact Cert.DestRefIdeal.Body.v48_apply _ _ _ hr b t
    · rw [Cert.DestIdeal.Body.final_blk m c _ hr, (hagree c).1]
      refine (Cert.DestRefIdeal.Read.val_main_v49_eq _).trans ?_
      funext y
      obtain ⟨b, t, rfl⟩ : ∃ b t, y = ix2 b t := ⟨y 0, y 1, by funext a; fin_cases a <;> rfl⟩
      exact Cert.DestRefIdeal.Body.v49_apply _ _ _ hr b t
    · rw [Cert.DestIdeal.Body.final_nused m c _ hr, (hagree c).1]
      refine (Cert.DestRefIdeal.Read.val_main_v50_eq _).trans ?_
      funext y
      obtain ⟨b, t, rfl⟩ : ∃ b t, y = ix2 b t := ⟨y 0, y 1, by funext a; fin_cases a <;> rfl⟩
      exact Cert.DestRefIdeal.Body.v50_apply _ _ _ hr b t
    · rw [Cert.DestIdeal.Body.final_pad m c _ hr, (hagree c).1]
      refine (Cert.DestRefIdeal.Read.val_main_v46_eq _).trans ?_
      funext y
      obtain ⟨b, t, rfl⟩ : ∃ b t, y = ix2 b t := ⟨y 0, y 1, by funext a; fin_cases a <;> rfl⟩
      exact Cert.DestRefIdeal.Body.v46_apply _ _ _ hr b t

theorem claim : Cert.Claim := ⟨Cert.Kernel.Gen.facts, Cert.KernelIdeal.Gen.facts, Cert.ReferenceIdeal.Gen.facts,
  Cert.Latent.Gen.facts, Cert.LatentIdeal.Gen.facts, Cert.LatentRefIdeal.Gen.facts,
  Cert.Tail.Gen.facts, Cert.TailIdeal.Gen.facts, Cert.TailRefIdeal.Gen.facts,
  Cert.Memory.Gen.facts, Cert.MemoryIdeal.Gen.facts, Cert.MemoryRefIdeal.Gen.facts,
  Cert.Proj.Gen.facts, Cert.ProjIdeal.Gen.facts, Cert.ProjRefIdeal.Gen.facts,
  Cert.Dest.Gen.facts, Cert.DestIdeal.Gen.facts, Cert.DestRefIdeal.Gen.facts,
  Cert.Pre_finite_qk.Gen.facts, Cert.Pre_finite_latent.Gen.facts, Cert.Pre_finite_scores.Gen.facts, Cert.Pre_routed.Gen.facts,
  Cert.Claims.kernel_runs, fun m g _ => Cert.KernelIdeal.Body.quiescent m g, fun m g _ => Cert.KernelIdeal.Body.quiescent m g,
  reference_runs, fun m g _ => reference_runs m g trivial,
  Cert.Claims.Latent.kernel_runs, fun m g _ => Cert.LatentIdeal.Body.quiescent m g, fun m g _ => Cert.LatentIdeal.Body.quiescent m g,
  latent_reference_runs, fun m g _ => latent_reference_runs m g trivial,
  fun m g _ => Cert.Tail.Gen.frame m g, fun m g _ => Cert.TailIdeal.Gen.frame m g, fun m g _ => Cert.TailIdeal.Gen.frame m g,
  tail_reference_runs, fun m g _ => tail_reference_runs m g trivial,
  fun m g _ => Cert.Memory.Gen.frame m g, fun m g _ => Cert.MemoryIdeal.Gen.frame m g, memory_reference_runs,
  fun m g _ => Cert.Proj.Body.quiescent m g, fun m g _ => Cert.ProjIdeal.Body.quiescent m g, proj_reference_runs,
  fun m g _ => Cert.Dest.Gen.frame m g, fun m g _ => Cert.DestIdeal.Gen.frame m g, fun m g _ => Cert.DestIdeal.Gen.frame m g,
  dest_reference_runs, fun m g _ => dest_reference_runs m g trivial,
  trivial, value, trivial, latent_value, tail_preserves, tail_value, trivial, memory_value, Cert.Claims.Proj.preserves, proj_value,
  trivial, dest_value⟩

end Cert.Proof

end
